-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordinary [hPre_ordinary : Cert.Pre_ordinary.Facts] (m : (ℓ : Loc Cert.KernelIdeal.nD Cert.KernelIdeal.τ Cert.KernelIdeal.sig) → Buf (Elt Ideal) ℓ) : Prop :=
  ∀ c : Dev Cert.KernelIdeal.nD,
    (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordinary [hPre_ordinary : Cert.Pre_ordinary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ordinary [hKernelIdeal : Cert.KernelIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordinary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ordinary [hReferenceIdeal : Cert.ReferenceIdeal.Facts] [hPre_ordinary : Cert.Pre_ordinary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordinary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_ordinary [hKernelIdeal : Cert.KernelIdeal.Facts] [hReferenceIdeal : Cert.ReferenceIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordinary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ordinary : Cert.Pre_ordinary.Facts),
    quiescent_Kernel (hKernel := hKernel)
    ∧ quiescent_KernelIdeal (hKernelIdeal := hKernelIdeal)
    ∧ quiescent_KernelIdeal_pre_ordinary (hKernelIdeal := hKernelIdeal) (hPre_ordinary := hPre_ordinary)
    ∧ quiescent_ReferenceIdeal (hReferenceIdeal := hReferenceIdeal)
    ∧ quiescent_ReferenceIdeal_pre_ordinary (hReferenceIdeal := hReferenceIdeal) (hPre_ordinary := hPre_ordinary)
    ∧ preserves_Kernel_KernelIdeal
    ∧ algebraic_KernelIdeal_ReferenceIdeal_pre_ordinary (hKernelIdeal := hKernelIdeal) (hReferenceIdeal := hReferenceIdeal) (hPre_ordinary := hPre_ordinary)
-- ==== Pre_ordinary.lean ====
abbrev S64x100000 : Shape := ⟨2, ![64, 100000]⟩
abbrev S_ : Shape := ⟨0, ![]⟩
abbrev S254 : Shape := ⟨1, ![254]⟩
abbrev S254x1x1 : Shape := ⟨3, ![254, 1, 1]⟩
abbrev S1x64x100000 : Shape := ⟨3, ![1, 64, 100000]⟩
abbrev S254x64x100000 : Shape := ⟨3, ![254, 64, 100000]⟩
abbrev S64 : Shape := ⟨1, ![64]⟩

class Facts : Prop where
  shapeCasts_S254_S254x1x1 : S254.ShapeCasts S254x1x1
  bcast_S64x100000_S1x64x100000_1_2 : S64x100000.BroadcastsInDim S1x64x100000 (![1, 2] : Fin 2 → Fin S1x64x100000.rank)
  bcast_S_S254x1x1 : S_.BroadcastsInDim S254x1x1 (![] : Fin 0 → Fin S254x1x1.rank)
  bcast_S1x64x100000_S254x64x100000_0_1_2 : S1x64x100000.BroadcastsInDim S254x64x100000 (![0, 1, 2] : Fin 3 → Fin S254x64x100000.rank)
  bcast_S254x1x1_S254x64x100000_0_1_2 : S254x1x1.BroadcastsInDim S254x64x100000 (![0, 1, 2] : Fin 3 → Fin S254x64x100000.rank)
  bcast_S_S254x64x100000 : S_.BroadcastsInDim S254x64x100000 (![] : Fin 0 → Fin S254x64x100000.rank)
  reducesTo_S254x64x100000_S64x100000_d0 : S254x64x100000.ReducesTo [0] S64x100000
  h_S_ : 0 < S_.numel
  bcast_S_S64x100000 : S_.BroadcastsInDim S64x100000 (![] : Fin 0 → Fin S64x100000.rank)
  reducesTo_S64x100000_S64_d1 : S64x100000.ReducesTo [1] S64
  reducesTo_S64x100000_S_d0_1 : S64x100000.ReducesTo [0, 1] S_
  reducesTo_S64_S_d0 : S64.ReducesTo [0] S_

variable [Facts]

def fn_part1 {F : FTy → Type} [FloatOps F] (main_arg0 : FVec F S64x100000 .f32) (main_arg1 : IVec S_ 32) (main_arg2 : IVec S_ 32) (main_arg3 : IVec S_ 32) (main_v17 : IVec S64x100000 1) (main_v18 : FVec F S64x100000 .f32) : IVec S_ 1 :=
  let main_v19 : IVec S64x100000 1 := cmpf .oeq main_arg0 main_v18
  let main_cst_3 : FVec F S_ .f32 := constant S_ .f32 0xFF800000#32
  let main_v20 : FVec F S64x100000 .f32 := broadcastInDim S64x100000 ![] bcast_S_S64x100000 main_cst_3
  let main_v21 : IVec S64x100000 1 := cmpf .ogt main_arg0 main_v20
  let main_c_4 : IVec S_ 1 := constantI S_ 1 0#1
  let main_v22 : IVec S64 1 := (fun x v => Host.reduce IntOp.ori x v reducesTo_S64x100000_S64_d1 h_S_) main_v21 main_c_4
  let main_v23 : IVec S64x100000 1 := ori main_v17 main_v19
  let main_c_5 : IVec S_ 1 := constantI S_ 1 1#1
  let main_v24 : IVec S_ 1 := (fun x v => Host.reduce IntOp.andi x v reducesTo_S64x100000_S_d0_1 h_S_) main_v23 main_c_5
  let main_c_6 : IVec S_ 1 := constantI S_ 1 1#1
  let main_v25 : IVec S_ 1 := (fun x v => Host.reduce IntOp.andi x v reducesTo_S64_S_d0 h_S_) main_v22 main_c_6
  let main_v26 : IVec S_ 1 := andi main_v24 main_v25
  let main_c_7 : IVec S_ 32 := constantI S_ 32 1#32
  let main_v27 : IVec S_ 1 := cmpi .sge main_arg1 main_c_7
  let main_v28 : IVec S_ 1 := andi main_v26 main_v27
  let main_c_8 : IVec S_ 32 := constantI S_ 32 1#32
  let main_v29 : IVec S_ 1 := cmpi .sge main_arg2 main_c_8
  let main_v30 : IVec S_ 1 := andi main_v28 main_v29
  let main_c_9 : IVec S_ 32 := constantI S_ 32 1#32
  let main_v31 : IVec S_ 1 := cmpi .sge main_arg3 main_c_9
  let main_v32 : IVec S_ 1 := andi main_v30 main_v31
  main_v32

def fn {F : FTy → Type} [FloatOps F] (main_arg0 : FVec F S64x100000 .f32) (main_arg1 : IVec S_ 32) (main_arg2 : IVec S_ 32) (main_arg3 : IVec S_ 32) : IVec S_ 1 :=
  let main_v0 : IVec S254 32 := iotaInDim S254 32 0
  let main_v1 : FVec F S254 .f32 := sitofp .f32 main_v0
  let main_v2 : FVec F S254x1x1 .f32 := shapeCast S254x1x1 main_v1 shapeCasts_S254_S254x1x1
  let main_v3 : FVec F S64x100000 .f32 := Host.absf main_arg0
  let main_v4 : FVec F S1x64x100000 .f32 := broadcastInDim S1x64x100000 ![1, 2] bcast_S64x100000_S1x64x100000_1_2 main_v3
  let main_cst : FVec F S_ .f32 := constant S_ .f32 0x43150000#32
  let main_v5 : FVec F S254x1x1 .f32 := broadcastInDim S254x1x1 ![] bcast_S_S254x1x1 main_cst
  let main_v6 : FVec F S254x1x1 .f32 := subf main_v5 main_v2
  let main_cst_0 : FVec F S_ .f32 := constant S_ .f32 0x40000000#32
  let main_v7 : FVec F S254x1x1 .f32 := broadcastInDim S254x1x1 ![] bcast_S_S254x1x1 main_cst_0
  let main_v8 : FVec F S254x1x1 .f32 := Host.powf main_v7 main_v6
  let main_v9 : FVec F S254x64x100000 .f32 := broadcastInDim S254x64x100000 ![0, 1, 2] bcast_S1x64x100000_S254x64x100000_0_1_2 main_v4
  let main_v10 : FVec F S254x64x100000 .f32 := broadcastInDim S254x64x100000 ![0, 1, 2] bcast_S254x1x1_S254x64x100000_0_1_2 main_v8
  let main_v11 : FVec F S254x64x100000 .f32 := mulf main_v9 main_v10
  let main_v12 : FVec F S254x64x100000 .f32 := Host.floor main_v11
  let main_v13 : IVec S254x64x100000 1 := cmpf .oeq main_v12 main_v11
  let main_cst_1 : FVec F S_ .f32 := constant S_ .f32 0x4B800000#32
  let main_v14 : FVec F S254x64x100000 .f32 := broadcastInDim S254x64x100000 ![] bcast_S_S254x64x100000 main_cst_1
  let main_v15 : IVec S254x64x100000 1 := cmpf .olt main_v11 main_v14
  let main_v16 : IVec S254x64x100000 1 := andi main_v13 main_v15
  let main_c : IVec S_ 1 := constantI S_ 1 0#1
  let main_v17 : IVec S64x100000 1 := (fun x v => Host.reduce IntOp.ori x v reducesTo_S254x64x100000_S64x100000_d0 h_S_) main_v16 main_c
  let main_cst_2 : FVec F S_ .f32 := constant S_ .f32 0xFF800000#32
  let main_v18 : FVec F S64x100000 .f32 := broadcastInDim S64x100000 ![] bcast_S_S64x100000 main_cst_2
  fn_part1 (F := F) main_arg0 main_arg1 main_arg2 main_arg3 main_v17 main_v18
-- ==== Kernel.lean ====
abbrev S64x100000 : Shape := ⟨2, ![64, 100000]⟩
abbrev S_ : Shape := ⟨0, ![]⟩
abbrev S1 : Shape := ⟨1, ![1]⟩
abbrev S2 : Shape := ⟨1, ![2]⟩
abbrev S1x1 : Shape := ⟨2, ![1, 1]⟩
abbrev S32x64 : Shape := ⟨2, ![32, 64]⟩
abbrev S1x64 : Shape := ⟨2, ![1, 64]⟩
abbrev S64 : Shape := ⟨1, ![64]⟩
abbrev S64x1 : Shape := ⟨2, ![64, 1]⟩
abbrev S64x100352 : Shape := ⟨2, ![64, 100352]⟩
abbrev S64x784x128 : Shape := ⟨3, ![64, 784, 128]⟩
abbrev S784x784 : Shape := ⟨2, ![784, 784]⟩
abbrev S32x784x128 : Shape := ⟨3, ![32, 784, 128]⟩
abbrev S32x1 : Shape := ⟨2, ![32, 1]⟩
abbrev S32x128 : Shape := ⟨2, ![32, 128]⟩
abbrev S32 : Shape := ⟨1, ![32]⟩
abbrev S32x1x1 : Shape := ⟨3, ![32, 1, 1]⟩
abbrev S32x784 : Shape := ⟨2, ![32, 784]⟩
abbrev S32x784x1 : Shape := ⟨3, ![32, 784, 1]⟩

abbrev nBuf : Space → Nat
  | .hbm => 301
  | .vmem => 7
  | .smem => 2
  | _ => 0

abbrev hbmTy0_0 (i : Nat) : BufTy := match i % 128 with
  | 0 => ⟨S64x100000, .f32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S_, .f32⟩
  | 15 => ⟨S_, .f32⟩
  | 16 => ⟨S_, .f32⟩
  | 17 => ⟨S_, .f32⟩
  | 18 => ⟨S1x1, .f32⟩
  | 19 => ⟨S1x1, .f32⟩
  | 20 => ⟨S1, .i32⟩
  | 21 => ⟨S_, .i32⟩
  | 22 => ⟨S1, .i32⟩
  | 23 => ⟨S_, .i32⟩
  | 24 => ⟨S32x64, .i64⟩
  | 25 => ⟨S32x64, .i64⟩
  | 26 => ⟨S_, .i64⟩
  | 27 => ⟨S32x64, .i64⟩
  | 28 => ⟨S32x64, .i64⟩
  | 29 => ⟨S_, .i64⟩
  | 30 => ⟨S32x64, .i64⟩
  | 31 => ⟨S32x64, .i64⟩
  | 32 => ⟨S32x64, .i64⟩
  | 33 => ⟨S_, .i64⟩
  | 34 => ⟨S32x64, .i64⟩
  | 35 => ⟨S32x64, .i64⟩
  | 36 => ⟨S32x64, .i32⟩
  | 37 => ⟨S32x64, .i32⟩
  | 38 => ⟨S_, .i32⟩
  | 39 => ⟨S_, .i32⟩
  | 40 => ⟨S_, .i32⟩
  | 41 => ⟨S32x64, .i32⟩
  | 42 => ⟨S32x64, .i32⟩
  | 43 => ⟨S32x64, .i32⟩
  | 44 => ⟨S32x64, .i32⟩
  | 45 => ⟨S32x64, .i32⟩
  | 46 => ⟨S_, .i32⟩
  | 47 => ⟨S32x64, .i32⟩
  | 48 => ⟨S32x64, .i32⟩
  | 49 => ⟨S_, .i32⟩
  | 50 => ⟨S32x64, .i32⟩
  | 51 => ⟨S32x64, .i32⟩
  | 52 => ⟨S32x64, .i32⟩
  | 53 => ⟨S32x64, .i32⟩
  | 54 => ⟨S32x64, .i32⟩
  | 55 => ⟨S_, .i32⟩
  | 56 => ⟨S32x64, .i32⟩
  | 57 => ⟨S32x64, .i32⟩
  | 58 => ⟨S_, .i32⟩
  | 59 => ⟨S32x64, .i32⟩
  | 60 => ⟨S32x64, .i32⟩
  | 61 => ⟨S32x64, .i32⟩
  | 62 => ⟨S32x64, .i32⟩
  | 63 => ⟨S32x64, .i32⟩
  | 64 => ⟨S_, .i32⟩
  | 65 => ⟨S32x64, .i32⟩
  | 66 => ⟨S32x64, .i32⟩
  | 67 => ⟨S_, .i32⟩
  | 68 => ⟨S32x64, .i32⟩
  | 69 => ⟨S32x64, .i32⟩
  | 70 => ⟨S32x64, .i32⟩
  | 71 => ⟨S32x64, .i32⟩
  | 72 => ⟨S32x64, .i32⟩
  | 73 => ⟨S_, .i32⟩
  | 74 => ⟨S32x64, .i32⟩
  | 75 => ⟨S32x64, .i32⟩
  | 76 => ⟨S_, .i32⟩
  | 77 => ⟨S32x64, .i32⟩
  | 78 => ⟨S32x64, .i32⟩
  | 79 => ⟨S32x64, .i32⟩
  | 80 => ⟨S32x64, .i32⟩
  | 81 => ⟨S32x64, .i32⟩
  | 82 => ⟨S32x64, .i32⟩
  | 83 => ⟨S32x64, .i32⟩
  | 84 => ⟨S32x64, .i32⟩
  | 85 => ⟨S_, .i32⟩
  | 86 => ⟨S32x64, .i32⟩
  | 87 => ⟨S32x64, .i32⟩
  | 88 => ⟨S32x64, .i32⟩
  | 89 => ⟨S_, .i32⟩
  | 90 => ⟨S32x64, .i32⟩
  | 91 => ⟨S32x64, .i32⟩
  | 92 => ⟨S_, .i32⟩
  | 93 => ⟨S32x64, .i32⟩
  | 94 => ⟨S32x64, .i32⟩
  | 95 => ⟨S32x64, .i32⟩
  | 96 => ⟨S32x64, .i32⟩
  | 97 => ⟨S32x64, .i32⟩
  | 98 => ⟨S_, .i32⟩
  | 99 => ⟨S32x64, .i32⟩
  | 100 => ⟨S32x64, .i32⟩
  | 101 => ⟨S_, .i32⟩
  | 102 => ⟨S32x64, .i32⟩
  | 103 => ⟨S32x64, .i32⟩
  | 104 => ⟨S32x64, .i32⟩
  | 105 => ⟨S32x64, .i32⟩
  | 106 => ⟨S32x64, .i32⟩
  | 107 => ⟨S_, .i32⟩
  | 108 => ⟨S32x64, .i32⟩
  | 109 => ⟨S32x64, .i32⟩
  | 110 => ⟨S_, .i32⟩
  | 111 => ⟨S32x64, .i32⟩
  | 112 => ⟨S32x64, .i32⟩
  | 113 => ⟨S32x64, .i32⟩
  | 114 => ⟨S32x64, .i32⟩
  | 115 => ⟨S32x64, .i32⟩
  | 116 => ⟨S_, .i32⟩
  | 117 => ⟨S32x64, .i32⟩
  | 118 => ⟨S32x64, .i32⟩
  | 119 => ⟨S_, .i32⟩
  | 120 => ⟨S32x64, .i32⟩
  | 121 => ⟨S32x64, .i32⟩
  | 122 => ⟨S32x64, .i32⟩
  | 123 => ⟨S32x64, .i32⟩
  | 124 => ⟨S32x64, .i32⟩
  | 125 => ⟨S32x64, .i32⟩
  | 126 => ⟨S32x64, .i32⟩
  | 127 => ⟨S32x64, .i32⟩
  | _ => ⟨S64x100000, .f32⟩

abbrev hbmTy0_1 (i : Nat) : BufTy := match i % 128 with
  | 0 => ⟨S_, .i32⟩
  | 1 => ⟨S32x64, .i32⟩
  | 2 => ⟨S32x64, .i32⟩
  | 3 => ⟨S32x64, .i32⟩
  | 4 => ⟨S_, .i32⟩
  | 5 => ⟨S32x64, .i32⟩
  | 6 => ⟨S32x64, .i32⟩
  | 7 => ⟨S_, .i32⟩
  | 8 => ⟨S32x64, .i32⟩
  | 9 => ⟨S32x64, .i32⟩
  | 10 => ⟨S32x64, .i32⟩
  | 11 => ⟨S32x64, .i32⟩
  | 12 => ⟨S32x64, .i32⟩
  | 13 => ⟨S_, .i32⟩
  | 14 => ⟨S32x64, .i32⟩
  | 15 => ⟨S32x64, .i32⟩
  | 16 => ⟨S_, .i32⟩
  | 17 => ⟨S32x64, .i32⟩
  | 18 => ⟨S32x64, .i32⟩
  | 19 => ⟨S32x64, .i32⟩
  | 20 => ⟨S32x64, .i32⟩
  | 21 => ⟨S32x64, .i32⟩
  | 22 => ⟨S_, .i32⟩
  | 23 => ⟨S32x64, .i32⟩
  | 24 => ⟨S32x64, .i32⟩
  | 25 => ⟨S_, .i32⟩
  | 26 => ⟨S32x64, .i32⟩
  | 27 => ⟨S32x64, .i32⟩
  | 28 => ⟨S32x64, .i32⟩
  | 29 => ⟨S32x64, .i32⟩
  | 30 => ⟨S32x64, .i32⟩
  | 31 => ⟨S_, .i32⟩
  | 32 => ⟨S32x64, .i32⟩
  | 33 => ⟨S32x64, .i32⟩
  | 34 => ⟨S_, .i32⟩
  | 35 => ⟨S32x64, .i32⟩
  | 36 => ⟨S32x64, .i32⟩
  | 37 => ⟨S32x64, .i32⟩
  | 38 => ⟨S32x64, .i32⟩
  | 39 => ⟨S32x64, .i32⟩
  | 40 => ⟨S32x64, .i32⟩
  | 41 => ⟨S32x64, .i32⟩
  | 42 => ⟨S32x64, .i32⟩
  | 43 => ⟨S_, .i32⟩
  | 44 => ⟨S32x64, .i32⟩
  | 45 => ⟨S32x64, .i32⟩
  | 46 => ⟨S32x64, .i32⟩
  | 47 => ⟨S_, .i32⟩
  | 48 => ⟨S32x64, .i32⟩
  | 49 => ⟨S32x64, .i32⟩
  | 50 => ⟨S_, .i32⟩
  | 51 => ⟨S32x64, .i32⟩
  | 52 => ⟨S32x64, .i32⟩
  | 53 => ⟨S32x64, .i32⟩
  | 54 => ⟨S32x64, .i32⟩
  | 55 => ⟨S32x64, .i32⟩
  | 56 => ⟨S_, .i32⟩
  | 57 => ⟨S32x64, .i32⟩
  | 58 => ⟨S32x64, .i32⟩
  | 59 => ⟨S_, .i32⟩
  | 60 => ⟨S32x64, .i32⟩
  | 61 => ⟨S32x64, .i32⟩
  | 62 => ⟨S32x64, .i32⟩
  | 63 => ⟨S32x64, .i32⟩
  | 64 => ⟨S32x64, .i32⟩
  | 65 => ⟨S_, .i32⟩
  | 66 => ⟨S32x64, .i32⟩
  | 67 => ⟨S32x64, .i32⟩
  | 68 => ⟨S_, .i32⟩
  | 69 => ⟨S32x64, .i32⟩
  | 70 => ⟨S32x64, .i32⟩
  | 71 => ⟨S32x64, .i32⟩
  | 72 => ⟨S32x64, .i32⟩
  | 73 => ⟨S32x64, .i32⟩
  | 74 => ⟨S_, .i32⟩
  | 75 => ⟨S32x64, .i32⟩
  | 76 => ⟨S32x64, .i32⟩
  | 77 => ⟨S_, .i32⟩
  | 78 => ⟨S32x64, .i32⟩
  | 79 => ⟨S32x64, .i32⟩
  | 80 => ⟨S32x64, .i32⟩
  | 81 => ⟨S32x64, .i32⟩
  | 82 => ⟨S32x64, .i32⟩
  | 83 => ⟨S32x64, .i32⟩
  | 84 => ⟨S32x64, .i32⟩
  | 85 => ⟨S32x64, .i32⟩
  | 86 => ⟨S_, .i32⟩
  | 87 => ⟨S32x64, .i32⟩
  | 88 => ⟨S32x64, .i32⟩
  | 89 => ⟨S32x64, .i32⟩
  | 90 => ⟨S_, .i32⟩
  | 91 => ⟨S32x64, .i32⟩
  | 92 => ⟨S32x64, .i32⟩
  | 93 => ⟨S_, .i32⟩
  | 94 => ⟨S32x64, .i32⟩
  | 95 => ⟨S32x64, .i32⟩
  | 96 => ⟨S32x64, .i32⟩
  | 97 => ⟨S32x64, .i32⟩
  | 98 => ⟨S32x64, .i32⟩
  | 99 => ⟨S_, .i32⟩
  | 100 => ⟨S32x64, .i32⟩
  | 101 => ⟨S32x64, .i32⟩
  | 102 => ⟨S_, .i32⟩
  | 103 => ⟨S32x64, .i32⟩
  | 104 => ⟨S32x64, .i32⟩
  | 105 => ⟨S32x64, .i32⟩
  | 106 => ⟨S32x64, .i32⟩
  | 107 => ⟨S32x64, .i32⟩
  | 108 => ⟨S_, .i32⟩
  | 109 => ⟨S32x64, .i32⟩
  | 110 => ⟨S32x64, .i32⟩
  | 111 => ⟨S_, .i32⟩
  | 112 => ⟨S32x64, .i32⟩
  | 113 => ⟨S32x64, .i32⟩
  | 114 => ⟨S32x64, .i32⟩
  | 115 => ⟨S32x64, .i32⟩
  | 116 => ⟨S32x64, .i32⟩
  | 117 => ⟨S_, .i32⟩
  | 118 => ⟨S32x64, .i32⟩
  | 119 => ⟨S32x64, .i32⟩
  | 120 => ⟨S_, .i32⟩
  | 121 => ⟨S32x64, .i32⟩
  | 122 => ⟨S32x64, .i32⟩
  | 123 => ⟨S32x64, .i32⟩
  | 124 => ⟨S32x64, .i32⟩
  | 125 => ⟨S32x64, .i32⟩
  | 126 => ⟨S32x64, .i32⟩
  | 127 => ⟨S32x64, .i32⟩
  | _ => ⟨S64x100000, .f32⟩

abbrev hbmTy0_2 (i : Nat) : BufTy := match i % 128 with
  | 0 => ⟨S32x64, .i32⟩
  | 1 => ⟨S_, .i32⟩
  | 2 => ⟨S32x64, .i32⟩
  | 3 => ⟨S32x64, .i32⟩
  | 4 => ⟨S32x64, .i32⟩
  | 5 => ⟨S_, .i32⟩
  | 6 => ⟨S32x64, .i32⟩
  | 7 => ⟨S32x64, .i32⟩
  | 8 => ⟨S_, .i32⟩
  | 9 => ⟨S32x64, .i32⟩
  | 10 => ⟨S32x64, .i32⟩
  | 11 => ⟨S32x64, .f32⟩
  | 12 => ⟨S_, .f32⟩
  | 13 => ⟨S32x64, .f32⟩
  | 14 => ⟨S32x64, .f32⟩
  | 15 => ⟨S1x1, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S1x64, .f32⟩
  | 23 => ⟨S64, .f32⟩
  | 24 => ⟨S64x1, .f32⟩
  | 25 => ⟨S_, .f32⟩
  | 26 => ⟨S_, .f32⟩
  | 27 => ⟨S64x100352, .f32⟩
  | 28 => ⟨S64x784x128, .f32⟩
  | 29 => ⟨S_, .f32⟩
  | 30 => ⟨S1x1, .f32⟩
  | 31 => ⟨S1x1, .i32⟩
  | 32 => ⟨S_, .f32⟩
  | 33 => ⟨S784x784, .f32⟩
  | 34 => ⟨S784x784, .i32⟩
  | 35 => ⟨S_, .i32⟩
  | 36 => ⟨S784x784, .i32⟩
  | 37 => ⟨S784x784, .i32⟩
  | 38 => ⟨S784x784, .i32⟩
  | 39 => ⟨S784x784, .i1⟩
  | 40 => ⟨S_, .f32⟩
  | 41 => ⟨S784x784, .f32⟩
  | 42 => ⟨S784x784, .f32⟩
  | 43 => ⟨S64x1, .i32⟩
  | 44 => ⟨S64, .i32⟩
  | _ => ⟨S64x100000, .f32⟩

abbrev hbmTy (i : Nat) : BufTy := match i / 128 with
  | 0 => hbmTy0_0 i
  | 1 => hbmTy0_1 i
  | 2 => hbmTy0_2 i
  | _ => ⟨S64x100000, .f32⟩

abbrev bufTy : (tb : Table) → Fin (tcTables nBuf tb) → BufTy
  | .hbm, ⟨i, _⟩ => hbmTy i
  | .local _ .vmem, ⟨0, _⟩ => ⟨S32x784x128, .f32⟩
  | .local _ .vmem, ⟨1, _⟩ => ⟨S32x784x128, .f32⟩
  | .local _ .vmem, ⟨2, _⟩ => ⟨S32x1, .f32⟩
  | .local _ .vmem, ⟨3, _⟩ => ⟨S32x1, .f32⟩
  | .local _ .vmem, ⟨4, _⟩ => ⟨S784x784, .f32⟩
  | .local _ .vmem, ⟨5, _⟩ => ⟨S32x1, .i32⟩
  | .local _ .vmem, ⟨6, _⟩ => ⟨S32x1, .i32⟩
  | .local _ .smem, ⟨0, _⟩ => ⟨S1x1, .f32⟩
  | .local _ .smem, ⟨1, _⟩ => ⟨S1x1, .i32⟩
  | _, _ => ⟨S64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_c : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_c_1 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_call0_v18 : Ref sig .tc := ⟨.hbm, 37, rfl⟩
abbrev main_call0_call0_v0 : Ref sig .tc := ⟨.hbm, 38, rfl⟩
abbrev main_call0_call0_c : Ref sig .tc := ⟨.hbm, 39, rfl⟩
abbrev main_call0_call0_v1 : Ref sig .tc := ⟨.hbm, 40, rfl⟩
abbrev main_call0_call0_v2 : Ref sig .tc := ⟨.hbm, 41, rfl⟩
abbrev main_call0_call0_v3 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_c_0 : Ref sig .tc := ⟨.hbm, 46, rfl⟩
abbrev main_call0_call0_v7 : Ref sig .tc := ⟨.hbm, 47, rfl⟩
abbrev main_call0_call0_v8 : Ref sig .tc := ⟨.hbm, 48, rfl⟩
abbrev main_call0_call0_c_1 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_call0_v12 : Ref sig .tc := ⟨.hbm, 53, rfl⟩
abbrev main_call0_call0_v13 : Ref sig .tc := ⟨.hbm, 54, rfl⟩
abbrev main_call0_call0_c_2 : Ref sig .tc := ⟨.hbm, 55, rfl⟩
abbrev main_call0_call0_v14 : Ref sig .tc := ⟨.hbm, 56, rfl⟩
abbrev main_call0_call0_v15 : Ref sig .tc := ⟨.hbm, 57, rfl⟩
abbrev main_call0_call0_c_3 : Ref sig .tc := ⟨.hbm, 58, rfl⟩
abbrev main_call0_call0_v16 : Ref sig .tc := ⟨.hbm, 59, rfl⟩
abbrev main_call0_call0_v17 : Ref sig .tc := ⟨.hbm, 60, rfl⟩
abbrev main_call0_call0_v18 : Ref sig .tc := ⟨.hbm, 61, rfl⟩
abbrev main_call0_call0_v19 : Ref sig .tc := ⟨.hbm, 62, rfl⟩
abbrev main_call0_call0_v20 : Ref sig .tc := ⟨.hbm, 63, rfl⟩
abbrev main_call0_call0_c_4 : Ref sig .tc := ⟨.hbm, 64, rfl⟩
abbrev main_call0_call0_v21 : Ref sig .tc := ⟨.hbm, 65, rfl⟩
abbrev main_call0_call0_v22 : Ref sig .tc := ⟨.hbm, 66, rfl⟩
abbrev main_call0_call0_c_5 : Ref sig .tc := ⟨.hbm, 67, rfl⟩
abbrev main_call0_call0_v23 : Ref sig .tc := ⟨.hbm, 68, rfl⟩
abbrev main_call0_call0_v24 : Ref sig .tc := ⟨.hbm, 69, rfl⟩
abbrev main_call0_call0_v25 : Ref sig .tc := ⟨.hbm, 70, rfl⟩
abbrev main_call0_call0_v26 : Ref sig .tc := ⟨.hbm, 71, rfl⟩
abbrev main_call0_call0_v27 : Ref sig .tc := ⟨.hbm, 72, rfl⟩
abbrev main_call0_call0_c_6 : Ref sig .tc := ⟨.hbm, 73, rfl⟩
abbrev main_call0_call0_v28 : Ref sig .tc := ⟨.hbm, 74, rfl⟩
abbrev main_call0_call0_v29 : Ref sig .tc := ⟨.hbm, 75, rfl⟩
abbrev main_call0_call0_c_7 : Ref sig .tc := ⟨.hbm, 76, rfl⟩
abbrev main_call0_call0_v30 : Ref sig .tc := ⟨.hbm, 77, rfl⟩
abbrev main_call0_call0_v31 : Ref sig .tc := ⟨.hbm, 78, rfl⟩
abbrev main_call0_call0_v32 : Ref sig .tc := ⟨.hbm, 79, rfl⟩
abbrev main_call0_call0_v33 : Ref sig .tc := ⟨.hbm, 80, rfl⟩
abbrev main_call0_call0_v34 : Ref sig .tc := ⟨.hbm, 81, rfl⟩
abbrev main_call0_call0_v35 : Ref sig .tc := ⟨.hbm, 82, rfl⟩
abbrev main_call0_call0_v36 : Ref sig .tc := ⟨.hbm, 83, rfl⟩
abbrev main_call0_call0_v37 : Ref sig .tc := ⟨.hbm, 84, rfl⟩
abbrev main_call0_call0_c_8 : Ref sig .tc := ⟨.hbm, 85, rfl⟩
abbrev main_call0_call0_v38 : Ref sig .tc := ⟨.hbm, 86, rfl⟩
abbrev main_call0_call0_v39 : Ref sig .tc := ⟨.hbm, 87, rfl⟩
abbrev main_call0_call0_v40 : Ref sig .tc := ⟨.hbm, 88, rfl⟩
abbrev main_call0_call0_c_9 : Ref sig .tc := ⟨.hbm, 89, rfl⟩
abbrev main_call0_call0_v41 : Ref sig .tc := ⟨.hbm, 90, rfl⟩
abbrev main_call0_call0_v42 : Ref sig .tc := ⟨.hbm, 91, rfl⟩
abbrev main_call0_call0_c_10 : Ref sig .tc := ⟨.hbm, 92, rfl⟩
abbrev main_call0_call0_v43 : Ref sig .tc := ⟨.hbm, 93, rfl⟩
abbrev main_call0_call0_v44 : Ref sig .tc := ⟨.hbm, 94, rfl⟩
abbrev main_call0_call0_v45 : Ref sig .tc := ⟨.hbm, 95, rfl⟩
abbrev main_call0_call0_v46 : Ref sig .tc := ⟨.hbm, 96, rfl⟩
abbrev main_call0_call0_v47 : Ref sig .tc := ⟨.hbm, 97, rfl⟩
abbrev main_call0_call0_c_11 : Ref sig .tc := ⟨.hbm, 98, rfl⟩
abbrev main_call0_call0_v48 : Ref sig .tc := ⟨.hbm, 99, rfl⟩
abbrev main_call0_call0_v49 : Ref sig .tc := ⟨.hbm, 100, rfl⟩
abbrev main_call0_call0_c_12 : Ref sig .tc := ⟨.hbm, 101, rfl⟩
abbrev main_call0_call0_v50 : Ref sig .tc := ⟨.hbm, 102, rfl⟩
abbrev main_call0_call0_v51 : Ref sig .tc := ⟨.hbm, 103, rfl⟩
abbrev main_call0_call0_v52 : Ref sig .tc := ⟨.hbm, 104, rfl⟩
abbrev main_call0_call0_v53 : Ref sig .tc := ⟨.hbm, 105, rfl⟩
abbrev main_call0_call0_v54 : Ref sig .tc := ⟨.hbm, 106, rfl⟩
abbrev main_call0_call0_c_13 : Ref sig .tc := ⟨.hbm, 107, rfl⟩
abbrev main_call0_call0_v55 : Ref sig .tc := ⟨.hbm, 108, rfl⟩
abbrev main_call0_call0_v56 : Ref sig .tc := ⟨.hbm, 109, rfl⟩
abbrev main_call0_call0_c_14 : Ref sig .tc := ⟨.hbm, 110, rfl⟩
abbrev main_call0_call0_v57 : Ref sig .tc := ⟨.hbm, 111, rfl⟩
abbrev main_call0_call0_v58 : Ref sig .tc := ⟨.hbm, 112, rfl⟩
abbrev main_call0_call0_v59 : Ref sig .tc := ⟨.hbm, 113, rfl⟩
abbrev main_call0_call0_v60 : Ref sig .tc := ⟨.hbm, 114, rfl⟩
abbrev main_call0_call0_v61 : Ref sig .tc := ⟨.hbm, 115, rfl⟩
abbrev main_call0_call0_c_15 : Ref sig .tc := ⟨.hbm, 116, rfl⟩
abbrev main_call0_call0_v62 : Ref sig .tc := ⟨.hbm, 117, rfl⟩
abbrev main_call0_call0_v63 : Ref sig .tc := ⟨.hbm, 118, rfl⟩
abbrev main_call0_call0_c_16 : Ref sig .tc := ⟨.hbm, 119, rfl⟩
abbrev main_call0_call0_v64 : Ref sig .tc := ⟨.hbm, 120, rfl⟩
abbrev main_call0_call0_v65 : Ref sig .tc := ⟨.hbm, 121, rfl⟩
abbrev main_call0_call0_v66 : Ref sig .tc := ⟨.hbm, 122, rfl⟩
abbrev main_call0_call0_v67 : Ref sig .tc := ⟨.hbm, 123, rfl⟩
abbrev main_call0_call0_v68 : Ref sig .tc := ⟨.hbm, 124, rfl⟩
abbrev main_call0_call0_v69 : Ref sig .tc := ⟨.hbm, 125, rfl⟩
abbrev main_call0_call0_v70 : Ref sig .tc := ⟨.hbm, 126, rfl⟩
abbrev main_call0_call0_v71 : Ref sig .tc := ⟨.hbm, 127, rfl⟩
abbrev main_call0_call0_c_17 : Ref sig .tc := ⟨.hbm, 128, rfl⟩
abbrev main_call0_call0_v72 : Ref sig .tc := ⟨.hbm, 129, rfl⟩
abbrev main_call0_call0_v73 : Ref sig .tc := ⟨.hbm, 130, rfl⟩
abbrev main_call0_call0_v74 : Ref sig .tc := ⟨.hbm, 131, rfl⟩
abbrev main_call0_call0_c_18 : Ref sig .tc := ⟨.hbm, 132, rfl⟩
abbrev main_call0_call0_v75 : Ref sig .tc := ⟨.hbm, 133, rfl⟩
abbrev main_call0_call0_v76 : Ref sig .tc := ⟨.hbm, 134, rfl⟩
abbrev main_call0_call0_c_19 : Ref sig .tc := ⟨.hbm, 135, rfl⟩
abbrev main_call0_call0_v77 : Ref sig .tc := ⟨.hbm, 136, rfl⟩
abbrev main_call0_call0_v78 : Ref sig .tc := ⟨.hbm, 137, rfl⟩
abbrev main_call0_call0_v79 : Ref sig .tc := ⟨.hbm, 138, rfl⟩
abbrev main_call0_call0_v80 : Ref sig .tc := ⟨.hbm, 139, rfl⟩
abbrev main_call0_call0_v81 : Ref sig .tc := ⟨.hbm, 140, rfl⟩
abbrev main_call0_call0_c_20 : Ref sig .tc := ⟨.hbm, 141, rfl⟩
abbrev main_call0_call0_v82 : Ref sig .tc := ⟨.hbm, 142, rfl⟩
abbrev main_call0_call0_v83 : Ref sig .tc := ⟨.hbm, 143, rfl⟩
abbrev main_call0_call0_c_21 : Ref sig .tc := ⟨.hbm, 144, rfl⟩
abbrev main_call0_call0_v84 : Ref sig .tc := ⟨.hbm, 145, rfl⟩
abbrev main_call0_call0_v85 : Ref sig .tc := ⟨.hbm, 146, rfl⟩
abbrev main_call0_call0_v86 : Ref sig .tc := ⟨.hbm, 147, rfl⟩
abbrev main_call0_call0_v87 : Ref sig .tc := ⟨.hbm, 148, rfl⟩
abbrev main_call0_call0_v88 : Ref sig .tc := ⟨.hbm, 149, rfl⟩
abbrev main_call0_call0_c_22 : Ref sig .tc := ⟨.hbm, 150, rfl⟩
abbrev main_call0_call0_v89 : Ref sig .tc := ⟨.hbm, 151, rfl⟩
abbrev main_call0_call0_v90 : Ref sig .tc := ⟨.hbm, 152, rfl⟩
abbrev main_call0_call0_c_23 : Ref sig .tc := ⟨.hbm, 153, rfl⟩
abbrev main_call0_call0_v91 : Ref sig .tc := ⟨.hbm, 154, rfl⟩
abbrev main_call0_call0_v92 : Ref sig .tc := ⟨.hbm, 155, rfl⟩
abbrev main_call0_call0_v93 : Ref sig .tc := ⟨.hbm, 156, rfl⟩
abbrev main_call0_call0_v94 : Ref sig .tc := ⟨.hbm, 157, rfl⟩
abbrev main_call0_call0_v95 : Ref sig .tc := ⟨.hbm, 158, rfl⟩
abbrev main_call0_call0_c_24 : Ref sig .tc := ⟨.hbm, 159, rfl⟩
abbrev main_call0_call0_v96 : Ref sig .tc := ⟨.hbm, 160, rfl⟩
abbrev main_call0_call0_v97 : Ref sig .tc := ⟨.hbm, 161, rfl⟩
abbrev main_call0_call0_c_25 : Ref sig .tc := ⟨.hbm, 162, rfl⟩
abbrev main_call0_call0_v98 : Ref sig .tc := ⟨.hbm, 163, rfl⟩
abbrev main_call0_call0_v99 : Ref sig .tc := ⟨.hbm, 164, rfl⟩
abbrev main_call0_call0_v100 : Ref sig .tc := ⟨.hbm, 165, rfl⟩
abbrev main_call0_call0_v101 : Ref sig .tc := ⟨.hbm, 166, rfl⟩
abbrev main_call0_call0_v102 : Ref sig .tc := ⟨.hbm, 167, rfl⟩
abbrev main_call0_call0_v103 : Ref sig .tc := ⟨.hbm, 168, rfl⟩
abbrev main_call0_call0_v104 : Ref sig .tc := ⟨.hbm, 169, rfl⟩
abbrev main_call0_call0_v105 : Ref sig .tc := ⟨.hbm, 170, rfl⟩
abbrev main_call0_call0_c_26 : Ref sig .tc := ⟨.hbm, 171, rfl⟩
abbrev main_call0_call0_v106 : Ref sig .tc := ⟨.hbm, 172, rfl⟩
abbrev main_call0_call0_v107 : Ref sig .tc := ⟨.hbm, 173, rfl⟩
abbrev main_call0_call0_v108 : Ref sig .tc := ⟨.hbm, 174, rfl⟩
abbrev main_call0_call0_c_27 : Ref sig .tc := ⟨.hbm, 175, rfl⟩
abbrev main_call0_call0_v109 : Ref sig .tc := ⟨.hbm, 176, rfl⟩
abbrev main_call0_call0_v110 : Ref sig .tc := ⟨.hbm, 177, rfl⟩
abbrev main_call0_call0_c_28 : Ref sig .tc := ⟨.hbm, 178, rfl⟩
abbrev main_call0_call0_v111 : Ref sig .tc := ⟨.hbm, 179, rfl⟩
abbrev main_call0_call0_v112 : Ref sig .tc := ⟨.hbm, 180, rfl⟩
abbrev main_call0_call0_v113 : Ref sig .tc := ⟨.hbm, 181, rfl⟩
abbrev main_call0_call0_v114 : Ref sig .tc := ⟨.hbm, 182, rfl⟩
abbrev main_call0_call0_v115 : Ref sig .tc := ⟨.hbm, 183, rfl⟩
abbrev main_call0_call0_c_29 : Ref sig .tc := ⟨.hbm, 184, rfl⟩
abbrev main_call0_call0_v116 : Ref sig .tc := ⟨.hbm, 185, rfl⟩
abbrev main_call0_call0_v117 : Ref sig .tc := ⟨.hbm, 186, rfl⟩
abbrev main_call0_call0_c_30 : Ref sig .tc := ⟨.hbm, 187, rfl⟩
abbrev main_call0_call0_v118 : Ref sig .tc := ⟨.hbm, 188, rfl⟩
abbrev main_call0_call0_v119 : Ref sig .tc := ⟨.hbm, 189, rfl⟩
abbrev main_call0_call0_v120 : Ref sig .tc := ⟨.hbm, 190, rfl⟩
abbrev main_call0_call0_v121 : Ref sig .tc := ⟨.hbm, 191, rfl⟩
abbrev main_call0_call0_v122 : Ref sig .tc := ⟨.hbm, 192, rfl⟩
abbrev main_call0_call0_c_31 : Ref sig .tc := ⟨.hbm, 193, rfl⟩
abbrev main_call0_call0_v123 : Ref sig .tc := ⟨.hbm, 194, rfl⟩
abbrev main_call0_call0_v124 : Ref sig .tc := ⟨.hbm, 195, rfl⟩
abbrev main_call0_call0_c_32 : Ref sig .tc := ⟨.hbm, 196, rfl⟩
abbrev main_call0_call0_v125 : Ref sig .tc := ⟨.hbm, 197, rfl⟩
abbrev main_call0_call0_v126 : Ref sig .tc := ⟨.hbm, 198, rfl⟩
abbrev main_call0_call0_v127 : Ref sig .tc := ⟨.hbm, 199, rfl⟩
abbrev main_call0_call0_v128 : Ref sig .tc := ⟨.hbm, 200, rfl⟩
abbrev main_call0_call0_v129 : Ref sig .tc := ⟨.hbm, 201, rfl⟩
abbrev main_call0_call0_c_33 : Ref sig .tc := ⟨.hbm, 202, rfl⟩
abbrev main_call0_call0_v130 : Ref sig .tc := ⟨.hbm, 203, rfl⟩
abbrev main_call0_call0_v131 : Ref sig .tc := ⟨.hbm, 204, rfl⟩
abbrev main_call0_call0_c_34 : Ref sig .tc := ⟨.hbm, 205, rfl⟩
abbrev main_call0_call0_v132 : Ref sig .tc := ⟨.hbm, 206, rfl⟩
abbrev main_call0_call0_v133 : Ref sig .tc := ⟨.hbm, 207, rfl⟩
abbrev main_call0_call0_v134 : Ref sig .tc := ⟨.hbm, 208, rfl⟩
abbrev main_call0_call0_v135 : Ref sig .tc := ⟨.hbm, 209, rfl⟩
abbrev main_call0_call0_v136 : Ref sig .tc := ⟨.hbm, 210, rfl⟩
abbrev main_call0_call0_v137 : Ref sig .tc := ⟨.hbm, 211, rfl⟩
abbrev main_call0_call0_v138 : Ref sig .tc := ⟨.hbm, 212, rfl⟩
abbrev main_call0_call0_v139 : Ref sig .tc := ⟨.hbm, 213, rfl⟩
abbrev main_call0_call0_c_35 : Ref sig .tc := ⟨.hbm, 214, rfl⟩
abbrev main_call0_call0_v140 : Ref sig .tc := ⟨.hbm, 215, rfl⟩
abbrev main_call0_call0_v141 : Ref sig .tc := ⟨.hbm, 216, rfl⟩
abbrev main_call0_call0_v142 : Ref sig .tc := ⟨.hbm, 217, rfl⟩
abbrev main_call0_call0_c_36 : Ref sig .tc := ⟨.hbm, 218, rfl⟩
abbrev main_call0_call0_v143 : Ref sig .tc := ⟨.hbm, 219, rfl⟩
abbrev main_call0_call0_v144 : Ref sig .tc := ⟨.hbm, 220, rfl⟩
abbrev main_call0_call0_c_37 : Ref sig .tc := ⟨.hbm, 221, rfl⟩
abbrev main_call0_call0_v145 : Ref sig .tc := ⟨.hbm, 222, rfl⟩
abbrev main_call0_call0_v146 : Ref sig .tc := ⟨.hbm, 223, rfl⟩
abbrev main_call0_call0_v147 : Ref sig .tc := ⟨.hbm, 224, rfl⟩
abbrev main_call0_call0_v148 : Ref sig .tc := ⟨.hbm, 225, rfl⟩
abbrev main_call0_call0_v149 : Ref sig .tc := ⟨.hbm, 226, rfl⟩
abbrev main_call0_call0_c_38 : Ref sig .tc := ⟨.hbm, 227, rfl⟩
abbrev main_call0_call0_v150 : Ref sig .tc := ⟨.hbm, 228, rfl⟩
abbrev main_call0_call0_v151 : Ref sig .tc := ⟨.hbm, 229, rfl⟩
abbrev main_call0_call0_c_39 : Ref sig .tc := ⟨.hbm, 230, rfl⟩
abbrev main_call0_call0_v152 : Ref sig .tc := ⟨.hbm, 231, rfl⟩
abbrev main_call0_call0_v153 : Ref sig .tc := ⟨.hbm, 232, rfl⟩
abbrev main_call0_call0_v154 : Ref sig .tc := ⟨.hbm, 233, rfl⟩
abbrev main_call0_call0_v155 : Ref sig .tc := ⟨.hbm, 234, rfl⟩
abbrev main_call0_call0_v156 : Ref sig .tc := ⟨.hbm, 235, rfl⟩
abbrev main_call0_call0_c_40 : Ref sig .tc := ⟨.hbm, 236, rfl⟩
abbrev main_call0_call0_v157 : Ref sig .tc := ⟨.hbm, 237, rfl⟩
abbrev main_call0_call0_v158 : Ref sig .tc := ⟨.hbm, 238, rfl⟩
abbrev main_call0_call0_c_41 : Ref sig .tc := ⟨.hbm, 239, rfl⟩
abbrev main_call0_call0_v159 : Ref sig .tc := ⟨.hbm, 240, rfl⟩
abbrev main_call0_call0_v160 : Ref sig .tc := ⟨.hbm, 241, rfl⟩
abbrev main_call0_call0_v161 : Ref sig .tc := ⟨.hbm, 242, rfl⟩
abbrev main_call0_call0_v162 : Ref sig .tc := ⟨.hbm, 243, rfl⟩
abbrev main_call0_call0_v163 : Ref sig .tc := ⟨.hbm, 244, rfl⟩
abbrev main_call0_call0_c_42 : Ref sig .tc := ⟨.hbm, 245, rfl⟩
abbrev main_call0_call0_v164 : Ref sig .tc := ⟨.hbm, 246, rfl⟩
abbrev main_call0_call0_v165 : Ref sig .tc := ⟨.hbm, 247, rfl⟩
abbrev main_call0_call0_c_43 : Ref sig .tc := ⟨.hbm, 248, rfl⟩
abbrev main_call0_call0_v166 : Ref sig .tc := ⟨.hbm, 249, rfl⟩
abbrev main_call0_call0_v167 : Ref sig .tc := ⟨.hbm, 250, rfl⟩
abbrev main_call0_call0_v168 : Ref sig .tc := ⟨.hbm, 251, rfl⟩
abbrev main_call0_call0_v169 : Ref sig .tc := ⟨.hbm, 252, rfl⟩
abbrev main_call0_call0_v170 : Ref sig .tc := ⟨.hbm, 253, rfl⟩
abbrev main_call0_v19_0 : Ref sig .tc := ⟨.hbm, 254, rfl⟩
abbrev main_call0_call0_v172 : Ref sig .tc := ⟨.hbm, 255, rfl⟩
abbrev main_call0_call0_v173 : Ref sig .tc := ⟨.hbm, 256, rfl⟩
abbrev main_call0_call0_c_44 : Ref sig .tc := ⟨.hbm, 257, rfl⟩
abbrev main_call0_call0_v174 : Ref sig .tc := ⟨.hbm, 258, rfl⟩
abbrev main_call0_v19_1 : Ref sig .tc := ⟨.hbm, 259, rfl⟩
abbrev main_call0_v20 : Ref sig .tc := ⟨.hbm, 260, rfl⟩
abbrev main_call0_c_2 : Ref sig .tc := ⟨.hbm, 261, rfl⟩
abbrev main_call0_v21 : Ref sig .tc := ⟨.hbm, 262, rfl⟩
abbrev main_call0_v22 : Ref sig .tc := ⟨.hbm, 263, rfl⟩
abbrev main_call0_c_3 : Ref sig .tc := ⟨.hbm, 264, rfl⟩
abbrev main_call0_v23 : Ref sig .tc := ⟨.hbm, 265, rfl⟩
abbrev main_call0_v24 : Ref sig .tc := ⟨.hbm, 266, rfl⟩
abbrev main_call0_v25 : Ref sig .tc := ⟨.hbm, 267, rfl⟩
abbrev main_call0_cst : Ref sig .tc := ⟨.hbm, 268, rfl⟩
abbrev main_call0_v26 : Ref sig .tc := ⟨.hbm, 269, rfl⟩
abbrev main_call0_v27 : Ref sig .tc := ⟨.hbm, 270, rfl⟩
abbrev main_call0_v28 : Ref sig .tc := ⟨.hbm, 271, rfl⟩
abbrev main_call0_v29 : Ref sig .tc := ⟨.hbm, 272, rfl⟩
abbrev main_call0_v30 : Ref sig .tc := ⟨.hbm, 273, rfl⟩
abbrev main_call0_v31 : Ref sig .tc := ⟨.hbm, 274, rfl⟩
abbrev main_call0_v32 : Ref sig .tc := ⟨.hbm, 275, rfl⟩
abbrev main_call0_v33 : Ref sig .tc := ⟨.hbm, 276, rfl⟩
abbrev main_v7 : Ref sig .tc := ⟨.hbm, 277, rfl⟩
abbrev main_v8 : Ref sig .tc := ⟨.hbm, 278, rfl⟩
abbrev main_v9 : Ref sig .tc := ⟨.hbm, 279, rfl⟩
abbrev main_v10 : Ref sig .tc := ⟨.hbm, 280, rfl⟩
abbrev main_cst_3 : Ref sig .tc := ⟨.hbm, 281, rfl⟩
abbrev main_call1_v0 : Ref sig .tc := ⟨.hbm, 282, rfl⟩
abbrev main_v11 : Ref sig .tc := ⟨.hbm, 283, rfl⟩
abbrev main_v12 : Ref sig .tc := ⟨.hbm, 284, rfl⟩
abbrev main_v13 : Ref sig .tc := ⟨.hbm, 285, rfl⟩
abbrev main_v14 : Ref sig .tc := ⟨.hbm, 286, rfl⟩
abbrev main_v15 : Ref sig .tc := ⟨.hbm, 287, rfl⟩
abbrev main_cst_4 : Ref sig .tc := ⟨.hbm, 288, rfl⟩
abbrev main_v16 : Ref sig .tc := ⟨.hbm, 289, rfl⟩
abbrev main_call2_v0 : Ref sig .tc := ⟨.hbm, 290, rfl⟩
abbrev main_call2_c : Ref sig .tc := ⟨.hbm, 291, rfl⟩
abbrev main_call2_v1 : Ref sig .tc := ⟨.hbm, 292, rfl⟩
abbrev main_call2_v2 : Ref sig .tc := ⟨.hbm, 293, rfl⟩
abbrev main_call2_v3 : Ref sig .tc := ⟨.hbm, 294, rfl⟩
abbrev main_call2_v4 : Ref sig .tc := ⟨.hbm, 295, rfl⟩
abbrev main_call2_cst : Ref sig .tc := ⟨.hbm, 296, rfl⟩
abbrev main_call2_v5 : Ref sig .tc := ⟨.hbm, 297, rfl⟩
abbrev main_v17 : Ref sig .tc := ⟨.hbm, 298, rfl⟩
abbrev main_v18 : Ref sig .tc := ⟨.hbm, 299, rfl⟩
abbrev main_v19 : Ref sig .tc := ⟨.hbm, 300, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_13 : BitVec 32 := 0#32
  let c31_i32 : BitVec 32 := 31#32
  let v26 : BitVec 32 := Scalar.addi c0_i32_13 c31_i32
  let c1_i32 : BitVec 32 := 1#32
  ⟨c0_i32_13, v26, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x784x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S784x784 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S64x100000 : Shape := ⟨2, ![64, 100000]⟩
abbrev S_ : Shape := ⟨0, ![]⟩
abbrev S64 : Shape := ⟨1, ![64]⟩
abbrev S64x1 : Shape := ⟨2, ![64, 1]⟩
abbrev S1 : Shape := ⟨1, ![1]⟩
abbrev S2 : Shape := ⟨1, ![2]⟩
abbrev S1x1 : Shape := ⟨2, ![1, 1]⟩
abbrev S32x64 : Shape := ⟨2, ![32, 64]⟩
abbrev S1x64 : Shape := ⟨2, ![1, 64]⟩

abbrev nBuf : Space → Nat
  | .hbm => 362
  | .vmem => 0
  | .smem => 0
  | _ => 0

abbrev hbmTy0_0 (i : Nat) : BufTy := match i % 128 with
  | 0 => ⟨S64x100000, .f32⟩
  | 1 => ⟨S_, .i32⟩
  | 2 => ⟨S_, .i32⟩
  | 3 => ⟨S_, .i32⟩
  | 4 => ⟨S_, .f32⟩
  | 5 => ⟨S64x100000, .f32⟩
  | 6 => ⟨S64x100000, .f32⟩
  | 7 => ⟨S_, .f32⟩
  | 8 => ⟨S64, .f32⟩
  | 9 => ⟨S_, .f32⟩
  | 10 => ⟨S64, .f32⟩
  | 11 => ⟨S64, .f32⟩
  | 12 => ⟨S64x1, .f32⟩
  | 13 => ⟨S64x100000, .f32⟩
  | 14 => ⟨S64x100000, .f32⟩
  | 15 => ⟨S64x100000, .f32⟩
  | 16 => ⟨S_, .f32⟩
  | 17 => ⟨S64, .f32⟩
  | 18 => ⟨S64x1, .f32⟩
  | 19 => ⟨S64x100000, .f32⟩
  | 20 => ⟨S64x100000, .f32⟩
  | 21 => ⟨S_, .i32⟩
  | 22 => ⟨S_, .i32⟩
  | 23 => ⟨S_, .i32⟩
  | 24 => ⟨S_, .i32⟩
  | 25 => ⟨S1, .i32⟩
  | 26 => ⟨S_, .i32⟩
  | 27 => ⟨S_, .i32⟩
  | 28 => ⟨S_, .i32⟩
  | 29 => ⟨S1, .i32⟩
  | 30 => ⟨S2, .i32⟩
  | 31 => ⟨S_, .f32⟩
  | 32 => ⟨S_, .f32⟩
  | 33 => ⟨S_, .f32⟩
  | 34 => ⟨S_, .f32⟩
  | 35 => ⟨S1x1, .f32⟩
  | 36 => ⟨S1x1, .f32⟩
  | 37 => ⟨S1, .i32⟩
  | 38 => ⟨S_, .i32⟩
  | 39 => ⟨S1, .i32⟩
  | 40 => ⟨S_, .i32⟩
  | 41 => ⟨S32x64, .i64⟩
  | 42 => ⟨S32x64, .i64⟩
  | 43 => ⟨S_, .i64⟩
  | 44 => ⟨S32x64, .i64⟩
  | 45 => ⟨S32x64, .i64⟩
  | 46 => ⟨S_, .i64⟩
  | 47 => ⟨S32x64, .i64⟩
  | 48 => ⟨S32x64, .i64⟩
  | 49 => ⟨S32x64, .i64⟩
  | 50 => ⟨S_, .i64⟩
  | 51 => ⟨S32x64, .i64⟩
  | 52 => ⟨S32x64, .i64⟩
  | 53 => ⟨S32x64, .i32⟩
  | 54 => ⟨S32x64, .i32⟩
  | 55 => ⟨S_, .i32⟩
  | 56 => ⟨S_, .i32⟩
  | 57 => ⟨S_, .i32⟩
  | 58 => ⟨S32x64, .i32⟩
  | 59 => ⟨S32x64, .i32⟩
  | 60 => ⟨S32x64, .i32⟩
  | 61 => ⟨S32x64, .i32⟩
  | 62 => ⟨S32x64, .i32⟩
  | 63 => ⟨S_, .i32⟩
  | 64 => ⟨S32x64, .i32⟩
  | 65 => ⟨S32x64, .i32⟩
  | 66 => ⟨S_, .i32⟩
  | 67 => ⟨S32x64, .i32⟩
  | 68 => ⟨S32x64, .i32⟩
  | 69 => ⟨S32x64, .i32⟩
  | 70 => ⟨S32x64, .i32⟩
  | 71 => ⟨S32x64, .i32⟩
  | 72 => ⟨S_, .i32⟩
  | 73 => ⟨S32x64, .i32⟩
  | 74 => ⟨S32x64, .i32⟩
  | 75 => ⟨S_, .i32⟩
  | 76 => ⟨S32x64, .i32⟩
  | 77 => ⟨S32x64, .i32⟩
  | 78 => ⟨S32x64, .i32⟩
  | 79 => ⟨S32x64, .i32⟩
  | 80 => ⟨S32x64, .i32⟩
  | 81 => ⟨S_, .i32⟩
  | 82 => ⟨S32x64, .i32⟩
  | 83 => ⟨S32x64, .i32⟩
  | 84 => ⟨S_, .i32⟩
  | 85 => ⟨S32x64, .i32⟩
  | 86 => ⟨S32x64, .i32⟩
  | 87 => ⟨S32x64, .i32⟩
  | 88 => ⟨S32x64, .i32⟩
  | 89 => ⟨S32x64, .i32⟩
  | 90 => ⟨S_, .i32⟩
  | 91 => ⟨S32x64, .i32⟩
  | 92 => ⟨S32x64, .i32⟩
  | 93 => ⟨S_, .i32⟩
  | 94 => ⟨S32x64, .i32⟩
  | 95 => ⟨S32x64, .i32⟩
  | 96 => ⟨S32x64, .i32⟩
  | 97 => ⟨S32x64, .i32⟩
  | 98 => ⟨S32x64, .i32⟩
  | 99 => ⟨S32x64, .i32⟩
  | 100 => ⟨S32x64, .i32⟩
  | 101 => ⟨S32x64, .i32⟩
  | 102 => ⟨S_, .i32⟩
  | 103 => ⟨S32x64, .i32⟩
  | 104 => ⟨S32x64, .i32⟩
  | 105 => ⟨S32x64, .i32⟩
  | 106 => ⟨S_, .i32⟩
  | 107 => ⟨S32x64, .i32⟩
  | 108 => ⟨S32x64, .i32⟩
  | 109 => ⟨S_, .i32⟩
  | 110 => ⟨S32x64, .i32⟩
  | 111 => ⟨S32x64, .i32⟩
  | 112 => ⟨S32x64, .i32⟩
  | 113 => ⟨S32x64, .i32⟩
  | 114 => ⟨S32x64, .i32⟩
  | 115 => ⟨S_, .i32⟩
  | 116 => ⟨S32x64, .i32⟩
  | 117 => ⟨S32x64, .i32⟩
  | 118 => ⟨S_, .i32⟩
  | 119 => ⟨S32x64, .i32⟩
  | 120 => ⟨S32x64, .i32⟩
  | 121 => ⟨S32x64, .i32⟩
  | 122 => ⟨S32x64, .i32⟩
  | 123 => ⟨S32x64, .i32⟩
  | 124 => ⟨S_, .i32⟩
  | 125 => ⟨S32x64, .i32⟩
  | 126 => ⟨S32x64, .i32⟩
  | 127 => ⟨S_, .i32⟩
  | _ => ⟨S64x100000, .f32⟩

abbrev hbmTy0_1 (i : Nat) : BufTy := match i % 128 with
  | 0 => ⟨S32x64, .i32⟩
  | 1 => ⟨S32x64, .i32⟩
  | 2 => ⟨S32x64, .i32⟩
  | 3 => ⟨S32x64, .i32⟩
  | 4 => ⟨S32x64, .i32⟩
  | 5 => ⟨S_, .i32⟩
  | 6 => ⟨S32x64, .i32⟩
  | 7 => ⟨S32x64, .i32⟩
  | 8 => ⟨S_, .i32⟩
  | 9 => ⟨S32x64, .i32⟩
  | 10 => ⟨S32x64, .i32⟩
  | 11 => ⟨S32x64, .i32⟩
  | 12 => ⟨S32x64, .i32⟩
  | 13 => ⟨S32x64, .i32⟩
  | 14 => ⟨S32x64, .i32⟩
  | 15 => ⟨S32x64, .i32⟩
  | 16 => ⟨S32x64, .i32⟩
  | 17 => ⟨S_, .i32⟩
  | 18 => ⟨S32x64, .i32⟩
  | 19 => ⟨S32x64, .i32⟩
  | 20 => ⟨S32x64, .i32⟩
  | 21 => ⟨S_, .i32⟩
  | 22 => ⟨S32x64, .i32⟩
  | 23 => ⟨S32x64, .i32⟩
  | 24 => ⟨S_, .i32⟩
  | 25 => ⟨S32x64, .i32⟩
  | 26 => ⟨S32x64, .i32⟩
  | 27 => ⟨S32x64, .i32⟩
  | 28 => ⟨S32x64, .i32⟩
  | 29 => ⟨S32x64, .i32⟩
  | 30 => ⟨S_, .i32⟩
  | 31 => ⟨S32x64, .i32⟩
  | 32 => ⟨S32x64, .i32⟩
  | 33 => ⟨S_, .i32⟩
  | 34 => ⟨S32x64, .i32⟩
  | 35 => ⟨S32x64, .i32⟩
  | 36 => ⟨S32x64, .i32⟩
  | 37 => ⟨S32x64, .i32⟩
  | 38 => ⟨S32x64, .i32⟩
  | 39 => ⟨S_, .i32⟩
  | 40 => ⟨S32x64, .i32⟩
  | 41 => ⟨S32x64, .i32⟩
  | 42 => ⟨S_, .i32⟩
  | 43 => ⟨S32x64, .i32⟩
  | 44 => ⟨S32x64, .i32⟩
  | 45 => ⟨S32x64, .i32⟩
  | 46 => ⟨S32x64, .i32⟩
  | 47 => ⟨S32x64, .i32⟩
  | 48 => ⟨S_, .i32⟩
  | 49 => ⟨S32x64, .i32⟩
  | 50 => ⟨S32x64, .i32⟩
  | 51 => ⟨S_, .i32⟩
  | 52 => ⟨S32x64, .i32⟩
  | 53 => ⟨S32x64, .i32⟩
  | 54 => ⟨S32x64, .i32⟩
  | 55 => ⟨S32x64, .i32⟩
  | 56 => ⟨S32x64, .i32⟩
  | 57 => ⟨S32x64, .i32⟩
  | 58 => ⟨S32x64, .i32⟩
  | 59 => ⟨S32x64, .i32⟩
  | 60 => ⟨S_, .i32⟩
  | 61 => ⟨S32x64, .i32⟩
  | 62 => ⟨S32x64, .i32⟩
  | 63 => ⟨S32x64, .i32⟩
  | 64 => ⟨S_, .i32⟩
  | 65 => ⟨S32x64, .i32⟩
  | 66 => ⟨S32x64, .i32⟩
  | 67 => ⟨S_, .i32⟩
  | 68 => ⟨S32x64, .i32⟩
  | 69 => ⟨S32x64, .i32⟩
  | 70 => ⟨S32x64, .i32⟩
  | 71 => ⟨S32x64, .i32⟩
  | 72 => ⟨S32x64, .i32⟩
  | 73 => ⟨S_, .i32⟩
  | 74 => ⟨S32x64, .i32⟩
  | 75 => ⟨S32x64, .i32⟩
  | 76 => ⟨S_, .i32⟩
  | 77 => ⟨S32x64, .i32⟩
  | 78 => ⟨S32x64, .i32⟩
  | 79 => ⟨S32x64, .i32⟩
  | 80 => ⟨S32x64, .i32⟩
  | 81 => ⟨S32x64, .i32⟩
  | 82 => ⟨S_, .i32⟩
  | 83 => ⟨S32x64, .i32⟩
  | 84 => ⟨S32x64, .i32⟩
  | 85 => ⟨S_, .i32⟩
  | 86 => ⟨S32x64, .i32⟩
  | 87 => ⟨S32x64, .i32⟩
  | 88 => ⟨S32x64, .i32⟩
  | 89 => ⟨S32x64, .i32⟩
  | 90 => ⟨S32x64, .i32⟩
  | 91 => ⟨S_, .i32⟩
  | 92 => ⟨S32x64, .i32⟩
  | 93 => ⟨S32x64, .i32⟩
  | 94 => ⟨S_, .i32⟩
  | 95 => ⟨S32x64, .i32⟩
  | 96 => ⟨S32x64, .i32⟩
  | 97 => ⟨S32x64, .i32⟩
  | 98 => ⟨S32x64, .i32⟩
  | 99 => ⟨S32x64, .i32⟩
  | 100 => ⟨S32x64, .i32⟩
  | 101 => ⟨S32x64, .i32⟩
  | 102 => ⟨S32x64, .i32⟩
  | 103 => ⟨S_, .i32⟩
  | 104 => ⟨S32x64, .i32⟩
  | 105 => ⟨S32x64, .i32⟩
  | 106 => ⟨S32x64, .i32⟩
  | 107 => ⟨S_, .i32⟩
  | 108 => ⟨S32x64, .i32⟩
  | 109 => ⟨S32x64, .i32⟩
  | 110 => ⟨S_, .i32⟩
  | 111 => ⟨S32x64, .i32⟩
  | 112 => ⟨S32x64, .i32⟩
  | 113 => ⟨S32x64, .i32⟩
  | 114 => ⟨S32x64, .i32⟩
  | 115 => ⟨S32x64, .i32⟩
  | 116 => ⟨S_, .i32⟩
  | 117 => ⟨S32x64, .i32⟩
  | 118 => ⟨S32x64, .i32⟩
  | 119 => ⟨S_, .i32⟩
  | 120 => ⟨S32x64, .i32⟩
  | 121 => ⟨S32x64, .i32⟩
  | 122 => ⟨S32x64, .i32⟩
  | 123 => ⟨S32x64, .i32⟩
  | 124 => ⟨S32x64, .i32⟩
  | 125 => ⟨S_, .i32⟩
  | 126 => ⟨S32x64, .i32⟩
  | 127 => ⟨S32x64, .i32⟩
  | _ => ⟨S64x100000, .f32⟩

abbrev hbmTy0_2 (i : Nat) : BufTy := match i % 128 with
  | 0 => ⟨S_, .i32⟩
  | 1 => ⟨S32x64, .i32⟩
  | 2 => ⟨S32x64, .i32⟩
  | 3 => ⟨S32x64, .i32⟩
  | 4 => ⟨S32x64, .i32⟩
  | 5 => ⟨S32x64, .i32⟩
  | 6 => ⟨S_, .i32⟩
  | 7 => ⟨S32x64, .i32⟩
  | 8 => ⟨S32x64, .i32⟩
  | 9 => ⟨S_, .i32⟩
  | 10 => ⟨S32x64, .i32⟩
  | 11 => ⟨S32x64, .i32⟩
  | 12 => ⟨S32x64, .i32⟩
  | 13 => ⟨S32x64, .i32⟩
  | 14 => ⟨S32x64, .i32⟩
  | 15 => ⟨S32x64, .i32⟩
  | 16 => ⟨S32x64, .i32⟩
  | 17 => ⟨S32x64, .i32⟩
  | 18 => ⟨S_, .i32⟩
  | 19 => ⟨S32x64, .i32⟩
  | 20 => ⟨S32x64, .i32⟩
  | 21 => ⟨S32x64, .i32⟩
  | 22 => ⟨S_, .i32⟩
  | 23 => ⟨S32x64, .i32⟩
  | 24 => ⟨S32x64, .i32⟩
  | 25 => ⟨S_, .i32⟩
  | 26 => ⟨S32x64, .i32⟩
  | 27 => ⟨S32x64, .i32⟩
  | 28 => ⟨S32x64, .f32⟩
  | 29 => ⟨S_, .f32⟩
  | 30 => ⟨S32x64, .f32⟩
  | 31 => ⟨S32x64, .f32⟩
  | 32 => ⟨S1x1, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S64x100000, .f32⟩
  | 40 => ⟨S64x100000, .f32⟩
  | 41 => ⟨S_, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S_, .i32⟩
  | 56 => ⟨S64x1, .f32⟩
  | 57 => ⟨S64, .f32⟩
  | 58 => ⟨S64x1, .f32⟩
  | 59 => ⟨S64x100000, .f32⟩
  | 60 => ⟨S64x100000, .i1⟩
  | 61 => ⟨S_, .f32⟩
  | 62 => ⟨S_, .f32⟩
  | 63 => ⟨S64x100000, .f32⟩
  | 64 => ⟨S64x100000, .f32⟩
  | 65 => ⟨S_, .f32⟩
  | 66 => ⟨S64x100000, .f32⟩
  | 67 => ⟨S64x100000, .i1⟩
  | 68 => ⟨S_, .f32⟩
  | 69 => ⟨S_, .f32⟩
  | 70 => ⟨S64x100000, .f32⟩
  | 71 => ⟨S64x100000, .f32⟩
  | 72 => ⟨S_, .f32⟩
  | 73 => ⟨S64, .f32⟩
  | 74 => ⟨S64x1, .f32⟩
  | 75 => ⟨S64x100000, .f32⟩
  | 76 => ⟨S64x100000, .i1⟩
  | 77 => ⟨S64x100000, .i1⟩
  | 78 => ⟨S_, .f32⟩
  | 79 => ⟨S_, .f32⟩
  | 80 => ⟨S64x100000, .f32⟩
  | 81 => ⟨S64x100000, .f32⟩
  | 82 => ⟨S_, .f32⟩
  | 83 => ⟨S64, .f32⟩
  | 84 => ⟨S64x1, .f32⟩
  | 85 => ⟨S64x100000, .f32⟩
  | 86 => ⟨S64x100000, .f32⟩
  | 87 => ⟨S_, .f32⟩
  | 88 => ⟨S_, .f32⟩
  | 89 => ⟨S64x100000, .f32⟩
  | 90 => ⟨S1x64, .f32⟩
  | 91 => ⟨S64, .f32⟩
  | 92 => ⟨S64x1, .f32⟩
  | 93 => ⟨S64x100000, .f32⟩
  | 94 => ⟨S64x100000, .i1⟩
  | 95 => ⟨S64x100000, .i32⟩
  | 96 => ⟨S_, .i32⟩
  | 97 => ⟨S64, .i32⟩
  | 98 => ⟨S_, .i32⟩
  | 99 => ⟨S_, .i32⟩
  | 100 => ⟨S_, .i32⟩
  | 101 => ⟨S64, .i32⟩
  | 102 => ⟨S64, .i32⟩
  | 103 => ⟨S_, .i32⟩
  | 104 => ⟨S64, .i32⟩
  | 105 => ⟨S64, .i32⟩
  | _ => ⟨S64x100000, .f32⟩

abbrev hbmTy (i : Nat) : BufTy := match i / 128 with
  | 0 => hbmTy0_0 i
  | 1 => hbmTy0_1 i
  | 2 => hbmTy0_2 i
  | _ => ⟨S64x100000, .f32⟩

abbrev bufTy : (tb : Table) → Fin (tcTables nBuf tb) → BufTy
  | .hbm, ⟨i, _⟩ => hbmTy i
  | _, _ => ⟨S64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_c : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_c_1 : Ref sig .tc := ⟨.hbm, 50, rfl⟩
abbrev main_call0_v15 : Ref sig .tc := ⟨.hbm, 51, rfl⟩
abbrev main_call0_v16 : Ref sig .tc := ⟨.hbm, 52, rfl⟩
abbrev main_call0_v17 : Ref sig .tc := ⟨.hbm, 53, rfl⟩
abbrev main_call0_v18 : Ref sig .tc := ⟨.hbm, 54, rfl⟩
abbrev main_call0_call0_v0 : Ref sig .tc := ⟨.hbm, 55, rfl⟩
abbrev main_call0_call0_c : Ref sig .tc := ⟨.hbm, 56, rfl⟩
abbrev main_call0_call0_v1 : Ref sig .tc := ⟨.hbm, 57, rfl⟩
abbrev main_call0_call0_v2 : Ref sig .tc := ⟨.hbm, 58, rfl⟩
abbrev main_call0_call0_v3 : Ref sig .tc := ⟨.hbm, 59, rfl⟩
abbrev main_call0_call0_v4 : Ref sig .tc := ⟨.hbm, 60, rfl⟩
abbrev main_call0_call0_v5 : Ref sig .tc := ⟨.hbm, 61, rfl⟩
abbrev main_call0_call0_v6 : Ref sig .tc := ⟨.hbm, 62, rfl⟩
abbrev main_call0_call0_c_0 : Ref sig .tc := ⟨.hbm, 63, rfl⟩
abbrev main_call0_call0_v7 : Ref sig .tc := ⟨.hbm, 64, rfl⟩
abbrev main_call0_call0_v8 : Ref sig .tc := ⟨.hbm, 65, rfl⟩
abbrev main_call0_call0_c_1 : Ref sig .tc := ⟨.hbm, 66, rfl⟩
abbrev main_call0_call0_v9 : Ref sig .tc := ⟨.hbm, 67, rfl⟩
abbrev main_call0_call0_v10 : Ref sig .tc := ⟨.hbm, 68, rfl⟩
abbrev main_call0_call0_v11 : Ref sig .tc := ⟨.hbm, 69, rfl⟩
abbrev main_call0_call0_v12 : Ref sig .tc := ⟨.hbm, 70, rfl⟩
abbrev main_call0_call0_v13 : Ref sig .tc := ⟨.hbm, 71, rfl⟩
abbrev main_call0_call0_c_2 : Ref sig .tc := ⟨.hbm, 72, rfl⟩
abbrev main_call0_call0_v14 : Ref sig .tc := ⟨.hbm, 73, rfl⟩
abbrev main_call0_call0_v15 : Ref sig .tc := ⟨.hbm, 74, rfl⟩
abbrev main_call0_call0_c_3 : Ref sig .tc := ⟨.hbm, 75, rfl⟩
abbrev main_call0_call0_v16 : Ref sig .tc := ⟨.hbm, 76, rfl⟩
abbrev main_call0_call0_v17 : Ref sig .tc := ⟨.hbm, 77, rfl⟩
abbrev main_call0_call0_v18 : Ref sig .tc := ⟨.hbm, 78, rfl⟩
abbrev main_call0_call0_v19 : Ref sig .tc := ⟨.hbm, 79, rfl⟩
abbrev main_call0_call0_v20 : Ref sig .tc := ⟨.hbm, 80, rfl⟩
abbrev main_call0_call0_c_4 : Ref sig .tc := ⟨.hbm, 81, rfl⟩
abbrev main_call0_call0_v21 : Ref sig .tc := ⟨.hbm, 82, rfl⟩
abbrev main_call0_call0_v22 : Ref sig .tc := ⟨.hbm, 83, rfl⟩
abbrev main_call0_call0_c_5 : Ref sig .tc := ⟨.hbm, 84, rfl⟩
abbrev main_call0_call0_v23 : Ref sig .tc := ⟨.hbm, 85, rfl⟩
abbrev main_call0_call0_v24 : Ref sig .tc := ⟨.hbm, 86, rfl⟩
abbrev main_call0_call0_v25 : Ref sig .tc := ⟨.hbm, 87, rfl⟩
abbrev main_call0_call0_v26 : Ref sig .tc := ⟨.hbm, 88, rfl⟩
abbrev main_call0_call0_v27 : Ref sig .tc := ⟨.hbm, 89, rfl⟩
abbrev main_call0_call0_c_6 : Ref sig .tc := ⟨.hbm, 90, rfl⟩
abbrev main_call0_call0_v28 : Ref sig .tc := ⟨.hbm, 91, rfl⟩
abbrev main_call0_call0_v29 : Ref sig .tc := ⟨.hbm, 92, rfl⟩
abbrev main_call0_call0_c_7 : Ref sig .tc := ⟨.hbm, 93, rfl⟩
abbrev main_call0_call0_v30 : Ref sig .tc := ⟨.hbm, 94, rfl⟩
abbrev main_call0_call0_v31 : Ref sig .tc := ⟨.hbm, 95, rfl⟩
abbrev main_call0_call0_v32 : Ref sig .tc := ⟨.hbm, 96, rfl⟩
abbrev main_call0_call0_v33 : Ref sig .tc := ⟨.hbm, 97, rfl⟩
abbrev main_call0_call0_v34 : Ref sig .tc := ⟨.hbm, 98, rfl⟩
abbrev main_call0_call0_v35 : Ref sig .tc := ⟨.hbm, 99, rfl⟩
abbrev main_call0_call0_v36 : Ref sig .tc := ⟨.hbm, 100, rfl⟩
abbrev main_call0_call0_v37 : Ref sig .tc := ⟨.hbm, 101, rfl⟩
abbrev main_call0_call0_c_8 : Ref sig .tc := ⟨.hbm, 102, rfl⟩
abbrev main_call0_call0_v38 : Ref sig .tc := ⟨.hbm, 103, rfl⟩
abbrev main_call0_call0_v39 : Ref sig .tc := ⟨.hbm, 104, rfl⟩
abbrev main_call0_call0_v40 : Ref sig .tc := ⟨.hbm, 105, rfl⟩
abbrev main_call0_call0_c_9 : Ref sig .tc := ⟨.hbm, 106, rfl⟩
abbrev main_call0_call0_v41 : Ref sig .tc := ⟨.hbm, 107, rfl⟩
abbrev main_call0_call0_v42 : Ref sig .tc := ⟨.hbm, 108, rfl⟩
abbrev main_call0_call0_c_10 : Ref sig .tc := ⟨.hbm, 109, rfl⟩
abbrev main_call0_call0_v43 : Ref sig .tc := ⟨.hbm, 110, rfl⟩
abbrev main_call0_call0_v44 : Ref sig .tc := ⟨.hbm, 111, rfl⟩
abbrev main_call0_call0_v45 : Ref sig .tc := ⟨.hbm, 112, rfl⟩
abbrev main_call0_call0_v46 : Ref sig .tc := ⟨.hbm, 113, rfl⟩
abbrev main_call0_call0_v47 : Ref sig .tc := ⟨.hbm, 114, rfl⟩
abbrev main_call0_call0_c_11 : Ref sig .tc := ⟨.hbm, 115, rfl⟩
abbrev main_call0_call0_v48 : Ref sig .tc := ⟨.hbm, 116, rfl⟩
abbrev main_call0_call0_v49 : Ref sig .tc := ⟨.hbm, 117, rfl⟩
abbrev main_call0_call0_c_12 : Ref sig .tc := ⟨.hbm, 118, rfl⟩
abbrev main_call0_call0_v50 : Ref sig .tc := ⟨.hbm, 119, rfl⟩
abbrev main_call0_call0_v51 : Ref sig .tc := ⟨.hbm, 120, rfl⟩
abbrev main_call0_call0_v52 : Ref sig .tc := ⟨.hbm, 121, rfl⟩
abbrev main_call0_call0_v53 : Ref sig .tc := ⟨.hbm, 122, rfl⟩
abbrev main_call0_call0_v54 : Ref sig .tc := ⟨.hbm, 123, rfl⟩
abbrev main_call0_call0_c_13 : Ref sig .tc := ⟨.hbm, 124, rfl⟩
abbrev main_call0_call0_v55 : Ref sig .tc := ⟨.hbm, 125, rfl⟩
abbrev main_call0_call0_v56 : Ref sig .tc := ⟨.hbm, 126, rfl⟩
abbrev main_call0_call0_c_14 : Ref sig .tc := ⟨.hbm, 127, rfl⟩
abbrev main_call0_call0_v57 : Ref sig .tc := ⟨.hbm, 128, rfl⟩
abbrev main_call0_call0_v58 : Ref sig .tc := ⟨.hbm, 129, rfl⟩
abbrev main_call0_call0_v59 : Ref sig .tc := ⟨.hbm, 130, rfl⟩
abbrev main_call0_call0_v60 : Ref sig .tc := ⟨.hbm, 131, rfl⟩
abbrev main_call0_call0_v61 : Ref sig .tc := ⟨.hbm, 132, rfl⟩
abbrev main_call0_call0_c_15 : Ref sig .tc := ⟨.hbm, 133, rfl⟩
abbrev main_call0_call0_v62 : Ref sig .tc := ⟨.hbm, 134, rfl⟩
abbrev main_call0_call0_v63 : Ref sig .tc := ⟨.hbm, 135, rfl⟩
abbrev main_call0_call0_c_16 : Ref sig .tc := ⟨.hbm, 136, rfl⟩
abbrev main_call0_call0_v64 : Ref sig .tc := ⟨.hbm, 137, rfl⟩
abbrev main_call0_call0_v65 : Ref sig .tc := ⟨.hbm, 138, rfl⟩
abbrev main_call0_call0_v66 : Ref sig .tc := ⟨.hbm, 139, rfl⟩
abbrev main_call0_call0_v67 : Ref sig .tc := ⟨.hbm, 140, rfl⟩
abbrev main_call0_call0_v68 : Ref sig .tc := ⟨.hbm, 141, rfl⟩
abbrev main_call0_call0_v69 : Ref sig .tc := ⟨.hbm, 142, rfl⟩
abbrev main_call0_call0_v70 : Ref sig .tc := ⟨.hbm, 143, rfl⟩
abbrev main_call0_call0_v71 : Ref sig .tc := ⟨.hbm, 144, rfl⟩
abbrev main_call0_call0_c_17 : Ref sig .tc := ⟨.hbm, 145, rfl⟩
abbrev main_call0_call0_v72 : Ref sig .tc := ⟨.hbm, 146, rfl⟩
abbrev main_call0_call0_v73 : Ref sig .tc := ⟨.hbm, 147, rfl⟩
abbrev main_call0_call0_v74 : Ref sig .tc := ⟨.hbm, 148, rfl⟩
abbrev main_call0_call0_c_18 : Ref sig .tc := ⟨.hbm, 149, rfl⟩
abbrev main_call0_call0_v75 : Ref sig .tc := ⟨.hbm, 150, rfl⟩
abbrev main_call0_call0_v76 : Ref sig .tc := ⟨.hbm, 151, rfl⟩
abbrev main_call0_call0_c_19 : Ref sig .tc := ⟨.hbm, 152, rfl⟩
abbrev main_call0_call0_v77 : Ref sig .tc := ⟨.hbm, 153, rfl⟩
abbrev main_call0_call0_v78 : Ref sig .tc := ⟨.hbm, 154, rfl⟩
abbrev main_call0_call0_v79 : Ref sig .tc := ⟨.hbm, 155, rfl⟩
abbrev main_call0_call0_v80 : Ref sig .tc := ⟨.hbm, 156, rfl⟩
abbrev main_call0_call0_v81 : Ref sig .tc := ⟨.hbm, 157, rfl⟩
abbrev main_call0_call0_c_20 : Ref sig .tc := ⟨.hbm, 158, rfl⟩
abbrev main_call0_call0_v82 : Ref sig .tc := ⟨.hbm, 159, rfl⟩
abbrev main_call0_call0_v83 : Ref sig .tc := ⟨.hbm, 160, rfl⟩
abbrev main_call0_call0_c_21 : Ref sig .tc := ⟨.hbm, 161, rfl⟩
abbrev main_call0_call0_v84 : Ref sig .tc := ⟨.hbm, 162, rfl⟩
abbrev main_call0_call0_v85 : Ref sig .tc := ⟨.hbm, 163, rfl⟩
abbrev main_call0_call0_v86 : Ref sig .tc := ⟨.hbm, 164, rfl⟩
abbrev main_call0_call0_v87 : Ref sig .tc := ⟨.hbm, 165, rfl⟩
abbrev main_call0_call0_v88 : Ref sig .tc := ⟨.hbm, 166, rfl⟩
abbrev main_call0_call0_c_22 : Ref sig .tc := ⟨.hbm, 167, rfl⟩
abbrev main_call0_call0_v89 : Ref sig .tc := ⟨.hbm, 168, rfl⟩
abbrev main_call0_call0_v90 : Ref sig .tc := ⟨.hbm, 169, rfl⟩
abbrev main_call0_call0_c_23 : Ref sig .tc := ⟨.hbm, 170, rfl⟩
abbrev main_call0_call0_v91 : Ref sig .tc := ⟨.hbm, 171, rfl⟩
abbrev main_call0_call0_v92 : Ref sig .tc := ⟨.hbm, 172, rfl⟩
abbrev main_call0_call0_v93 : Ref sig .tc := ⟨.hbm, 173, rfl⟩
abbrev main_call0_call0_v94 : Ref sig .tc := ⟨.hbm, 174, rfl⟩
abbrev main_call0_call0_v95 : Ref sig .tc := ⟨.hbm, 175, rfl⟩
abbrev main_call0_call0_c_24 : Ref sig .tc := ⟨.hbm, 176, rfl⟩
abbrev main_call0_call0_v96 : Ref sig .tc := ⟨.hbm, 177, rfl⟩
abbrev main_call0_call0_v97 : Ref sig .tc := ⟨.hbm, 178, rfl⟩
abbrev main_call0_call0_c_25 : Ref sig .tc := ⟨.hbm, 179, rfl⟩
abbrev main_call0_call0_v98 : Ref sig .tc := ⟨.hbm, 180, rfl⟩
abbrev main_call0_call0_v99 : Ref sig .tc := ⟨.hbm, 181, rfl⟩
abbrev main_call0_call0_v100 : Ref sig .tc := ⟨.hbm, 182, rfl⟩
abbrev main_call0_call0_v101 : Ref sig .tc := ⟨.hbm, 183, rfl⟩
abbrev main_call0_call0_v102 : Ref sig .tc := ⟨.hbm, 184, rfl⟩
abbrev main_call0_call0_v103 : Ref sig .tc := ⟨.hbm, 185, rfl⟩
abbrev main_call0_call0_v104 : Ref sig .tc := ⟨.hbm, 186, rfl⟩
abbrev main_call0_call0_v105 : Ref sig .tc := ⟨.hbm, 187, rfl⟩
abbrev main_call0_call0_c_26 : Ref sig .tc := ⟨.hbm, 188, rfl⟩
abbrev main_call0_call0_v106 : Ref sig .tc := ⟨.hbm, 189, rfl⟩
abbrev main_call0_call0_v107 : Ref sig .tc := ⟨.hbm, 190, rfl⟩
abbrev main_call0_call0_v108 : Ref sig .tc := ⟨.hbm, 191, rfl⟩
abbrev main_call0_call0_c_27 : Ref sig .tc := ⟨.hbm, 192, rfl⟩
abbrev main_call0_call0_v109 : Ref sig .tc := ⟨.hbm, 193, rfl⟩
abbrev main_call0_call0_v110 : Ref sig .tc := ⟨.hbm, 194, rfl⟩
abbrev main_call0_call0_c_28 : Ref sig .tc := ⟨.hbm, 195, rfl⟩
abbrev main_call0_call0_v111 : Ref sig .tc := ⟨.hbm, 196, rfl⟩
abbrev main_call0_call0_v112 : Ref sig .tc := ⟨.hbm, 197, rfl⟩
abbrev main_call0_call0_v113 : Ref sig .tc := ⟨.hbm, 198, rfl⟩
abbrev main_call0_call0_v114 : Ref sig .tc := ⟨.hbm, 199, rfl⟩
abbrev main_call0_call0_v115 : Ref sig .tc := ⟨.hbm, 200, rfl⟩
abbrev main_call0_call0_c_29 : Ref sig .tc := ⟨.hbm, 201, rfl⟩
abbrev main_call0_call0_v116 : Ref sig .tc := ⟨.hbm, 202, rfl⟩
abbrev main_call0_call0_v117 : Ref sig .tc := ⟨.hbm, 203, rfl⟩
abbrev main_call0_call0_c_30 : Ref sig .tc := ⟨.hbm, 204, rfl⟩
abbrev main_call0_call0_v118 : Ref sig .tc := ⟨.hbm, 205, rfl⟩
abbrev main_call0_call0_v119 : Ref sig .tc := ⟨.hbm, 206, rfl⟩
abbrev main_call0_call0_v120 : Ref sig .tc := ⟨.hbm, 207, rfl⟩
abbrev main_call0_call0_v121 : Ref sig .tc := ⟨.hbm, 208, rfl⟩
abbrev main_call0_call0_v122 : Ref sig .tc := ⟨.hbm, 209, rfl⟩
abbrev main_call0_call0_c_31 : Ref sig .tc := ⟨.hbm, 210, rfl⟩
abbrev main_call0_call0_v123 : Ref sig .tc := ⟨.hbm, 211, rfl⟩
abbrev main_call0_call0_v124 : Ref sig .tc := ⟨.hbm, 212, rfl⟩
abbrev main_call0_call0_c_32 : Ref sig .tc := ⟨.hbm, 213, rfl⟩
abbrev main_call0_call0_v125 : Ref sig .tc := ⟨.hbm, 214, rfl⟩
abbrev main_call0_call0_v126 : Ref sig .tc := ⟨.hbm, 215, rfl⟩
abbrev main_call0_call0_v127 : Ref sig .tc := ⟨.hbm, 216, rfl⟩
abbrev main_call0_call0_v128 : Ref sig .tc := ⟨.hbm, 217, rfl⟩
abbrev main_call0_call0_v129 : Ref sig .tc := ⟨.hbm, 218, rfl⟩
abbrev main_call0_call0_c_33 : Ref sig .tc := ⟨.hbm, 219, rfl⟩
abbrev main_call0_call0_v130 : Ref sig .tc := ⟨.hbm, 220, rfl⟩
abbrev main_call0_call0_v131 : Ref sig .tc := ⟨.hbm, 221, rfl⟩
abbrev main_call0_call0_c_34 : Ref sig .tc := ⟨.hbm, 222, rfl⟩
abbrev main_call0_call0_v132 : Ref sig .tc := ⟨.hbm, 223, rfl⟩
abbrev main_call0_call0_v133 : Ref sig .tc := ⟨.hbm, 224, rfl⟩
abbrev main_call0_call0_v134 : Ref sig .tc := ⟨.hbm, 225, rfl⟩
abbrev main_call0_call0_v135 : Ref sig .tc := ⟨.hbm, 226, rfl⟩
abbrev main_call0_call0_v136 : Ref sig .tc := ⟨.hbm, 227, rfl⟩
abbrev main_call0_call0_v137 : Ref sig .tc := ⟨.hbm, 228, rfl⟩
abbrev main_call0_call0_v138 : Ref sig .tc := ⟨.hbm, 229, rfl⟩
abbrev main_call0_call0_v139 : Ref sig .tc := ⟨.hbm, 230, rfl⟩
abbrev main_call0_call0_c_35 : Ref sig .tc := ⟨.hbm, 231, rfl⟩
abbrev main_call0_call0_v140 : Ref sig .tc := ⟨.hbm, 232, rfl⟩
abbrev main_call0_call0_v141 : Ref sig .tc := ⟨.hbm, 233, rfl⟩
abbrev main_call0_call0_v142 : Ref sig .tc := ⟨.hbm, 234, rfl⟩
abbrev main_call0_call0_c_36 : Ref sig .tc := ⟨.hbm, 235, rfl⟩
abbrev main_call0_call0_v143 : Ref sig .tc := ⟨.hbm, 236, rfl⟩
abbrev main_call0_call0_v144 : Ref sig .tc := ⟨.hbm, 237, rfl⟩
abbrev main_call0_call0_c_37 : Ref sig .tc := ⟨.hbm, 238, rfl⟩
abbrev main_call0_call0_v145 : Ref sig .tc := ⟨.hbm, 239, rfl⟩
abbrev main_call0_call0_v146 : Ref sig .tc := ⟨.hbm, 240, rfl⟩
abbrev main_call0_call0_v147 : Ref sig .tc := ⟨.hbm, 241, rfl⟩
abbrev main_call0_call0_v148 : Ref sig .tc := ⟨.hbm, 242, rfl⟩
abbrev main_call0_call0_v149 : Ref sig .tc := ⟨.hbm, 243, rfl⟩
abbrev main_call0_call0_c_38 : Ref sig .tc := ⟨.hbm, 244, rfl⟩
abbrev main_call0_call0_v150 : Ref sig .tc := ⟨.hbm, 245, rfl⟩
abbrev main_call0_call0_v151 : Ref sig .tc := ⟨.hbm, 246, rfl⟩
abbrev main_call0_call0_c_39 : Ref sig .tc := ⟨.hbm, 247, rfl⟩
abbrev main_call0_call0_v152 : Ref sig .tc := ⟨.hbm, 248, rfl⟩
abbrev main_call0_call0_v153 : Ref sig .tc := ⟨.hbm, 249, rfl⟩
abbrev main_call0_call0_v154 : Ref sig .tc := ⟨.hbm, 250, rfl⟩
abbrev main_call0_call0_v155 : Ref sig .tc := ⟨.hbm, 251, rfl⟩
abbrev main_call0_call0_v156 : Ref sig .tc := ⟨.hbm, 252, rfl⟩
abbrev main_call0_call0_c_40 : Ref sig .tc := ⟨.hbm, 253, rfl⟩
abbrev main_call0_call0_v157 : Ref sig .tc := ⟨.hbm, 254, rfl⟩
abbrev main_call0_call0_v158 : Ref sig .tc := ⟨.hbm, 255, rfl⟩
abbrev main_call0_call0_c_41 : Ref sig .tc := ⟨.hbm, 256, rfl⟩
abbrev main_call0_call0_v159 : Ref sig .tc := ⟨.hbm, 257, rfl⟩
abbrev main_call0_call0_v160 : Ref sig .tc := ⟨.hbm, 258, rfl⟩
abbrev main_call0_call0_v161 : Ref sig .tc := ⟨.hbm, 259, rfl⟩
abbrev main_call0_call0_v162 : Ref sig .tc := ⟨.hbm, 260, rfl⟩
abbrev main_call0_call0_v163 : Ref sig .tc := ⟨.hbm, 261, rfl⟩
abbrev main_call0_call0_c_42 : Ref sig .tc := ⟨.hbm, 262, rfl⟩
abbrev main_call0_call0_v164 : Ref sig .tc := ⟨.hbm, 263, rfl⟩
abbrev main_call0_call0_v165 : Ref sig .tc := ⟨.hbm, 264, rfl⟩
abbrev main_call0_call0_c_43 : Ref sig .tc := ⟨.hbm, 265, rfl⟩
abbrev main_call0_call0_v166 : Ref sig .tc := ⟨.hbm, 266, rfl⟩
abbrev main_call0_call0_v167 : Ref sig .tc := ⟨.hbm, 267, rfl⟩
abbrev main_call0_call0_v168 : Ref sig .tc := ⟨.hbm, 268, rfl⟩
abbrev main_call0_call0_v169 : Ref sig .tc := ⟨.hbm, 269, rfl⟩
abbrev main_call0_call0_v170 : Ref sig .tc := ⟨.hbm, 270, rfl⟩
abbrev main_call0_v19_0 : Ref sig .tc := ⟨.hbm, 271, rfl⟩
abbrev main_call0_call0_v172 : Ref sig .tc := ⟨.hbm, 272, rfl⟩
abbrev main_call0_call0_v173 : Ref sig .tc := ⟨.hbm, 273, rfl⟩
abbrev main_call0_call0_c_44 : Ref sig .tc := ⟨.hbm, 274, rfl⟩
abbrev main_call0_call0_v174 : Ref sig .tc := ⟨.hbm, 275, rfl⟩
abbrev main_call0_v19_1 : Ref sig .tc := ⟨.hbm, 276, rfl⟩
abbrev main_call0_v20 : Ref sig .tc := ⟨.hbm, 277, rfl⟩
abbrev main_call0_c_2 : Ref sig .tc := ⟨.hbm, 278, rfl⟩
abbrev main_call0_v21 : Ref sig .tc := ⟨.hbm, 279, rfl⟩
abbrev main_call0_v22 : Ref sig .tc := ⟨.hbm, 280, rfl⟩
abbrev main_call0_c_3 : Ref sig .tc := ⟨.hbm, 281, rfl⟩
abbrev main_call0_v23 : Ref sig .tc := ⟨.hbm, 282, rfl⟩
abbrev main_call0_v24 : Ref sig .tc := ⟨.hbm, 283, rfl⟩
abbrev main_call0_v25 : Ref sig .tc := ⟨.hbm, 284, rfl⟩
abbrev main_call0_cst : Ref sig .tc := ⟨.hbm, 285, rfl⟩
abbrev main_call0_v26 : Ref sig .tc := ⟨.hbm, 286, rfl⟩
abbrev main_call0_v27 : Ref sig .tc := ⟨.hbm, 287, rfl⟩
abbrev main_call0_v28 : Ref sig .tc := ⟨.hbm, 288, rfl⟩
abbrev main_call0_v29 : Ref sig .tc := ⟨.hbm, 289, rfl⟩
abbrev main_call0_v30 : Ref sig .tc := ⟨.hbm, 290, rfl⟩
abbrev main_call0_v31 : Ref sig .tc := ⟨.hbm, 291, rfl⟩
abbrev main_call0_v32 : Ref sig .tc := ⟨.hbm, 292, rfl⟩
abbrev main_call0_v33 : Ref sig .tc := ⟨.hbm, 293, rfl⟩
abbrev main_v21 : Ref sig .tc := ⟨.hbm, 294, rfl⟩
abbrev main_v22 : Ref sig .tc := ⟨.hbm, 295, rfl⟩
abbrev main_v23 : Ref sig .tc := ⟨.hbm, 296, rfl⟩
abbrev main_c_6 : Ref sig .tc := ⟨.hbm, 297, rfl⟩
abbrev main_v24 : Ref sig .tc := ⟨.hbm, 298, rfl⟩
abbrev main_c_7 : Ref sig .tc := ⟨.hbm, 299, rfl⟩
abbrev main_c_8 : Ref sig .tc := ⟨.hbm, 300, rfl⟩
abbrev main_v25 : Ref sig .tc := ⟨.hbm, 301, rfl⟩
abbrev main_c_9 : Ref sig .tc := ⟨.hbm, 302, rfl⟩
abbrev main_c_10 : Ref sig .tc := ⟨.hbm, 303, rfl⟩
abbrev main_v26 : Ref sig .tc := ⟨.hbm, 304, rfl⟩
abbrev main_c_11 : Ref sig .tc := ⟨.hbm, 305, rfl⟩
abbrev main_v27 : Ref sig .tc := ⟨.hbm, 306, rfl⟩
abbrev main_c_12 : Ref sig .tc := ⟨.hbm, 307, rfl⟩
abbrev main_v28 : Ref sig .tc := ⟨.hbm, 308, rfl⟩
abbrev main_c_13 : Ref sig .tc := ⟨.hbm, 309, rfl⟩
abbrev main_v29 : Ref sig .tc := ⟨.hbm, 310, rfl⟩
abbrev main_v30 : Ref sig .tc := ⟨.hbm, 311, rfl⟩
abbrev main_v31 : Ref sig .tc := ⟨.hbm, 312, rfl⟩
abbrev main_v32 : Ref sig .tc := ⟨.hbm, 313, rfl⟩
abbrev main_v33 : Ref sig .tc := ⟨.hbm, 314, rfl⟩
abbrev main_v34 : Ref sig .tc := ⟨.hbm, 315, rfl⟩
abbrev main_v35 : Ref sig .tc := ⟨.hbm, 316, rfl⟩
abbrev main_call3_call0_cst : Ref sig .tc := ⟨.hbm, 317, rfl⟩
abbrev main_call3_call0_v0 : Ref sig .tc := ⟨.hbm, 318, rfl⟩
abbrev main_v36 : Ref sig .tc := ⟨.hbm, 319, rfl⟩
abbrev main_v37 : Ref sig .tc := ⟨.hbm, 320, rfl⟩
abbrev main_v38 : Ref sig .tc := ⟨.hbm, 321, rfl⟩
abbrev main_v39 : Ref sig .tc := ⟨.hbm, 322, rfl⟩
abbrev main_v40 : Ref sig .tc := ⟨.hbm, 323, rfl⟩
abbrev main_cst_14 : Ref sig .tc := ⟨.hbm, 324, rfl⟩
abbrev main_call4_v0 : Ref sig .tc := ⟨.hbm, 325, rfl⟩
abbrev main_call4_v1 : Ref sig .tc := ⟨.hbm, 326, rfl⟩
abbrev main_v41 : Ref sig .tc := ⟨.hbm, 327, rfl⟩
abbrev main_cst_15 : Ref sig .tc := ⟨.hbm, 328, rfl⟩
abbrev main_v42 : Ref sig .tc := ⟨.hbm, 329, rfl⟩
abbrev main_v43 : Ref sig .tc := ⟨.hbm, 330, rfl⟩
abbrev main_v44 : Ref sig .tc := ⟨.hbm, 331, rfl⟩
abbrev main_v45 : Ref sig .tc := ⟨.hbm, 332, rfl⟩
abbrev main_v46 : Ref sig .tc := ⟨.hbm, 333, rfl⟩
abbrev main_cst_16 : Ref sig .tc := ⟨.hbm, 334, rfl⟩
abbrev main_call5_v0 : Ref sig .tc := ⟨.hbm, 335, rfl⟩
abbrev main_call5_v1 : Ref sig .tc := ⟨.hbm, 336, rfl⟩
abbrev main_v47 : Ref sig .tc := ⟨.hbm, 337, rfl⟩
abbrev main_cst_17 : Ref sig .tc := ⟨.hbm, 338, rfl⟩
abbrev main_v48 : Ref sig .tc := ⟨.hbm, 339, rfl⟩
abbrev main_v49 : Ref sig .tc := ⟨.hbm, 340, rfl⟩
abbrev main_v50 : Ref sig .tc := ⟨.hbm, 341, rfl⟩
abbrev main_v51 : Ref sig .tc := ⟨.hbm, 342, rfl⟩
abbrev main_call6_call0_cst : Ref sig .tc := ⟨.hbm, 343, rfl⟩
abbrev main_call6_call0_v0 : Ref sig .tc := ⟨.hbm, 344, rfl⟩
abbrev main_v52 : Ref sig .tc := ⟨.hbm, 345, rfl⟩
abbrev main_v53 : Ref sig .tc := ⟨.hbm, 346, rfl⟩
abbrev main_v54 : Ref sig .tc := ⟨.hbm, 347, rfl⟩
abbrev main_v55 : Ref sig .tc := ⟨.hbm, 348, rfl⟩
abbrev main_v56 : Ref sig .tc := ⟨.hbm, 349, rfl⟩
abbrev main_v57 : Ref sig .tc := ⟨.hbm, 350, rfl⟩
abbrev main_v58 : Ref sig .tc := ⟨.hbm, 351, rfl⟩
abbrev main_c_18 : Ref sig .tc := ⟨.hbm, 352, rfl⟩
abbrev main_v59 : Ref sig .tc := ⟨.hbm, 353, rfl⟩
abbrev main_c_19 : Ref sig .tc := ⟨.hbm, 354, rfl⟩
abbrev main_c_20 : Ref sig .tc := ⟨.hbm, 355, rfl⟩
abbrev main_call7_v0 : Ref sig .tc := ⟨.hbm, 356, rfl⟩
abbrev main_call7_v1 : Ref sig .tc := ⟨.hbm, 357, rfl⟩
abbrev main_call7_v2 : Ref sig .tc := ⟨.hbm, 358, rfl⟩
abbrev main_call7_v3 : Ref sig .tc := ⟨.hbm, 359, rfl⟩
abbrev main_call7_v4 : Ref sig .tc := ⟨.hbm, 360, rfl⟩
abbrev main_v60 : Ref sig .tc := ⟨.hbm, 361, rfl⟩

abbrev nD : Nat := 1
abbrev τ : Topo := Topo.v7x

variable {F : FTy → Type} [FloatOps F]
-- ==== Proof.RefOps.lean ====
module

public import proofs.«01_k».proof.ReferenceIdeal
public import proofs.«01_k».proof.Proof.Gen.ReferenceIdeal
public import Idealize.ShloMosaic.Lib.Pipeline.Regions
public import Idealize.ShloMosaic.Lib.Claim

@[expose] public section

set_option maxRecDepth 16384
set_option Elab.async false

/-!
# The reference as a line of operations

The reference calls small functions. Here each stretch of its operations, with the calls written out, is a list, and
`main_eq` says that the program runs these lists one after the other.
-/

namespace Cert.ReferenceIdeal.Ops

open Idealize.ShloMosaic Idealize.ShloMosaic.TcCoe
open Idealize.SL.Sem
open Cert.ReferenceIdeal Cert.ReferenceIdeal.Gen

noncomputable section

variable {F : FTy → Type} [FloatOps F]

/-- The 29 operations of the main function, in order. -/
abbrev ops0 : List (HloOp τ sig (Elt F)) :=
  [ StableHlo.unary main_arg1 main_v0 (sitofp .f32 : (⟨S_, .i32⟩ : BufTy).Contents (Elt F) → (⟨S_, .f32⟩ : BufTy).Contents (Elt F)),
    StableHlo.unary main_v0 main_v1 (broadcastInDim S64x100000 ![] bcast_S_S64x100000 : (⟨S_, .f32⟩ : BufTy).Contents (Elt F) → (⟨S64x100000, .f32⟩ : BufTy).Contents (Elt F)),
    StableHlo.binary main_arg0 main_v1 main_v2 (Host.divf : (⟨S64x100000, .f32⟩ : BufTy).Contents (Elt F) → (⟨S64x100000, .f32⟩ : BufTy).Contents (Elt F) → (⟨S64x100000, .f32⟩ : BufTy).Contents (Elt F)),
    StableHlo.nullary main_cst (constant S_ .f32 0xFF800000#32),
    StableHlo.binary main_v2 main_cst main_v3 ((fun x v => Host.reduce FloatOps.maximumf x v reducesTo_S64x100000_S64_d1 h_S_) : (⟨S64x100000, .f32⟩ : BufTy).Contents (Elt F) → (⟨S_, .f32⟩ : BufTy).Contents (Elt F) → (⟨S64, .f32⟩ : BufTy).Contents (Elt F)),
    StableHlo.nullary main_cst_0 (constant S_ .f32 0xFF800000#32),
    StableHlo.unary main_cst_0 main_v4 (broadcastInDim S64 ![] bcast_S_S64 : (⟨S_, .f32⟩ : BufTy).Contents (Elt F) → (⟨S64, .f32⟩ : BufTy).Contents (Elt F)),
    StableHlo.binary main_v4 main_v3 main_v5 (maximumf : (⟨S64, .f32⟩ : BufTy).Contents (Elt F) → (⟨S64, .f32⟩ : BufTy).Contents (Elt F) → (⟨S64, .f32⟩ : BufTy).Contents (Elt F)),
    StableHlo.unary main_v5 main_v6 (broadcastInDim S64x1 ![0] bcast_S64_S64x1_0 : (⟨S64, .f32⟩ : BufTy).Contents (Elt F) → (⟨S64x1, .f32⟩ : BufTy).Contents (Elt F)),
    StableHlo.unary main_v6 main_v7 (broadcastInDim S64x100000 ![0, 1] bcast_S64x1_S64x100000_0_1 : (⟨S64x1, .f32⟩ : BufTy).Contents (Elt F) → (⟨S64x100000, .f32⟩ : BufTy).Contents (Elt F)),
    StableHlo.binary main_v2 main_v7 main_v8 (subf : (⟨S64x100000, .f32⟩ : BufTy).Contents (Elt F) → (⟨S64x100000, .f32⟩ : BufTy).Contents (Elt F) → (⟨S64x100000, .f32⟩ : BufTy).Contents (Elt F)),
    StableHlo.unary main_v8 main_v9 (Host.exp : (⟨S64x100000, .f32⟩ : BufTy).Contents (Elt F) → (⟨S64x100000, .f32⟩ : BufTy).Contents (Elt F)),
    StableHlo.nullary main_cst_1 (constant S_ .f32 0x00000000#32),
    StableHlo.binary main_v9 main_cst_1 main_v10 ((fun x v => Host.reduceAdd x v reducesTo_S64x100000_S64_d1 h_S_) : (⟨S64x100000, .f32⟩ : BufTy).Contents (Elt F) → (⟨S_, .f32⟩ : BufTy).Contents (Elt F) → (⟨S64, .f32⟩ : BufTy).Contents (Elt F)),
    StableHlo.unary main_v10 main_v11 (broadcastInDim S64x1 ![0] bcast_S64_S64x1_0 : (⟨S64, .f32⟩ : BufTy).Contents (Elt F) → (⟨S64x1, .f32⟩ : BufTy).Contents (Elt F)),
    StableHlo.unary main_v11 main_v12 (broadcastInDim S64x100000 ![0, 1] bcast_S64x1_S64x100000_0_1 : (⟨S64x1, .f32⟩ : BufTy).Contents (Elt F) → (⟨S64x100000, .f32⟩ : BufTy).Contents (Elt F)),
    StableHlo.binary main_v9 main_v12 main_v13 (Host.divf : (⟨S64x100000, .f32⟩ : BufTy).Contents (Elt F) → (⟨S64x100000, .f32⟩ : BufTy).Contents (Elt F) → (⟨S64x100000, .f32⟩ : BufTy).Contents (Elt F)),
    StableHlo.nullary main_c (constantI S_ 32 42#32),
    StableHlo.nullary main_c_2 (constantI S_ 32 32#32),
    StableHlo.binary main_c main_c_2 main_v14 (Host.shrui : (⟨S_, .i32⟩ : BufTy).Contents (Elt F) → (⟨S_, .i32⟩ : BufTy).Contents (Elt F) → (⟨S_, .i32⟩ : BufTy).Contents (Elt F)),
    StableHlo.unary main_v14 main_v15 (id : (⟨S_, .i32⟩ : BufTy).Contents (Elt F) → (⟨S_, .i32⟩ : BufTy).Contents (Elt F)),
    StableHlo.unary main_v15 main_v16 (broadcastInDim S1 ![] bcast_S_S1 : (⟨S_, .i32⟩ : BufTy).Contents (Elt F) → (⟨S1, .i32⟩ : BufTy).Contents (Elt F)),
    StableHlo.nullary main_c_3 (constantI S_ 32 4294967295#32),
    StableHlo.binary main_c main_c_3 main_v17 (andi : (⟨S_, .i32⟩ : BufTy).Contents (Elt F) → (⟨S_, .i32⟩ : BufTy).Contents (Elt F) → (⟨S_, .i32⟩ : BufTy).Contents (Elt F)),
    StableHlo.unary main_v17 main_v18 (id : (⟨S_, .i32⟩ : BufTy).Contents (Elt F) → (⟨S_, .i32⟩ : BufTy).Contents (Elt F)),
    StableHlo.unary main_v18 main_v19 (broadcastInDim S1 ![] bcast_S_S1 : (⟨S_, .i32⟩ : BufTy).Contents (Elt F) → (⟨S1, .i32⟩ : BufTy).Contents (Elt F)),
    StableHlo.binary main_v16 main_v19 main_v20 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_4 (constant S_ .f32 0x00000000#32),
    StableHlo.nullary main_cst_5 (constant S_ .f32 0x3F800000#32) ]

set_option maxHeartbeats 40000000 in
/-- The 262 operations that draw the uniform numbers, in order. -/
abbrev ops1 : List (HloOp τ sig (Elt F)) :=
  ( StableHlo.TRef.unary (.of main_cst_4 : StableHlo.TRef sig ⟨S_, .f32⟩) (.of main_call0_v0 : StableHlo.TRef sig ⟨S_, .f32⟩) id
  :: StableHlo.TRef.unary (.of main_cst_5 : StableHlo.TRef sig ⟨S_, .f32⟩) (.of main_call0_v1 : StableHlo.TRef sig ⟨S_, .f32⟩) id
  :: StableHlo.TRef.unary (.of main_call0_v0 : StableHlo.TRef sig ⟨S_, .f32⟩) (.of main_call0_v2 : StableHlo.TRef sig ⟨S1x1, .f32⟩) (broadcastInDim S1x1 ![] bcast_S_S1x1)
  :: StableHlo.TRef.unary (.of main_call0_v1 : StableHlo.TRef sig ⟨S_, .f32⟩) (.of main_call0_v3 : StableHlo.TRef sig ⟨S1x1, .f32⟩) (broadcastInDim S1x1 ![] bcast_S_S1x1)
  :: StableHlo.TRef.unary (.of main_v20 : StableHlo.TRef sig ⟨S2, .i32⟩) (.of main_call0_v4 : StableHlo.TRef sig ⟨S1, .i32⟩) (extractStridedSlice S1 ![0] · slices_S2_S1_0)
  :: StableHlo.TRef.reshape (.of main_call0_v4 : StableHlo.TRef sig ⟨S1, .i32⟩) (.of main_call0_v5 : StableHlo.TRef sig ⟨S_, .i32⟩) (rfl : (.i32 : EltTy) = .i32) shapeCasts_S1_S_
  :: StableHlo.TRef.unary (.of main_v20 : StableHlo.TRef sig ⟨S2, .i32⟩) (.of main_call0_v6 : StableHlo.TRef sig ⟨S1, .i32⟩) (extractStridedSlice S1 ![1] · slices_S2_S1_1)
  :: StableHlo.TRef.reshape (.of main_call0_v6 : StableHlo.TRef sig ⟨S1, .i32⟩) (.of main_call0_v7 : StableHlo.TRef sig ⟨S_, .i32⟩) (rfl : (.i32 : EltTy) = .i32) shapeCasts_S1_S_
  :: StableHlo.TRef.nullary (.of main_call0_v8 : StableHlo.TRef sig ⟨S32x64, .i64⟩) (iotaInDim S32x64 64 0)
  :: StableHlo.TRef.nullary (.of main_call0_v9 : StableHlo.TRef sig ⟨S32x64, .i64⟩) (iotaInDim S32x64 64 1)
  :: StableHlo.TRef.nullary (.of main_call0_c : StableHlo.TRef sig ⟨S_, .i64⟩) (constantI S_ 64 64#64)
  :: StableHlo.TRef.unary (.of main_call0_c : StableHlo.TRef sig ⟨S_, .i64⟩) (.of main_call0_v10 : StableHlo.TRef sig ⟨S32x64, .i64⟩) (broadcastInDim S32x64 ![] bcast_S_S32x64)
  :: StableHlo.TRef.binary (.of main_call0_v10 : StableHlo.TRef sig ⟨S32x64, .i64⟩) (.of main_call0_v8 : StableHlo.TRef sig ⟨S32x64, .i64⟩) (.of main_call0_v11 : StableHlo.TRef sig ⟨S32x64, .i64⟩) muli
  :: StableHlo.TRef.nullary (.of main_call0_c_0 : StableHlo.TRef sig ⟨S_, .i64⟩) (constantI S_ 64 1#64)
  :: StableHlo.TRef.unary (.of main_call0_c_0 : StableHlo.TRef sig ⟨S_, .i64⟩) (.of main_call0_v12 : StableHlo.TRef sig ⟨S32x64, .i64⟩) (broadcastInDim S32x64 ![] bcast_S_S32x64)
  :: StableHlo.TRef.binary (.of main_call0_v12 : StableHlo.TRef sig ⟨S32x64, .i64⟩) (.of main_call0_v9 : StableHlo.TRef sig ⟨S32x64, .i64⟩) (.of main_call0_v13 : StableHlo.TRef sig ⟨S32x64, .i64⟩) muli
  :: StableHlo.TRef.binary (.of main_call0_v11 : StableHlo.TRef sig ⟨S32x64, .i64⟩) (.of main_call0_v13 : StableHlo.TRef sig ⟨S32x64, .i64⟩) (.of main_call0_v14 : StableHlo.TRef sig ⟨S32x64, .i64⟩) addi
  :: StableHlo.TRef.nullary (.of main_call0_c_1 : StableHlo.TRef sig ⟨S_, .i64⟩) (constantI S_ 64 32#64)
  :: StableHlo.TRef.unary (.of main_call0_c_1 : StableHlo.TRef sig ⟨S_, .i64⟩) (.of main_call0_v15 : StableHlo.TRef sig ⟨S32x64, .i64⟩) (broadcastInDim S32x64 ![] bcast_S_S32x64)
  :: StableHlo.TRef.binary (.of main_call0_v14 : StableHlo.TRef sig ⟨S32x64, .i64⟩) (.of main_call0_v15 : StableHlo.TRef sig ⟨S32x64, .i64⟩) (.of main_call0_v16 : StableHlo.TRef sig ⟨S32x64, .i64⟩) Host.shrui
  :: StableHlo.TRef.unary (.of main_call0_v14 : StableHlo.TRef sig ⟨S32x64, .i64⟩) (.of main_call0_v17 : StableHlo.TRef sig ⟨S32x64, .i32⟩) (trunci 32 · natLt_32_64)
  :: StableHlo.TRef.unary (.of main_call0_v16 : StableHlo.TRef sig ⟨S32x64, .i64⟩) (.of main_call0_v18 : StableHlo.TRef sig ⟨S32x64, .i32⟩) (trunci 32 · natLt_32_64)
  :: StableHlo.TRef.binary (.of main_call0_v5 : StableHlo.TRef sig ⟨S_, .i32⟩) (.of main_call0_v7 : StableHlo.TRef sig ⟨S_, .i32⟩) (.of main_call0_call0_v0 : StableHlo.TRef sig ⟨S_, .i32⟩) xori
  :: StableHlo.TRef.nullary (.of main_call0_call0_c : StableHlo.TRef sig ⟨S_, .i32⟩) (constantI S_ 32 466688986#32)
  :: StableHlo.TRef.binary (.of main_call0_call0_v0 : StableHlo.TRef sig ⟨S_, .i32⟩) (.of main_call0_call0_c : StableHlo.TRef sig ⟨S_, .i32⟩) (.of main_call0_call0_v1 : StableHlo.TRef sig ⟨S_, .i32⟩) xori
  :: StableHlo.TRef.unary (.of main_call0_v5 : StableHlo.TRef sig ⟨S_, .i32⟩) (.of main_call0_call0_v2 : StableHlo.TRef sig ⟨S32x64, .i32⟩) (broadcastInDim S32x64 ![] bcast_S_S32x64)
  :: StableHlo.TRef.binary (.of main_call0_v18 : StableHlo.TRef sig ⟨S32x64, .i32⟩) (.of main_call0_call0_v2 : StableHlo.TRef sig ⟨S32x64, .i32⟩) (.of main_call0_call0_v3 : StableHlo.TRef sig ⟨S32x64, .i32⟩) addi
  :: StableHlo.TRef.unary (.of main_call0_v7 : StableHlo.TRef sig ⟨S_, .i32⟩) (.of main_call0_call0_v4 : StableHlo.TRef sig ⟨S32x64, .i32⟩) (broadcastInDim S32x64 ![] bcast_S_S32x64)
  :: StableHlo.TRef.binary (.of main_call0_v17 : StableHlo.TRef sig ⟨S32x64, .i32⟩) (.of main_call0_call0_v4 : StableHlo.TRef sig ⟨S32x64, .i32⟩) (.of main_call0_call0_v5 : StableHlo.TRef sig ⟨S32x64, .i32⟩) addi
  :: StableHlo.TRef.binary (.of main_call0_call0_v3 : StableHlo.TRef sig ⟨S32x64, .i32⟩) (.of main_call0_call0_v5 : StableHlo.TRef sig ⟨S32x64, .i32⟩) (.of main_call0_call0_v6 : StableHlo.TRef sig ⟨S32x64, .i32⟩) addi
  :: StableHlo.TRef.nullary (.of main_call0_call0_c_0 : StableHlo.TRef sig ⟨S_, .i32⟩) (constantI S_ 32 13#32)
  :: StableHlo.TRef.unary (.of main_call0_call0_c_0 : StableHlo.TRef sig ⟨S_, .i32⟩) (.of main_call0_call0_v7 : StableHlo.TRef sig ⟨S32x64, .i32⟩) (broadcastInDim S32x64 ![] bcast_S_S32x64)
  :: StableHlo.TRef.binary (.of main_call0_call0_v5 : StableHlo.TRef sig ⟨S32x64, .i32⟩) (.of main_call0_call0_v7 : StableHlo.TRef sig ⟨S32x64, .i32⟩) (.of main_call0_call0_v8 : StableHlo.TRef sig ⟨S32x64, .i32⟩) Host.shli
  :: StableHlo.TRef.nullary (.of main_call0_call0_c_1 : StableHlo.TRef sig ⟨S_, .i32⟩) (constantI S_ 32 19#32)
  :: StableHlo.TRef.unary (.of main_call0_call0_c_1 : StableHlo.TRef sig ⟨S_, .i32⟩) (.of main_call0_call0_v9 : StableHlo.TRef sig ⟨S32x64, .i32⟩) (broadcastInDim S32x64 ![] bcast_S_S32x64)
  :: StableHlo.TRef.binary (.of main_call0_call0_v5 : StableHlo.TRef sig ⟨S32x64, .i32⟩) (.of main_call0_call0_v9 : StableHlo.TRef sig ⟨S32x64, .i32⟩) (.of main_call0_call0_v10 : StableHlo.TRef sig ⟨S32x64, .i32⟩) Host.shrui
  :: StableHlo.TRef.binary (.of main_call0_call0_v8 : StableHlo.TRef sig ⟨S32x64, .i32⟩) (.of main_call0_call0_v10 : StableHlo.TRef sig ⟨S32x64, .i32⟩) (.of main_call0_call0_v11 : StableHlo.TRef sig ⟨S32x64, .i32⟩) ori
  :: StableHlo.TRef.binary (.of main_call0_call0_v6 : StableHlo.TRef sig ⟨S32x64, .i32⟩) (.of main_call0_call0_v11 : StableHlo.TRef sig ⟨S32x64, .i32⟩) (.of main_call0_call0_v12 : StableHlo.TRef sig ⟨S32x64, .i32⟩) xori
  :: StableHlo.TRef.binary (.of main_call0_call0_v6 : StableHlo.TRef sig ⟨S32x64, .i32⟩) (.of main_call0_call0_v12 : StableHlo.TRef sig ⟨S32x64, .i32⟩) (.of main_call0_call0_v13 : StableHlo.TRef sig ⟨S32x64, .i32⟩) addi
  :: StableHlo.TRef.nullary (.of main_call0_call0_c_2 : StableHlo.TRef sig ⟨S_, .i32⟩) (constantI S_ 32 15#32)
  :: StableHlo.TRef.unary (.of main_call0_call0_c_2 : StableHlo.TRef sig ⟨S_, .i32⟩) (.of main_call0_call0_v14 : StableHlo.TRef sig ⟨S32x64, .i32⟩) (broadcastInDim S32x64 ![] bcast_S_S32x64)
  :: StableHlo.TRef.binary (.of main_call0_call0_v12 : StableHlo.TRef sig ⟨S32x64, .i32⟩) (.of main_call0_call0_v14 : StableHlo.TRef sig ⟨S32x64, .i32⟩) (.of main_call0_call0_v15 : StableHlo.TRef sig ⟨S32x64, .i32⟩) Host.shli
  :: StableHlo.TRef.nullary (.of main_call0_call0_c_3 : StableHlo.TRef sig ⟨S_, .i32⟩) (constantI S_ 32 17#32)
  :: StableHlo.TRef.unary (.of main_call0_call0_c_3 : StableHlo.TRef sig ⟨S_, .i32⟩) (.of main_call0_call0_v16 : StableHlo.TRef sig ⟨S32x64, .i32⟩) (broadcastInDim S32x64 ![] bcast_S_S32x64)
  :: StableHlo.TRef.binary (.of main_call0_call0_v12 : StableHlo.TRef sig ⟨S32x64, .i32⟩) (.of main_call0_call0_v16 : StableHlo.TRef sig ⟨S32x64, .i32⟩) (.of main_call0_call0_v17 : StableHlo.TRef sig ⟨S32x64, .i32⟩) Host.shrui
  :: StableHlo.TRef.binary (.of main_call0_call0_v15 : StableHlo.TRef sig ⟨S32x64, .i32⟩) (.of main_call0_call0_v17 : StableHlo.TRef sig ⟨S32x64, .i32⟩) (.of main_call0_call0_v18 : StableHlo.TRef sig ⟨S32x64, .i32⟩) ori
  :: StableHlo.TRef.binary (.of main_call0_call0_v13 : StableHlo.TRef sig ⟨S32x64, .i32⟩) (.of main_call0_call0_v18 : StableHlo.TRef sig ⟨S32x64, .i32⟩) (.of main_call0_call0_v19 : StableHlo.TRef sig ⟨S32x64, .i32⟩) xori
  :: StableHlo.TRef.binary (.of main_call0_call0_v13 : StableHlo.TRef sig ⟨S32x64, .i32⟩) (.of main_call0_call0_v19 : StableHlo.TRef sig ⟨S32x64, .i32⟩) (.of main_call0_call0_v20 : StableHlo.TRef sig ⟨S32x64, .i32⟩) addi
  :: StableHlo.TRef.nullary (.of main_call0_call0_c_4 : StableHlo.TRef sig ⟨S_, .i32⟩) (constantI S_ 32 26#32)
  :: StableHlo.TRef.unary (.of main_call0_call0_c_4 : StableHlo.TRef sig ⟨S_, .i32⟩) (.of main_call0_call0_v21 : StableHlo.TRef sig ⟨S32x64, .i32⟩) (broadcastInDim S32x64 ![] bcast_S_S32x64)
  :: StableHlo.TRef.binary (.of main_call0_call0_v19 : StableHlo.TRef sig ⟨S32x64, .i32⟩) (.of main_call0_call0_v21 : StableHlo.TRef sig ⟨S32x64, .i32⟩) (.of main_call0_call0_v22 : StableHlo.TRef sig ⟨S32x64, .i32⟩) Host.shli
  :: StableHlo.TRef.nullary (.of main_call0_call0_c_5 : StableHlo.TRef sig ⟨S_, .i32⟩) (constantI S_ 32 6#32)
  :: StableHlo.TRef.unary (.of main_call0_call0_c_5 : StableHlo.TRef sig ⟨S_, .i32⟩) (.of main_call0_call0_v23 : StableHlo.TRef sig ⟨S32x64, .i32⟩) (broadcastInDim S32x64 ![] bcast_S_S32x64)
  :: StableHlo.TRef.binary (.of main_call0_call0_v19 : StableHlo.TRef sig ⟨S32x64, .i32⟩) (.of main_call0_call0_v23 : StableHlo.TRef sig ⟨S32x64, .i32⟩) (.of main_call0_call0_v24 : StableHlo.TRef sig ⟨S32x64, .i32⟩) Host.shrui
  :: StableHlo.TRef.binary (.of main_call0_call0_v22 : StableHlo.TRef sig ⟨S32x64, .i32⟩) (.of main_call0_call0_v24 : StableHlo.TRef sig ⟨S32x64, .i32⟩) (.of main_call0_call0_v25 : StableHlo.TRef sig ⟨S32x64, .i32⟩) ori
  :: StableHlo.TRef.binary (.of main_call0_call0_v20 : StableHlo.TRef sig ⟨S32x64, .i32⟩) (.of main_call0_call0_v25 : StableHlo.TRef sig ⟨S32x64, .i32⟩) (.of main_call0_call0_v26 : StableHlo.TRef sig ⟨S32x64, .i32⟩) xori
  :: StableHlo.TRef.binary (.of main_call0_call0_v20 : StableHlo.TRef sig ⟨S32x64, .i32⟩) (.of main_call0_call0_v26 : StableHlo.TRef sig ⟨S32x64, .i32⟩) (.of main_call0_call0_v27 : StableHlo.TRef sig ⟨S32x64, .i32⟩) addi
  :: StableHlo.TRef.nullary (.of main_call0_call0_c_6 : StableHlo.TRef sig ⟨S_, .i32⟩) (constantI S_ 32 6#32)
  :: StableHlo.TRef.unary (.of main_call0_call0_c_6 : StableHlo.TRef sig ⟨S_, .i32⟩) (.of main_call0_call0_v28 : StableHlo.TRef sig ⟨S32x64, .i32⟩) (broadcastInDim S32x64 ![] bcast_S_S32x64)
  :: StableHlo.TRef.binary (.of main_call0_call0_v26 : StableHlo.TRef sig ⟨S32x64, .i32⟩) (.of main_call0_call0_v28 : StableHlo.TRef sig ⟨S32x64, .i32⟩) (.of main_call0_call0_v29 : StableHlo.TRef sig ⟨S32x64, .i32⟩) Host.shli
  :: StableHlo.TRef.nullary (.of main_call0_call0_c_7 : StableHlo.TRef sig ⟨S_, .i32⟩) (constantI S_ 32 26#32)
  :: StableHlo.TRef.unary (.of main_call0_call0_c_7 : StableHlo.TRef sig ⟨S_, .i32⟩) (.of main_call0_call0_v30 : StableHlo.TRef sig ⟨S32x64, .i32⟩) (broadcastInDim S32x64 ![] bcast_S_S32x64)
  :: StableHlo.TRef.binary (.of main_call0_call0_v26 : StableHlo.TRef sig ⟨S32x64, .i32⟩) (.of main_call0_call0_v30 : StableHlo.TRef sig ⟨S32x64, .i32⟩) (.of main_call0_call0_v31 : StableHlo.TRef sig ⟨S32x64, .i32⟩) Host.shrui
  :: StableHlo.TRef.binary (.of main_call0_call0_v29 : StableHlo.TRef sig ⟨S32x64, .i32⟩) (.of main_call0_call0_v31 : StableHlo.TRef sig ⟨S32x64, .i32⟩) (.of main_call0_call0_v32 : StableHlo.TRef sig ⟨S32x64, .i32⟩) ori
  :: StableHlo.TRef.binary (.of main_call0_call0_v27 : StableHlo.TRef sig ⟨S32x64, .i32⟩) (.of main_call0_call0_v32 : StableHlo.TRef sig ⟨S32x64, .i32⟩) (.of main_call0_call0_v33 : StableHlo.TRef sig ⟨S32x64, .i32⟩) xori
  :: StableHlo.TRef.unary (.of main_call0_v7 : StableHlo.TRef sig ⟨S_, .i32⟩) (.of main_call0_call0_v34 : StableHlo.TRef sig ⟨S32x64, .i32⟩) (broadcastInDim S32x64 ![] bcast_S_S32x64)
  :: StableHlo.TRef.binary (.of main_call0_call0_v27 : StableHlo.TRef sig ⟨S32x64, .i32⟩) (.of main_call0_call0_v34 : StableHlo.TRef sig ⟨S32x64, .i32⟩) (.of main_call0_call0_v35 : StableHlo.TRef sig ⟨S32x64, .i32⟩) addi
  :: StableHlo.TRef.unary (.of main_call0_call0_v1 : StableHlo.TRef sig ⟨S_, .i32⟩) (.of main_call0_call0_v36 : StableHlo.TRef sig ⟨S32x64, .i32⟩) (broadcastInDim S32x64 ![] bcast_S_S32x64)
  :: StableHlo.TRef.binary (.of main_call0_call0_v33 : StableHlo.TRef sig ⟨S32x64, .i32⟩) (.of main_call0_call0_v36 : StableHlo.TRef sig ⟨S32x64, .i32⟩) (.of main_call0_call0_v37 : StableHlo.TRef sig ⟨S32x64, .i32⟩) addi
  :: StableHlo.TRef.nullary (.of main_call0_call0_c_8 : StableHlo.TRef sig ⟨S_, .i32⟩) (constantI S_ 32 1#32)
  :: StableHlo.TRef.unary (.of main_call0_call0_c_8 : StableHlo.TRef sig ⟨S_, .i32⟩) (.of main_call0_call0_v38 : StableHlo.TRef sig ⟨S32x64, .i32⟩) (broadcastInDim S32x64 ![] bcast_S_S32x64)
  :: StableHlo.TRef.binary (.of main_call0_call0_v37 : StableHlo.TRef sig ⟨S32x64, .i32⟩) (.of main_call0_call0_v38 : StableHlo.TRef sig ⟨S32x64, .i32⟩) (.of main_call0_call0_v39 : StableHlo.TRef sig ⟨S32x64, .i32⟩) addi
  :: StableHlo.TRef.binary (.of main_call0_call0_v35 : StableHlo.TRef sig ⟨S32x64, .i32⟩) (.of main_call0_call0_v39 : StableHlo.TRef sig ⟨S32x64, .i32⟩) (.of main_call0_call0_v40 : StableHlo.TRef sig ⟨S32x64, .i32⟩) addi
  :: StableHlo.TRef.nullary (.of main_call0_call0_c_9 : StableHlo.TRef sig ⟨S_, .i32⟩) (constantI S_ 32 17#32)
  :: StableHlo.TRef.unary (.of main_call0_call0_c_9 : StableHlo.TRef sig ⟨S_, .i32⟩) (.of main_call0_call0_v41 : StableHlo.TRef sig ⟨S32x64, .i32⟩) (broadcastInDim S32x64 ![] bcast_S_S32x64)
  :: StableHlo.TRef.binary (.of main_call0_call0_v39 : StableHlo.TRef sig ⟨S32x64, .i32⟩) (.of main_call0_call0_v41 : StableHlo.TRef sig ⟨S32x64, .i32⟩) (.of main_call0_call0_v42 : StableHlo.TRef sig ⟨S32x64, .i32⟩) Host.shli
  :: StableHlo.TRef.nullary (.of main_call0_call0_c_10 : StableHlo.TRef sig ⟨S_, .i32⟩) (constantI S_ 32 15#32)
  :: StableHlo.TRef.unary (.of main_call0_call0_c_10 : StableHlo.TRef sig ⟨S_, .i32⟩) (.of main_call0_call0_v43 : StableHlo.TRef sig ⟨S32x64, .i32⟩) (broadcastInDim S32x64 ![] bcast_S_S32x64)
  :: StableHlo.TRef.binary (.of main_call0_call0_v39 : StableHlo.TRef sig ⟨S32x64, .i32⟩) (.of main_call0_call0_v43 : StableHlo.TRef sig ⟨S32x64, .i32⟩) (.of main_call0_call0_v44 : StableHlo.TRef sig ⟨S32x64, .i32⟩) Host.shrui
  :: StableHlo.TRef.binary (.of main_call0_call0_v42 : StableHlo.TRef sig ⟨S32x64, .i32⟩) (.of main_call0_call0_v44 : StableHlo.TRef sig ⟨S32x64, .i32⟩) (.of main_call0_call0_v45 : StableHlo.TRef sig ⟨S32x64, .i32⟩) ori
  :: StableHlo.TRef.binary (.of main_call0_call0_v40 : StableHlo.TRef sig ⟨S32x64, .i32⟩) (.of main_call0_call0_v45 : StableHlo.TRef sig ⟨S32x64, .i32⟩) (.of main_call0_call0_v46 : StableHlo.TRef sig ⟨S32x64, .i32⟩) xori
  :: StableHlo.TRef.binary (.of main_call0_call0_v40 : StableHlo.TRef sig ⟨S32x64, .i32⟩) (.of main_call0_call0_v46 : StableHlo.TRef sig ⟨S32x64, .i32⟩) (.of main_call0_call0_v47 : StableHlo.TRef sig ⟨S32x64, .i32⟩) addi
  :: StableHlo.TRef.nullary (.of main_call0_call0_c_11 : StableHlo.TRef sig ⟨S_, .i32⟩) (constantI S_ 32 29#32)
  :: StableHlo.TRef.unary (.of main_call0_call0_c_11 : StableHlo.TRef sig ⟨S_, .i32⟩) (.of main_call0_call0_v48 : StableHlo.TRef sig ⟨S32x64, .i32⟩) (broadcastInDim S32x64 ![] bcast_S_S32x64)
  :: StableHlo.TRef.binary (.of main_call0_call0_v46 : StableHlo.TRef sig ⟨S32x64, .i32⟩) (.of main_call0_call0_v48 : StableHlo.TRef sig ⟨S32x64, .i32⟩) (.of main_call0_call0_v49 : StableHlo.TRef sig ⟨S32x64, .i32⟩) Host.shli
  :: StableHlo.TRef.nullary (.of main_call0_call0_c_12 : StableHlo.TRef sig ⟨S_, .i32⟩) (constantI S_ 32 3#32)
  :: StableHlo.TRef.unary (.of main_call0_call0_c_12 : StableHlo.TRef sig ⟨S_, .i32⟩) (.of main_call0_call0_v50 : StableHlo.TRef sig ⟨S32x64, .i32⟩) (broadcastInDim S32x64 ![] bcast_S_S32x64)
  :: StableHlo.TRef.binary (.of main_call0_call0_v46 : StableHlo.TRef sig ⟨S32x64, .i32⟩) (.of main_call0_call0_v50 : StableHlo.TRef sig ⟨S32x64, .i32⟩) (.of main_call0_call0_v51 : StableHlo.TRef sig ⟨S32x64, .i32⟩) Host.shrui
  :: StableHlo.TRef.binary (.of main_call0_call0_v49 : StableHlo.TRef sig ⟨S32x64, .i32⟩) (.of main_call0_call0_v51 : StableHlo.TRef sig ⟨S32x64, .i32⟩) (.of main_call0_call0_v52 : StableHlo.TRef sig ⟨S32x64, .i32⟩) ori
  :: StableHlo.TRef.binary (.of main_call0_call0_v47 : StableHlo.TRef sig ⟨S32x64, .i32⟩) (.of main_call0_call0_v52 : StableHlo.TRef sig ⟨S32x64, .i32⟩) (.of main_call0_call0_v53 : StableHlo.TRef sig ⟨S32x64, .i32⟩) xori
  :: StableHlo.TRef.binary (.of main_call0_call0_v47 : StableHlo.TRef sig ⟨S32x64, .i32⟩) (.of main_call0_call0_v53 : StableHlo.TRef sig ⟨S32x64, .i32⟩) (.of main_call0_call0_v54 : StableHlo.TRef sig ⟨S32x64, .i32⟩) addi
  :: StableHlo.TRef.nullary (.of main_call0_call0_c_13 : StableHlo.TRef sig ⟨S_, .i32⟩) (constantI S_ 32 16#32)
  :: StableHlo.TRef.unary (.of main_call0_call0_c_13 : StableHlo.TRef sig ⟨S_, .i32⟩) (.of main_call0_call0_v55 : StableHlo.TRef sig ⟨S32x64, .i32⟩) (broadcastInDim S32x64 ![] bcast_S_S32x64)
  :: StableHlo.TRef.binary (.of main_call0_call0_v53 : StableHlo.TRef sig ⟨S32x64, .i32⟩) (.of main_call0_call0_v55 : StableHlo.TRef sig ⟨S32x64, .i32⟩) (.of main_call0_call0_v56 : StableHlo.TRef sig ⟨S32x64, .i32⟩) Host.shli
  :: StableHlo.TRef.nullary (.of main_call0_call0_c_14 : StableHlo.TRef sig ⟨S_, .i32⟩) (constantI S_ 32 16#32)
  :: StableHlo.TRef.unary (.of main_call0_call0_c_14 : StableHlo.TRef sig ⟨S_, .i32⟩) (.of main_call0_call0_v57 : StableHlo.TRef sig ⟨S32x64, .i32⟩) (broadcastInDim S32x64 ![] bcast_S_S32x64)
  :: StableHlo.TRef.binary (.of main_call0_call0_v53 : StableHlo.TRef sig ⟨S32x64, .i32⟩) (.of main_call0_call0_v57 : StableHlo.TRef sig ⟨S32x64, .i32⟩) (.of main_call0_call0_v58 : StableHlo.TRef sig ⟨S32x64, .i32⟩) Host.shrui
  :: StableHlo.TRef.binary (.of main_call0_call0_v56 : StableHlo.TRef sig ⟨S32x64, .i32⟩) (.of main_call0_call0_v58 : StableHlo.TRef sig ⟨S32x64, .i32⟩) (.of main_call0_call0_v59 : StableHlo.TRef sig ⟨S32x64, .i32⟩) ori
  :: StableHlo.TRef.binary (.of main_call0_call0_v54 : StableHlo.TRef sig ⟨S32x64, .i32⟩) (.of main_call0_call0_v59 : StableHlo.TRef sig ⟨S32x64, .i32⟩) (.of main_call0_call0_v60 : StableHlo.TRef sig ⟨S32x64, .i32⟩) xori
  :: StableHlo.TRef.binary (.of main_call0_call0_v54 : StableHlo.TRef sig ⟨S32x64, .i32⟩) (.of main_call0_call0_v60 : StableHlo.TRef sig ⟨S32x64, .i32⟩) (.of main_call0_call0_v61 : StableHlo.TRef sig ⟨S32x64, .i32⟩) addi
  :: StableHlo.TRef.nullary (.of main_call0_call0_c_15 : StableHlo.TRef sig ⟨S_, .i32⟩) (constantI S_ 32 24#32)
  :: StableHlo.TRef.unary (.of main_call0_call0_c_15 : StableHlo.TRef sig ⟨S_, .i32⟩) (.of main_call0_call0_v62 : StableHlo.TRef sig ⟨S32x64, .i32⟩) (broadcastInDim S32x64 ![] bcast_S_S32x64)
  :: StableHlo.TRef.binary (.of main_call0_call0_v60 : StableHlo.TRef sig ⟨S32x64, .i32⟩) (.of main_call0_call0_v62 : StableHlo.TRef sig ⟨S32x64, .i32⟩) (.of main_call0_call0_v63 : StableHlo.TRef sig ⟨S32x64, .i32⟩) Host.shli
  :: StableHlo.TRef.nullary (.of main_call0_call0_c_16 : StableHlo.TRef sig ⟨S_, .i32⟩) (constantI S_ 32 8#32)
  :: StableHlo.TRef.unary (.of main_call0_call0_c_16 : StableHlo.TRef sig ⟨S_, .i32⟩) (.of main_call0_call0_v64 : StableHlo.TRef sig ⟨S32x64, .i32⟩) (broadcastInDim S32x64 ![] bcast_S_S32x64)
  :: StableHlo.TRef.binary (.of main_call0_call0_v60 : StableHlo.TRef sig ⟨S32x64, .i32⟩) (.of main_call0_call0_v64 : StableHlo.TRef sig ⟨S32x64, .i32⟩) (.of main_call0_call0_v65 : StableHlo.TRef sig ⟨S32x64, .i32⟩) Host.shrui
  :: StableHlo.TRef.binary (.of main_call0_call0_v63 : StableHlo.TRef sig ⟨S32x64, .i32⟩) (.of main_call0_call0_v65 : StableHlo.TRef sig ⟨S32x64, .i32⟩) (.of main_call0_call0_v66 : StableHlo.TRef sig ⟨S32x64, .i32⟩) ori
  :: StableHlo.TRef.binary (.of main_call0_call0_v61 : StableHlo.TRef sig ⟨S32x64, .i32⟩) (.of main_call0_call0_v66 : StableHlo.TRef sig ⟨S32x64, .i32⟩) (.of main_call0_call0_v67 : StableHlo.TRef sig ⟨S32x64, .i32⟩) xori
  :: StableHlo.TRef.unary (.of main_call0_call0_v1 : StableHlo.TRef sig ⟨S_, .i32⟩) (.of main_call0_call0_v68 : StableHlo.TRef sig ⟨S32x64, .i32⟩) (broadcastInDim S32x64 ![] bcast_S_S32x64)
  :: StableHlo.TRef.binary (.of main_call0_call0_v61 : StableHlo.TRef sig ⟨S32x64, .i32⟩) (.of main_call0_call0_v68 : StableHlo.TRef sig ⟨S32x64, .i32⟩) (.of main_call0_call0_v69 : StableHlo.TRef sig ⟨S32x64, .i32⟩) addi
  :: StableHlo.TRef.unary (.of main_call0_v5 : StableHlo.TRef sig ⟨S_, .i32⟩) (.of main_call0_call0_v70 : StableHlo.TRef sig ⟨S32x64, .i32⟩) (broadcastInDim S32x64 ![] bcast_S_S32x64)
  :: StableHlo.TRef.binary (.of main_call0_call0_v67 : StableHlo.TRef sig ⟨S32x64, .i32⟩) (.of main_call0_call0_v70 : StableHlo.TRef sig ⟨S32x64, .i32⟩) (.of main_call0_call0_v71 : StableHlo.TRef sig ⟨S32x64, .i32⟩) addi
  :: StableHlo.TRef.nullary (.of main_call0_call0_c_17 : StableHlo.TRef sig ⟨S_, .i32⟩) (constantI S_ 32 2#32)
  :: StableHlo.TRef.unary (.of main_call0_call0_c_17 : StableHlo.TRef sig ⟨S_, .i32⟩) (.of main_call0_call0_v72 : StableHlo.TRef sig ⟨S32x64, .i32⟩) (broadcastInDim S32x64 ![] bcast_S_S32x64)
  :: StableHlo.TRef.binary (.of main_call0_call0_v71 : StableHlo.TRef sig ⟨S32x64, .i32⟩) (.of main_call0_call0_v72 : StableHlo.TRef sig ⟨S32x64, .i32⟩) (.of main_call0_call0_v73 : StableHlo.TRef sig ⟨S32x64, .i32⟩) addi
  :: StableHlo.TRef.binary (.of main_call0_call0_v69 : StableHlo.TRef sig ⟨S32x64, .i32⟩) (.of main_call0_call0_v73 : StableHlo.TRef sig ⟨S32x64, .i32⟩) (.of main_call0_call0_v74 : StableHlo.TRef sig ⟨S32x64, .i32⟩) addi
  :: StableHlo.TRef.nullary (.of main_call0_call0_c_18 : StableHlo.TRef sig ⟨S_, .i32⟩) (constantI S_ 32 13#32)
  :: StableHlo.TRef.unary (.of main_call0_call0_c_18 : StableHlo.TRef sig ⟨S_, .i32⟩) (.of main_call0_call0_v75 : StableHlo.TRef sig ⟨S32x64, .i32⟩) (broadcastInDim S32x64 ![] bcast_S_S32x64)
  :: StableHlo.TRef.binary (.of main_call0_call0_v73 : StableHlo.TRef sig ⟨S32x64, .i32⟩) (.of main_call0_call0_v75 : StableHlo.TRef sig ⟨S32x64, .i32⟩) (.of main_call0_call0_v76 : StableHlo.TRef sig ⟨S32x64, .i32⟩) Host.shli
  :: StableHlo.TRef.nullary (.of main_call0_call0_c_19 : StableHlo.TRef sig ⟨S_, .i32⟩) (constantI S_ 32 19#32)
  :: StableHlo.TRef.unary (.of main_call0_call0_c_19 : StableHlo.TRef sig ⟨S_, .i32⟩) (.of main_call0_call0_v77 : StableHlo.TRef sig ⟨S32x64, .i32⟩) (broadcastInDim S32x64 ![] bcast_S_S32x64)
  :: StableHlo.TRef.binary (.of main_call0_call0_v73 : StableHlo.TRef sig ⟨S32x64, .i32⟩) (.of main_call0_call0_v77 : StableHlo.TRef sig ⟨S32x64, .i32⟩) (.of main_call0_call0_v78 : StableHlo.TRef sig ⟨S32x64, .i32⟩) Host.shrui
  :: StableHlo.TRef.binary (.of main_call0_call0_v76 : StableHlo.TRef sig ⟨S32x64, .i32⟩) (.of main_call0_call0_v78 : StableHlo.TRef sig ⟨S32x64, .i32⟩) (.of main_call0_call0_v79 : StableHlo.TRef sig ⟨S32x64, .i32⟩) ori
  :: StableHlo.TRef.binary (.of main_call0_call0_v74 : StableHlo.TRef sig ⟨S32x64, .i32⟩) (.of main_call0_call0_v79 : StableHlo.TRef sig ⟨S32x64, .i32⟩) (.of main_call0_call0_v80 : StableHlo.TRef sig ⟨S32x64, .i32⟩) xori
  :: StableHlo.TRef.binary (.of main_call0_call0_v74 : StableHlo.TRef sig ⟨S32x64, .i32⟩) (.of main_call0_call0_v80 : StableHlo.TRef sig ⟨S32x64, .i32⟩) (.of main_call0_call0_v81 : StableHlo.TRef sig ⟨S32x64, .i32⟩) addi
  :: StableHlo.TRef.nullary (.of main_call0_call0_c_20 : StableHlo.TRef sig ⟨S_, .i32⟩) (constantI S_ 32 15#32)
  :: StableHlo.TRef.unary (.of main_call0_call0_c_20 : StableHlo.TRef sig ⟨S_, .i32⟩) (.of main_call0_call0_v82 : StableHlo.TRef sig ⟨S32x64, .i32⟩) (broadcastInDim S32x64 ![] bcast_S_S32x64)
  :: StableHlo.TRef.binary (.of main_call0_call0_v80 : StableHlo.TRef sig ⟨S32x64, .i32⟩) (.of main_call0_call0_v82 : StableHlo.TRef sig ⟨S32x64, .i32⟩) (.of main_call0_call0_v83 : StableHlo.TRef sig ⟨S32x64, .i32⟩) Host.shli
  :: StableHlo.TRef.nullary (.of main_call0_call0_c_21 : StableHlo.TRef sig ⟨S_, .i32⟩) (constantI S_ 32 17#32)
  :: StableHlo.TRef.unary (.of main_call0_call0_c_21 : StableHlo.TRef sig ⟨S_, .i32⟩) (.of main_call0_call0_v84 : StableHlo.TRef sig ⟨S32x64, .i32⟩) (broadcastInDim S32x64 ![] bcast_S_S32x64)
  :: StableHlo.TRef.binary (.of main_call0_call0_v80 : StableHlo.TRef sig ⟨S32x64, .i32⟩) (.of main_call0_call0_v84 : StableHlo.TRef sig ⟨S32x64, .i32⟩) (.of main_call0_call0_v85 : StableHlo.TRef sig ⟨S32x64, .i32⟩) Host.shrui
  :: StableHlo.TRef.binary (.of main_call0_call0_v83 : StableHlo.TRef sig ⟨S32x64, .i32⟩) (.of main_call0_call0_v85 : StableHlo.TRef sig ⟨S32x64, .i32⟩) (.of main_call0_call0_v86 : StableHlo.TRef sig ⟨S32x64, .i32⟩) ori
  :: StableHlo.TRef.binary (.of main_call0_call0_v81 : StableHlo.TRef sig ⟨S32x64, .i32⟩) (.of main_call0_call0_v86 : StableHlo.TRef sig ⟨S32x64, .i32⟩) (.of main_call0_call0_v87 : StableHlo.TRef sig ⟨S32x64, .i32⟩) xori
  :: StableHlo.TRef.binary (.of main_call0_call0_v81 : StableHlo.TRef sig ⟨S32x64, .i32⟩) (.of main_call0_call0_v87 : StableHlo.TRef sig ⟨S32x64, .i32⟩) (.of main_call0_call0_v88 : StableHlo.TRef sig ⟨S32x64, .i32⟩) addi
  :: StableHlo.TRef.nullary (.of main_call0_call0_c_22 : StableHlo.TRef sig ⟨S_, .i32⟩) (constantI S_ 32 26#32)
  :: StableHlo.TRef.unary (.of main_call0_call0_c_22 : StableHlo.TRef sig ⟨S_, .i32⟩) (.of main_call0_call0_v89 : StableHlo.TRef sig ⟨S32x64, .i32⟩) (broadcastInDim S32x64 ![] bcast_S_S32x64)
  :: StableHlo.TRef.binary (.of main_call0_call0_v87 : StableHlo.TRef sig ⟨S32x64, .i32⟩) (.of main_call0_call0_v89 : StableHlo.TRef sig ⟨S32x64, .i32⟩) (.of main_call0_call0_v90 : StableHlo.TRef sig ⟨S32x64, .i32⟩) Host.shli
  :: StableHlo.TRef.nullary (.of main_call0_call0_c_23 : StableHlo.TRef sig ⟨S_, .i32⟩) (constantI S_ 32 6#32)
  :: StableHlo.TRef.unary (.of main_call0_call0_c_23 : StableHlo.TRef sig ⟨S_, .i32⟩) (.of main_call0_call0_v91 : StableHlo.TRef sig ⟨S32x64, .i32⟩) (broadcastInDim S32x64 ![] bcast_S_S32x64)
  :: StableHlo.TRef.binary (.of main_call0_call0_v87 : StableHlo.TRef sig ⟨S32x64, .i32⟩) (.of main_call0_call0_v91 : StableHlo.TRef sig ⟨S32x64, .i32⟩) (.of main_call0_call0_v92 : StableHlo.TRef sig ⟨S32x64, .i32⟩) Host.shrui
  :: StableHlo.TRef.binary (.of main_call0_call0_v90 : StableHlo.TRef sig ⟨S32x64, .i32⟩) (.of main_call0_call0_v92 : StableHlo.TRef sig ⟨S32x64, .i32⟩) (.of main_call0_call0_v93 : StableHlo.TRef sig ⟨S32x64, .i32⟩) ori
  :: StableHlo.TRef.binary (.of main_call0_call0_v88 : StableHlo.TRef sig ⟨S32x64, .i32⟩) (.of main_call0_call0_v93 : StableHlo.TRef sig ⟨S32x64, .i32⟩) (.of main_call0_call0_v94 : StableHlo.TRef sig ⟨S32x64, .i32⟩) xori
  :: StableHlo.TRef.binary (.of main_call0_call0_v88 : StableHlo.TRef sig ⟨S32x64, .i32⟩) (.of main_call0_call0_v94 : StableHlo.TRef sig ⟨S32x64, .i32⟩) (.of main_call0_call0_v95 : StableHlo.TRef sig ⟨S32x64, .i32⟩) addi
  :: StableHlo.TRef.nullary (.of main_call0_call0_c_24 : StableHlo.TRef sig ⟨S_, .i32⟩) (constantI S_ 32 6#32)
  :: StableHlo.TRef.unary (.of main_call0_call0_c_24 : StableHlo.TRef sig ⟨S_, .i32⟩) (.of main_call0_call0_v96 : StableHlo.TRef sig ⟨S32x64, .i32⟩) (broadcastInDim S32x64 ![] bcast_S_S32x64)
  :: StableHlo.TRef.binary (.of main_call0_call0_v94 : StableHlo.TRef sig ⟨S32x64, .i32⟩) (.of main_call0_call0_v96 : StableHlo.TRef sig ⟨S32x64, .i32⟩) (.of main_call0_call0_v97 : StableHlo.TRef sig ⟨S32x64, .i32⟩) Host.shli
  :: StableHlo.TRef.nullary (.of main_call0_call0_c_25 : StableHlo.TRef sig ⟨S_, .i32⟩) (constantI S_ 32 26#32)
  :: StableHlo.TRef.unary (.of main_call0_call0_c_25 : StableHlo.TRef sig ⟨S_, .i32⟩) (.of main_call0_call0_v98 : StableHlo.TRef sig ⟨S32x64, .i32⟩) (broadcastInDim S32x64 ![] bcast_S_S32x64)
  :: StableHlo.TRef.binary (.of main_call0_call0_v94 : StableHlo.TRef sig ⟨S32x64, .i32⟩) (.of main_call0_call0_v98 : StableHlo.TRef sig ⟨S32x64, .i32⟩) (.of main_call0_call0_v99 : StableHlo.TRef sig ⟨S32x64, .i32⟩) Host.shrui
  :: StableHlo.TRef.binary (.of main_call0_call0_v97 : StableHlo.TRef sig ⟨S32x64, .i32⟩) (.of main_call0_call0_v99 : StableHlo.TRef sig ⟨S32x64, .i32⟩) (.of main_call0_call0_v100 : StableHlo.TRef sig ⟨S32x64, .i32⟩) ori
  :: StableHlo.TRef.binary (.of main_call0_call0_v95 : StableHlo.TRef sig ⟨S32x64, .i32⟩) (.of main_call0_call0_v100 : StableHlo.TRef sig ⟨S32x64, .i32⟩) (.of main_call0_call0_v101 : StableHlo.TRef sig ⟨S32x64, .i32⟩) xori
  :: StableHlo.TRef.unary (.of main_call0_v5 : StableHlo.TRef sig ⟨S_, .i32⟩) (.of main_call0_call0_v102 : StableHlo.TRef sig ⟨S32x64, .i32⟩) (broadcastInDim S32x64 ![] bcast_S_S32x64)
  :: StableHlo.TRef.binary (.of main_call0_call0_v95 : StableHlo.TRef sig ⟨S32x64, .i32⟩) (.of main_call0_call0_v102 : StableHlo.TRef sig ⟨S32x64, .i32⟩) (.of main_call0_call0_v103 : StableHlo.TRef sig ⟨S32x64, .i32⟩) addi
  :: StableHlo.TRef.unary (.of main_call0_v7 : StableHlo.TRef sig ⟨S_, .i32⟩) (.of main_call0_call0_v104 : StableHlo.TRef sig ⟨S32x64, .i32⟩) (broadcastInDim S32x64 ![] bcast_S_S32x64)
  :: StableHlo.TRef.binary (.of main_call0_call0_v101 : StableHlo.TRef sig ⟨S32x64, .i32⟩) (.of main_call0_call0_v104 : StableHlo.TRef sig ⟨S32x64, .i32⟩) (.of main_call0_call0_v105 : StableHlo.TRef sig ⟨S32x64, .i32⟩) addi
  :: StableHlo.TRef.nullary (.of main_call0_call0_c_26 : StableHlo.TRef sig ⟨S_, .i32⟩) (constantI S_ 32 3#32)
  :: StableHlo.TRef.unary (.of main_call0_call0_c_26 : StableHlo.TRef sig ⟨S_, .i32⟩) (.of main_call0_call0_v106 : StableHlo.TRef sig ⟨S32x64, .i32⟩) (broadcastInDim S32x64 ![] bcast_S_S32x64)
  :: StableHlo.TRef.binary (.of main_call0_call0_v105 : StableHlo.TRef sig ⟨S32x64, .i32⟩) (.of main_call0_call0_v106 : StableHlo.TRef sig ⟨S32x64, .i32⟩) (.of main_call0_call0_v107 : StableHlo.TRef sig ⟨S32x64, .i32⟩) addi
  :: StableHlo.TRef.binary (.of main_call0_call0_v103 : StableHlo.TRef sig ⟨S32x64, .i32⟩) (.of main_call0_call0_v107 : StableHlo.TRef sig ⟨S32x64, .i32⟩) (.of main_call0_call0_v108 : StableHlo.TRef sig ⟨S32x64, .i32⟩) addi
  :: StableHlo.TRef.nullary (.of main_call0_call0_c_27 : StableHlo.TRef sig ⟨S_, .i32⟩) (constantI S_ 32 17#32)
  :: StableHlo.TRef.unary (.of main_call0_call0_c_27 : StableHlo.TRef sig ⟨S_, .i32⟩) (.of main_call0_call0_v109 : StableHlo.TRef sig ⟨S32x64, .i32⟩) (broadcastInDim S32x64 ![] bcast_S_S32x64)
  :: StableHlo.TRef.binary (.of main_call0_call0_v107 : StableHlo.TRef sig ⟨S32x64, .i32⟩) (.of main_call0_call0_v109 : StableHlo.TRef sig ⟨S32x64, .i32⟩) (.of main_call0_call0_v110 : StableHlo.TRef sig ⟨S32x64, .i32⟩) Host.shli
  :: StableHlo.TRef.nullary (.of main_call0_call0_c_28 : StableHlo.TRef sig ⟨S_, .i32⟩) (constantI S_ 32 15#32)
  :: StableHlo.TRef.unary (.of main_call0_call0_c_28 : StableHlo.TRef sig ⟨S_, .i32⟩) (.of main_call0_call0_v111 : StableHlo.TRef sig ⟨S32x64, .i32⟩) (broadcastInDim S32x64 ![] bcast_S_S32x64)
  :: StableHlo.TRef.binary (.of main_call0_call0_v107 : StableHlo.TRef sig ⟨S32x64, .i32⟩) (.of main_call0_call0_v111 : StableHlo.TRef sig ⟨S32x64, .i32⟩) (.of main_call0_call0_v112 : StableHlo.TRef sig ⟨S32x64, .i32⟩) Host.shrui
  :: StableHlo.TRef.binary (.of main_call0_call0_v110 : StableHlo.TRef sig ⟨S32x64, .i32⟩) (.of main_call0_call0_v112 : StableHlo.TRef sig ⟨S32x64, .i32⟩) (.of main_call0_call0_v113 : StableHlo.TRef sig ⟨S32x64, .i32⟩) ori
  :: StableHlo.TRef.binary (.of main_call0_call0_v108 : StableHlo.TRef sig ⟨S32x64, .i32⟩) (.of main_call0_call0_v113 : StableHlo.TRef sig ⟨S32x64, .i32⟩) (.of main_call0_call0_v114 : StableHlo.TRef sig ⟨S32x64, .i32⟩) xori
  :: StableHlo.TRef.binary (.of main_call0_call0_v108 : StableHlo.TRef sig ⟨S32x64, .i32⟩) (.of main_call0_call0_v114 : StableHlo.TRef sig ⟨S32x64, .i32⟩) (.of main_call0_call0_v115 : StableHlo.TRef sig ⟨S32x64, .i32⟩) addi
  :: StableHlo.TRef.nullary (.of main_call0_call0_c_29 : StableHlo.TRef sig ⟨S_, .i32⟩) (constantI S_ 32 29#32)
  :: StableHlo.TRef.unary (.of main_call0_call0_c_29 : StableHlo.TRef sig ⟨S_, .i32⟩) (.of main_call0_call0_v116 : StableHlo.TRef sig ⟨S32x64, .i32⟩) (broadcastInDim S32x64 ![] bcast_S_S32x64)
  :: StableHlo.TRef.binary (.of main_call0_call0_v114 : StableHlo.TRef sig ⟨S32x64, .i32⟩) (.of main_call0_call0_v116 : StableHlo.TRef sig ⟨S32x64, .i32⟩) (.of main_call0_call0_v117 : StableHlo.TRef sig ⟨S32x64, .i32⟩) Host.shli
  :: StableHlo.TRef.nullary (.of main_call0_call0_c_30 : StableHlo.TRef sig ⟨S_, .i32⟩) (constantI S_ 32 3#32)
  :: StableHlo.TRef.unary (.of main_call0_call0_c_30 : StableHlo.TRef sig ⟨S_, .i32⟩) (.of main_call0_call0_v118 : StableHlo.TRef sig ⟨S32x64, .i32⟩) (broadcastInDim S32x64 ![] bcast_S_S32x64)
  :: StableHlo.TRef.binary (.of main_call0_call0_v114 : StableHlo.TRef sig ⟨S32x64, .i32⟩) (.of main_call0_call0_v118 : StableHlo.TRef sig ⟨S32x64, .i32⟩) (.of main_call0_call0_v119 : StableHlo.TRef sig ⟨S32x64, .i32⟩) Host.shrui
  :: StableHlo.TRef.binary (.of main_call0_call0_v117 : StableHlo.TRef sig ⟨S32x64, .i32⟩) (.of main_call0_call0_v119 : StableHlo.TRef sig ⟨S32x64, .i32⟩) (.of main_call0_call0_v120 : StableHlo.TRef sig ⟨S32x64, .i32⟩) ori
  :: StableHlo.TRef.binary (.of main_call0_call0_v115 : StableHlo.TRef sig ⟨S32x64, .i32⟩) (.of main_call0_call0_v120 : StableHlo.TRef sig ⟨S32x64, .i32⟩) (.of main_call0_call0_v121 : StableHlo.TRef sig ⟨S32x64, .i32⟩) xori
  :: StableHlo.TRef.binary (.of main_call0_call0_v115 : StableHlo.TRef sig ⟨S32x64, .i32⟩) (.of main_call0_call0_v121 : StableHlo.TRef sig ⟨S32x64, .i32⟩) (.of main_call0_call0_v122 : StableHlo.TRef sig ⟨S32x64, .i32⟩) addi
  :: StableHlo.TRef.nullary (.of main_call0_call0_c_31 : StableHlo.TRef sig ⟨S_, .i32⟩) (constantI S_ 32 16#32)
  :: StableHlo.TRef.unary (.of main_call0_call0_c_31 : StableHlo.TRef sig ⟨S_, .i32⟩) (.of main_call0_call0_v123 : StableHlo.TRef sig ⟨S32x64, .i32⟩) (broadcastInDim S32x64 ![] bcast_S_S32x64)
  :: StableHlo.TRef.binary (.of main_call0_call0_v121 : StableHlo.TRef sig ⟨S32x64, .i32⟩) (.of main_call0_call0_v123 : StableHlo.TRef sig ⟨S32x64, .i32⟩) (.of main_call0_call0_v124 : StableHlo.TRef sig ⟨S32x64, .i32⟩) Host.shli
  :: StableHlo.TRef.nullary (.of main_call0_call0_c_32 : StableHlo.TRef sig ⟨S_, .i32⟩) (constantI S_ 32 16#32)
  :: StableHlo.TRef.unary (.of main_call0_call0_c_32 : StableHlo.TRef sig ⟨S_, .i32⟩) (.of main_call0_call0_v125 : StableHlo.TRef sig ⟨S32x64, .i32⟩) (broadcastInDim S32x64 ![] bcast_S_S32x64)
  :: StableHlo.TRef.binary (.of main_call0_call0_v121 : StableHlo.TRef sig ⟨S32x64, .i32⟩) (.of main_call0_call0_v125 : StableHlo.TRef sig ⟨S32x64, .i32⟩) (.of main_call0_call0_v126 : StableHlo.TRef sig ⟨S32x64, .i32⟩) Host.shrui
  :: StableHlo.TRef.binary (.of main_call0_call0_v124 : StableHlo.TRef sig ⟨S32x64, .i32⟩) (.of main_call0_call0_v126 : StableHlo.TRef sig ⟨S32x64, .i32⟩) (.of main_call0_call0_v127 : StableHlo.TRef sig ⟨S32x64, .i32⟩) ori
  :: StableHlo.TRef.binary (.of main_call0_call0_v122 : StableHlo.TRef sig ⟨S32x64, .i32⟩) (.of main_call0_call0_v127 : StableHlo.TRef sig ⟨S32x64, .i32⟩) (.of main_call0_call0_v128 : StableHlo.TRef sig ⟨S32x64, .i32⟩) xori
  :: StableHlo.TRef.binary (.of main_call0_call0_v122 : StableHlo.TRef sig ⟨S32x64, .i32⟩) (.of main_call0_call0_v128 : StableHlo.TRef sig ⟨S32x64, .i32⟩) (.of main_call0_call0_v129 : StableHlo.TRef sig ⟨S32x64, .i32⟩) addi
  :: StableHlo.TRef.nullary (.of main_call0_call0_c_33 : StableHlo.TRef sig ⟨S_, .i32⟩) (constantI S_ 32 24#32)
  :: StableHlo.TRef.unary (.of main_call0_call0_c_33 : StableHlo.TRef sig ⟨S_, .i32⟩) (.of main_call0_call0_v130 : StableHlo.TRef sig ⟨S32x64, .i32⟩) (broadcastInDim S32x64 ![] bcast_S_S32x64)
  :: StableHlo.TRef.binary (.of main_call0_call0_v128 : StableHlo.TRef sig ⟨S32x64, .i32⟩) (.of main_call0_call0_v130 : StableHlo.TRef sig ⟨S32x64, .i32⟩) (.of main_call0_call0_v131 : StableHlo.TRef sig ⟨S32x64, .i32⟩) Host.shli
  :: StableHlo.TRef.nullary (.of main_call0_call0_c_34 : StableHlo.TRef sig ⟨S_, .i32⟩) (constantI S_ 32 8#32)
  :: StableHlo.TRef.unary (.of main_call0_call0_c_34 : StableHlo.TRef sig ⟨S_, .i32⟩) (.of main_call0_call0_v132 : StableHlo.TRef sig ⟨S32x64, .i32⟩) (broadcastInDim S32x64 ![] bcast_S_S32x64)
  :: StableHlo.TRef.binary (.of main_call0_call0_v128 : StableHlo.TRef sig ⟨S32x64, .i32⟩) (.of main_call0_call0_v132 : StableHlo.TRef sig ⟨S32x64, .i32⟩) (.of main_call0_call0_v133 : StableHlo.TRef sig ⟨S32x64, .i32⟩) Host.shrui
  :: StableHlo.TRef.binary (.of main_call0_call0_v131 : StableHlo.TRef sig ⟨S32x64, .i32⟩) (.of main_call0_call0_v133 : StableHlo.TRef sig ⟨S32x64, .i32⟩) (.of main_call0_call0_v134 : StableHlo.TRef sig ⟨S32x64, .i32⟩) ori
  :: StableHlo.TRef.binary (.of main_call0_call0_v129 : StableHlo.TRef sig ⟨S32x64, .i32⟩) (.of main_call0_call0_v134 : StableHlo.TRef sig ⟨S32x64, .i32⟩) (.of main_call0_call0_v135 : StableHlo.TRef sig ⟨S32x64, .i32⟩) xori
  :: StableHlo.TRef.unary (.of main_call0_v7 : StableHlo.TRef sig ⟨S_, .i32⟩) (.of main_call0_call0_v136 : StableHlo.TRef sig ⟨S32x64, .i32⟩) (broadcastInDim S32x64 ![] bcast_S_S32x64)
  :: StableHlo.TRef.binary (.of main_call0_call0_v129 : StableHlo.TRef sig ⟨S32x64, .i32⟩) (.of main_call0_call0_v136 : StableHlo.TRef sig ⟨S32x64, .i32⟩) (.of main_call0_call0_v137 : StableHlo.TRef sig ⟨S32x64, .i32⟩) addi
  :: StableHlo.TRef.unary (.of main_call0_call0_v1 : StableHlo.TRef sig ⟨S_, .i32⟩) (.of main_call0_call0_v138 : StableHlo.TRef sig ⟨S32x64, .i32⟩) (broadcastInDim S32x64 ![] bcast_S_S32x64)
  :: StableHlo.TRef.binary (.of main_call0_call0_v135 : StableHlo.TRef sig ⟨S32x64, .i32⟩) (.of main_call0_call0_v138 : StableHlo.TRef sig ⟨S32x64, .i32⟩) (.of main_call0_call0_v139 : StableHlo.TRef sig ⟨S32x64, .i32⟩) addi
  :: StableHlo.TRef.nullary (.of main_call0_call0_c_35 : StableHlo.TRef sig ⟨S_, .i32⟩) (constantI S_ 32 4#32)
  :: StableHlo.TRef.unary (.of main_call0_call0_c_35 : StableHlo.TRef sig ⟨S_, .i32⟩) (.of main_call0_call0_v140 : StableHlo.TRef sig ⟨S32x64, .i32⟩) (broadcastInDim S32x64 ![] bcast_S_S32x64)
  :: StableHlo.TRef.binary (.of main_call0_call0_v139 : StableHlo.TRef sig ⟨S32x64, .i32⟩) (.of main_call0_call0_v140 : StableHlo.TRef sig ⟨S32x64, .i32⟩) (.of main_call0_call0_v141 : StableHlo.TRef sig ⟨S32x64, .i32⟩) addi
  :: StableHlo.TRef.binary (.of main_call0_call0_v137 : StableHlo.TRef sig ⟨S32x64, .i32⟩) (.of main_call0_call0_v141 : StableHlo.TRef sig ⟨S32x64, .i32⟩) (.of main_call0_call0_v142 : StableHlo.TRef sig ⟨S32x64, .i32⟩) addi
  :: StableHlo.TRef.nullary (.of main_call0_call0_c_36 : StableHlo.TRef sig ⟨S_, .i32⟩) (constantI S_ 32 13#32)
  :: StableHlo.TRef.unary (.of main_call0_call0_c_36 : StableHlo.TRef sig ⟨S_, .i32⟩) (.of main_call0_call0_v143 : StableHlo.TRef sig ⟨S32x64, .i32⟩) (broadcastInDim S32x64 ![] bcast_S_S32x64)
  :: StableHlo.TRef.binary (.of main_call0_call0_v141 : StableHlo.TRef sig ⟨S32x64, .i32⟩) (.of main_call0_call0_v143 : StableHlo.TRef sig ⟨S32x64, .i32⟩) (.of main_call0_call0_v144 : StableHlo.TRef sig ⟨S32x64, .i32⟩) Host.shli
  :: StableHlo.TRef.nullary (.of main_call0_call0_c_37 : StableHlo.TRef sig ⟨S_, .i32⟩) (constantI S_ 32 19#32)
  :: StableHlo.TRef.unary (.of main_call0_call0_c_37 : StableHlo.TRef sig ⟨S_, .i32⟩) (.of main_call0_call0_v145 : StableHlo.TRef sig ⟨S32x64, .i32⟩) (broadcastInDim S32x64 ![] bcast_S_S32x64)
  :: StableHlo.TRef.binary (.of main_call0_call0_v141 : StableHlo.TRef sig ⟨S32x64, .i32⟩) (.of main_call0_call0_v145 : StableHlo.TRef sig ⟨S32x64, .i32⟩) (.of main_call0_call0_v146 : StableHlo.TRef sig ⟨S32x64, .i32⟩) Host.shrui
  :: StableHlo.TRef.binary (.of main_call0_call0_v144 : StableHlo.TRef sig ⟨S32x64, .i32⟩) (.of main_call0_call0_v146 : StableHlo.TRef sig ⟨S32x64, .i32⟩) (.of main_call0_call0_v147 : StableHlo.TRef sig ⟨S32x64, .i32⟩) ori
  :: StableHlo.TRef.binary (.of main_call0_call0_v142 : StableHlo.TRef sig ⟨S32x64, .i32⟩) (.of main_call0_call0_v147 : StableHlo.TRef sig ⟨S32x64, .i32⟩) (.of main_call0_call0_v148 : StableHlo.TRef sig ⟨S32x64, .i32⟩) xori
  :: StableHlo.TRef.binary (.of main_call0_call0_v142 : StableHlo.TRef sig ⟨S32x64, .i32⟩) (.of main_call0_call0_v148 : StableHlo.TRef sig ⟨S32x64, .i32⟩) (.of main_call0_call0_v149 : StableHlo.TRef sig ⟨S32x64, .i32⟩) addi
  :: StableHlo.TRef.nullary (.of main_call0_call0_c_38 : StableHlo.TRef sig ⟨S_, .i32⟩) (constantI S_ 32 15#32)
  :: StableHlo.TRef.unary (.of main_call0_call0_c_38 : StableHlo.TRef sig ⟨S_, .i32⟩) (.of main_call0_call0_v150 : StableHlo.TRef sig ⟨S32x64, .i32⟩) (broadcastInDim S32x64 ![] bcast_S_S32x64)
  :: StableHlo.TRef.binary (.of main_call0_call0_v148 : StableHlo.TRef sig ⟨S32x64, .i32⟩) (.of main_call0_call0_v150 : StableHlo.TRef sig ⟨S32x64, .i32⟩) (.of main_call0_call0_v151 : StableHlo.TRef sig ⟨S32x64, .i32⟩) Host.shli
  :: StableHlo.TRef.nullary (.of main_call0_call0_c_39 : StableHlo.TRef sig ⟨S_, .i32⟩) (constantI S_ 32 17#32)
  :: StableHlo.TRef.unary (.of main_call0_call0_c_39 : StableHlo.TRef sig ⟨S_, .i32⟩) (.of main_call0_call0_v152 : StableHlo.TRef sig ⟨S32x64, .i32⟩) (broadcastInDim S32x64 ![] bcast_S_S32x64)
  :: StableHlo.TRef.binary (.of main_call0_call0_v148 : StableHlo.TRef sig ⟨S32x64, .i32⟩) (.of main_call0_call0_v152 : StableHlo.TRef sig ⟨S32x64, .i32⟩) (.of main_call0_call0_v153 : StableHlo.TRef sig ⟨S32x64, .i32⟩) Host.shrui
  :: StableHlo.TRef.binary (.of main_call0_call0_v151 : StableHlo.TRef sig ⟨S32x64, .i32⟩) (.of main_call0_call0_v153 : StableHlo.TRef sig ⟨S32x64, .i32⟩) (.of main_call0_call0_v154 : StableHlo.TRef sig ⟨S32x64, .i32⟩) ori
  :: StableHlo.TRef.binary (.of main_call0_call0_v149 : StableHlo.TRef sig ⟨S32x64, .i32⟩) (.of main_call0_call0_v154 : StableHlo.TRef sig ⟨S32x64, .i32⟩) (.of main_call0_call0_v155 : StableHlo.TRef sig ⟨S32x64, .i32⟩) xori
  :: StableHlo.TRef.binary (.of main_call0_call0_v149 : StableHlo.TRef sig ⟨S32x64, .i32⟩) (.of main_call0_call0_v155 : StableHlo.TRef sig ⟨S32x64, .i32⟩) (.of main_call0_call0_v156 : StableHlo.TRef sig ⟨S32x64, .i32⟩) addi
  :: StableHlo.TRef.nullary (.of main_call0_call0_c_40 : StableHlo.TRef sig ⟨S_, .i32⟩) (constantI S_ 32 26#32)
  :: StableHlo.TRef.unary (.of main_call0_call0_c_40 : StableHlo.TRef sig ⟨S_, .i32⟩) (.of main_call0_call0_v157 : StableHlo.TRef sig ⟨S32x64, .i32⟩) (broadcastInDim S32x64 ![] bcast_S_S32x64)
  :: StableHlo.TRef.binary (.of main_call0_call0_v155 : StableHlo.TRef sig ⟨S32x64, .i32⟩) (.of main_call0_call0_v157 : StableHlo.TRef sig ⟨S32x64, .i32⟩) (.of main_call0_call0_v158 : StableHlo.TRef sig ⟨S32x64, .i32⟩) Host.shli
  :: StableHlo.TRef.nullary (.of main_call0_call0_c_41 : StableHlo.TRef sig ⟨S_, .i32⟩) (constantI S_ 32 6#32)
  :: StableHlo.TRef.unary (.of main_call0_call0_c_41 : StableHlo.TRef sig ⟨S_, .i32⟩) (.of main_call0_call0_v159 : StableHlo.TRef sig ⟨S32x64, .i32⟩) (broadcastInDim S32x64 ![] bcast_S_S32x64)
  :: StableHlo.TRef.binary (.of main_call0_call0_v155 : StableHlo.TRef sig ⟨S32x64, .i32⟩) (.of main_call0_call0_v159 : StableHlo.TRef sig ⟨S32x64, .i32⟩) (.of main_call0_call0_v160 : StableHlo.TRef sig ⟨S32x64, .i32⟩) Host.shrui
  :: StableHlo.TRef.binary (.of main_call0_call0_v158 : StableHlo.TRef sig ⟨S32x64, .i32⟩) (.of main_call0_call0_v160 : StableHlo.TRef sig ⟨S32x64, .i32⟩) (.of main_call0_call0_v161 : StableHlo.TRef sig ⟨S32x64, .i32⟩) ori
  :: StableHlo.TRef.binary (.of main_call0_call0_v156 : StableHlo.TRef sig ⟨S32x64, .i32⟩) (.of main_call0_call0_v161 : StableHlo.TRef sig ⟨S32x64, .i32⟩) (.of main_call0_call0_v162 : StableHlo.TRef sig ⟨S32x64, .i32⟩) xori
  :: StableHlo.TRef.binary (.of main_call0_call0_v156 : StableHlo.TRef sig ⟨S32x64, .i32⟩) (.of main_call0_call0_v162 : StableHlo.TRef sig ⟨S32x64, .i32⟩) (.of main_call0_call0_v163 : StableHlo.TRef sig ⟨S32x64, .i32⟩) addi
  :: StableHlo.TRef.nullary (.of main_call0_call0_c_42 : StableHlo.TRef sig ⟨S_, .i32⟩) (constantI S_ 32 6#32)
  :: StableHlo.TRef.unary (.of main_call0_call0_c_42 : StableHlo.TRef sig ⟨S_, .i32⟩) (.of main_call0_call0_v164 : StableHlo.TRef sig ⟨S32x64, .i32⟩) (broadcastInDim S32x64 ![] bcast_S_S32x64)
  :: StableHlo.TRef.binary (.of main_call0_call0_v162 : StableHlo.TRef sig ⟨S32x64, .i32⟩) (.of main_call0_call0_v164 : StableHlo.TRef sig ⟨S32x64, .i32⟩) (.of main_call0_call0_v165 : StableHlo.TRef sig ⟨S32x64, .i32⟩) Host.shli
  :: StableHlo.TRef.nullary (.of main_call0_call0_c_43 : StableHlo.TRef sig ⟨S_, .i32⟩) (constantI S_ 32 26#32)
  :: StableHlo.TRef.unary (.of main_call0_call0_c_43 : StableHlo.TRef sig ⟨S_, .i32⟩) (.of main_call0_call0_v166 : StableHlo.TRef sig ⟨S32x64, .i32⟩) (broadcastInDim S32x64 ![] bcast_S_S32x64)
  :: StableHlo.TRef.binary (.of main_call0_call0_v162 : StableHlo.TRef sig ⟨S32x64, .i32⟩) (.of main_call0_call0_v166 : StableHlo.TRef sig ⟨S32x64, .i32⟩) (.of main_call0_call0_v167 : StableHlo.TRef sig ⟨S32x64, .i32⟩) Host.shrui
  :: StableHlo.TRef.binary (.of main_call0_call0_v165 : StableHlo.TRef sig ⟨S32x64, .i32⟩) (.of main_call0_call0_v167 : StableHlo.TRef sig ⟨S32x64, .i32⟩) (.of main_call0_call0_v168 : StableHlo.TRef sig ⟨S32x64, .i32⟩) ori
  :: StableHlo.TRef.binary (.of main_call0_call0_v163 : StableHlo.TRef sig ⟨S32x64, .i32⟩) (.of main_call0_call0_v168 : StableHlo.TRef sig ⟨S32x64, .i32⟩) (.of main_call0_call0_v169 : StableHlo.TRef sig ⟨S32x64, .i32⟩) xori
  :: StableHlo.TRef.unary (.of main_call0_call0_v1 : StableHlo.TRef sig ⟨S_, .i32⟩) (.of main_call0_call0_v170 : StableHlo.TRef sig ⟨S32x64, .i32⟩) (broadcastInDim S32x64 ![] bcast_S_S32x64)
  :: StableHlo.TRef.binary (.of main_call0_call0_v163 : StableHlo.TRef sig ⟨S32x64, .i32⟩) (.of main_call0_call0_v170 : StableHlo.TRef sig ⟨S32x64, .i32⟩) (.of main_call0_v19_0 : StableHlo.TRef sig ⟨S32x64, .i32⟩) addi
  :: StableHlo.TRef.unary (.of main_call0_v5 : StableHlo.TRef sig ⟨S_, .i32⟩) (.of main_call0_call0_v172 : StableHlo.TRef sig ⟨S32x64, .i32⟩) (broadcastInDim S32x64 ![] bcast_S_S32x64)
  :: StableHlo.TRef.binary (.of main_call0_call0_v169 : StableHlo.TRef sig ⟨S32x64, .i32⟩) (.of main_call0_call0_v172 : StableHlo.TRef sig ⟨S32x64, .i32⟩) (.of main_call0_call0_v173 : StableHlo.TRef sig ⟨S32x64, .i32⟩) addi
  :: StableHlo.TRef.nullary (.of main_call0_call0_c_44 : StableHlo.TRef sig ⟨S_, .i32⟩) (constantI S_ 32 5#32)
  :: StableHlo.TRef.unary (.of main_call0_call0_c_44 : StableHlo.TRef sig ⟨S_, .i32⟩) (.of main_call0_call0_v174 : StableHlo.TRef sig ⟨S32x64, .i32⟩) (broadcastInDim S32x64 ![] bcast_S_S32x64)
  :: StableHlo.TRef.binary (.of main_call0_call0_v173 : StableHlo.TRef sig ⟨S32x64, .i32⟩) (.of main_call0_call0_v174 : StableHlo.TRef sig ⟨S32x64, .i32⟩) (.of main_call0_v19_1 : StableHlo.TRef sig ⟨S32x64, .i32⟩) addi
  :: StableHlo.TRef.binary (.of main_call0_v19_0 : StableHlo.TRef sig ⟨S32x64, .i32⟩) (.of main_call0_v19_1 : StableHlo.TRef sig ⟨S32x64, .i32⟩) (.of main_call0_v20 : StableHlo.TRef sig ⟨S32x64, .i32⟩) xori
  :: StableHlo.TRef.nullary (.of main_call0_c_2 : StableHlo.TRef sig ⟨S_, .i32⟩) (constantI S_ 32 9#32)
  :: StableHlo.TRef.unary (.of main_call0_c_2 : StableHlo.TRef sig ⟨S_, .i32⟩) (.of main_call0_v21 : StableHlo.TRef sig ⟨S32x64, .i32⟩) (broadcastInDim S32x64 ![] bcast_S_S32x64)
  :: StableHlo.TRef.binary (.of main_call0_v20 : StableHlo.TRef sig ⟨S32x64, .i32⟩) (.of main_call0_v21 : StableHlo.TRef sig ⟨S32x64, .i32⟩) (.of main_call0_v22 : StableHlo.TRef sig ⟨S32x64, .i32⟩) Host.shrui
  :: StableHlo.TRef.nullary (.of main_call0_c_3 : StableHlo.TRef sig ⟨S_, .i32⟩) (constantI S_ 32 1065353216#32)
  :: StableHlo.TRef.unary (.of main_call0_c_3 : StableHlo.TRef sig ⟨S_, .i32⟩) (.of main_call0_v23 : StableHlo.TRef sig ⟨S32x64, .i32⟩) (broadcastInDim S32x64 ![] bcast_S_S32x64)
  :: StableHlo.TRef.binary (.of main_call0_v22 : StableHlo.TRef sig ⟨S32x64, .i32⟩) (.of main_call0_v23 : StableHlo.TRef sig ⟨S32x64, .i32⟩) (.of main_call0_v24 : StableHlo.TRef sig ⟨S32x64, .i32⟩) ori
  :: StableHlo.TRef.unary (.of main_call0_v24 : StableHlo.TRef sig ⟨S32x64, .i32⟩) (.of main_call0_v25 : StableHlo.TRef sig ⟨S32x64, .f32⟩) (bitcastToFloat .f32)
  :: StableHlo.TRef.nullary (.of main_call0_cst : StableHlo.TRef sig ⟨S_, .f32⟩) (constant S_ .f32 0x3F800000#32)
  :: StableHlo.TRef.unary (.of main_call0_cst : StableHlo.TRef sig ⟨S_, .f32⟩) (.of main_call0_v26 : StableHlo.TRef sig ⟨S32x64, .f32⟩) (broadcastInDim S32x64 ![] bcast_S_S32x64)
  :: StableHlo.TRef.binary (.of main_call0_v25 : StableHlo.TRef sig ⟨S32x64, .f32⟩) (.of main_call0_v26 : StableHlo.TRef sig ⟨S32x64, .f32⟩) (.of main_call0_v27 : StableHlo.TRef sig ⟨S32x64, .f32⟩) subf
  :: StableHlo.TRef.binary (.of main_call0_v3 : StableHlo.TRef sig ⟨S1x1, .f32⟩) (.of main_call0_v2 : StableHlo.TRef sig ⟨S1x1, .f32⟩) (.of main_call0_v28 : StableHlo.TRef sig ⟨S1x1, .f32⟩) subf
  :: StableHlo.TRef.unary (.of main_call0_v28 : StableHlo.TRef sig ⟨S1x1, .f32⟩) (.of main_call0_v29 : StableHlo.TRef sig ⟨S32x64, .f32⟩) (broadcastInDim S32x64 ![0, 1] bcast_S1x1_S32x64_0_1)
  :: StableHlo.TRef.binary (.of main_call0_v27 : StableHlo.TRef sig ⟨S32x64, .f32⟩) (.of main_call0_v29 : StableHlo.TRef sig ⟨S32x64, .f32⟩) (.of main_call0_v30 : StableHlo.TRef sig ⟨S32x64, .f32⟩) mulf
  :: StableHlo.TRef.unary (.of main_call0_v2 : StableHlo.TRef sig ⟨S1x1, .f32⟩) (.of main_call0_v31 : StableHlo.TRef sig ⟨S32x64, .f32⟩) (broadcastInDim S32x64 ![0, 1] bcast_S1x1_S32x64_0_1)
  :: StableHlo.TRef.binary (.of main_call0_v30 : StableHlo.TRef sig ⟨S32x64, .f32⟩) (.of main_call0_v31 : StableHlo.TRef sig ⟨S32x64, .f32⟩) (.of main_call0_v32 : StableHlo.TRef sig ⟨S32x64, .f32⟩) addf
  :: StableHlo.TRef.unary (.of main_call0_v2 : StableHlo.TRef sig ⟨S1x1, .f32⟩) (.of main_call0_v33 : StableHlo.TRef sig ⟨S32x64, .f32⟩) (broadcastInDim S32x64 ![0, 1] bcast_S1x1_S32x64_0_1)
  :: StableHlo.TRef.binary (.of main_call0_v33 : StableHlo.TRef sig ⟨S32x64, .f32⟩) (.of main_call0_v32 : StableHlo.TRef sig ⟨S32x64, .f32⟩) (.of main_v21 : StableHlo.TRef sig ⟨S32x64, .f32⟩) maximumf
  :: [] )

/-- The 1 operation that sorts, in order. -/
abbrev ops2 : List (HloOp τ sig (Elt F)) :=
  [ StableHlo.TRef.unary (.of main_v13 : StableHlo.TRef sig ⟨S64x100000, .f32⟩) (.of main_v22 : StableHlo.TRef sig ⟨S64x100000, .f32⟩) (fun x => Host.sort S64x100000 1 comparator_f32_d1 x) ]

/-- The 1 operation that reverses, in order. -/
abbrev ops3 : List (HloOp τ sig (Elt F)) :=
  [ StableHlo.TRef.unary (.of main_v22 : StableHlo.TRef sig ⟨S64x100000, .f32⟩) (.of main_v23 : StableHlo.TRef sig ⟨S64x100000, .f32⟩) (Host.reverse [1]) ]

/-- The 20 operations of the main function, in order. -/
abbrev ops4 : List (HloOp τ sig (Elt F)) :=
  [ StableHlo.nullary main_c_6 (constantI S_ 32 1#32),
    StableHlo.binary main_arg2 main_c_6 main_v24 (subi : (⟨S_, .i32⟩ : BufTy).Contents (Elt F) → (⟨S_, .i32⟩ : BufTy).Contents (Elt F) → (⟨S_, .i32⟩ : BufTy).Contents (Elt F)),
    StableHlo.nullary main_c_7 (constantI S_ 32 0#32),
    StableHlo.nullary main_c_8 (constantI S_ 32 0#32),
    StableHlo.binary main_c_7 main_c_8 main_v25 (cmpi .slt : (⟨S_, .i32⟩ : BufTy).Contents (Elt F) → (⟨S_, .i32⟩ : BufTy).Contents (Elt F) → (⟨S_, .i1⟩ : BufTy).Contents (Elt F)),
    StableHlo.nullary main_c_9 (constantI S_ 32 0#32),
    StableHlo.nullary main_c_10 (constantI S_ 32 64#32),
    StableHlo.binary main_c_9 main_c_10 main_v26 (addi : (⟨S_, .i32⟩ : BufTy).Contents (Elt F) → (⟨S_, .i32⟩ : BufTy).Contents (Elt F) → (⟨S_, .i32⟩ : BufTy).Contents (Elt F)),
    StableHlo.nullary main_c_11 (constantI S_ 32 0#32),
    StableHlo.ternary main_v25 main_v26 main_c_11 main_v27 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_12 (constantI S_ 32 0#32),
    StableHlo.binary main_v24 main_c_12 main_v28 (cmpi .slt : (⟨S_, .i32⟩ : BufTy).Contents (Elt F) → (⟨S_, .i32⟩ : BufTy).Contents (Elt F) → (⟨S_, .i1⟩ : BufTy).Contents (Elt F)),
    StableHlo.nullary main_c_13 (constantI S_ 32 100000#32),
    StableHlo.binary main_v24 main_c_13 main_v29 (addi : (⟨S_, .i32⟩ : BufTy).Contents (Elt F) → (⟨S_, .i32⟩ : BufTy).Contents (Elt F) → (⟨S_, .i32⟩ : BufTy).Contents (Elt F)),
    StableHlo.ternary main_v28 main_v29 main_v24 main_v30 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v23 ![main_v27, main_v30] ⟨S_, .i32⟩ main_v31 ((fun x i => Host.dynamicSlice S64x1 x (fun k => (i k (Shape.Idx.first h_S_)).toInt) sliceFits_S64x100000_S64x1) : (⟨S64x100000, .f32⟩ : BufTy).Contents (Elt F) → (Fin 2 → (⟨S_, .i32⟩ : BufTy).Contents (Elt F)) → (⟨S64x1, .f32⟩ : BufTy).Contents (Elt F)),
    StableHlo.reshape main_v31 main_v32 (rfl : (.f32 : EltTy) = .f32) shapeCasts_S64x1_S64,
    StableHlo.unary main_v32 main_v33 (broadcastInDim S64x1 ![0] bcast_S64_S64x1_0 : (⟨S64, .f32⟩ : BufTy).Contents (Elt F) → (⟨S64x1, .f32⟩ : BufTy).Contents (Elt F)),
    StableHlo.unary main_v33 main_v34 (broadcastInDim S64x100000 ![0, 1] bcast_S64x1_S64x100000_0_1 : (⟨S64x1, .f32⟩ : BufTy).Contents (Elt F) → (⟨S64x100000, .f32⟩ : BufTy).Contents (Elt F)),
    StableHlo.binary main_v13 main_v34 main_v35 (cmpf .oge : (⟨S64x100000, .f32⟩ : BufTy).Contents (Elt F) → (⟨S64x100000, .f32⟩ : BufTy).Contents (Elt F) → (⟨S64x100000, .i1⟩ : BufTy).Contents (Elt F)) ]

/-- The 3 operations of a running sum, in order. -/
abbrev ops5 : List (HloOp τ sig (Elt F)) :=
  [ StableHlo.TRef.nullary (.of main_call3_call0_cst : StableHlo.TRef sig ⟨S_, .f32⟩) (constant S_ .f32 0x00000000#32),
    StableHlo.TRef.unary (.of main_call3_call0_cst : StableHlo.TRef sig ⟨S_, .f32⟩) (.of main_call3_call0_v0 : StableHlo.TRef sig ⟨S_, .f32⟩) (broadcastInDim S_ ![] bcast_S_S_),
    StableHlo.TRef.binary (.of main_v23 : StableHlo.TRef sig ⟨S64x100000, .f32⟩) (.of main_call3_call0_v0 : StableHlo.TRef sig ⟨S_, .f32⟩) (.of main_v36 : StableHlo.TRef sig ⟨S64x100000, .f32⟩) (fun x v => Host.reduceWindowAdd ![1, 100000] ![1, 1] ![0, 99999] ![0, 0] x v reduceWindows_S64x100000_S64x100000_w1s1p0_0_w100000s1p99999_0 h_S_) ]

/-- The 5 operations of the main function, in order. -/
abbrev ops6 : List (HloOp τ sig (Elt F)) :=
  [ StableHlo.binary main_v36 main_v23 main_v37 (subf : (⟨S64x100000, .f32⟩ : BufTy).Contents (Elt F) → (⟨S64x100000, .f32⟩ : BufTy).Contents (Elt F) → (⟨S64x100000, .f32⟩ : BufTy).Contents (Elt F)),
    StableHlo.unary main_arg3 main_v38 (sitofp .f32 : (⟨S_, .i32⟩ : BufTy).Contents (Elt F) → (⟨S_, .f32⟩ : BufTy).Contents (Elt F)),
    StableHlo.unary main_v38 main_v39 (broadcastInDim S64x100000 ![] bcast_S_S64x100000 : (⟨S_, .f32⟩ : BufTy).Contents (Elt F) → (⟨S64x100000, .f32⟩ : BufTy).Contents (Elt F)),
    StableHlo.binary main_v37 main_v39 main_v40 (cmpf .olt : (⟨S64x100000, .f32⟩ : BufTy).Contents (Elt F) → (⟨S64x100000, .f32⟩ : BufTy).Contents (Elt F) → (⟨S64x100000, .i1⟩ : BufTy).Contents (Elt F)),
    StableHlo.nullary main_cst_14 (constant S_ .f32 0x7F800000#32) ]

/-- The 3 operations of a selection, in order. -/
abbrev ops7 : List (HloOp τ sig (Elt F)) :=
  [ StableHlo.TRef.unary (.of main_cst_14 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S64x100000, .f32⟩) (broadcastInDim S64x100000 ![] bcast_S_S64x100000),
    StableHlo.TRef.ternary (.of main_v40 : StableHlo.TRef sig ⟨S64x100000, .i1⟩) (.of main_v23 : StableHlo.TRef sig ⟨S64x100000, .f32⟩) (.of main_call4_v1 : StableHlo.TRef sig ⟨S64x100000, .f32⟩) (.of main_v41 : StableHlo.TRef sig ⟨S64x100000, .f32⟩) select ]

/-- The 1 operations of the main function, in order. -/
abbrev ops8 : List (HloOp τ sig (Elt F)) :=
  [ StableHlo.nullary main_cst_15 (constant S_ .f32 0x7F800000#32) ]

/-- The 6 operations of the main function, in order. -/
abbrev ops9 : List (HloOp τ sig (Elt F)) :=
  [ StableHlo.binary main_v41 main_cst_15 main_v42 ((fun x v => Host.reduce FloatOps.minimumf x v reducesTo_S64x100000_S64_d1 h_S_) : (⟨S64x100000, .f32⟩ : BufTy).Contents (Elt F) → (⟨S_, .f32⟩ : BufTy).Contents (Elt F) → (⟨S64, .f32⟩ : BufTy).Contents (Elt F)),
    StableHlo.unary main_v42 main_v43 (broadcastInDim S64x1 ![0] bcast_S64_S64x1_0 : (⟨S64, .f32⟩ : BufTy).Contents (Elt F) → (⟨S64x1, .f32⟩ : BufTy).Contents (Elt F)),
    StableHlo.unary main_v43 main_v44 (broadcastInDim S64x100000 ![0, 1] bcast_S64x1_S64x100000_0_1 : (⟨S64x1, .f32⟩ : BufTy).Contents (Elt F) → (⟨S64x100000, .f32⟩ : BufTy).Contents (Elt F)),
    StableHlo.binary main_v13 main_v44 main_v45 (cmpf .oge : (⟨S64x100000, .f32⟩ : BufTy).Contents (Elt F) → (⟨S64x100000, .f32⟩ : BufTy).Contents (Elt F) → (⟨S64x100000, .i1⟩ : BufTy).Contents (Elt F)),
    StableHlo.binary main_v35 main_v45 main_v46 (andi : (⟨S64x100000, .i1⟩ : BufTy).Contents (Elt F) → (⟨S64x100000, .i1⟩ : BufTy).Contents (Elt F) → (⟨S64x100000, .i1⟩ : BufTy).Contents (Elt F)),
    StableHlo.nullary main_cst_16 (constant S_ .f32 0x00000000#32) ]

/-- The 3 operations of a selection, in order. -/
abbrev ops10 : List (HloOp τ sig (Elt F)) :=
  [ StableHlo.TRef.unary (.of main_cst_16 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S64x100000, .f32⟩) (broadcastInDim S64x100000 ![] bcast_S_S64x100000),
    StableHlo.TRef.ternary (.of main_v46 : StableHlo.TRef sig ⟨S64x100000, .i1⟩) (.of main_v13 : StableHlo.TRef sig ⟨S64x100000, .f32⟩) (.of main_call5_v1 : StableHlo.TRef sig ⟨S64x100000, .f32⟩) (.of main_v47 : StableHlo.TRef sig ⟨S64x100000, .f32⟩) select ]

/-- The 5 operations of the main function, in order. -/
abbrev ops11 : List (HloOp τ sig (Elt F)) :=
  [ StableHlo.nullary main_cst_17 (constant S_ .f32 0x00000000#32),
    StableHlo.binary main_v47 main_cst_17 main_v48 ((fun x v => Host.reduceAdd x v reducesTo_S64x100000_S64_d1 h_S_) : (⟨S64x100000, .f32⟩ : BufTy).Contents (Elt F) → (⟨S_, .f32⟩ : BufTy).Contents (Elt F) → (⟨S64, .f32⟩ : BufTy).Contents (Elt F)),
    StableHlo.unary main_v48 main_v49 (broadcastInDim S64x1 ![0] bcast_S64_S64x1_0 : (⟨S64, .f32⟩ : BufTy).Contents (Elt F) → (⟨S64x1, .f32⟩ : BufTy).Contents (Elt F)),
    StableHlo.unary main_v49 main_v50 (broadcastInDim S64x100000 ![0, 1] bcast_S64x1_S64x100000_0_1 : (⟨S64x1, .f32⟩ : BufTy).Contents (Elt F) → (⟨S64x100000, .f32⟩ : BufTy).Contents (Elt F)),
    StableHlo.binary main_v47 main_v50 main_v51 (Host.divf : (⟨S64x100000, .f32⟩ : BufTy).Contents (Elt F) → (⟨S64x100000, .f32⟩ : BufTy).Contents (Elt F) → (⟨S64x100000, .f32⟩ : BufTy).Contents (Elt F)) ]

/-- The 3 operations of a running sum, in order. -/
abbrev ops12 : List (HloOp τ sig (Elt F)) :=
  [ StableHlo.TRef.nullary (.of main_call6_call0_cst : StableHlo.TRef sig ⟨S_, .f32⟩) (constant S_ .f32 0x00000000#32),
    StableHlo.TRef.unary (.of main_call6_call0_cst : StableHlo.TRef sig ⟨S_, .f32⟩) (.of main_call6_call0_v0 : StableHlo.TRef sig ⟨S_, .f32⟩) (broadcastInDim S_ ![] bcast_S_S_),
    StableHlo.TRef.binary (.of main_v51 : StableHlo.TRef sig ⟨S64x100000, .f32⟩) (.of main_call6_call0_v0 : StableHlo.TRef sig ⟨S_, .f32⟩) (.of main_v52 : StableHlo.TRef sig ⟨S64x100000, .f32⟩) (fun x v => Host.reduceWindowAdd ![1, 100000] ![1, 1] ![0, 99999] ![0, 0] x v reduceWindows_S64x100000_S64x100000_w1s1p0_0_w100000s1p99999_0 h_S_) ]

/-- The 10 operations of the main function, in order. -/
abbrev ops13 : List (HloOp τ sig (Elt F)) :=
  [ StableHlo.unary main_v21 main_v53 ((extractStridedSlice S1x64 ![0, 0] · slices_S32x64_S1x64_0_0) : (⟨S32x64, .f32⟩ : BufTy).Contents (Elt F) → (⟨S1x64, .f32⟩ : BufTy).Contents (Elt F)),
    StableHlo.reshape main_v53 main_v54 (rfl : (.f32 : EltTy) = .f32) shapeCasts_S1x64_S64,
    StableHlo.unary main_v54 main_v55 (broadcastInDim S64x1 ![0] bcast_S64_S64x1_0 : (⟨S64, .f32⟩ : BufTy).Contents (Elt F) → (⟨S64x1, .f32⟩ : BufTy).Contents (Elt F)),
    StableHlo.unary main_v55 main_v56 (broadcastInDim S64x100000 ![0, 1] bcast_S64x1_S64x100000_0_1 : (⟨S64x1, .f32⟩ : BufTy).Contents (Elt F) → (⟨S64x100000, .f32⟩ : BufTy).Contents (Elt F)),
    StableHlo.binary main_v52 main_v56 main_v57 (cmpf .olt : (⟨S64x100000, .f32⟩ : BufTy).Contents (Elt F) → (⟨S64x100000, .f32⟩ : BufTy).Contents (Elt F) → (⟨S64x100000, .i1⟩ : BufTy).Contents (Elt F)),
    StableHlo.unary main_v57 main_v58 ((extui 32 · natLt_1_32) : (⟨S64x100000, .i1⟩ : BufTy).Contents (Elt F) → (⟨S64x100000, .i32⟩ : BufTy).Contents (Elt F)),
    StableHlo.nullary main_c_18 (constantI S_ 32 0#32),
    StableHlo.binary main_v58 main_c_18 main_v59 ((fun x v => Host.reduce IntOp.addi x v reducesTo_S64x100000_S64_d1 h_S_) : (⟨S64x100000, .i32⟩ : BufTy).Contents (Elt F) → (⟨S_, .i32⟩ : BufTy).Contents (Elt F) → (⟨S64, .i32⟩ : BufTy).Contents (Elt F)),
    StableHlo.nullary main_c_19 (constantI S_ 32 0#32),
    StableHlo.nullary main_c_20 (constantI S_ 32 99999#32) ]

/-- The 6 operations that clamp, in order. -/
abbrev ops14 : List (HloOp τ sig (Elt F)) :=
  [ StableHlo.TRef.unary (.of main_c_19 : StableHlo.TRef sig ⟨S_, .i32⟩) (.of main_call7_v0 : StableHlo.TRef sig ⟨S_, .i32⟩) id,
    StableHlo.TRef.unary (.of main_call7_v0 : StableHlo.TRef sig ⟨S_, .i32⟩) (.of main_call7_v1 : StableHlo.TRef sig ⟨S64, .i32⟩) (broadcastInDim S64 ![] bcast_S_S64),
    StableHlo.TRef.binary (.of main_call7_v1 : StableHlo.TRef sig ⟨S64, .i32⟩) (.of main_v59 : StableHlo.TRef sig ⟨S64, .i32⟩) (.of main_call7_v2 : StableHlo.TRef sig ⟨S64, .i32⟩) maxsi,
    StableHlo.TRef.unary (.of main_c_20 : StableHlo.TRef sig ⟨S_, .i32⟩) (.of main_call7_v3 : StableHlo.TRef sig ⟨S_, .i32⟩) id,
    StableHlo.TRef.unary (.of main_call7_v3 : StableHlo.TRef sig ⟨S_, .i32⟩) (.of main_call7_v4 : StableHlo.TRef sig ⟨S64, .i32⟩) (broadcastInDim S64 ![] bcast_S_S64),
    StableHlo.TRef.binary (.of main_call7_v4 : StableHlo.TRef sig ⟨S64, .i32⟩) (.of main_call7_v2 : StableHlo.TRef sig ⟨S64, .i32⟩) (.of main_v60 : StableHlo.TRef sig ⟨S64, .i32⟩) minsi ]

/-- The statements of `main_part0` are these stretches. -/
theorem main_part0_eq (c : Dev nD) : main_part0 (F := F) c = (Pipeline.chainK [StableHlo.seq ops0,
    StableHlo.seq ops1,
    StableHlo.seq ops2,
    StableHlo.seq ops3,
    StableHlo.seq ops4,
    StableHlo.seq ops5,
    StableHlo.seq ops6,
    StableHlo.seq ops7] (StableHlo.seq ops8) :
    Prog (TpuEff nD τ sig (Elt F) (Pipeline.Sig Λ₀ (Fin 0) fun p => (pcfgs (F := F) p).Adm) .tc) PUnit) := by
  rewrite [StableHlo.chainK_seq_cons, Pipeline.chainK_cons, Pipeline.chainK_cons, Pipeline.chainK_cons, StableHlo.chainK_seq_cons, Pipeline.chainK_cons, StableHlo.chainK_seq_cons, Pipeline.chainK_cons]
  chain_rfl

/-- The statements of `main_part1` are these stretches. -/
theorem main_part1_eq (c : Dev nD) : main_part1 (F := F) c = (Pipeline.chain [StableHlo.seq ops9,
    StableHlo.seq ops10,
    StableHlo.seq ops11,
    StableHlo.seq ops12,
    StableHlo.seq ops13, StableHlo.seq ops14] :
    Prog (TpuEff nD τ sig (Elt F) (Pipeline.Sig Λ₀ (Fin 0) fun p => (pcfgs (F := F) p).Adm) .tc) PUnit) := by
  rewrite [StableHlo.chain_seq_cons, Pipeline.chain_cons, StableHlo.chain_seq_cons, Pipeline.chain_cons, StableHlo.chain_seq_cons, Pipeline.chain_cons]
  chain_rfl

/-- All stretches, in order. -/
abbrev stretches : List (List (HloOp τ sig (Elt F))) :=
  [ops0, ops1, ops2, ops3, ops4, ops5, ops6, ops7, ops8, ops9, ops10, ops11, ops12, ops13, ops14]

/-- The program is its stretches, one after the other. -/
theorem main_eq (c : Dev nD) : main (F := F) c = StableHlo.seq (List.flatten (stretches (F := F))) := by
  have h := Pipeline.chain_of_window (main_part0_eq (F := F) c) (main_part1_eq (F := F) c)
  have e := StableHlo.chain_map_seq_append (nD := nD) (Λ := (Pipeline.Sig Λ₀ (Fin 0) fun p => (pcfgs (F := F) p).Adm)) (stretches (F := F)) []
  refine Eq.trans h (Eq.trans e ?_)
  simp only [Pipeline.chain_nil, bind_pure_unit]

end

end Cert.ReferenceIdeal.Ops
-- ==== Proof.RefRun.lean ====
module

public import proofs.«01_k».proof.Proof.RefOps
public import Idealize.ShloMosaic.Lib.Quiescent
public import Idealize.ShloMosaic.Lib.StableHlo.ReadAt

@[expose] public section

set_option maxRecDepth 16384
set_option Elab.async false

/-!
# The run of the reference

The reference runs its operations in order. At the end every buffer holds what the line of operations leaves in it.
-/

namespace Cert.ReferenceIdeal.Ops

open Idealize.ShloMosaic Idealize.ShloMosaic.TcCoe
open Idealize.SL.Sem
open Cert.ReferenceIdeal Cert.ReferenceIdeal.Gen

noncomputable section

variable {F : FTy → Type} [FloatOps F]

/-- The operations of stretch 0 touch device buffers only. -/
theorem ops0_sub : (ops0 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.nullary_bufs_sub .., StableHlo.binary_bufs_sub .., StableHlo.unary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.nullary_bufs_sub ..⟩
/-- The operations of stretch 0 determine their results. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
set_option maxHeartbeats 40000000 in
/-- The operations of stretch 1 touch device buffers only. -/
theorem ops1_sub : (ops1 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.reshape_bufs_sub .., StableHlo.unary_bufs_sub .., StableHlo.reshape_bufs_sub .., StableHlo.nullary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub ..⟩
set_option maxHeartbeats 40000000 in
/-- The operations of stretch 1 determine their results. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The operations of stretch 2 touch device buffers only. -/
theorem ops2_sub : (ops2 : List (HloOp τ sig (Elt F))).Forall fun op => op.bufs ⊆ StableHlo.tcRefs τ sig :=
  StableHlo.unary_bufs_sub ..
/-- The operations of stretch 2 determine their results. -/
theorem ops2_fresh : (ops2 : List (HloOp τ sig (Elt F))).Forall fun op => op.fresh = ∅ :=
  rfl
/-- The operations of stretch 3 touch device buffers only. -/
theorem ops3_sub : (ops3 : List (HloOp τ sig (Elt F))).Forall fun op => op.bufs ⊆ StableHlo.tcRefs τ sig :=
  StableHlo.unary_bufs_sub ..
/-- The operations of stretch 3 determine their results. -/
theorem ops3_fresh : (ops3 : List (HloOp τ sig (Elt F))).Forall fun op => op.fresh = ∅ :=
  rfl
/-- The operations of stretch 4 touch device buffers only. -/
theorem ops4_sub : (ops4 : List (HloOp τ sig (Elt F))).Forall fun op => op.bufs ⊆ StableHlo.tcRefs τ sig :=
  ⟨StableHlo.nullary_bufs_sub .., StableHlo.binary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.nullary_bufs_sub .., StableHlo.binary_bufs_sub .., StableHlo.nullary_bufs_sub .., StableHlo.binary_bufs_sub .., StableHlo.ternary_bufs_sub .., StableHlo.unaryIndexed_bufs_sub .., StableHlo.reshape_bufs_sub .., StableHlo.unary_bufs_sub .., StableHlo.unary_bufs_sub .., StableHlo.binary_bufs_sub ..⟩
/-- The operations of stretch 4 determine their results. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
/-- The operations of stretch 5 touch device buffers only. -/
theorem ops5_sub : (ops5 : List (HloOp τ sig (Elt F))).Forall fun op => op.bufs ⊆ StableHlo.tcRefs τ sig :=
  ⟨StableHlo.nullary_bufs_sub .., StableHlo.unary_bufs_sub .., StableHlo.binary_bufs_sub ..⟩
/-- The operations of stretch 5 determine their results. -/
theorem ops5_fresh : (ops5 : List (HloOp τ sig (Elt F))).Forall fun op => op.fresh = ∅ :=
  ⟨rfl, rfl, rfl⟩
/-- The operations of stretch 6 touch device buffers only. -/
theorem ops6_sub : (ops6 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub ..⟩
/-- The operations of stretch 6 determine their results. -/
theorem ops6_fresh : (ops6 : List (HloOp τ sig (Elt F))).Forall fun op => op.fresh = ∅ :=
  ⟨rfl, rfl, rfl, rfl, rfl⟩
/-- The operations of stretch 7 touch device buffers only. -/
theorem ops7_sub : (ops7 : List (HloOp τ sig (Elt F))).Forall fun op => op.bufs ⊆ StableHlo.tcRefs τ sig :=
  ⟨StableHlo.unary_bufs_sub .., StableHlo.unary_bufs_sub .., StableHlo.ternary_bufs_sub ..⟩
/-- The operations of stretch 7 determine their results. -/
theorem ops7_fresh : (ops7 : List (HloOp τ sig (Elt F))).Forall fun op => op.fresh = ∅ :=
  ⟨rfl, rfl, rfl⟩
/-- The operations of stretch 8 touch device buffers only. -/
theorem ops8_sub : (ops8 : List (HloOp τ sig (Elt F))).Forall fun op => op.bufs ⊆ StableHlo.tcRefs τ sig :=
  StableHlo.nullary_bufs_sub ..
/-- The operations of stretch 8 determine their results. -/
theorem ops8_fresh : (ops8 : List (HloOp τ sig (Elt F))).Forall fun op => op.fresh = ∅ :=
  rfl
/-- The operations of stretch 9 touch device buffers only. -/
theorem ops9_sub : (ops9 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.nullary_bufs_sub ..⟩
/-- The operations of stretch 9 determine their results. -/
theorem ops9_fresh : (ops9 : List (HloOp τ sig (Elt F))).Forall fun op => op.fresh = ∅ :=
  ⟨rfl, rfl, rfl, rfl, rfl, rfl⟩
/-- The operations of stretch 10 touch device buffers only. -/
theorem ops10_sub : (ops10 : List (HloOp τ sig (Elt F))).Forall fun op => op.bufs ⊆ StableHlo.tcRefs τ sig :=
  ⟨StableHlo.unary_bufs_sub .., StableHlo.unary_bufs_sub .., StableHlo.ternary_bufs_sub ..⟩
/-- The operations of stretch 10 determine their results. -/
theorem ops10_fresh : (ops10 : List (HloOp τ sig (Elt F))).Forall fun op => op.fresh = ∅ :=
  ⟨rfl, rfl, rfl⟩
/-- The operations of stretch 11 touch device buffers only. -/
theorem ops11_sub : (ops11 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.binary_bufs_sub ..⟩
/-- The operations of stretch 11 determine their results. -/
theorem ops11_fresh : (ops11 : List (HloOp τ sig (Elt F))).Forall fun op => op.fresh = ∅ :=
  ⟨rfl, rfl, rfl, rfl, rfl⟩
/-- The operations of stretch 12 touch device buffers only. -/
theorem ops12_sub : (ops12 : List (HloOp τ sig (Elt F))).Forall fun op => op.bufs ⊆ StableHlo.tcRefs τ sig :=
  ⟨StableHlo.nullary_bufs_sub .., StableHlo.unary_bufs_sub .., StableHlo.binary_bufs_sub ..⟩
/-- The operations of stretch 12 determine their results. -/
theorem ops12_fresh : (ops12 : List (HloOp τ sig (Elt F))).Forall fun op => op.fresh = ∅ :=
  ⟨rfl, rfl, rfl⟩
/-- The operations of stretch 13 touch device buffers only. -/
theorem ops13_sub : (ops13 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.binary_bufs_sub .., StableHlo.unary_bufs_sub .., StableHlo.nullary_bufs_sub .., StableHlo.binary_bufs_sub .., StableHlo.nullary_bufs_sub .., StableHlo.nullary_bufs_sub ..⟩
/-- The operations of stretch 13 determine their results. -/
theorem ops13_fresh : (ops13 : List (HloOp τ sig (Elt F))).Forall fun op => op.fresh = ∅ :=
  ⟨rfl, rfl, rfl, rfl, rfl, rfl, rfl, rfl, rfl, rfl⟩
/-- The operations of stretch 14 touch device buffers only. -/
theorem ops14_sub : (ops14 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- The operations of stretch 14 determine their results. -/
theorem ops14_fresh : (ops14 : List (HloOp τ sig (Elt F))).Forall fun op => op.fresh = ∅ :=
  ⟨rfl, rfl, rfl, rfl, rfl, rfl⟩

/-- A property of every operation of every stretch holds of the whole line. -/
theorem forall_stretches {p : HloOp τ sig (Elt F) → Prop} (h : (stretches (F := F)).Forall fun l => l.Forall p) :
    (List.flatten (stretches (F := F))).Forall p := by
  rw [List.forall_iff_forall_mem] at h ⊢
  intro op hop
  obtain ⟨l, hl, hm⟩ := List.mem_flatten.mp hop
  exact (List.forall_iff_forall_mem.mp (h l hl)) op hm

/-- The whole line touches device buffers only. -/
theorem line_sub : (List.flatten (stretches (F := F))).Forall fun op => op.bufs ⊆ StableHlo.tcRefs τ sig :=
  forall_stretches ⟨ops0_sub, ops1_sub, ops2_sub, ops3_sub, ops4_sub, ops5_sub, ops6_sub, ops7_sub, ops8_sub, ops9_sub, ops10_sub, ops11_sub, ops12_sub, ops13_sub, ops14_sub⟩

/-- Every operation of the line determines its result. -/
theorem line_fresh : (List.flatten (stretches (F := F))).Forall fun op => op.fresh = ∅ :=
  forall_stretches ⟨ops0_fresh, ops1_fresh, ops2_fresh, ops3_fresh, ops4_fresh, ops5_fresh, ops6_fresh, ops7_fresh, ops8_fresh, ops9_fresh, ops10_fresh, ops11_fresh, ops12_fresh, ops13_fresh, ops14_fresh⟩

/-- What device `c`'s buffers hold at the end. -/
def fin (m : (ℓ : Loc nD τ sig) → Buf (Elt F) ℓ) (c : Dev nD) : Valuation τ sig (Elt F) :=
  StableHlo.after (List.flatten (stretches (F := F))) (StableHlo.launchContents m c)

/-- The reference runs, and every buffer ends at `fin`. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = fin m d (Proc.devRef .tc b) :=
  StableHlo.run_seq (by decide) (by decide) _ _ (fun _ => List.flatten (stretches (F := F))) main_eq (fun _ => line_sub) m ρ
    (fun _ => List.forall_iff_forall_mem.mp line_fresh)

/-- No operation writes argument 0. -/
theorem fin_arg0 (m : (ℓ : Loc nD τ sig) → Buf (Elt F) ℓ) (c : Dev nD) :
    fin m c (Proc.devRef .tc main_arg0) = m ((c.tc : Thread nD τ).loc main_arg0) := by
  refine Eq.trans (b := StableHlo.launchContents m c (Proc.devRef .tc main_arg0)) ?_ rfl
  unfold fin
  after_reads_simp

/-- No operation writes argument 1. -/
theorem fin_arg1 (m : (ℓ : Loc nD τ sig) → Buf (Elt F) ℓ) (c : Dev nD) :
    fin m c (Proc.devRef .tc main_arg1) = m ((c.tc : Thread nD τ).loc main_arg1) := by
  refine Eq.trans (b := StableHlo.launchContents m c (Proc.devRef .tc main_arg1)) ?_ rfl
  unfold fin
  after_reads_simp

/-- No operation writes argument 2. -/
theorem fin_arg2 (m : (ℓ : Loc nD τ sig) → Buf (Elt F) ℓ) (c : Dev nD) :
    fin m c (Proc.devRef .tc main_arg2) = m ((c.tc : Thread nD τ).loc main_arg2) := by
  refine Eq.trans (b := StableHlo.launchContents m c (Proc.devRef .tc main_arg2)) ?_ rfl
  unfold fin
  after_reads_simp

/-- No operation writes argument 3. -/
theorem fin_arg3 (m : (ℓ : Loc nD τ sig) → Buf (Elt F) ℓ) (c : Dev nD) :
    fin m c (Proc.devRef .tc main_arg3) = m ((c.tc : Thread nD τ).loc main_arg3) := by
  refine Eq.trans (b := StableHlo.launchContents m c (Proc.devRef .tc main_arg3)) ?_ rfl
  unfold fin
  after_reads_simp

/-- The arguments end unchanged and every counter reads zero. -/
theorem frame (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  θ_run_mono (run m ρ) fun r h =>
    ⟨fun c => ⟨(h c main_arg0).trans (fin_arg0 m c), (h c main_arg1).trans (fin_arg1 m c),
        (h c main_arg2).trans (fin_arg2 m c), (h c main_arg3).trans (fin_arg3 m c)⟩,
      sem_eq_zero_of_no_sems (by decide) r.2⟩

end

end Cert.ReferenceIdeal.Ops
-- ==== Proof.KHost.lean ====
module

public import proofs.«01_k».proof.Proof.Gen.KernelIdeal.Frame
public import Idealize.ShloMosaic.Lib.StableHlo.ReadAt
public import Idealize.ShloMosaic.PureOps.Ideal

@[expose] public section

set_option maxRecDepth 16384

/-!
# The arrays the grid reads

What the operations before the grid leave in the arrays of its windows.
-/

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ)

/-- The operations after the uniform numbers. -/
abbrev later : List (HloOp τ sig (Elt Ideal)) := hostOps0_2 ++ (hostOps0_3 ++ (hostOps0_4 ++ hostOps0_5))

set_option maxHeartbeats 4000000 in
/-- The uniform numbers' first row, as a column. -/
theorem later_v10 (W : Valuation τ sig (Elt Ideal)) :
    StableHlo.after later W (Proc.devRef .tc main_v10)
      = shapeCast S64x1 (shapeCast S64 (extractStridedSlice S1x64 ![0, 0] (W (Proc.devRef .tc main_v7) : FVec Ideal S32x64 .f32)
          slices_S32x64_S1x64_0_0) shapeCasts_S1x64_S64) shapeCasts_S64_S64x1 := by
  after_reads_simp
  rfl

/-- The logits, padded with minus infinity to whole blocks. -/
def padded (x : FVec Ideal S64x100000 .f32) : FVec Ideal S64x784x128 .f32 :=
  shapeCast S64x784x128 (pad S64x100352 ![0, 0] ![0, 352] ![0, 0] x (constant (F := Ideal) S_ .f32 0xFF800000#32)
    pads_S64x100000_S64x100352_000_03520 h_S_) shapeCasts_S64x100352_S64x784x128

set_option maxHeartbeats 4000000 in
/-- The padded logits. -/
theorem later_v12 (W : Valuation τ sig (Elt Ideal)) :
    StableHlo.after later W (Proc.devRef .tc main_v12)
      = padded (W (Proc.devRef .tc main_arg0)) := by
  after_reads_simp
  rfl

set_option maxHeartbeats 4000000 in
/-- The temperature. -/
theorem later_v14 (W : Valuation τ sig (Elt Ideal)) :
    StableHlo.after later W (Proc.devRef .tc main_v14)
      = shapeCast S1x1 (sitofp .f32 (W (Proc.devRef .tc main_arg1) : IVec S_ 32) : FVec Ideal S_ .f32) shapeCasts_S_S1x1 := by
  after_reads_simp
  rfl

set_option maxHeartbeats 4000000 in
/-- The number of entries to keep. -/
theorem later_v15 (W : Valuation τ sig (Elt Ideal)) :
    StableHlo.after later W (Proc.devRef .tc main_v15)
      = shapeCast S1x1 (W (Proc.devRef .tc main_arg2) : IVec S_ 32) shapeCasts_S_S1x1 := by
  after_reads_simp
  rfl

set_option maxHeartbeats 4000000 in
/-- The matrix. -/
theorem later_v17 (W : Valuation τ sig (Elt Ideal)) :
    StableHlo.after later W (Proc.devRef .tc main_v17)
      = (select (cmpi .sge (addi (iotaInDim S784x784 32 0) (broadcastInDim S784x784 ![] bcast_S_S784x784 (constantI S_ 32 0#32))) (iotaInDim S784x784 32 1))
          (broadcastInDim S784x784 ![] bcast_S_S784x784 (constant S_ .f32 0x00000000#32))
          (broadcastInDim S784x784 ![] bcast_S_S784x784 (constant S_ .f32 0x3F800000#32)) : FVec Ideal S784x784 .f32) := by
  after_reads_simp
  rfl

/-- The contents before the uniform numbers' operations. -/
abbrev before1 (c : Dev nD) : Valuation τ sig (Elt Ideal) := StableHlo.after hostOps0 (StableHlo.launchContents m c)
/-- The contents after the uniform numbers' operations. -/
abbrev after1 (c : Dev nD) : Valuation τ sig (Elt Ideal) := StableHlo.after hostOps0_1 (before1 m c)

/-- The contents the grid starts from. -/
theorem V_eq (c : Dev nD) (b : Ref sig .tc) : V m c b = StableHlo.after later (after1 m c) (Proc.devRef .tc b) := by
  show StableHlo.after (List.flatten [hostOps0, hostOps0_1, hostOps0_2, hostOps0_3, hostOps0_4, hostOps0_5]) _ _ = _
  have e : List.flatten [hostOps0 (F := Ideal), hostOps0_1, hostOps0_2, hostOps0_3, hostOps0_4, hostOps0_5]
      = hostOps0 ++ (hostOps0_1 ++ later) := rfl
  rw [e, StableHlo.after_append, StableHlo.after_append]

set_option maxHeartbeats 4000000 in
/-- The arguments reach the operations after the uniform numbers. -/
theorem after1_args (c : Dev nD) :
    after1 m c (Proc.devRef .tc main_arg0) = m ((c.tc : Thread nD τ).loc main_arg0)
    ∧ after1 m c (Proc.devRef .tc main_arg1) = m ((c.tc : Thread nD τ).loc main_arg1)
    ∧ after1 m c (Proc.devRef .tc main_arg2) = m ((c.tc : Thread nD τ).loc main_arg2) := by
  refine ⟨?_, ?_, ?_⟩
  · refine Eq.trans (b := StableHlo.launchContents m c (Proc.devRef .tc main_arg0)) ?_ rfl
    after_reads_simp
  · refine Eq.trans (b := StableHlo.launchContents m c (Proc.devRef .tc main_arg1)) ?_ rfl
    after_reads_simp
  · refine Eq.trans (b := StableHlo.launchContents m c (Proc.devRef .tc main_arg2)) ?_ rfl
    after_reads_simp

end Cert.KernelIdeal.Value
-- ==== Proof.Keys.lean ====
module

public import Idealize.ShloMosaic.PureOps.Ideal
public import Mathlib.Tactic.IntervalCases
public import Mathlib.Tactic.LinearCombination
public import Mathlib.Order.Monotone.Basic
public import Idealize.ShloMosaic.Lib.SortNet.Words

@[expose] public section

set_option maxRecDepth 8192

noncomputable section

namespace Cert.Sampling

open Idealize.ShloMosaic

/-- The magnitude of the f32 pattern with exponent and fraction fields `n`, read as if no exponent
    were reserved. -/
def mag (n : ℕ) : ℝ :=
  if n / 8388608 = 0 then ((n % 8388608 : ℕ) : ℝ) * (2 : ℝ) ^ (-149 : ℤ)
  else ((8388608 + n % 8388608 : ℕ) : ℝ) * (2 : ℝ) ^ (((n / 8388608 : ℕ) : ℤ) - 150)

/-- Magnitudes of successive patterns increase. -/
theorem mag_lt_succ (n : ℕ) : mag n < mag (n + 1) := by
  have h2 : ∀ z : ℤ, (0 : ℝ) < (2 : ℝ) ^ z := fun z => by positivity
  obtain ⟨q, r, hr, rfl⟩ : ∃ q r, r < 8388608 ∧ n = 8388608 * q + r :=
    ⟨n / 8388608, n % 8388608, Nat.mod_lt _ (by norm_num), (Nat.div_add_mod _ _).symm⟩
  have e1 : (8388608 * q + r) / 8388608 = q := by omega
  have e2 : (8388608 * q + r) % 8388608 = r := by omega
  unfold mag
  rw [e1, e2]
  by_cases h : r + 1 < 8388608
  · have e3 : (8388608 * q + r + 1) / 8388608 = q := by omega
    have e4 : (8388608 * q + r + 1) % 8388608 = r + 1 := by omega
    rw [e3, e4]
    split_ifs with hq
    · exact mul_lt_mul_of_pos_right (by push_cast; linarith) (h2 _)
    · exact mul_lt_mul_of_pos_right (by push_cast; linarith) (h2 _)
  · have e3 : (8388608 * q + r + 1) / 8388608 = q + 1 := by omega
    have e4 : (8388608 * q + r + 1) % 8388608 = 0 := by omega
    have e5 : r = 8388607 := by omega
    rw [e3, e4, if_neg (Nat.succ_ne_zero q), e5]
    split_ifs with hq
    · subst hq
      norm_num
    · have e6 : (((q + 1 : ℕ) : ℤ) - 150) = ((q : ℤ) - 150) + 1 := by push_cast; ring
      rw [e6, zpow_add_one₀ (by norm_num)]
      have := h2 ((q : ℤ) - 150)
      push_cast
      nlinarith

/-- Magnitudes increase with the pattern. -/
theorem mag_strictMono : StrictMono mag := strictMono_nat_of_lt_succ mag_lt_succ

/-- The zero pattern has magnitude zero. -/
theorem mag_zero : mag 0 = 0 := by simp [mag]

/-- Magnitudes are not negative. -/
theorem mag_nonneg (n : ℕ) : 0 ≤ mag n := by
  rw [← mag_zero]; exact mag_strictMono.monotone (Nat.zero_le n)

/-- Every integer below `2 ^ 24` times a power of two in range is the magnitude of a finite
    pattern. -/
theorem exists_mag (e : ℕ) (he : e ≤ 253) (k : ℕ) (hk : k < 16777216) :
    ∃ n < 2139095040, mag n = (k : ℝ) * (2 : ℝ) ^ ((e : ℤ) - 149) := by
  induction e generalizing k with
  | zero =>
    refine ⟨k, by omega, ?_⟩
    unfold mag
    by_cases h : k / 8388608 = 0
    · rw [if_pos h, Nat.mod_eq_of_lt (by omega)]; norm_num
    · rw [if_neg h]
      have e1 : k / 8388608 = 1 := by omega
      have e2 : 8388608 + k % 8388608 = k := by omega
      rw [e1, e2]; norm_num
  | succ e ih =>
    by_cases h : k < 8388608
    · obtain ⟨n, hn, hv⟩ := ih (by omega) (2 * k) (by omega)
      refine ⟨n, hn, ?_⟩
      rw [hv]
      have : (((e + 1 : ℕ) : ℤ) - 149) = ((e : ℤ) - 149) + 1 := by push_cast; ring
      rw [this, zpow_add_one₀ (by norm_num)]
      push_cast; ring
    · obtain ⟨n, hn⟩ : ∃ n, n = 8388608 * (e + 2) + (k - 8388608) := ⟨_, rfl⟩
      have e1 : n / 8388608 = e + 2 := by omega
      have e2 : 8388608 + n % 8388608 = k := by omega
      refine ⟨n, by omega, ?_⟩
      unfold mag
      rw [e1, e2, if_neg (by omega)]
      congr 2; push_cast; ring

/-- The value of the order key `a`: keys from zero up are the patterns from `+0` up, keys below
    zero count down from `-0`; a pattern that is not a number has the value `⊥`. -/
def keyVal (a : ℤ) : EReal :=
  if a < 0 then (if -1 - a < 2139095040 then ((-(mag (-1 - a).toNat) : ℝ) : EReal) else ⊥)
  else if a < 2139095040 then ((mag a.toNat : ℝ) : EReal)
  else if a = 2139095040 then ⊤ else ⊥

/-- The key of plus infinity. -/
theorem keyVal_top : keyVal 2139095040 = ⊤ := by simp [keyVal]

/-- The lowest key has the value `⊥`. -/
theorem keyVal_low (a : ℤ) (h : a ≤ -2139095041) : keyVal a = ⊥ := by
  unfold keyVal; rw [if_pos (by omega), if_neg (by omega)]

/-- The zero key has the value zero. -/
theorem keyVal_zero : keyVal 0 = 0 := by
  simp [keyVal, mag_zero]

/-- Up to the key of plus infinity the values follow the keys. -/
theorem keyVal_mono {a b : ℤ} (hab : a ≤ b) (hb : b ≤ 2139095040) : keyVal a ≤ keyVal b := by
  unfold keyVal
  split_ifs <;> first | exact bot_le | exact le_top | omega | skip
  · exact EReal.coe_le_coe_iff.2 (neg_le_neg (mag_strictMono.monotone (by omega)))
  · exact EReal.coe_le_coe_iff.2 (le_trans (neg_nonpos.2 (mag_nonneg _)) (mag_nonneg _))
  · exact EReal.coe_le_coe_iff.2 (mag_strictMono.monotone (by omega))

/-- A real whose magnitude is an integer below `2 ^ 24` times a power of two in range is the value
    of a key below plus infinity. -/
theorem exists_key (e : ℕ) (he : e ≤ 253) (k : ℕ) (hk : k < 16777216) (x : ℝ)
    (hx : |x| = (k : ℝ) * (2 : ℝ) ^ ((e : ℤ) - 149)) :
    ∃ a : ℤ, -2147483648 ≤ a ∧ a < 2139095040 ∧ keyVal a = (x : EReal) := by
  obtain ⟨n, hn, hv⟩ := exists_mag e he k hk
  rw [← hv] at hx
  rcases le_or_gt 0 x with h | h
  · rw [abs_of_nonneg h] at hx
    refine ⟨n, by omega, by omega, ?_⟩
    unfold keyVal
    rw [if_neg (by omega), if_pos (by omega), Int.toNat_natCast, hx]
  · rw [abs_of_neg h] at hx
    refine ⟨-1 - n, by omega, by omega, ?_⟩
    unfold keyVal
    rw [if_pos (by omega), if_pos (by omega)]
    have : (-1 - (-1 - (n : ℤ))).toNat = n := by omega
    rw [this, ← hx, neg_neg]

/-- `⊥` is the value of a key. -/
theorem exists_key_bot : ∃ a : ℤ, -2147483648 ≤ a ∧ a < 2139095040 ∧ keyVal a = ⊥ :=
  ⟨-2147483648, by norm_num, by norm_num, keyVal_low _ (by norm_num)⟩

/-- The value of a pattern without its sign bit. -/
theorem ieee_pos (n : ℕ) (h : n < 2147483648) :
    Ideal.ieee 8 23 (BitVec.ofNat 32 n) =
      if n < 2139095040 then ((mag n : ℝ) : EReal) else if n = 2139095040 then ⊤ else ⊥ := by
  have hs : ((BitVec.ofNat 32 n).extractLsb' (8 + 23) 1 == 1#1) = false := by
    rw [beq_eq_false_iff_ne]
    intro hc
    have := congrArg BitVec.toNat hc
    simp [BitVec.extractLsb'_toNat, Nat.shiftRight_eq_div_pow] at this
    omega
  have hx : ((BitVec.ofNat 32 n).extractLsb' 23 8).toNat = n / 8388608 := by
    simp [BitVec.extractLsb'_toNat, Nat.shiftRight_eq_div_pow]; try omega
  have hf : ((BitVec.ofNat 32 n).extractLsb' 0 23).toNat = n % 8388608 := by
    simp [BitVec.extractLsb'_toNat]
  have e0 : ((n / 8388608 : ℕ) : ℤ) - (2 ^ (8 - 1) - 1) - (23 : ℕ) = ((n / 8388608 : ℕ) : ℤ) - 150 := by
    norm_num; ring
  have e00 : (1 : ℤ) - (2 ^ (8 - 1) - 1) - (23 : ℕ) = -149 := by norm_num
  have e255 : (2 : ℕ) ^ 8 - 1 = 255 := by norm_num
  have e23 : (2 : ℕ) ^ 23 = 8388608 := by norm_num
  unfold Ideal.ieee
  simp only [hs, hx, hf, e0, e00, e255, e23]
  by_cases c1 : n / 8388608 = 255
  · rw [if_pos c1]
    simp only [if_neg (show ¬ n < 2139095040 by omega)]
    split_ifs <;> first | rfl | omega | contradiction
  · rw [if_neg c1, if_pos (show n < 2139095040 by omega)]
    unfold mag
    by_cases c2 : n / 8388608 = 0
    · rw [if_pos c2, if_pos c2]; simp
    · rw [if_neg c2, if_neg c2]; simp

/-- The value of a pattern with its sign bit. -/
theorem ieee_neg (n : ℕ) (h : n < 2147483648) :
    Ideal.ieee 8 23 (BitVec.ofNat 32 (2147483648 + n)) =
      if n < 2139095040 then ((-(mag n) : ℝ) : EReal) else ⊥ := by
  have hs : ((BitVec.ofNat 32 (2147483648 + n)).extractLsb' (8 + 23) 1 == 1#1) = true := by
    rw [beq_iff_eq]
    apply BitVec.eq_of_toNat_eq
    simp [BitVec.extractLsb'_toNat, Nat.shiftRight_eq_div_pow]
    omega
  have hx : ((BitVec.ofNat 32 (2147483648 + n)).extractLsb' 23 8).toNat = n / 8388608 := by
    simp [BitVec.extractLsb'_toNat, Nat.shiftRight_eq_div_pow]; omega
  have hf : ((BitVec.ofNat 32 (2147483648 + n)).extractLsb' 0 23).toNat = n % 8388608 := by
    simp [BitVec.extractLsb'_toNat]; omega
  have e0 : ((n / 8388608 : ℕ) : ℤ) - (2 ^ (8 - 1) - 1) - (23 : ℕ) = ((n / 8388608 : ℕ) : ℤ) - 150 := by
    norm_num; ring
  have e00 : (1 : ℤ) - (2 ^ (8 - 1) - 1) - (23 : ℕ) = -149 := by norm_num
  have e255 : (2 : ℕ) ^ 8 - 1 = 255 := by norm_num
  have e23 : (2 : ℕ) ^ 23 = 8388608 := by norm_num
  unfold Ideal.ieee
  simp only [hs, hx, hf, e0, e00, e255, e23]
  by_cases c1 : n / 8388608 = 255
  · rw [if_pos c1]
    simp only [if_neg (show ¬ n < 2139095040 by omega)]
    split_ifs <;> first | rfl | omega | contradiction
  · rw [if_neg c1, if_pos (show n < 2139095040 by omega)]
    unfold mag
    by_cases c2 : n / 8388608 = 0
    · rw [if_pos c2, if_pos c2]; simp
    · rw [if_neg c2, if_neg c2]; congr 1; simp; ring

/-- The word the kernel makes of a key, read as a float, has the key's value. -/
theorem ieee_key (b : BitVec 32) :
    Ideal.ieee 8 23 (if 0 ≤ b.toInt then b else (b ^^^ 2147483648#32) ^^^ 4294967295#32)
      = keyVal b.toInt := by
  have hb := b.isLt
  split_ifs with h
  · have h1 : b.toNat < 2147483648 := by rw [BitVec.toInt_eq_toNat_cond] at h; omega
    have h2 : b.toInt = b.toNat := by rw [BitVec.toInt_eq_toNat_cond]; omega
    have := ieee_pos b.toNat h1
    rw [BitVec.ofNat_toNat, BitVec.setWidth_eq] at this
    rw [this, h2]
    unfold keyVal
    rw [Int.toNat_natCast]
    split_ifs <;> first | rfl | omega
  · have h1 : 2147483648 ≤ b.toNat := by rw [BitVec.toInt_eq_toNat_cond] at h; omega
    have h2 : b.toInt = (b.toNat : ℤ) - 4294967296 := by rw [BitVec.toInt_eq_toNat_cond]; omega
    have h3 : (b ^^^ 2147483648#32) ^^^ 4294967295#32
        = BitVec.ofNat 32 (2147483648 + (4294967295 - b.toNat)) := by
      have e1 : (b ^^^ 2147483648#32) ^^^ 4294967295#32 = ~~~ (b ^^^ 2147483648#32) := BitVec.xor_allOnes
      have e2 : (b ^^^ 2147483648#32).toNat = b.toNat - 2147483648 := by
        rw [BitVec.toNat_xor]
        have := SortNet.xor_two_pow_top (q := 31) b.toNat hb
        rw [if_neg (by omega)] at this
        exact this
      rw [e1]
      apply BitVec.eq_of_toNat_eq
      rw [BitVec.toNat_not, e2, BitVec.toNat_ofNat]
      omega
    rw [h3, ieee_neg _ (by omega), h2]
    unfold keyVal
    have e4 : (-1 - ((b.toNat : ℤ) - 4294967296)).toNat = 4294967295 - b.toNat := by omega
    rw [e4]
    split_ifs <;> first | rfl | omega

end Cert.Sampling

end
-- ==== Proof.Bisect.lean ====
module

public import Mathlib.Data.Int.Basic
public import Mathlib.Logic.Function.Iterate
public import Mathlib.Tactic.Linarith
public import Mathlib.Algebra.Ring.Int.Defs
public import Mathlib.Tactic.NormNum
public import Mathlib.Tactic.Ring
public import Mathlib.Algebra.Ring.Divisibility.Basic

@[expose] public section

set_option maxRecDepth 8192

namespace Cert.Sampling

/-- The middle of a range of keys, the upper one of two, as the kernel computes it in words. -/
def midWord (lo hi : BitVec 32) : BitVec 32 :=
  lo + (hi - lo).sshiftRight 1 + ((hi - lo) &&& 1#32)

/-- One step of the bisection: the half of the range the test at its middle points to. -/
def bisectStep (p : BitVec 32 → Bool) (s : BitVec 32 × BitVec 32) : BitVec 32 × BitVec 32 :=
  (if p (midWord s.1 s.2) then midWord s.1 s.2 else s.1,
    if p (midWord s.1 s.2) then s.2 else midWord s.1 s.2 - 1#32)

/-- On a range of `2 * q` keys, `q` a power of two, the middle is the first key of the upper half. -/
theorem toInt_midWord (lo hi : BitVec 32) (q : ℕ) (hq : 1 ≤ q) (hq2 : q ≤ 1073741824)
    (h : hi.toInt = lo.toInt + 2 * q - 1) : (midWord lo hi).toInt = lo.toInt + q := by
  have hd : (hi - lo).toNat = 2 * q - 1 := by
    rw [BitVec.toNat_sub]
    rw [BitVec.toInt_eq_toNat_cond, BitVec.toInt_eq_toNat_cond] at h
    have := hi.isLt; have := lo.isLt
    split_ifs at h <;> omega
  have hs : ((hi - lo).sshiftRight 1) = BitVec.ofNat 32 (q - 1) := by
    apply BitVec.eq_of_toNat_eq
    rw [BitVec.sshiftRight_eq_of_msb_false, BitVec.toNat_ushiftRight, hd, BitVec.toNat_ofNat,
      Nat.shiftRight_eq_div_pow]
    · omega
    · rw [BitVec.msb_eq_false_iff_two_mul_lt, hd]; omega
  have ha : ((hi - lo) &&& 1#32) = 1#32 := by
    apply BitVec.eq_of_toNat_eq
    rw [BitVec.toNat_and, hd]
    simp [Nat.and_one_is_mod]; omega
  unfold midWord
  rw [hs, ha, BitVec.add_assoc, BitVec.toInt_add]
  have e : (BitVec.ofNat 32 (q - 1) + 1#32) = BitVec.ofNat 32 q := by
    apply BitVec.eq_of_toNat_eq; simp; omega
  have e2 : (BitVec.ofNat 32 q).toInt = q := by
    rw [BitVec.toInt_eq_toNat_cond, BitVec.toNat_ofNat]
    split_ifs <;> omega
  rw [e, e2]
  have b1 := hi.toInt_lt; have b2 := lo.le_toInt
  norm_num at b1 b2
  unfold Int.bmod
  norm_num
  split_ifs <;> omega

/-- What holds of the range at a step with `2 ^ n` keys left. -/
structure Range (P : ℤ → Prop) (n : ℕ) (s : BitVec 32 × BitVec 32) : Prop where
  /-- The range holds `2 ^ n` keys. -/
  span : s.2.toInt = s.1.toInt + 2 ^ n - 1
  /-- It starts at a multiple of its size. -/
  start : (2 : ℤ) ^ n ∣ s.1.toInt
  /-- It starts below the key of plus infinity. -/
  below : s.1.toInt < 2139095040
  /-- The test holds at its first key, unless that is the lowest key. -/
  low : P s.1.toInt ∨ s.1.toInt = -2147483648
  /-- The test fails beyond its last key. -/
  high : ¬ P (s.2.toInt + 1)

/-- One step halves the range and keeps what holds of it. -/
theorem Range.step {P : ℤ → Prop} {p : BitVec 32 → Bool}
    (hp : ∀ b : BitVec 32, b.toInt ≤ 2139095040 → (p b = true ↔ P b.toInt))
    (hI : ¬ P 2139095040) {n : ℕ} (hn : n + 1 ≤ 31) {s : BitVec 32 × BitVec 32}
    (h : Range P (n + 1) s) : Range P n (bisectStep p s) := by
  obtain ⟨lo, hi⟩ := s
  obtain ⟨h1, h2, h3, h4, h5⟩ := h
  dsimp only at h1 h2 h3 h4 h5
  have hb := hi.toInt_lt
  norm_num at hb
  obtain ⟨q, hq⟩ : ∃ q : ℕ, q = 2 ^ n := ⟨_, rfl⟩
  have hqz : (2 : ℤ) ^ n = q := by rw [hq]; push_cast; rfl
  have hq1 : 1 ≤ q := by rw [hq]; exact Nat.one_le_two_pow
  have hq2 : q ≤ 1073741824 := by
    rw [hq]
    calc 2 ^ n ≤ 2 ^ 30 := Nat.pow_le_pow_right (by norm_num) (by omega)
      _ = 1073741824 := by norm_num
  have hs : (2 : ℤ) ^ (n + 1) = 2 * q := by rw [pow_succ, hqz]; ring
  rw [hs] at h1 h2
  have hm : (midWord lo hi).toInt = lo.toInt + q := toInt_midWord lo hi q hq1 hq2 h1
  have hd : (q : ℤ) ∣ lo.toInt := Dvd.dvd.trans ⟨2, by ring⟩ h2
  have hmI : (midWord lo hi).toInt ≤ 2139095040 := by
    rw [hm]
    by_cases hc : n ≤ 23
    · have hdI : (q : ℤ) ∣ 2139095040 := by
        rw [← hqz]
        exact Dvd.dvd.trans (pow_dvd_pow 2 hc) ⟨255, by norm_num⟩
      have := Int.le_of_dvd (by omega) (dvd_sub hdI hd)
      omega
    · have : 16777216 ≤ q := by
        rw [hq]
        calc 16777216 = 2 ^ 24 := by norm_num
          _ ≤ 2 ^ n := Nat.pow_le_pow_right (by norm_num) (by omega)
      omega
  have hpm := hp _ hmI
  unfold bisectStep
  dsimp only
  by_cases hc : p (midWord lo hi) = true
  · simp only [hc, if_true]
    have hP := hpm.1 hc
    refine ⟨?_, ?_, ?_, .inl hP, h5⟩
    · dsimp only; rw [hm, hqz, h1]; ring
    · dsimp only; rw [hm, hqz]; exact dvd_add hd (dvd_refl _)
    · dsimp only
      rcases lt_or_eq_of_le hmI with h | h
      · exact h
      · rw [h] at hP; exact absurd hP hI
  · simp only [hc]
    have hP : ¬ P (midWord lo hi).toInt := fun h => hc (hpm.2 h)
    have hlo := lo.le_toInt
    norm_num at hlo
    have hsub : (midWord lo hi - 1#32).toInt = lo.toInt + q - 1 := by
      rw [BitVec.toInt_sub, hm]
      have : (1#32 : BitVec 32).toInt = 1 := by decide
      rw [this]
      unfold Int.bmod
      norm_num
      split_ifs <;> omega
    refine ⟨?_, ?_, h3, h4, ?_⟩
    · simp only [Bool.false_eq_true, if_false]; rw [hsub, hqz]
    · simp only [Bool.false_eq_true, if_false]; rw [hqz]; exact hd
    · simp only [Bool.false_eq_true, if_false]
      rw [hsub]
      rw [hm] at hP
      have : lo.toInt + (q : ℤ) - 1 + 1 = lo.toInt + q := by ring
      rwa [this]

/-- After `n` steps a range of `2 ^ n` keys is one key. -/
theorem Range.iterate {P : ℤ → Prop} {p : BitVec 32 → Bool}
    (hp : ∀ b : BitVec 32, b.toInt ≤ 2139095040 → (p b = true ↔ P b.toInt))
    (hI : ¬ P 2139095040) (n : ℕ) (hn : n ≤ 31) (s : BitVec 32 × BitVec 32)
    (h : Range P n s) : Range P 0 ((bisectStep p)^[n] s) := by
  induction n generalizing s with
  | zero => exact h
  | succ n ih =>
    rw [Function.iterate_succ_apply]
    exact ih (by omega) _ (h.step hp hI hn)

/-- The key the bisection ends at, started at the half of the keys the test at zero points to: it
    lies below plus infinity, the test holds there unless it is the lowest key, and fails at the next. -/
theorem bisect_end {P : ℤ → Prop} {p : BitVec 32 → Bool}
    (hp : ∀ b : BitVec 32, b.toInt ≤ 2139095040 → (p b = true ↔ P b.toInt))
    (hI : ¬ P 2139095040) (hbig : ¬ P 2147483648) (b0 : Bool) (h0 : b0 = true ↔ P 0) :
    ∀ lo : BitVec 32,
    lo = ((bisectStep p)^[31] (if b0 then 0#32 else 2147483648#32,
      if b0 then 2147483647#32 else 4294967295#32)).1 →
    lo.toInt < 2139095040 ∧ (P lo.toInt ∨ lo.toInt = -2147483648) ∧ ¬ P (lo.toInt + 1) := by
  intro lo hlo
  have hr : Range P 31 (if b0 then 0#32 else 2147483648#32,
      if b0 then 2147483647#32 else 4294967295#32) := by
    cases b0 with
    | true =>
      have hP := h0.1 rfl
      refine ⟨by decide, by decide, by decide, .inl hP, ?_⟩
      have : (2147483647#32 : BitVec 32).toInt + 1 = 2147483648 := by decide
      simp only [if_true]; rw [this]; exact hbig
    | false =>
      have hP : ¬ P 0 := fun h => by simpa using h0.2 h
      refine ⟨by decide, by decide, by decide, .inr (by decide), ?_⟩
      have : (4294967295#32 : BitVec 32).toInt + 1 = 0 := by decide
      simp only [Bool.false_eq_true, if_false]; rw [this]; exact hP
  have := Range.iterate hp hI 31 (le_refl _) _ hr
  obtain ⟨h1, -, h3, h4, h5⟩ := this
  rw [← hlo] at h1 h3 h4
  refine ⟨h3, h4, ?_⟩
  rw [h1] at h5
  have e : lo.toInt + 2 ^ 0 - 1 + 1 = lo.toInt + 1 := by ring
  rwa [e] at h5

end Cert.Sampling
-- ==== Proof.Row.lean ====
module

public import proofs.«01_k».proof.Proof.Keys
public import proofs.«01_k».proof.Proof.Bisect
public import Idealize.ShloMosaic.PureOps.Ideal

@[expose] public section

/-!
# What the kernel computes of one row

The row's 784 blocks of 128 numbers, the number `k` of a row, the reciprocal of the temperature, the
row's uniform number and the matrix of the block sums: from these one output word.
-/

noncomputable section

open Idealize.ShloMosaic

namespace Cert.Sampling

/-- The row's entries at or above `v`, counted. -/
def countGe (x : Fin 784 → Fin 128 → EReal) (v : EReal) : EReal := ∑ l, ∑ b, if v ≤ x b l then 1 else 0

/-- The bit pattern of a key. -/
def keyBits (a : BitVec 32) : BitVec 32 :=
  Scalar.select (IntOp.cmpi .sge a 0#32) a (IntOp.xori (IntOp.xori a 2147483648#32) 4294967295#32)

/-- At least `k` of the row's entries are at or above the key's number. -/
def enough (k : BitVec 32) (x : Fin 784 → Fin 128 → EReal) (a : BitVec 32) : Bool :=
  decide (((k.toInt : ℝ) : EReal) ≤ countGe x (Ideal.ofBits .f32 (keyBits a)))

/-- At least `k` of the row's entries are at or above zero. -/
def enoughZero (k : BitVec 32) (x : Fin 784 → Fin 128 → EReal) : Bool :=
  decide (((k.toInt : ℝ) : EReal) ≤ countGe x 0)

/-- The key the search ends with. -/
def pivotKey (k : BitVec 32) (x : Fin 784 → Fin 128 → EReal) : BitVec 32 :=
  ((bisectStep (enough k x))^[31] (if enoughZero k x then 0#32 else 2147483648#32,
    if enoughZero k x then 2147483647#32 else 4294967295#32)).1

/-- The row's maximum. -/
def rowMax (x : Fin 784 → Fin 128 → EReal) : EReal :=
  Finset.fold max (Ideal.ofBits .f32 0xFF800000#32)
    (fun l => Finset.fold max (Ideal.ofBits .f32 0xFF800000#32) (fun b => x b l) Finset.univ) Finset.univ

/-- The weight of an entry: zero below the search's key. -/
def weight (inv : EReal) (k : BitVec 32) (x : Fin 784 → Fin 128 → EReal) (b : Fin 784) (l : Fin 128) : EReal :=
  if Ideal.ofBits .f32 (keyBits (pivotKey k x)) ≤ x b l then Ideal.exp ((x b l - rowMax x) * inv) else 0

/-- The weights of a block, summed. -/
def blockSum (e : Fin 784 → Fin 128 → EReal) (b : Fin 784) : EReal := ∑ l, e b l

/-- The product of the block sums with a column of the matrix. -/
def before (e : Fin 784 → Fin 128 → EReal) (tri : Fin 784 → Fin 784 → EReal) (b : Fin 784) : EReal :=
  ∑ a, blockSum e a * tri a b

/-- The uniform number's share of the sum of all weights. -/
def level (e : Fin 784 → Fin 128 → EReal) (u : EReal) : EReal := u * ∑ b, blockSum e b

/-- The blocks that end below the level, counted. -/
def full (e : Fin 784 → Fin 128 → EReal) (tri : Fin 784 → Fin 784 → EReal) (u : EReal) : BitVec 32 :=
  FloatOps.fptosi (F := Ideal) (φ := .f32) 32 (∑ b, if before e tri b + blockSum e b < level e u then 1 else 0)

/-- Whether block `b` is the one the level is crossed in. -/
def crossed (e : Fin 784 → Fin 128 → EReal) (tri : Fin 784 → Fin 784 → EReal) (u : EReal) (b : Fin 784) : BitVec 1 :=
  IntOp.cmpi .eq (BitVec.ofNat 32 b) (IntOp.minsi (full e tri u) 783#32)

/-- The level less what comes before the crossed block. -/
def rest (e : Fin 784 → Fin 128 → EReal) (tri : Fin 784 → Fin 784 → EReal) (u : EReal) : EReal :=
  level e u - ∑ b, Scalar.select (crossed e tri u b) (before e tri b) 0

/-- The crossed block's weights. -/
def cross (e : Fin 784 → Fin 128 → EReal) (tri : Fin 784 → Fin 784 → EReal) (u : EReal) (l : Fin 128) : EReal :=
  ∑ b, Scalar.select (crossed e tri u b) (e b l) 0

/-- One step of the running sum: each lane takes the lane `s` before it. -/
def shiftAdd (s : Nat) (c : Fin 128 → EReal) (l : Fin 128) : EReal :=
  c l + Scalar.select (IntOp.cmpi .sge (BitVec.ofNat 32 l) (BitVec.ofNat 32 s)) (c ⟨(l + 128 - s) % 128, Nat.mod_lt _ (by decide)⟩) 0

/-- The running sum over the lanes, by doubling shifts. -/
def scan (c : Fin 128 → EReal) : Fin 128 → EReal :=
  shiftAdd 64 (shiftAdd 32 (shiftAdd 16 (shiftAdd 8 (shiftAdd 4 (shiftAdd 2 (shiftAdd 1 c))))))

/-- The output word of one row. -/
def rowOut (e : Fin 784 → Fin 128 → EReal) (tri : Fin 784 → Fin 784 → EReal) (u : EReal) : BitVec 32 :=
  IntOp.minsi (IntOp.addi (IntOp.muli (full e tri u) 128#32)
    (FloatOps.fptosi (F := Ideal) (φ := .f32) 32 (∑ l, if scan (cross e tri u) l < rest e tri u then 1 else 0))) 99999#32

end Cert.Sampling
-- ==== Proof.KRow.lean ====
module

public import proofs.«01_k».proof.Proof.Gen.KernelIdeal.Frame
public import proofs.«01_k».proof.Proof.Row
public import Idealize.ShloMosaic.Lib.Pipeline.ValueKit
public import Idealize.ShloMosaic.Lib.Pointwise

@[expose] public section

set_option maxRecDepth 16384

/-!
# What one block computes

A row of a block's output, from the block's inputs.
-/

noncomputable section

open Idealize.ShloMosaic Idealize.ShloMosaic.TcCoe Idealize.SL.Sem

namespace Cert.KernelIdeal.Value

open Cert.KernelIdeal Cert.KernelIdeal.Gen Cert.Sampling

/-- A row of a block. -/
abbrev rowOf (x : FVec Ideal S32x784x128 .f32) (r : Fin 32) (b : Fin 784) (l : Fin 128) : EReal := x (ix3 r b l)

/-- The matrix, by row and column. -/
abbrev matOf (w : FVec Ideal S784x784 .f32) (a b : Fin 784) : EReal := w (ix2 a b)

/-- A one-bit decision chooses as the Boolean does. -/
theorem select_ofBool {α : Type} (b : Bool) (x y : α) : Scalar.select (BitVec.ofBool b) x y = if b then x else y := by
  cases b <;> rfl

/-- The row's maximum. -/
theorem max_row (x : FVec Ideal S32x784x128 .f32) (r : Fin 32) : k0_pay5 (F := Ideal) x (ix3 r 0 0) = rowMax (rowOf x r) := by
  pointwise [k0_pay5, k0_pay4]
  rfl

/-- Whether a row has `k` entries at or above zero. -/
theorem zero_row (k : BitVec 32) (x : FVec Ideal S32x784x128 .f32) (r : Fin 32) :
    k0_pay6 (F := Ideal) k x (ix2 r 0) = BitVec.ofBool (enoughZero k (rowOf x r)) := by
  pointwise [k0_pay6, k0_pay4, k0_pay3]
  rfl

/-- The midpoint of a row's range. -/
theorem mid_row (lo hi : IVec S32x1 32) (r : Fin 32) : k0_pay9 lo hi (ix2 r 0) = midWord (lo (ix2 r 0)) (hi (ix2 r 0)) := by
  pointwise [k0_pay9]
  rfl

/-- Whether a row has `k` entries at or above the midpoint. -/
theorem enough_row (k : BitVec 32) (x : FVec Ideal S32x784x128 .f32) (lo hi : IVec S32x1 32) (r : Fin 32) :
    k0_pay10 (F := Ideal) k x lo hi (ix2 r 0) = BitVec.ofBool (enough k (rowOf x r) (midWord (lo (ix2 r 0)) (hi (ix2 r 0)))) := by
  rw [← mid_row]
  pointwise [k0_pay10, k0_pay4, k0_pay3]
  rfl

/-- One step of a row's search. -/
theorem step_row (k : BitVec 32) (x : FVec Ideal S32x784x128 .f32) (lo hi : IVec S32x1 32) (r : Fin 32) :
    (k0_pay11 (F := Ideal) k x lo hi (ix2 r 0), k0_pay12 (F := Ideal) k x lo hi (ix2 r 0))
      = bisectStep (enough k (rowOf x r)) (lo (ix2 r 0), hi (ix2 r 0)) := by
  have h1 : k0_pay11 (F := Ideal) k x lo hi (ix2 r 0)
      = Scalar.select (k0_pay10 (F := Ideal) k x lo hi (ix2 r 0)) (k0_pay9 lo hi (ix2 r 0)) (lo (ix2 r 0)) := by
    pointwise [k0_pay11]
  have h2 : k0_pay12 (F := Ideal) k x lo hi (ix2 r 0)
      = Scalar.select (k0_pay10 (F := Ideal) k x lo hi (ix2 r 0)) (hi (ix2 r 0)) (IntOp.subi (k0_pay9 lo hi (ix2 r 0)) 1#32) := by
    pointwise [k0_pay12]
  rw [h1, h2, enough_row, mid_row, select_ofBool, select_ofBool]
  rfl

/-- The search's start. -/
theorem start_row (k : BitVec 32) (x : FVec Ideal S32x784x128 .f32) (r : Fin 32) :
    (k0_pay7 (F := Ideal) k x (ix2 r 0), k0_pay8 (F := Ideal) k x (ix2 r 0))
      = (if enoughZero k (rowOf x r) then 0#32 else 2147483648#32, if enoughZero k (rowOf x r) then 2147483647#32 else 4294967295#32) := by
  have h1 : k0_pay7 (F := Ideal) k x (ix2 r 0) = Scalar.select (k0_pay6 (F := Ideal) k x (ix2 r 0)) 0#32 2147483648#32 := by
    pointwise [k0_pay7]
  have h2 : k0_pay8 (F := Ideal) k x (ix2 r 0) = Scalar.select (k0_pay6 (F := Ideal) k x (ix2 r 0)) 2147483647#32 4294967295#32 := by
    pointwise [k0_pay8]
  rw [h1, h2, zero_row, select_ofBool, select_ofBool]

/-- The search over a list of steps. -/
theorem search_list {α : Type} (k : BitVec 32) (x : FVec Ideal S32x784x128 .f32) (r : Fin 32) (l : List α)
    (s : IVec S32x1 32 × IVec S32x1 32) :
    (fun p : IVec S32x1 32 × IVec S32x1 32 => (p.1 (ix2 r 0), p.2 (ix2 r 0)))
        (l.foldl (fun acc _ => (k0_pay11 (F := Ideal) k x acc.1 acc.2, k0_pay12 (F := Ideal) k x acc.1 acc.2)) s)
      = (bisectStep (enough k (rowOf x r)))^[l.length] (s.1 (ix2 r 0), s.2 (ix2 r 0)) := by
  induction l generalizing s with
  | nil => rfl
  | cons a l ih => rw [List.foldl_cons, ih, List.length_cons, Function.iterate_succ_apply, ← step_row]

/-- The key a row's search ends with. -/
theorem search_row (k : BitVec 32) (x : FVec Ideal S32x784x128 .f32) (r : Fin 32) :
    (Scf.fold (n := k0_t1_loop.trips) (fun _ a => (k0_pay11 (F := Ideal) k x a.1 a.2, k0_pay12 (F := Ideal) k x a.1 a.2))
      (k0_pay7 (F := Ideal) k x, k0_pay8 (F := Ideal) k x)).1 (ix2 r 0) = pivotKey k (rowOf x r) := by
  have h := search_list k x r (List.finRange k0_t1_loop.trips) (k0_pay7 (F := Ideal) k x, k0_pay8 (F := Ideal) k x)
  have hn : (List.finRange k0_t1_loop.trips).length = 31 := by
    rw [List.length_finRange]
    decide
  rw [hn, start_row] at h
  rw [Scf.fold_eq]
  exact congrArg Prod.fst h

/-- The bit pattern of a row's key. -/
theorem bits_row (a : IVec S32x1 32) (r : Fin 32) : k0_pay13 a (ix2 r 0) = keyBits (a (ix2 r 0)) := by
  pointwise [k0_pay13]
  rfl

section After

variable (inv : Ideal .f32) (x : FVec Ideal S32x784x128 .f32) (mx : FVec Ideal S32x1x1 .f32) (p : IVec S32x1 32)
  (u : FVec Ideal S32x1 .f32) (w : FVec Ideal S784x784 .f32) (r : Fin 32)

/-- The weights of a row of a block. -/
def rowWeights (r : Fin 32) (b : Fin 784) (l : Fin 128) : EReal := k0_pay14 (F := Ideal) inv x mx p (ix3 r b l)

/-- A weight. -/
theorem weight_row (b : Fin 784) (l : Fin 128) : rowWeights inv x mx p r b l
    = if Ideal.ofBits .f32 (p (ix2 r 0)) ≤ x (ix3 r b l) then Ideal.exp ((x (ix3 r b l) - mx (ix3 r 0 0)) * inv) else 0 := by
  unfold rowWeights
  pointwise [k0_pay14]

/-- A block's sum. -/
theorem blockSum_row (b : Fin 784) : k0_pay15 (F := Ideal) inv x mx p (ix2 r b) = blockSum (rowWeights inv x mx p r) b := by
  pointwise [k0_pay15]
  rfl

/-- The row's level. -/
theorem level_row : k0_pay16 (F := Ideal) inv x mx p u (ix2 r 0) = level (rowWeights inv x mx p r) (u (ix2 r 0)) := by
  pointwise [k0_pay16]
  simp only [blockSum_row]
  rfl

/-- What comes before a block. -/
theorem before_row (b : Fin 784) : k0_pay17 (F := Ideal) inv x mx p w (ix2 r b) = before (rowWeights inv x mx p r) (matOf w) b := by
  pointwise [k0_pay17]
  simp only [blockSum_row]
  rfl

/-- The blocks below the level. -/
theorem full_row : k0_pay18 (F := Ideal) inv x mx p u w (ix2 r 0) = full (rowWeights inv x mx p r) (matOf w) (u (ix2 r 0)) := by
  pointwise [k0_pay18]
  simp only [blockSum_row, before_row, level_row]
  rfl

/-- The crossed block's number. -/
theorem star_row : k0_pay19 (F := Ideal) inv x mx p u w (ix2 r 0)
    = IntOp.minsi (full (rowWeights inv x mx p r) (matOf w) (u (ix2 r 0))) 783#32 := by
  pointwise [k0_pay19]
  simp only [full_row]

/-- What is left of the level in the crossed block. -/
theorem rest_row : k0_pay20 (F := Ideal) inv x mx p u w (ix2 r 0) = rest (rowWeights inv x mx p r) (matOf w) (u (ix2 r 0)) := by
  pointwise [k0_pay20]
  simp only [star_row, before_row, level_row]
  rfl

/-- Whether a block is the crossed one. -/
theorem crossed_row (b : Fin 784) (l : Fin 128) : k0_pay21 (F := Ideal) inv x mx p u w (ix3 r b l)
    = crossed (rowWeights inv x mx p r) (matOf w) (u (ix2 r 0)) b := by
  pointwise [k0_pay21]
  simp only [star_row]
  rfl

/-- One step of the running sum over the lanes. -/
def shifted (sh : BitVec 32) (c : FVec Ideal S32x128 .f32) : FVec Ideal S32x128 .f32 :=
  addf c (select (cmpi .sge (iota .tc S32x128 32 [1] iota_S32x128_d1_w32) (broadcast S32x128 sh))
    (dynamicRotate 1 sh none c rotates_S32x128_d1) (broadcast S32x128 (Scalar.ofBits .f32 0x00000000#32)))

/-- The chosen entries, summed over the blocks. -/
def chosen (e : FVec Ideal S32x784x128 .f32) (z : Ideal .f32) (v : IVec S32x784x128 1) : FVec Ideal S32x128 .f32 :=
  multiReduction .add [1] S32x128 (select v e (broadcast S32x784x128 z)) 0x00000000#32 reduces_S32x784x128_S32x128 (.inl rfl) rfl

/-- The first six steps of the running sum. -/
theorem six_steps (e : FVec Ideal S32x784x128 .f32) (z : Ideal .f32) (v : IVec S32x784x128 1) :
    k0_pay22 (F := Ideal) e z v
      = shifted 32#32 (shifted 16#32 (shifted 8#32 (shifted 4#32 (shifted 2#32 (shifted 1#32 (chosen e z v)))))) := rfl

/-- A shift by 1, on a row. -/
theorem shift1 (c : FVec Ideal S32x128 .f32) (l : Fin 128) : shifted 1#32 c (ix2 r l) = shiftAdd 1 (fun l => c (ix2 r l)) l := by
  pointwise [shifted]
  rfl
/-- A shift by 2, on a row. -/
theorem shift2 (c : FVec Ideal S32x128 .f32) (l : Fin 128) : shifted 2#32 c (ix2 r l) = shiftAdd 2 (fun l => c (ix2 r l)) l := by
  pointwise [shifted]
  rfl
/-- A shift by 4, on a row. -/
theorem shift4 (c : FVec Ideal S32x128 .f32) (l : Fin 128) : shifted 4#32 c (ix2 r l) = shiftAdd 4 (fun l => c (ix2 r l)) l := by
  pointwise [shifted]
  rfl
/-- A shift by 8, on a row. -/
theorem shift8 (c : FVec Ideal S32x128 .f32) (l : Fin 128) : shifted 8#32 c (ix2 r l) = shiftAdd 8 (fun l => c (ix2 r l)) l := by
  pointwise [shifted]
  rfl
/-- A shift by 16, on a row. -/
theorem shift16 (c : FVec Ideal S32x128 .f32) (l : Fin 128) : shifted 16#32 c (ix2 r l) = shiftAdd 16 (fun l => c (ix2 r l)) l := by
  pointwise [shifted]
  rfl
/-- A shift by 32, on a row. -/
theorem shift32 (c : FVec Ideal S32x128 .f32) (l : Fin 128) : shifted 32#32 c (ix2 r l) = shiftAdd 32 (fun l => c (ix2 r l)) l := by
  pointwise [shifted]
  rfl

/-- The crossed block's weights. -/
theorem cross_row (l : Fin 128) : chosen (k0_pay14 (F := Ideal) inv x mx p) (FloatOps.ofBits FTy.f32 0#32) (k0_pay21 (F := Ideal) inv x mx p u w) (ix2 r l)
    = cross (rowWeights inv x mx p r) (matOf w) (u (ix2 r 0)) l := by
  pointwise [chosen]
  simp only [crossed_row]
  rfl

/-- The output word, from its parts. -/
theorem word_row (f : IVec S32x1 32) (t : FVec Ideal S32x1 .f32) (c : FVec Ideal S32x128 .f32) :
    k0_pay1 (F := Ideal) f t (iota .tc S32x128 32 [1] iota_S32x128_d1_w32) c (64#32) (ix2 r 0)
      = IntOp.minsi (IntOp.addi (IntOp.muli (f (ix2 r 0)) 128#32) (FloatOps.fptosi (F := Ideal) (φ := .f32) 32
          (∑ l, if shiftAdd 64 (fun l => c (ix2 r l)) l < t (ix2 r 0) then 1 else 0))) 99999#32 := by
  pointwise [k0_pay1]
  rfl

/-- The six steps, on a row. -/
theorem steps_row (l : Fin 128) :
    k0_pay22 (F := Ideal) (k0_pay14 (F := Ideal) inv x mx p) (FloatOps.ofBits FTy.f32 0#32) (k0_pay21 (F := Ideal) inv x mx p u w) (ix2 r l)
      = shiftAdd 32 (shiftAdd 16 (shiftAdd 8 (shiftAdd 4 (shiftAdd 2 (shiftAdd 1
          (cross (rowWeights inv x mx p r) (matOf w) (u (ix2 r 0)))))))) l := by
  rw [six_steps, shift32]
  simp only [shift1, shift2, shift4, shift8, shift16, cross_row]

/-- A row of the output. -/
theorem out_row : k0_pay1 (F := Ideal) (k0_pay18 (F := Ideal) inv x mx p u w) (k0_pay20 (F := Ideal) inv x mx p u w)
      (iota .tc S32x128 32 [1] iota_S32x128_d1_w32)
      (k0_pay22 (F := Ideal) (k0_pay14 (F := Ideal) inv x mx p) (FloatOps.ofBits FTy.f32 0#32) (k0_pay21 (F := Ideal) inv x mx p u w)) (64#32) (ix2 r 0)
    = rowOut (rowWeights inv x mx p r) (matOf w) (u (ix2 r 0)) := by
  rw [word_row, full_row, rest_row]
  simp only [steps_row]
  rfl

end After

end Cert.KernelIdeal.Value
-- ==== Proof.KRead.lean ====
module

public import proofs.«01_k».proof.Proof.KRow

@[expose] public section

set_option maxRecDepth 16384

/-!
# The blocks the grid reads

Each block read at an entry is the array read at the entry's place.
-/

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Sampling

variable (m : (ℓ : Loc nD τ sig) → Buf (Elt Ideal) ℓ)

/-- The blocks the windows read and write. -/
theorem idx : ∀ t : Fin cfg0.N, win0_0.index t = ![0, 0] ∧ win0_1.index t = ![0, 0] ∧ win0_2.index t = ![t.val, 0, 0]
    ∧ win0_3.index t = ![t.val, 0] ∧ win0_4.index t = ![0, 0] ∧ win0_5.index t = ![t.val, 0] ∧ t.val < 2 :=
  (by decide +kernel : ∀ t : Fin grid0.N, _)

/-- The number of the first window. -/
theorem read0 (c : Dev nD) (t : Fin cfg0.N) (h) (W : FVec Ideal S1x1 .f32) (hW : W = V m c main_v14) :
    View.ld (iblk m c 0 t) (Rect.unit ![0, 0] ![1, 1] inb_S1x1_S1x1_0_0) (Shape.Idx.first h) = W (ix2 0 0) := by
  unfold iblk
  have e : V m c (Pipeline.arrRef spec0 0) = W := by rw [hW]
  rw [e, View.ld_apply]
  blk_ext [idx t]

/-- The number of the second window. -/
theorem read1 (c : Dev nD) (t : Fin cfg0.N) (h) (W : IVec S1x1 32) (hW : W = V m c main_v15) :
    View.ld (iblk m c 1 t) (Rect.unit ![0, 0] ![1, 1] inb_S1x1_S1x1_0_0) (Shape.Idx.first h) = W (ix2 0 0) := by
  unfold iblk
  have e : V m c (Pipeline.arrRef spec0 1) = W := by rw [hW]
  rw [e, View.ld_apply]
  blk_ext [idx t]

/-- A row of the third window. -/
theorem read2 (c : Dev nD) (t : Fin cfg0.N) (r : Fin 32) (q : Fin 64) (hq : q.val = t.val * 32 + r.val) (b : Fin 784) (l : Fin 128)
    (W : FVec Ideal S64x784x128 .f32) (hW : W = V m c main_v12) :
    (iblk m c 2 t : FVec Ideal S32x784x128 .f32) (ix3 r b l) = W (ix3 q b l) := by
  unfold iblk
  have e : V m c (Pipeline.arrRef spec0 2) = W := by rw [hW]
  rw [e]
  blk_ext [idx t]

/-- A row of the fourth window. -/
theorem read3 (c : Dev nD) (t : Fin cfg0.N) (r : Fin 32) (q : Fin 64) (hq : q.val = t.val * 32 + r.val)
    (W : FVec Ideal S64x1 .f32) (hW : W = V m c main_v10) :
    (iblk m c 3 t : FVec Ideal S32x1 .f32) (ix2 r 0) = W (ix2 q 0) := by
  unfold iblk
  have e : V m c (Pipeline.arrRef spec0 3) = W := by rw [hW]
  rw [e]
  blk_ext [idx t]

/-- The fifth window. -/
theorem read4 (c : Dev nD) (t : Fin cfg0.N) (a b : Fin 784) (W : FVec Ideal S784x784 .f32) (hW : W = V m c main_v17) :
    (iblk m c 4 t : FVec Ideal S784x784 .f32) (ix2 a b) = W (ix2 a b) := by
  unfold iblk
  have e : V m c (Pipeline.arrRef spec0 4) = W := by rw [hW]
  rw [e]
  blk_ext [idx t]

end Cert.KernelIdeal.Value
-- ==== Proof.KOut.lean ====
module

public import proofs.«01_k».proof.Proof.KRead

@[expose] public section

set_option maxRecDepth 16384

/-!
# What the result array holds

Each row of the array the grid writes, from the arrays the grid reads.
-/

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Sampling

/-- A row of a block's output, from the block's inputs. -/
theorem body_row (a : Ideal .f32) (k : BitVec 32) (x : FVec Ideal S32x784x128 .f32) (u : FVec Ideal S32x1 .f32)
    (w : FVec Ideal S784x784 .f32) (p : IVec S32x1 32)
    (hp : p = (Scf.fold (n := k0_t1_loop.trips) (fun _ s => (k0_pay11 (F := Ideal) k x s.1 s.2, k0_pay12 (F := Ideal) k x s.1 s.2))
      (k0_pay7 (F := Ideal) k x, k0_pay8 (F := Ideal) k x)).1) (r : Fin 32) :
    k0_pay1 (F := Ideal) (k0_pay18 (F := Ideal) (k0_pay2 (F := Ideal) a) (k0_pay4 (F := Ideal) x) (k0_pay5 (F := Ideal) x) (k0_pay13 p) u w)
        (k0_pay20 (F := Ideal) (k0_pay2 (F := Ideal) a) (k0_pay4 (F := Ideal) x) (k0_pay5 (F := Ideal) x) (k0_pay13 p) u w)
        (iota .tc S32x128 32 [1] iota_S32x128_d1_w32)
        (k0_pay22 (F := Ideal) (k0_pay14 (F := Ideal) (k0_pay2 (F := Ideal) a) (k0_pay4 (F := Ideal) x) (k0_pay5 (F := Ideal) x) (k0_pay13 p))
          (FloatOps.ofBits FTy.f32 0#32)
          (k0_pay21 (F := Ideal) (k0_pay2 (F := Ideal) a) (k0_pay4 (F := Ideal) x) (k0_pay5 (F := Ideal) x) (k0_pay13 p) u w)) (64#32) (ix2 r 0)
      = rowOut (weight (k0_pay2 (F := Ideal) a) k (rowOf x r)) (matOf w) (u (ix2 r 0)) := by
  rw [out_row]
  congr 1
  funext b l
  rw [weight_row, bits_row, max_row, hp, search_row]
  have h4 : k0_pay4 (F := Ideal) x (ix3 r b l) = x (ix3 r b l) := by
    pointwise [k0_pay4]
  rw [h4]
  rfl

variable (m : (ℓ : Loc nD τ sig) → Buf (Elt Ideal) ℓ)

/-- The output word of a row, from the arrays. -/
def arrWord (v14 : FVec Ideal S1x1 .f32) (v15 : IVec S1x1 32) (v12 : FVec Ideal S64x784x128 .f32) (v10 : FVec Ideal S64x1 .f32)
    (v17 : FVec Ideal S784x784 .f32) (r : Fin 64) : BitVec 32 :=
  rowOut (weight (k0_pay2 (F := Ideal) (v14 (ix2 0 0))) (v15 (ix2 0 0)) (fun b l => v12 (ix3 r b l)))
    (fun a b => v17 (ix2 a b)) (v10 (ix2 r 0))

/-- A row of the array at a row of the grid's point. -/
theorem point (c : Dev nD) (t : Fin cfg0.N) (r : Fin 32) (q : Fin 64) (hq : q.val = t.val * 32 + r.val)
    (v14 : FVec Ideal S1x1 .f32) (v15 : IVec S1x1 32) (v12 : FVec Ideal S64x784x128 .f32) (v10 : FVec Ideal S64x1 .f32)
    (v17 : FVec Ideal S784x784 .f32) (h14 : v14 = V m c main_v14) (h15 : v15 = V m c main_v15) (h12 : v12 = V m c main_v12)
    (h10 : v10 = V m c main_v10) (h17 : v17 = V m c main_v17) (h) (h') :
    rowOut (weight (k0_pay2 (F := Ideal) (View.ld (iblk m c 0 t) (Rect.unit ![0, 0] ![1, 1] inb_S1x1_S1x1_0_0) (Shape.Idx.first h)))
        (View.ld (iblk m c 1 t) (Rect.unit ![0, 0] ![1, 1] inb_S1x1_S1x1_0_0) (Shape.Idx.first h'))
        (rowOf (iblk m c 2 t) r)) (matOf (iblk m c 4 t)) ((iblk m c 3 t : FVec Ideal S32x1 .f32) (ix2 r 0))
      = arrWord v14 v15 v12 v10 v17 q := by
  have e2 : rowOf (iblk m c 2 t) r = fun b l => v12 (ix3 q b l) := by
    funext b l
    exact read2 m c t r q hq b l v12 h12
  have e4 : matOf (iblk m c 4 t) = fun a b => v17 (ix2 a b) := by
    funext a b
    exact read4 m c t a b v17 h17
  unfold arrWord
  rw [read0 m c t h v14 h14, read1 m c t h' v15 h15, e2, read3 m c t r q hq v10 h10, e4]

/-- The result array. -/
theorem final (c : Dev nD)
    (v14 : FVec Ideal S1x1 .f32) (v15 : IVec S1x1 32) (v12 : FVec Ideal S64x784x128 .f32) (v10 : FVec Ideal S64x1 .f32)
    (v17 : FVec Ideal S784x784 .f32) (h14 : v14 = V m c main_v14) (h15 : v15 = V m c main_v15) (h12 : v12 = V m c main_v12)
    (h10 : v10 = V m c main_v10) (h17 : v17 = V m c main_v17) :
    (dats m 0 c).arrAt 5 (cfgs 0).N = (fun i : S64x1.Idx => arrWord v14 v15 v12 v10 v17 (i 0)) := by
  refine (dats m 0 c).arrAt_eq_of_covers 5 _ (by decide +kernel) fun t _ y => ?_
  blk_simp
  rw [after0_5]
  unfold outsAt0
  frame_out
  idx_vars y
  obtain rfl : y1 = 0 := Subsingleton.elim _ _
  refine (body_row _ _ _ _ _ _ rfl y0).trans ?_
  refine point m c t y0 _ ?_ v14 v15 v12 v10 v17 h14 h15 h12 h10 h17 _ _
  blk_simp [idx t]

end Cert.KernelIdeal.Value
-- ==== Proof.KRun.lean ====
module

public import proofs.«01_k».proof.Proof.KHost
public import proofs.«01_k».proof.Proof.KOut
public import Idealize.ShloMosaic.Lib.Claim

@[expose] public section

set_option maxRecDepth 16384

/-!
# The kernel's run

The result of the kernel, row by row.
-/

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ)

/-- The result, from the arguments and the uniform numbers. -/
def result (x : FVec Ideal S64x100000 .f32) (t k : IVec S_ 32) (u : FVec Ideal S32x64 .f32) : IVec S64 32 :=
  shapeCast S64 (fun i : S64x1.Idx => arrWord
    (shapeCast S1x1 (sitofp .f32 t : FVec Ideal S_ .f32) shapeCasts_S_S1x1)
    (shapeCast S1x1 k shapeCasts_S_S1x1) (padded x)
    (shapeCast S64x1 (shapeCast S64 (extractStridedSlice S1x64 ![0, 0] u slices_S32x64_S1x64_0_0) shapeCasts_S1x64_S64) shapeCasts_S64_S64x1)
    (select (cmpi .sge (addi (iotaInDim S784x784 32 0) (broadcastInDim S784x784 ![] bcast_S_S784x784 (constantI S_ 32 0#32))) (iotaInDim S784x784 32 1))
          (broadcastInDim S784x784 ![] bcast_S_S784x784 (constant S_ .f32 0x00000000#32))
          (broadcastInDim S784x784 ![] bcast_S_S784x784 (constant S_ .f32 0x3F800000#32)) : FVec Ideal S784x784 .f32) (i 0)) shapeCasts_S64x1_S64

/-- The array the grid writes. -/
theorem final_args (c : Dev nD) : shapeCast S64 ((dats m 0 c).arrAt 5 (cfgs 0).N : IVec S64x1 32) shapeCasts_S64x1_S64
    = result (m ((c.tc : Thread nD τ).loc main_arg0)) (m ((c.tc : Thread nD τ).loc main_arg1)) (m ((c.tc : Thread nD τ).loc main_arg2))
        (after1 m c (Proc.devRef .tc main_v7)) := by
  obtain ⟨a0, a1, a2⟩ := after1_args m c
  rw [final m c _ _ _ _ _ ((later_v14 (after1 m c)).symm.trans (V_eq m c main_v14).symm)
    ((later_v15 (after1 m c)).symm.trans (V_eq m c main_v15).symm) ((later_v12 (after1 m c)).symm.trans (V_eq m c main_v12).symm)
    ((later_v10 (after1 m c)).symm.trans (V_eq m c main_v10).symm) ((later_v17 (after1 m c)).symm.trans (V_eq m c main_v17).symm)]
  rw [a0, a1, a2]
  rfl

/-- The result's contents at the end. -/
theorem tail_v19 (c : Dev nD) : Pipeline.afterTail₀ cfgs (dats m) 0 (V0 m) [hostOps1] c main_v19
    = shapeCast S64 ((dats m 0 c).arrAt 5 (cfgs 0).N : IVec S64x1 32) shapeCasts_S64x1_S64 := by
  unfold Pipeline.afterTail₀
  have e : Pipeline.withArrays spec0 c (V0 m c) (fun w => (dats m 0 c).arrAt w (cfgs 0).N) (Proc.devRef .tc main_v18)
      = (dats m 0 c).arrAt 5 (cfgs 0).N :=
    Pipeline.withArrays_arr spec0 launch0.win.arr_inj c (V0 m c) _ 5
  rw [← e]
  rfl

/-- The kernel's run: its result, and the arguments as they were. -/
theorem run (ρ : Dev nD → PrngReg) : θ_run defs (onTc (τ := τ) (main (F := Ideal))) ⟨m, fun _ => 0, ρ⟩ fun r => ∀ c : Dev nD,
    r.2.mem ((c.tc : Thread nD τ).loc main_v19)
      = result (m ((c.tc : Thread nD τ).loc main_arg0)) (m ((c.tc : Thread nD τ).loc main_arg1)) (m ((c.tc : Thread nD τ).loc main_arg2))
          (after1 m c (Proc.devRef .tc main_v7))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine θ_run_mono (θ_run_and (Cert.KernelIdeal.Gen.run_main m ρ) (Cert.KernelIdeal.Gen.unchanged m ρ)) ?_
  intro r h c
  refine ⟨?_, h.2 c⟩
  exact (((h.1 c).2 main_v19 (Pipeline.mem_restRefs_of main_v19 (by decide) (by decide))).trans (tail_v19 m c)).trans (final_args m c)

end Cert.KernelIdeal.Value
-- ==== Proof.Count.lean ====
module

public import proofs.«01_k».proof.Proof.Row
public import Mathlib.Algebra.BigOperators.Fin
public import Mathlib.Algebra.BigOperators.Intervals
public import Mathlib.Data.Fintype.Card
public import Mathlib.Tactic.Linarith
public import Mathlib.Tactic.NormNum
public import Mathlib.Tactic.Ring

@[expose] public section

/-!
# Counting the entries below the level

The kernel counts in two steps: the blocks that end below the level, and then the lanes of the block in which
the level is crossed. The two together count all the entries whose running sum is below the level.
-/

noncomputable section

open Idealize.ShloMosaic

namespace Cert.Sampling

/-- A sum of real numbers, as extended real numbers. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum of ones is a count. -/
theorem sum_ones {ι : Type} [Fintype ι] (p : ι → Prop) [DecidablePred p] :
    (∑ i, if p i then (1 : EReal) else 0) = (((Finset.univ.filter p).card : ℝ) : EReal) := by
  have h : ∀ i, (if p i then (1 : EReal) else 0) = (((if p i then 1 else 0 : ℝ)) : EReal) := by
    intro i
    split_ifs <;> simp
  rw [Finset.sum_congr rfl fun i _ => h i, ← coe_sum]
  congr 1
  simp [Finset.sum_ite]

/-- The word of a count. -/
theorem word_of_count (n : ℕ) (h : n < 2147483648) : (FloatOps.fptosi (F := Ideal) (φ := .f32) 32 (((n : ℝ) : EReal))) = BitVec.ofNat 32 n := by
  show BitVec.ofInt 32 (max (-(2147483648 : ℕ) : ℤ) (min ((2147483648 : ℕ) - 1 : ℤ) (if (0 : ℝ) ≤ (n : ℝ) then ⌊(n : ℝ)⌋ else ⌈(n : ℝ)⌉))) = _
  rw [if_pos (Nat.cast_nonneg n), Int.floor_natCast, min_eq_right (by omega), max_eq_right (by omega)]
  rfl

/-- The smaller of two words of small numbers. -/
theorem minsi_ofNat (a b : ℕ) (ha : a < 2147483648) (hb : b < 2147483648) :
    IntOp.minsi (BitVec.ofNat 32 a) (BitVec.ofNat 32 b) = BitVec.ofNat 32 (min a b) := by
  have t : ∀ n : ℕ, n < 2147483648 → (BitVec.ofNat 32 n).toInt = n := by
    intro n hn
    have e : (BitVec.ofNat 32 n).toNat = n := by
      rw [BitVec.toNat_ofNat]
      exact Nat.mod_eq_of_lt (by omega)
    rw [BitVec.toInt_eq_toNat_of_lt (by omega), e]
  show (if (BitVec.ofNat 32 a).slt (BitVec.ofNat 32 b) = true then BitVec.ofNat 32 a else BitVec.ofNat 32 b) = _
  rw [BitVec.slt_eq_decide, t a ha, t b hb]
  by_cases h : a < b
  · rw [if_pos (by simpa using h), min_eq_left h.le]
  · rw [if_neg (by simpa using h), min_eq_right (by omega)]

/-- Below a threshold: a predicate that holds on a start of the numbers. -/
theorem threshold (Q : ℕ → Prop) (hQ : ∀ i j, i ≤ j → Q j → Q i) (N : ℕ) : ∃ θ ≤ N, ∀ i < N, Q i ↔ i < θ := by
  classical
  induction N with
  | zero => exact ⟨0, le_refl _, fun i hi => absurd hi (Nat.not_lt_zero i)⟩
  | succ N ih =>
    obtain ⟨θ, h1, h2⟩ := ih
    by_cases h : Q N
    · refine ⟨N + 1, le_refl _, fun i hi => ⟨fun _ => hi, fun _ => hQ i N (by omega) h⟩⟩
    · refine ⟨θ, by omega, fun i hi => ?_⟩
      rcases Nat.lt_succ_iff_lt_or_eq.1 hi with h3 | rfl
      · exact h2 i h3
      · exact ⟨fun h4 => absurd h4 h, fun h4 => by omega⟩

/-- The numbers below a bound, counted. -/
theorem card_below (n m : ℕ) : (Finset.univ.filter fun b : Fin n => b.val < m).card = min m n := by
  have e : (Finset.univ.filter fun b : Fin n => b.val < m).map Fin.valEmbedding = Finset.range (min m n) := by
    ext i
    simp only [Finset.mem_map, Finset.mem_filter, Finset.mem_univ, true_and, Fin.valEmbedding_apply, Finset.mem_range]
    constructor
    · rintro ⟨b, h, rfl⟩
      have := b.isLt
      omega
    · intro h
      exact ⟨⟨i, by omega⟩, by show i < m; omega, rfl⟩
  rw [← Finset.card_map Fin.valEmbedding, e, Finset.card_range]

/-- A comparison with a difference. -/
theorem lt_sub_real (t : EReal) (a s : ℝ) : ((a : ℝ) : EReal) < t - ((s : ℝ) : EReal) ↔ ((s + a : ℝ) : EReal) < t := by
  induction t with
  | bot => simp
  | top => simp only [EReal.top_sub_coe, EReal.coe_lt_top]
  | coe r =>
    rw [← EReal.coe_sub, EReal.coe_lt_coe_iff, EReal.coe_lt_coe_iff]
    constructor <;> intro h <;> linarith

/-- A window of a running sum, doubled by one step. -/
theorem shiftAdd_window (F : ℕ → ℝ) (s : ℕ) (hs : s ≤ 128) (c : Fin 128 → EReal)
    (hc : ∀ l : Fin 128, c l = ((F (l.val + 1) - F (l.val + 1 - s) : ℝ) : EReal)) (l : Fin 128) :
    shiftAdd s c l = ((F (l.val + 1) - F (l.val + 1 - (s + s)) : ℝ) : EReal) := by
  unfold shiftAdd
  have hl := l.isLt
  have t : ∀ n : ℕ, n < 2147483648 → (BitVec.ofNat 32 n).toInt = n := by
    intro n hn
    have e : (BitVec.ofNat 32 n).toNat = n := by
      rw [BitVec.toNat_ofNat]
      exact Nat.mod_eq_of_lt (by omega)
    rw [BitVec.toInt_eq_toNat_of_lt (by omega), e]
  have hsge : IntOp.cmpi .sge (BitVec.ofNat 32 l.val) (BitVec.ofNat 32 s) = BitVec.ofBool (decide (s ≤ l.val)) := by
    show BitVec.ofBool ((BitVec.ofNat 32 s).sle (BitVec.ofNat 32 l.val)) = _
    rw [BitVec.sle_eq_decide, t _ (by omega), t _ (by omega)]
    congr 1
    simp
  rw [hsge]
  by_cases h : s ≤ l.val
  · rw [show Scalar.select (BitVec.ofBool (decide (s ≤ l.val))) (c ⟨(l + 128 - s) % 128, Nat.mod_lt _ (by decide)⟩) 0
        = c ⟨(l + 128 - s) % 128, Nat.mod_lt _ (by decide)⟩ by rw [decide_eq_true h]; rfl]
    rw [hc, hc, ← EReal.coe_add]
    have e : (l.val + 128 - s) % 128 = l.val - s := by omega
    simp only [e]
    rw [show l.val - s + 1 = l.val + 1 - s by omega, show l.val + 1 - s - s = l.val + 1 - (s + s) by omega]
    congr 1
    ring
  · rw [show Scalar.select (BitVec.ofBool (decide (s ≤ l.val))) (c ⟨(l + 128 - s) % 128, Nat.mod_lt _ (by decide)⟩) 0
        = 0 by rw [decide_eq_false h]; rfl]
    rw [hc, add_zero, show l.val + 1 - s = 0 by omega, show l.val + 1 - (s + s) = 0 by omega]

/-- The doubling shifts make the running sum. -/
theorem scan_prefix (F : ℕ → ℝ) (c : Fin 128 → EReal)
    (hc : ∀ l : Fin 128, c l = ((F (l.val + 1) - F l.val : ℝ) : EReal)) (l : Fin 128) :
    scan c l = ((F (l.val + 1) - F 0 : ℝ) : EReal) := by
  unfold scan
  have h1 := shiftAdd_window F 1 (by omega) c (fun l => by rw [hc, Nat.add_sub_cancel])
  have h2 := shiftAdd_window F 2 (by omega) _ h1
  have h3 := shiftAdd_window F 4 (by omega) _ h2
  have h4 := shiftAdd_window F 8 (by omega) _ h3
  have h5 := shiftAdd_window F 16 (by omega) _ h4
  have h6 := shiftAdd_window F 32 (by omega) _ h5
  have h7 := shiftAdd_window F 64 (by omega) _ h6 l
  rw [h7, show l.val + 1 - (64 + 64) = 0 by have := l.isLt; omega]

section
variable (f : ℕ → ℝ)

/-- The sum of the entries before the place `n`. -/
def upTo (n : ℕ) : ℝ := ∑ j ∈ Finset.range n, f j

/-- A stretch of 128 entries more. -/
theorem upTo_add (n m : ℕ) : upTo f (n + m) = upTo f n + ∑ j ∈ Finset.range m, f (n + j) := by
  unfold upTo
  rw [Finset.sum_range_add]

/-- A block's sum. -/
theorem blockSum_real (b : Fin 784) :
    blockSum (fun b l => ((f (128 * b.val + l.val) : ℝ) : EReal)) b
      = ((upTo f (128 * (b.val + 1)) - upTo f (128 * b.val) : ℝ) : EReal) := by
  unfold blockSum
  rw [← coe_sum, show 128 * (b.val + 1) = 128 * b.val + 128 by ring, upTo_add, Finset.sum_range]
  congr 1
  ring

/-- The blocks before, summed. -/
theorem before_real (tri : Fin 784 → Fin 784 → EReal) (htri : ∀ a b, tri a b = if a < b then 1 else 0) (b : Fin 784) :
    before (fun b l => ((f (128 * b.val + l.val) : ℝ) : EReal)) tri b = ((upTo f (128 * b.val) : ℝ) : EReal) := by
  unfold before
  have h : ∀ a : Fin 784, blockSum (fun b l => ((f (128 * b.val + l.val) : ℝ) : EReal)) a * tri a b
      = (((if a.val < b.val then upTo f (128 * (a.val + 1)) - upTo f (128 * a.val) else 0 : ℝ)) : EReal) := by
    intro a
    rw [blockSum_real, htri]
    by_cases h : a < b
    · rw [if_pos h, if_pos (Fin.lt_def.1 h), mul_one]
    · rw [if_neg h, if_neg (fun h' => h (Fin.lt_def.2 h')), mul_zero, EReal.coe_zero]
  rw [Finset.sum_congr rfl fun a _ => h a, ← coe_sum]
  congr 1
  rw [← Finset.sum_range (n := 784) fun a => if a < b.val then upTo f (128 * (a + 1)) - upTo f (128 * a) else 0]
  have hb := b.isLt
  rw [← Finset.sum_filter, show (Finset.range 784).filter (fun a => a < b.val) = Finset.range b.val by
    ext a
    simp only [Finset.mem_filter, Finset.mem_range]
    omega]
  rw [Finset.sum_range_sub (fun a => upTo f (128 * a))]
  simp [upTo]

/-- All the blocks, summed. -/
theorem level_real (u : EReal) :
    level (fun b l => ((f (128 * b.val + l.val) : ℝ) : EReal)) u = u * ((upTo f 100352 : ℝ) : EReal) := by
  unfold level
  rw [Finset.sum_congr rfl fun b _ => blockSum_real f b, ← coe_sum,
    ← Finset.sum_range (n := 784) fun a => upTo f (128 * (a + 1)) - upTo f (128 * a),
    Finset.sum_range_sub (fun a => upTo f (128 * a))]
  simp [upTo]

end

/-- A selection by position picks one of a sum's terms. -/
theorem sum_select (g : Fin 784 → EReal) (q : Fin 784) (w : Fin 784 → BitVec 1)
    (hw : ∀ b, w b = BitVec.ofBool (decide (b = q))) : (∑ b, Scalar.select (w b) (g b) 0) = g q := by
  rw [Finset.sum_eq_single q]
  · rw [hw, decide_eq_true rfl]
    rfl
  · intro b _ hb
    rw [hw, decide_eq_false hb]
    rfl
  · intro h
    exact absurd (Finset.mem_univ q) h

/-- The output word counts the entries whose running sum is below the level. -/
theorem rowOut_count (f : ℕ → ℝ) (hf : ∀ i, 0 ≤ f i) (hz : ∀ i, 100000 ≤ i → f i = 0) (u : EReal)
    (tri : Fin 784 → Fin 784 → EReal) (htri : ∀ a b, tri a b = if a < b then 1 else 0) :
    rowOut (fun b l => ((f (128 * b.val + l.val) : ℝ) : EReal)) tri u
      = BitVec.ofNat 32 (min 99999 (Finset.univ.filter fun i : Fin 100000 =>
          ((upTo f (i.val + 1) : ℝ) : EReal) < u * ((upTo f 100000 : ℝ) : EReal)).card) := by
  have hmono : ∀ i j, i ≤ j → upTo f i ≤ upTo f j := by
    intro i j h
    exact Finset.sum_le_sum_of_subset_of_nonneg (Finset.range_mono h) fun _ _ _ => hf _
  have hall : upTo f 100352 = upTo f 100000 := by
    rw [show (100352 : ℕ) = 100000 + 352 from rfl, upTo_add, Finset.sum_eq_zero, add_zero]
    intro j _
    exact hz _ (by omega)
  have hlev : level (fun b l => ((f (128 * b.val + l.val) : ℝ) : EReal)) u = u * ((upTo f 100000 : ℝ) : EReal) := by
    rw [level_real, hall]
  generalize u * ((upTo f 100000 : ℝ) : EReal) = t at hlev ⊢
  obtain ⟨θ, hθ, hQ⟩ := threshold (fun i => ((upTo f (i + 1) : ℝ) : EReal) < t)
    (fun i j hij hj => lt_of_le_of_lt (EReal.coe_le_coe_iff.2 (hmono _ _ (by omega))) hj) 100352
  have hcount : (Finset.univ.filter fun i : Fin 100000 => ((upTo f (i.val + 1) : ℝ) : EReal) < t).card = min θ 100000 := by
    rw [← card_below]
    refine congrArg Finset.card ?_
    ext i
    simp only [Finset.mem_filter, Finset.mem_univ, true_and]
    exact hQ i.val (by have := i.isLt; omega)
  have hfull : full (fun b l => ((f (128 * b.val + l.val) : ℝ) : EReal)) tri u = BitVec.ofNat 32 (θ / 128) := by
    unfold full
    rw [sum_ones, hlev, word_of_count]
    · refine congrArg (BitVec.ofNat 32) ?_
      have : min (θ / 128) 784 = θ / 128 := by omega
      rw [← this, ← card_below]
      refine congrArg Finset.card ?_
      ext b
      have hb := b.isLt
      simp only [Finset.mem_filter, Finset.mem_univ, true_and]
      rw [before_real f tri htri, blockSum_real, ← EReal.coe_add,
        show upTo f (128 * b.val) + (upTo f (128 * (b.val + 1)) - upTo f (128 * b.val)) = upTo f (128 * b.val + 127 + 1) by
          rw [show 128 * (b.val + 1) = 128 * b.val + 127 + 1 by ring]; ring]
      rw [hQ _ (by omega)]
      omega
    · exact lt_of_le_of_lt (Finset.card_le_univ _) (by rw [Fintype.card_fin]; omega)
  have hcross : ∀ b : Fin 784, crossed (fun b l => ((f (128 * b.val + l.val) : ℝ) : EReal)) tri u b
      = BitVec.ofBool (decide (b = (⟨min (θ / 128) 783, by omega⟩ : Fin 784))) := by
    intro b
    have hb := b.isLt
    unfold crossed
    rw [hfull, show (783#32 : BitVec 32) = BitVec.ofNat 32 783 from rfl, minsi_ofNat _ _ (by omega) (by omega)]
    show BitVec.ofBool (BitVec.ofNat 32 b.val == BitVec.ofNat 32 (min (θ / 128) 783)) = _
    refine congrArg BitVec.ofBool ?_
    rw [Bool.eq_iff_iff, beq_iff_eq, decide_eq_true_iff]
    constructor
    · intro h
      have h' := congrArg BitVec.toNat h
      rw [BitVec.toNat_ofNat, BitVec.toNat_ofNat, Nat.mod_eq_of_lt (by omega), Nat.mod_eq_of_lt (by omega)] at h'
      exact Fin.ext h'
    · intro h
      rw [h]
  have hrest : rest (fun b l => ((f (128 * b.val + l.val) : ℝ) : EReal)) tri u
      = t - ((upTo f (128 * min (θ / 128) 783) : ℝ) : EReal) := by
    unfold rest
    rw [hlev, sum_select _ _ _ hcross, before_real f tri htri]
  have hlane : ∀ l : Fin 128, cross (fun b l => ((f (128 * b.val + l.val) : ℝ) : EReal)) tri u l
      = ((upTo f (128 * min (θ / 128) 783 + (l.val + 1)) - upTo f (128 * min (θ / 128) 783 + l.val) : ℝ) : EReal) := by
    intro l
    unfold cross
    rw [sum_select (fun b => ((f (128 * b.val + l.val) : ℝ) : EReal)) _ _ hcross]
    rw [← Nat.add_assoc, upTo_add f _ 1]
    simp
  have hscan : ∀ l : Fin 128, scan (cross (fun b l => ((f (128 * b.val + l.val) : ℝ) : EReal)) tri u) l
      = ((upTo f (128 * min (θ / 128) 783 + (l.val + 1)) - upTo f (128 * min (θ / 128) 783) : ℝ) : EReal) :=
    fun l => scan_prefix (fun n => upTo f (128 * min (θ / 128) 783 + n)) _ hlane l
  unfold rowOut
  rw [hfull, sum_ones, word_of_count]
  · have hl : (Finset.univ.filter fun l : Fin 128 => scan (cross (fun b l => ((f (128 * b.val + l.val) : ℝ) : EReal)) tri u) l
        < rest (fun b l => ((f (128 * b.val + l.val) : ℝ) : EReal)) tri u).card = min (θ - 128 * min (θ / 128) 783) 128 := by
      rw [← card_below]
      refine congrArg Finset.card ?_
      ext l
      have hb := l.isLt
      simp only [Finset.mem_filter, Finset.mem_univ, true_and]
      rw [hscan, hrest, lt_sub_real, show upTo f (128 * min (θ / 128) 783)
        + (upTo f (128 * min (θ / 128) 783 + (l.val + 1)) - upTo f (128 * min (θ / 128) 783))
          = upTo f (128 * min (θ / 128) 783 + l.val + 1) by rw [← Nat.add_assoc]; ring]
      rw [hQ _ (by omega)]
      omega
    rw [hl, hcount]
    show IntOp.minsi (BitVec.ofNat 32 (θ / 128) * BitVec.ofNat 32 128 + BitVec.ofNat 32 _) (BitVec.ofNat 32 99999) = _
    rw [← BitVec.ofNat_mul, ← BitVec.ofNat_add, minsi_ofNat _ _ (by omega) (by omega)]
    refine congrArg (BitVec.ofNat 32) ?_
    omega
  · exact lt_of_le_of_lt (Finset.card_le_univ _) (by rw [Fintype.card_fin]; omega)

end Cert.Sampling
-- ==== Proof.Mask.lean ====
module

public import proofs.«01_k».proof.Proof.Row
public import proofs.«01_k».proof.Proof.Count

@[expose] public section

set_option maxRecDepth 16384

/-!
# The entries the kernel keeps

The search over bit patterns ends at a number that the kept entries reach, and no others: an entry is kept when
fewer than `k` entries of its row are greater.
-/

noncomputable section

open Idealize.ShloMosaic

namespace Cert.Sampling

/-- A row in blocks of 128, filled up with minus infinity. -/
def blocked (x : Fin 100000 → EReal) (b : Fin 784) (l : Fin 128) : EReal :=
  if h : 128 * b.val + l.val < 100000 then x ⟨128 * b.val + l.val, h⟩ else ⊥

/-- The entries above `v`, counted. -/
def countGt (x : Fin 100000 → EReal) (v : EReal) : ℕ := (Finset.univ.filter fun j => v < x j).card

/-- The entries of a blocked row at or above a number, counted. -/
def reach (x : Fin 100000 → EReal) (v : EReal) : ℕ :=
  (Finset.univ.filter fun p : Fin 784 × Fin 128 => v ≤ blocked x p.1 p.2).card

/-- The kernel's count. -/
theorem countGe_blocked (x : Fin 100000 → EReal) (v : EReal) : countGe (blocked x) v = ((reach x v : ℝ) : EReal) := by
  unfold countGe reach
  rw [← sum_ones, Finset.sum_comm, Fintype.sum_prod_type]

/-- Above minus infinity, the filling does not count. -/
theorem reach_eq (x : Fin 100000 → EReal) (v : EReal) (hv : ⊥ < v) :
    reach x v = (Finset.univ.filter fun j => v ≤ x j).card := by
  unfold reach
  have hlt : ∀ p ∈ (Finset.univ.filter fun p : Fin 784 × Fin 128 => v ≤ blocked x p.1 p.2), 128 * p.1.val + p.2.val < 100000 := by
    intro p hp
    by_contra h
    have := (Finset.mem_filter.1 hp).2
    rw [blocked, dif_neg h] at this
    exact absurd (lt_of_lt_of_le hv this) (lt_irrefl _)
  refine Finset.card_bij' (fun p hp => (⟨128 * p.1.val + p.2.val, hlt p hp⟩ : Fin 100000))
    (fun j _ => ((⟨j.val / 128, by have := j.isLt; omega⟩ : Fin 784), (⟨j.val % 128, by omega⟩ : Fin 128))) ?_ ?_ ?_ ?_
  · intro p hp
    have := (Finset.mem_filter.1 hp).2
    rw [blocked, dif_pos (hlt p hp)] at this
    exact Finset.mem_filter.2 ⟨Finset.mem_univ _, this⟩
  · intro j hj
    have := (Finset.mem_filter.1 hj).2
    refine Finset.mem_filter.2 ⟨Finset.mem_univ _, ?_⟩
    have e : 128 * (j.val / 128) + j.val % 128 = j.val := by omega
    have hj' := j.isLt
    have e' : blocked x (⟨j.val / 128, by omega⟩ : Fin 784) (⟨j.val % 128, by omega⟩ : Fin 128) = x j := by
      unfold blocked
      rw [dif_pos (show 128 * (j.val / 128) + j.val % 128 < 100000 by omega)]
      simp only [e]
    exact this.trans e'.ge
  · intro p hp
    have h1 := p.1.isLt
    have h2 := p.2.isLt
    refine Prod.ext (Fin.ext ?_) (Fin.ext ?_)
    · show (128 * p.1.val + p.2.val) / 128 = p.1.val
      omega
    · show (128 * p.1.val + p.2.val) % 128 = p.2.val
      omega
  · intro j hj
    apply Fin.ext
    show 128 * (j.val / 128) + j.val % 128 = j.val
    omega

/-- A larger number is reached by fewer. -/
theorem reach_anti (x : Fin 100000 → EReal) (v w : EReal) (h : v ≤ w) : reach x w ≤ reach x v := by
  unfold reach
  refine Finset.card_le_card fun p hp => ?_
  rw [Finset.mem_filter] at hp ⊢
  exact ⟨hp.1, h.trans hp.2⟩

/-- A key's bit pattern holds the key's number. -/
theorem ofBits_keyBits (b : BitVec 32) : Ideal.ofBits .f32 (keyBits b) = keyVal b.toInt := by
  rw [← ieee_key]
  show Ideal.ieee 8 23 (keyBits b) = _
  refine congrArg (Ideal.ieee 8 23) ?_
  unfold keyBits
  by_cases h : 0 ≤ b.toInt
  · rw [if_pos h]
    have e : IntOp.cmpi .sge b 0#32 = 1#1 := by
      show BitVec.ofBool ((0#32).sle b) = _
      rw [BitVec.sle_eq_decide, show (0#32).toInt = 0 from rfl, decide_eq_true h]
      rfl
    rw [e]
    rfl
  · rw [if_neg h]
    have e : IntOp.cmpi .sge b 0#32 = 0#1 := by
      show BitVec.ofBool ((0#32).sle b) = _
      rw [BitVec.sle_eq_decide, show (0#32).toInt = 0 from rfl, decide_eq_false h]
      rfl
    rw [e]
    rfl

/-- What the search asks of a key. -/
theorem enough_iff (k : BitVec 32) (x : Fin 100000 → EReal) (b : BitVec 32) :
    enough k (blocked x) b = true ↔ k.toInt ≤ (reach x (keyVal b.toInt) : ℤ) := by
  unfold enough
  rw [decide_eq_true_iff, ofBits_keyBits, countGe_blocked, EReal.coe_le_coe_iff]
  exact_mod_cast Iff.rfl

/-- What the search asks first. -/
theorem enoughZero_iff (k : BitVec 32) (x : Fin 100000 → EReal) :
    enoughZero k (blocked x) = true ↔ k.toInt ≤ (reach x 0 : ℤ) := by
  unfold enoughZero
  rw [decide_eq_true_iff, countGe_blocked, EReal.coe_le_coe_iff]
  exact_mod_cast Iff.rfl

/-- An entry reaches the search's number when fewer than `k` entries are greater. -/
theorem reaches_pivot (k : BitVec 32) (hk : 1 ≤ k.toInt) (x : Fin 100000 → EReal) (hx : ∀ i, x i ≠ ⊤)
    (hkey : ∀ i, ∃ a : ℤ, a < 2139095040 ∧ x i = keyVal a) (i : Fin 100000) :
    Ideal.ofBits .f32 (keyBits (pivotKey k (blocked x))) ≤ x i ↔ (countGt x (x i) : ℤ) < k.toInt := by
  have htop : reach x ⊤ = 0 := by
    rw [reach_eq x ⊤ bot_lt_top, Finset.card_eq_zero, Finset.filter_eq_empty_iff]
    intro j _ h
    exact hx j (top_le_iff.1 h)
  obtain ⟨h1, h2, h3⟩ := bisect_end (P := fun a => a < 2139095040 ∧ k.toInt ≤ (reach x (keyVal a) : ℤ)) (p := enough k (blocked x))
    (fun b hb => by
      rw [enough_iff]
      refine ⟨fun h => ⟨?_, h⟩, fun h => h.2⟩
      rcases lt_or_eq_of_le hb with h' | h'
      · exact h'
      · rw [h', keyVal_top, htop] at h
        exact absurd h (by push_cast; omega))
    (fun h => absurd h.1 (by omega)) (fun h => absurd h.1 (by omega)) (enoughZero k (blocked x))
    (by
      rw [enoughZero_iff, keyVal_zero]
      exact ⟨fun h => ⟨by omega, h⟩, fun h => h.2⟩)
    (pivotKey k (blocked x)) rfl
  rw [ofBits_keyBits]
  generalize (pivotKey k (blocked x)).toInt = lo at h1 h2 h3 ⊢
  constructor
  · intro hle
    by_contra hcon
    have hpos : 0 < countGt x (x i) := by omega
    obtain ⟨j, hj, hmin⟩ := Finset.exists_min_image (Finset.univ.filter fun j => x i < x j) x (Finset.card_pos.1 hpos)
    have hij := (Finset.mem_filter.1 hj).2
    obtain ⟨a, ha, hxa⟩ := hkey j
    have hreach : k.toInt ≤ (reach x (keyVal a) : ℤ) := by
      rw [← hxa, reach_eq x _ (lt_of_le_of_lt bot_le hij)]
      have hsub : countGt x (x i) ≤ (Finset.univ.filter fun j' => x j ≤ x j').card :=
        Finset.card_le_card fun j' hj' => Finset.mem_filter.2 ⟨Finset.mem_univ _, hmin j' hj'⟩
      omega
    have halo : a ≤ lo := by
      by_contra h
      refine h3 ⟨by omega, ?_⟩
      have := reach_anti x (keyVal (lo + 1)) (keyVal a) (keyVal_mono (by omega) (by omega))
      omega
    have := keyVal_mono halo (by omega)
    rw [← hxa] at this
    exact absurd (lt_of_le_of_lt (this.trans hle) hij) (lt_irrefl _)
  · intro hlt
    by_contra hcon
    have hcon := not_le.1 hcon
    rcases h2 with h2 | h2
    · have hr := h2.2
      rw [reach_eq x _ (lt_of_le_of_lt bot_le hcon)] at hr
      have hsub : (Finset.univ.filter fun j => keyVal lo ≤ x j).card ≤ countGt x (x i) :=
        Finset.card_le_card fun j hj => Finset.mem_filter.2 ⟨Finset.mem_univ _, lt_of_lt_of_le hcon (Finset.mem_filter.1 hj).2⟩
      omega
    · rw [h2, keyVal_low _ (by omega)] at hcon
      exact absurd hcon not_lt_bot

/-- The kernel's row maximum. -/
theorem rowMax_blocked (x : Fin 100000 → EReal) (M : EReal) (hM : ∀ i, x i ≤ M) (h0 : ∃ i, x i = M) :
    rowMax (blocked x) = M := by
  have hb : Ideal.ofBits .f32 0xFF800000#32 = ⊥ := (ieee_neg 2139095040 (by norm_num)).trans (if_neg (by norm_num))
  unfold rowMax
  rw [hb]
  apply le_antisymm
  · refine Finset.fold_max_le M |>.2 ⟨bot_le, fun l _ => Finset.fold_max_le M |>.2 ⟨bot_le, fun b _ => ?_⟩⟩
    unfold blocked
    split_ifs
    · exact hM _
    · exact bot_le
  · obtain ⟨i, hi⟩ := h0
    have hlt := i.isLt
    refine Finset.le_fold_max M |>.2 (Or.inr ⟨⟨i.val % 128, by omega⟩, Finset.mem_univ _, ?_⟩)
    refine Finset.le_fold_max M |>.2 (Or.inr ⟨⟨i.val / 128, by omega⟩, Finset.mem_univ _, ?_⟩)
    have e : 128 * (i.val / 128) + i.val % 128 = i.val := by omega
    unfold blocked
    rw [dif_pos (by simp only [e]; omega)]
    simp only [e]
    exact hi.ge

/-- The weight of an entry, before any is dropped. -/
def soft (x : Fin 100000 → EReal) (M T : ℝ) (i : Fin 100000) : ℝ :=
  if x i = ⊥ then 0 else Real.exp (((x i).toReal - M) / T)

/-- The weights kept, in a row without end. -/
def keptSoft (k : ℤ) (x : Fin 100000 → EReal) (M T : ℝ) (n : ℕ) : ℝ :=
  if h : n < 100000 then (if (countGt x (x ⟨n, h⟩) : ℤ) < k then soft x M T ⟨n, h⟩ else 0) else 0

/-- A weight as the kernel computes it. -/
theorem exp_scaled (v : EReal) (hv : v ≠ ⊤) (M T : ℝ) (hT : 0 < T) :
    Ideal.exp ((v - (M : EReal)) * ((1 / T : ℝ) : EReal)) = (((if v = ⊥ then 0 else Real.exp ((v.toReal - M) / T) : ℝ)) : EReal) := by
  induction v with
  | top => exact absurd rfl hv
  | bot =>
    rw [if_pos rfl, EReal.bot_sub, EReal.bot_mul_coe_of_pos (by positivity)]
    rfl
  | coe r =>
    rw [if_neg (EReal.coe_ne_bot r), ← EReal.coe_sub, ← EReal.coe_mul, EReal.toReal_coe]
    show ((Real.exp ((r - M) * (1 / T)) : ℝ) : EReal) = _
    rw [mul_one_div]

/-- The kernel's weights. -/
theorem weight_blocked (k : BitVec 32) (hk : 1 ≤ k.toInt) (x : Fin 100000 → EReal) (hx : ∀ i, x i ≠ ⊤)
    (hkey : ∀ i, ∃ a : ℤ, a < 2139095040 ∧ x i = keyVal a) (M T : ℝ) (hT : 0 < T) (hM : ∀ i, x i ≤ M) (h0 : ∃ i, x i = M)
    (b : Fin 784) (l : Fin 128) :
    weight ((1 / T : ℝ) : EReal) k (blocked x) b l = ((keptSoft k.toInt x M T (128 * b.val + l.val) : ℝ) : EReal) := by
  unfold weight
  rw [rowMax_blocked x M hM h0]
  by_cases h : 128 * b.val + l.val < 100000
  · have e : blocked x b l = x ⟨128 * b.val + l.val, h⟩ := by rw [blocked, dif_pos h]
    rw [e, keptSoft, dif_pos h, exp_scaled _ (hx _) M T hT]
    by_cases h' : (countGt x (x ⟨128 * b.val + l.val, h⟩) : ℤ) < k.toInt
    · rw [if_pos h', if_pos ((reaches_pivot k hk x hx hkey _).2 h')]
      rfl
    · rw [if_neg h', if_neg (fun h'' => h' ((reaches_pivot k hk x hx hkey _).1 h'')), EReal.coe_zero]
  · have e : blocked x b l = ⊥ := by rw [blocked, dif_neg h]
    rw [e, keptSoft, dif_neg h, exp_scaled _ bot_ne_top M T hT, if_pos rfl, EReal.coe_zero, ite_self]

end Cert.Sampling
-- ==== Proof.KRes.lean ====
module

public import proofs.«01_k».proof.Proof.KRun
public import proofs.«01_k».proof.Proof.Mask

@[expose] public section

set_option maxRecDepth 16384

/-!
# The kernel's result, row by row

Each word of the result is the word of its row.
-/

noncomputable section

open Idealize.ShloMosaic Idealize.ShloMosaic.TcCoe Idealize.SL.Sem

namespace Cert.KernelIdeal.Value

open Cert.KernelIdeal Cert.KernelIdeal.Gen

/-- A padded row is the row in blocks. -/
theorem padded_at (x : FVec Ideal S64x100000 .f32) (r : Fin 64) (b : Fin 784) (l : Fin 128) :
    padded x (ix3 r b l) = Cert.Sampling.blocked (fun i => x (ix2 r i)) b l := by
  unfold padded Cert.Sampling.blocked
  pointwise
  have e : b.val * 128 + l.val = 128 * b.val + l.val := by omega
  have hb : Ideal.ofBits .f32 4286578688#32 = ⊥ := (Cert.Sampling.ieee_neg 2139095040 (by norm_num)).trans (if_neg (by norm_num))
  rw [hb]
  simp only [e]

/-- The temperature as a number. -/
theorem temperature_at (t : IVec S_ 32) : (shapeCast S1x1 (sitofp .f32 t : FVec Ideal S_ .f32) shapeCasts_S_S1x1) (ix2 0 0)
    = ((((t ix0).toInt : ℝ)) : EReal) := by
  pointwise
  rfl

/-- The number of entries to keep. -/
theorem keep_at (k : IVec S_ 32) : (shapeCast S1x1 k shapeCasts_S_S1x1) (ix2 0 0) = k ix0 := by
  pointwise

/-- A row's uniform number. -/
theorem uniform_at (u : FVec Ideal S32x64 .f32) (r : Fin 64) :
    (shapeCast S64x1 (shapeCast S64 (extractStridedSlice S1x64 ![0, 0] u slices_S32x64_S1x64_0_0) shapeCasts_S1x64_S64) shapeCasts_S64_S64x1) (ix2 r 0)
      = u (ix2 0 r) := by
  pointwise

/-- The matrix. -/
theorem matrix_at (a b : Fin 784) :
    (select (cmpi .sge (addi (iotaInDim S784x784 32 0) (broadcastInDim S784x784 ![] bcast_S_S784x784 (constantI S_ 32 0#32))) (iotaInDim S784x784 32 1))
          (broadcastInDim S784x784 ![] bcast_S_S784x784 (constant S_ .f32 0x00000000#32))
          (broadcastInDim S784x784 ![] bcast_S_S784x784 (constant S_ .f32 0x3F800000#32)) : FVec Ideal S784x784 .f32) (ix2 a b)
      = (if a < b then (1 : EReal) else 0) := by
  pointwise
  have ha := a.isLt
  have hb := b.isLt
  have t : ∀ n : ℕ, n < 784 → (BitVec.ofNat 32 n).toInt = n := by
    intro n hn
    have e : (BitVec.ofNat 32 n).toNat = n := by
      rw [BitVec.toNat_ofNat]
      exact Nat.mod_eq_of_lt (by omega)
    rw [BitVec.toInt_eq_toNat_of_lt (by omega), e]
  have e : IntOp.cmpi CmpIPredicate.sge (IntOp.addi (BitVec.ofNat 32 a.val) 0#32) (BitVec.ofNat 32 b.val)
      = BitVec.ofBool (decide (b.val ≤ a.val)) := by
    show BitVec.ofBool ((BitVec.ofNat 32 b.val).sle (BitVec.ofNat 32 a.val + 0#32)) = _
    rw [BitVec.add_zero, BitVec.sle_eq_decide, t _ ha, t _ hb]
    refine congrArg BitVec.ofBool ?_
    rw [decide_eq_decide]
    exact Int.ofNat_le
  rw [e]
  by_cases h : a < b
  · rw [if_pos h, decide_eq_false (by rw [Fin.lt_def] at h; omega)]
    rfl
  · rw [if_neg h, decide_eq_true (by rw [Fin.lt_def] at h; omega)]
    rfl

/-- A column as a vector. -/
theorem vector_at (w : IVec S64x1 32) (r : Fin 64) : shapeCast S64 w shapeCasts_S64x1_S64 (ix1 r) = w (ix2 r 0) := by
  pointwise

/-- The inverse temperature. -/
theorem inverse_at (T : ℝ) (hT : 1 ≤ T) : k0_pay2 (F := Ideal) ((T : ℝ) : EReal) = ((1 / T : ℝ) : EReal) := by
  have h1 : Ideal.ofBits .f32 1065353216#32 = ((1 : ℝ) : EReal) := by
    show Ideal.ieee 8 23 (1065353216#32) = _
    have h1 : (BitVec.extractLsb' (8 + 23) 1 1065353216#32 == 1#1) = false := by decide
    have h2 : (BitVec.extractLsb' 23 8 1065353216#32).toNat = 127 := by decide
    have h3 : (BitVec.extractLsb' 0 23 1065353216#32).toNat = 0 := by decide
    unfold Ideal.ieee
    simp only [h1, h2, h3]
    norm_num
  show Ideal.div (Ideal.ofBits .f32 1065353216#32) ((T : ℝ) : EReal) = _
  rw [h1]
  unfold Ideal.div
  have hT0 : ((T : ℝ) : EReal) ≠ 0 := by
    rw [← EReal.coe_zero]
    intro h
    have := EReal.coe_eq_coe_iff.1 h
    linarith
  rw [if_neg hT0, ← EReal.coe_inv, ← EReal.coe_mul, one_div, one_mul]

/-- A word of the result. -/
theorem result_at (x : FVec Ideal S64x100000 .f32) (t k : IVec S_ 32) (u : FVec Ideal S32x64 .f32) (ht : 1 ≤ (t ix0).toInt) (r : Fin 64) :
    result x t k u (ix1 r) = Cert.Sampling.rowOut (Cert.Sampling.weight ((1 / ((t ix0).toInt : ℝ) : ℝ) : EReal) (k ix0)
      (Cert.Sampling.blocked fun i => x (ix2 r i))) (fun a b => if a < b then 1 else 0) (u (ix2 0 r)) := by
  unfold result
  rw [vector_at]
  show arrWord _ _ _ _ _ r = _
  unfold arrWord
  rw [temperature_at, keep_at, uniform_at, inverse_at _ (by exact_mod_cast ht)]
  simp only [padded_at]
  refine congrArg (fun M => Cert.Sampling.rowOut (Cert.Sampling.weight ((1 / ((t ix0).toInt : ℝ) : ℝ) : EReal) (k ix0)
      (Cert.Sampling.blocked fun i => x (ix2 r i))) M (u (ix2 0 r))) ?_
  funext a b
  exact matrix_at a b

end Cert.KernelIdeal.Value
-- ==== Proof.Top.lean ====
module

public import proofs.«01_k».proof.Proof.Mask

@[expose] public section

set_option maxRecDepth 16384

/-!
# The two filters of the reference

On a row of probabilities in falling order, the first filter keeps the entries with fewer than `k` greater ones,
and the second drops no positive entry.
-/

noncomputable section

open Idealize.ShloMosaic

namespace Cert.Sampling

section
variable (p : Fin 100000 → ℝ) (σ : Fin 100000 → Fin 100000) (hσ : Function.Bijective σ)
  (hfall : ∀ i j, i < j → p (σ j) ≤ p (σ i))

include hσ hfall

/-- The first filter: an entry reaches the `k`-th of the falling row when fewer than `k` entries are greater. -/
theorem first_filter (k : ℤ) (hk : 1 ≤ k) (i : Fin 100000) :
    p (σ ⟨min (k.toNat - 1) 99999, by omega⟩) ≤ p i ↔ ((Finset.univ.filter fun j => p i < p j).card : ℤ) < k := by
  obtain ⟨κ, hκ⟩ : ∃ κ : Fin 100000, κ = ⟨min (k.toNat - 1) 99999, by omega⟩ := ⟨_, rfl⟩
  have hκv : κ.val = min (k.toNat - 1) 99999 := by rw [hκ]
  rw [← hκ]
  have hcard : (Finset.univ.filter fun j => p i < p j).card = (Finset.univ.filter fun q => p i < p (σ q)).card := by
    symm
    refine Finset.card_bij (fun q _ => σ q) ?_ ?_ ?_
    · intro q hq
      exact Finset.mem_filter.2 ⟨Finset.mem_univ _, (Finset.mem_filter.1 hq).2⟩
    · intro a _ b _ h
      exact hσ.1 h
    · intro j hj
      obtain ⟨q, rfl⟩ := hσ.2 j
      exact ⟨q, Finset.mem_filter.2 ⟨Finset.mem_univ _, (Finset.mem_filter.1 hj).2⟩, rfl⟩
  have hfall' : ∀ a b, a ≤ b → p (σ b) ≤ p (σ a) := by
    intro a b h
    rcases lt_or_eq_of_le h with h | h
    · exact hfall a b h
    · rw [h]
  rw [hcard]
  constructor
  · intro hle
    have hsub : (Finset.univ.filter fun q => p i < p (σ q)).card ≤ (Finset.univ.filter fun q : Fin 100000 => q.val < κ.val).card := by
      refine Finset.card_le_card fun q hq => Finset.mem_filter.2 ⟨Finset.mem_univ _, ?_⟩
      have hq := (Finset.mem_filter.1 hq).2
      by_contra h
      exact absurd (lt_of_lt_of_le hq ((hfall' κ q (Fin.le_def.2 (by omega))).trans hle)) (lt_irrefl _)
    rw [card_below] at hsub
    omega
  · intro hlt
    by_contra hcon
    have hcon := not_le.1 hcon
    have hsub : (Finset.univ.filter fun q : Fin 100000 => q.val < κ.val + 1).card ≤ (Finset.univ.filter fun q => p i < p (σ q)).card := by
      refine Finset.card_le_card fun q hq => Finset.mem_filter.2 ⟨Finset.mem_univ _, ?_⟩
      have hq := (Finset.mem_filter.1 hq).2
      exact lt_of_lt_of_le hcon (hfall' q κ (Fin.le_def.2 (by omega)))
    rw [card_below] at hsub
    have hκlt := κ.isLt
    obtain ⟨q, hq⟩ := hσ.2 i
    have hqlt := q.isLt
    have hqnot : ¬ q.val ≤ κ.val := by
      intro h
      have := hfall' q κ (Fin.le_def.2 h)
      rw [hq] at this
      exact absurd (lt_of_lt_of_le hcon this) (lt_irrefl _)
    omega

/-- The second filter: its bound is at most any positive entry. -/
theorem second_filter (hp : ∀ i, 0 ≤ p i) (hsum : ∑ i, p i = 1) (Q : ℝ) (hQ : 1 ≤ Q) (i : Fin 100000) (hi : 0 < p i) :
    Finset.fold min (⊤ : EReal) (fun q => if (∑ j : Fin 100000, if j ≤ q then ((p (σ j) : ℝ) : EReal) else 0) - ((p (σ q) : ℝ) : EReal)
      < ((Q : ℝ) : EReal) then ((p (σ q) : ℝ) : EReal) else ⊤) Finset.univ ≤ ((p i : ℝ) : EReal) := by
  obtain ⟨q, hq⟩ := hσ.2 i
  refine Finset.fold_min_le _ |>.2 (Or.inr ⟨q, Finset.mem_univ _, ?_⟩)
  have hcum : (∑ j : Fin 100000, if j ≤ q then ((p (σ j) : ℝ) : EReal) else 0)
      = (((∑ j : Fin 100000, if j ≤ q then p (σ j) else 0 : ℝ)) : EReal) := by
    rw [coe_sum]
    refine Finset.sum_congr rfl fun j _ => ?_
    split_ifs
    · rfl
    · rw [EReal.coe_zero]
  have hle : (∑ j : Fin 100000, if j ≤ q then p (σ j) else 0 : ℝ) ≤ 1 := by
    rw [← hsum, ← Equiv.sum_comp (Equiv.ofBijective σ hσ) p]
    refine Finset.sum_le_sum fun j _ => ?_
    show (if j ≤ q then p (σ j) else 0) ≤ p (σ j)
    split_ifs
    · exact le_refl _
    · exact hp _
  rw [hcum, ← EReal.coe_sub, if_pos (EReal.coe_lt_coe_iff.2 (by rw [hq]; linarith)), hq]

end

end Cert.Sampling
-- ==== Proof.RefValue.lean ====
module

public import proofs.«01_k».proof.Proof.RefRun
public import Idealize.ShloMosaic.Lib.StableHlo.ReadAt
public import Idealize.ShloMosaic.PureOps.Ideal

@[expose] public section

set_option maxRecDepth 16384

/-!
# The result of the reference

What the reference leaves in its result, as stages over the arguments and the uniform numbers.
-/

noncomputable section

open Idealize.ShloMosaic Idealize.ShloMosaic.TcCoe Idealize.SL.Sem

namespace Cert.ReferenceIdeal.Ops

open Cert.ReferenceIdeal Cert.ReferenceIdeal.Gen

/-- A column of one number per row, spread over the row. -/
def spread (v : FVec Ideal S64 .f32) : FVec Ideal S64x100000 .f32 :=
  broadcastInDim S64x100000 ![0, 1] bcast_S64x1_S64x100000_0_1 (broadcastInDim S64x1 ![0] bcast_S64_S64x1_0 v)

/-- The logits over the temperature. -/
def scaled (x : FVec Ideal S64x100000 .f32) (t : IVec S_ 32) : FVec Ideal S64x100000 .f32 :=
  Host.divf x (broadcastInDim S64x100000 ![] bcast_S_S64x100000 (sitofp .f32 t))

/-- The exponentials of the scaled logits less their row's maximum. -/
def weights (x : FVec Ideal S64x100000 .f32) (t : IVec S_ 32) : FVec Ideal S64x100000 .f32 :=
  Host.exp (subf (scaled x t) (spread (maximumf (broadcastInDim S64 ![] bcast_S_S64 (constant S_ .f32 0xFF800000#32))
    (Host.reduce FloatOps.maximumf (scaled x t) (constant S_ .f32 0xFF800000#32) reducesTo_S64x100000_S64_d1 h_S_))))

/-- The sum of each row. -/
def rowSum (x : FVec Ideal S64x100000 .f32) : FVec Ideal S64 .f32 :=
  Host.reduceAdd x (constant S_ .f32 0x00000000#32) reducesTo_S64x100000_S64_d1 h_S_

/-- Each row over its sum. -/
def normed (x : FVec Ideal S64x100000 .f32) : FVec Ideal S64x100000 .f32 :=
  Host.divf x (spread (rowSum x))

/-- The row in falling order. -/
def falling (p : FVec Ideal S64x100000 .f32) : FVec Ideal S64x100000 .f32 :=
  Host.reverse [1] (Host.sort S64x100000 1 comparator_f32_d1 p)

/-- The position of the last of the first `k`. -/
def lastPos (k : IVec S_ 32) : IVec S_ 32 :=
  select (cmpi .slt (subi k (constantI S_ 32 1#32)) (constantI S_ 32 0#32))
    (addi (subi k (constantI S_ 32 1#32)) (constantI S_ 32 100000#32)) (subi k (constantI S_ 32 1#32))

/-- The row position the slice starts at. -/
def rowPos : IVec S_ 32 :=
  select (cmpi .slt (constantI S_ 32 0#32) (constantI S_ 32 0#32))
    (addi (constantI S_ 32 0#32) (constantI S_ 32 64#32)) (constantI S_ 32 0#32)

/-- The column of the falling rows at the position of the last of the first `k`. -/
def pivotK (d : FVec Ideal S64x100000 .f32) (k : IVec S_ 32) : FVec Ideal S64x1 .f32 :=
  Host.dynamicSlice S64x1 d (fun j => ((![rowPos, lastPos k] : Fin 2 → IVec S_ 32) j (Shape.Idx.first h_S_)).toInt)
    sliceFits_S64x100000_S64x1

/-- The running sum along each row. -/
def running (x : FVec Ideal S64x100000 .f32) : FVec Ideal S64x100000 .f32 :=
  Host.reduceWindowAdd ![1, 100000] ![1, 1] ![0, 99999] ![0, 0] x
    (broadcastInDim S_ ![] bcast_S_S_ (constant S_ .f32 0x00000000#32))
    reduceWindows_S64x100000_S64x100000_w1s1p0_0_w100000s1p99999_0 h_S_

/-- The least probability of each row whose greater ones sum to less than `q`. -/
def pivotP (d : FVec Ideal S64x100000 .f32) (q : IVec S_ 32) : FVec Ideal S64 .f32 :=
  Host.reduce FloatOps.minimumf
    (select (cmpf .olt (subf (running d) d) (broadcastInDim S64x100000 ![] bcast_S_S64x100000 (sitofp .f32 q))) d
      (broadcastInDim S64x100000 ![] bcast_S_S64x100000 (constant S_ .f32 0x7F800000#32)))
    (constant S_ .f32 0x7F800000#32) reducesTo_S64x100000_S64_d1 h_S_

/-- The probabilities kept by both filters, zero elsewhere. -/
def kept (p : FVec Ideal S64x100000 .f32) (k q : IVec S_ 32) : FVec Ideal S64x100000 .f32 :=
  select (andi (cmpf .oge p (spread (shapeCast S64 (pivotK (falling p) k) shapeCasts_S64x1_S64)))
      (cmpf .oge p (spread (pivotP (falling p) q)))) p
    (broadcastInDim S64x100000 ![] bcast_S_S64x100000 (constant S_ .f32 0x00000000#32))

/-- The first row of the uniform numbers. -/
def firstRow (u : FVec Ideal S32x64 .f32) : FVec Ideal S64 .f32 :=
  shapeCast S64 (extractStridedSlice S1x64 ![0, 0] u slices_S32x64_S1x64_0_0) shapeCasts_S1x64_S64

/-- The number of entries of each row of `c` below the row's uniform number, at most 99999. -/
def counted (c : FVec Ideal S64x100000 .f32) (u : FVec Ideal S32x64 .f32) : IVec S64 32 :=
  minsi (broadcastInDim S64 ![] bcast_S_S64 (constantI S_ 32 99999#32))
    (maxsi (broadcastInDim S64 ![] bcast_S_S64 (constantI S_ 32 0#32))
      (Host.reduce IntOp.addi (extui 32 (cmpf .olt c (spread (firstRow u))) natLt_1_32) (constantI S_ 32 0#32)
        reducesTo_S64x100000_S64_d1 h_S_))

set_option maxHeartbeats 4000000 in
/-- The probabilities, from any contents. -/
theorem read_probs (V : Valuation τ sig (Elt Ideal)) :
    StableHlo.after ops0 V (Proc.devRef .tc main_v13)
      = normed (weights (V (Proc.devRef .tc main_arg0)) (V (Proc.devRef .tc main_arg1))) := by
  after_reads_simp
  rfl

set_option maxHeartbeats 4000000 in
/-- The falling rows. -/
theorem read_falling (V : Valuation τ sig (Elt Ideal)) :
    StableHlo.after (ops2 ++ ops3) V (Proc.devRef .tc main_v23) = falling (V (Proc.devRef .tc main_v13)) := by
  after_reads_simp
  rfl

set_option maxHeartbeats 4000000 in
/-- The first filter's mask. -/
theorem read_first (V : Valuation τ sig (Elt Ideal)) :
    StableHlo.after ops4 V (Proc.devRef .tc main_v35)
      = cmpf .oge (V (Proc.devRef .tc main_v13) : FVec Ideal S64x100000 .f32)
          (spread (shapeCast S64 (pivotK (V (Proc.devRef .tc main_v23)) (V (Proc.devRef .tc main_arg2))) shapeCasts_S64x1_S64)) := by
  have h27 : StableHlo.upto ops4 V 15 (Proc.devRef .tc main_v27) = rowPos := by
    after_reads_simp
    rfl
  have h30 : StableHlo.upto ops4 V 15 (Proc.devRef .tc main_v30) = lastPos (V (Proc.devRef .tc main_arg2)) := by
    after_reads_simp
    rfl
  after_reads_simp
  refine congrArg (fun f : Fin 2 → Int => cmpf .oge (V (Proc.devRef .tc main_v13) : FVec Ideal S64x100000 .f32)
    (spread (shapeCast S64 (Host.dynamicSlice S64x1 (V (Proc.devRef .tc main_v23) : FVec Ideal S64x100000 .f32) f sliceFits_S64x100000_S64x1)
      shapeCasts_S64x1_S64))) (funext fun k => ?_)
  fin_cases k
  · exact congrArg (fun v : IVec S_ 32 => (v (Shape.Idx.first h_S_)).toInt) h27
  · exact congrArg (fun v : IVec S_ 32 => (v (Shape.Idx.first h_S_)).toInt) h30

set_option maxHeartbeats 4000000 in
/-- The running sums of the falling rows. -/
theorem read_running (V : Valuation τ sig (Elt Ideal)) :
    StableHlo.after ops5 V (Proc.devRef .tc main_v36) = running (V (Proc.devRef .tc main_v23)) := by
  after_reads_simp
  rfl

set_option maxHeartbeats 4000000 in
/-- Both filters' mask. -/
theorem read_mask (V : Valuation τ sig (Elt Ideal))
    (h : (V (Proc.devRef .tc main_v36) : FVec Ideal S64x100000 .f32) = running (V (Proc.devRef .tc main_v23))) :
    StableHlo.after (ops6 ++ (ops7 ++ (ops8 ++ ops9))) V (Proc.devRef .tc main_v46)
      = andi (V (Proc.devRef .tc main_v35)) (cmpf .oge (V (Proc.devRef .tc main_v13) : FVec Ideal S64x100000 .f32)
          (spread (pivotP (V (Proc.devRef .tc main_v23)) (V (Proc.devRef .tc main_arg3))))) := by
  unfold pivotP
  rw [← h]
  after_reads_simp
  rfl

set_option maxHeartbeats 4000000 in
/-- The kept probabilities over their sums. -/
theorem read_normed (V : Valuation τ sig (Elt Ideal)) (h16 : V (Proc.devRef .tc main_cst_16) = (constant S_ .f32 0x00000000#32 : FVec Ideal S_ .f32)) :
    StableHlo.after (ops10 ++ ops11) V (Proc.devRef .tc main_v51)
      = normed (select (V (Proc.devRef .tc main_v46)) (V (Proc.devRef .tc main_v13) : FVec Ideal S64x100000 .f32)
            (broadcastInDim S64x100000 ![] bcast_S_S64x100000 (constant S_ .f32 0x00000000#32))) := by
  rw [← h16]
  after_reads_simp
  rw [h16]
  rfl

set_option maxHeartbeats 4000000 in
/-- The running sums of the renormed rows. -/
theorem read_running' (V : Valuation τ sig (Elt Ideal)) :
    StableHlo.after ops12 V (Proc.devRef .tc main_v52) = running (V (Proc.devRef .tc main_v51)) := by
  after_reads_simp
  rfl

set_option maxHeartbeats 4000000 in
/-- The clamped counts. -/
theorem read_clamped (V : Valuation τ sig (Elt Ideal)) (h19 : (V (Proc.devRef .tc main_c_19) : IVec S_ 32) = constantI S_ 32 0#32)
    (h20 : (V (Proc.devRef .tc main_c_20) : IVec S_ 32) = constantI S_ 32 99999#32) :
    StableHlo.after ops14 V (Proc.devRef .tc main_v60)
      = minsi (broadcastInDim S64 ![] bcast_S_S64 (constantI S_ 32 99999#32))
    (maxsi (broadcastInDim S64 ![] bcast_S_S64 (constantI S_ 32 0#32)) (V (Proc.devRef .tc main_v59))) := by
  rw [← h19, ← h20]
  after_reads_simp
  rfl

set_option maxHeartbeats 4000000 in
/-- The counts. -/
theorem read_counts (V : Valuation τ sig (Elt Ideal)) :
    StableHlo.after ops13 V (Proc.devRef .tc main_v59)
      = Host.reduce IntOp.addi (extui 32 (cmpf .olt (V (Proc.devRef .tc main_v52) : FVec Ideal S64x100000 .f32)
        (spread (firstRow (V (Proc.devRef .tc main_v21))))) natLt_1_32) (constantI S_ 32 0#32)
        reducesTo_S64x100000_S64_d1 h_S_ := by
  after_reads_simp
  rfl

set_option maxHeartbeats 4000000 in
/-- The result, from the running sums and the uniform numbers. -/
theorem read_counted (V : Valuation τ sig (Elt Ideal)) :
    StableHlo.after (ops13 ++ ops14) V (Proc.devRef .tc main_v60)
      = counted (V (Proc.devRef .tc main_v52)) (V (Proc.devRef .tc main_v21)) := by
  rw [StableHlo.after_append, read_clamped _ (by after_reads_simp) (by after_reads_simp), read_counts]
  rfl

set_option maxHeartbeats 4000000 in
/-- The uniform numbers' operations leave the probabilities. -/
theorem keep_probs (V : Valuation τ sig (Elt Ideal)) :
    StableHlo.after ops1 V (Proc.devRef .tc main_v13) = V (Proc.devRef .tc main_v13) := by
  after_reads_simp

/-- What the reference draws. -/
def uniforms (m : (ℓ : Loc nD τ sig) → Buf (Elt Ideal) ℓ) (c : Dev nD) : FVec Ideal S32x64 .f32 :=
  StableHlo.after ops1 (StableHlo.after ops0 (StableHlo.launchContents m c)) (Proc.devRef .tc main_v21)

set_option maxHeartbeats 4000000 in
/-- The reference's result. -/
theorem fin_result (m : (ℓ : Loc nD τ sig) → Buf (Elt Ideal) ℓ) (c : Dev nD) :
    fin m c (Proc.devRef .tc main_v60)
      = counted (running (normed (kept (normed (weights (m ((c.tc : Thread nD τ).loc main_arg0)) (m ((c.tc : Thread nD τ).loc main_arg1))))
          (m ((c.tc : Thread nD τ).loc main_arg2)) (m ((c.tc : Thread nD τ).loc main_arg3))))) (uniforms m c) := by
  have e : List.flatten (stretches (F := Ideal)) = ops0 ++ (ops1 ++ ((ops2 ++ ops3) ++ (ops4 ++ (ops5 ++ ((ops6 ++ (ops7 ++ (ops8 ++ ops9)))
      ++ ((ops10 ++ ops11) ++ (ops12 ++ (ops13 ++ ops14)))))))) := rfl
  unfold fin uniforms
  rw [e]
  simp only [StableHlo.after_append (ops0 (F := Ideal)), StableHlo.after_append (ops1 (F := Ideal)), StableHlo.after_append (ops2 (F := Ideal) ++ ops3 (F := Ideal)),
    StableHlo.after_append (ops4 (F := Ideal)), StableHlo.after_append (ops5 (F := Ideal)),
    StableHlo.after_append (ops6 (F := Ideal) ++ (ops7 (F := Ideal) ++ (ops8 (F := Ideal) ++ ops9 (F := Ideal)))),
    StableHlo.after_append (ops10 (F := Ideal) ++ ops11 (F := Ideal)), StableHlo.after_append (ops12 (F := Ideal))]
  have a2 : (StableHlo.launchContents m c (Proc.devRef .tc main_arg2) : IVec S_ 32) = m ((c.tc : Thread nD τ).loc main_arg2) := rfl
  have a3 : (StableHlo.launchContents m c (Proc.devRef .tc main_arg3) : IVec S_ 32) = m ((c.tc : Thread nD τ).loc main_arg3) := rfl
  have p0 := read_probs (StableHlo.launchContents m c)
  rw [← a2, ← a3]
  have p0' : StableHlo.after ops0 (StableHlo.launchContents m c) (Proc.devRef .tc main_v13)
      = normed (weights (m ((c.tc : Thread nD τ).loc main_arg0)) (m ((c.tc : Thread nD τ).loc main_arg1))) := p0
  rw [← p0']
  clear p0 p0' a2 a3
  have k2 : StableHlo.after ops0 (StableHlo.launchContents m c) (Proc.devRef .tc main_arg2)
      = StableHlo.launchContents m c (Proc.devRef .tc main_arg2) := by after_reads_simp
  have k3 : StableHlo.after ops0 (StableHlo.launchContents m c) (Proc.devRef .tc main_arg3)
      = StableHlo.launchContents m c (Proc.devRef .tc main_arg3) := by after_reads_simp
  rw [← k2, ← k3]
  clear k2 k3
  generalize StableHlo.after ops0 (StableHlo.launchContents m c) = V0
  have k2 : StableHlo.after ops1 V0 (Proc.devRef .tc main_arg2) = V0 (Proc.devRef .tc main_arg2) := by after_reads_simp
  have k3 : StableHlo.after ops1 V0 (Proc.devRef .tc main_arg3) = V0 (Proc.devRef .tc main_arg3) := by after_reads_simp
  rw [← k2, ← k3, ← keep_probs V0]
  clear k2 k3
  generalize StableHlo.after ops1 V0 = V1
  have f := read_falling V1
  have k2 : StableHlo.after (ops2 ++ ops3) V1 (Proc.devRef .tc main_arg2) = V1 (Proc.devRef .tc main_arg2) := by after_reads_simp
  have k3 : StableHlo.after (ops2 ++ ops3) V1 (Proc.devRef .tc main_arg3) = V1 (Proc.devRef .tc main_arg3) := by after_reads_simp
  have k13 : StableHlo.after (ops2 ++ ops3) V1 (Proc.devRef .tc main_v13) = V1 (Proc.devRef .tc main_v13) := by after_reads_simp
  have k21 : StableHlo.after (ops2 ++ ops3) V1 (Proc.devRef .tc main_v21) = V1 (Proc.devRef .tc main_v21) := by after_reads_simp
  unfold kept
  rw [← f, ← k2, ← k3, ← k13, ← k21]
  clear f k2 k3 k13 k21
  generalize StableHlo.after (ops2 ++ ops3) V1 = V2
  have f := read_first V2
  have k3 : StableHlo.after ops4 V2 (Proc.devRef .tc main_arg3) = V2 (Proc.devRef .tc main_arg3) := by after_reads_simp
  have k13 : StableHlo.after ops4 V2 (Proc.devRef .tc main_v13) = V2 (Proc.devRef .tc main_v13) := by after_reads_simp
  have k21 : StableHlo.after ops4 V2 (Proc.devRef .tc main_v21) = V2 (Proc.devRef .tc main_v21) := by after_reads_simp
  have k23 : StableHlo.after ops4 V2 (Proc.devRef .tc main_v23) = V2 (Proc.devRef .tc main_v23) := by after_reads_simp
  rw [← f, ← k3, ← k13, ← k21, ← k23]
  clear f k3 k13 k21 k23
  generalize StableHlo.after ops4 V2 = V3
  have f := read_running V3
  have k3 : StableHlo.after ops5 V3 (Proc.devRef .tc main_arg3) = V3 (Proc.devRef .tc main_arg3) := by after_reads_simp
  have k13 : StableHlo.after ops5 V3 (Proc.devRef .tc main_v13) = V3 (Proc.devRef .tc main_v13) := by after_reads_simp
  have k21 : StableHlo.after ops5 V3 (Proc.devRef .tc main_v21) = V3 (Proc.devRef .tc main_v21) := by after_reads_simp
  have k23 : StableHlo.after ops5 V3 (Proc.devRef .tc main_v23) = V3 (Proc.devRef .tc main_v23) := by after_reads_simp
  have k35 : StableHlo.after ops5 V3 (Proc.devRef .tc main_v35) = V3 (Proc.devRef .tc main_v35) := by after_reads_simp
  rw [← k3, ← k13, ← k21, ← k23, ← k35]
  rw [← k23] at f
  clear k3 k13 k21 k23 k35
  generalize StableHlo.after ops5 V3 = V4 at *
  have g := read_mask V4 f
  have k13 : StableHlo.after (ops6 ++ (ops7 ++ (ops8 ++ ops9))) V4 (Proc.devRef .tc main_v13) = V4 (Proc.devRef .tc main_v13) := by after_reads_simp
  have k21 : StableHlo.after (ops6 ++ (ops7 ++ (ops8 ++ ops9))) V4 (Proc.devRef .tc main_v21) = V4 (Proc.devRef .tc main_v21) := by after_reads_simp
  have k16 : StableHlo.after (ops6 ++ (ops7 ++ (ops8 ++ ops9))) V4 (Proc.devRef .tc main_cst_16) = (constant S_ .f32 0x00000000#32 : FVec Ideal S_ .f32) := by after_reads_simp
  rw [← g, ← k13, ← k21]
  clear f g k13 k21
  generalize StableHlo.after (ops6 ++ (ops7 ++ (ops8 ++ ops9))) V4 = V5 at *
  have k21 : StableHlo.after (ops10 ++ ops11) V5 (Proc.devRef .tc main_v21) = V5 (Proc.devRef .tc main_v21) := by after_reads_simp
  have f := read_normed V5 k16
  rw [← f, ← k21]
  clear f k21
  generalize StableHlo.after (ops10 ++ ops11) V5 = V6 at *
  have k21 : StableHlo.after ops12 V6 (Proc.devRef .tc main_v21) = V6 (Proc.devRef .tc main_v21) := by after_reads_simp
  rw [← read_running' V6, ← k21]
  exact read_counted _

end Cert.ReferenceIdeal.Ops
-- ==== Proof.RRow.lean ====
module

public import proofs.«01_k».proof.Proof.RefValue
public import Idealize.ShloMosaic.Lib.Pointwise

@[expose] public section

set_option maxRecDepth 16384

/-!
# The reference's stages, row by row

Each stage of the reference's result read at a row and a column.
-/

noncomputable section

open Idealize.ShloMosaic Idealize.ShloMosaic.TcCoe Idealize.SL.Sem

namespace Cert.ReferenceIdeal.Ops

open Cert.ReferenceIdeal Cert.ReferenceIdeal.Gen

/-- A column spread over the rows. -/
theorem spread_at (v : FVec Ideal S64 .f32) (r : Fin 64) (i : Fin 100000) : spread v (ix2 r i) = v (ix1 r) := by
  pointwise [spread]

/-- A scaled logit. -/
theorem scaled_at (x : FVec Ideal S64x100000 .f32) (t : IVec S_ 32) (r : Fin 64) (i : Fin 100000) :
    scaled x t (ix2 r i) = Ideal.div (x (ix2 r i)) (((t ix0).toInt : ℝ) : EReal) := by
  pointwise [scaled]
  rfl

/-- The maximum of a row. -/
theorem rowFold_at (y : FVec Ideal S64x100000 .f32) (r : Fin 64) :
    (Host.reduce FloatOps.maximumf y (constant S_ .f32 0xFF800000#32) reducesTo_S64x100000_S64_d1 h_S_) (ix1 r)
      = (Finset.fold max (Ideal.ofBits .f32 0xFF800000#32) (fun i => y (ix2 r i)) Finset.univ : EReal) := by
  pointwise

/-- A larger one, from a starting value. -/
theorem max_at (v : FVec Ideal S64 .f32) (r : Fin 64) :
    (maximumf (broadcastInDim S64 ![] bcast_S_S64 (constant S_ .f32 0xFF800000#32)) v) (ix1 r)
      = (max (Ideal.ofBits .f32 0xFF800000#32) (v (ix1 r)) : EReal) := rfl

/-- A weight. -/
theorem weights_at (x : FVec Ideal S64x100000 .f32) (t : IVec S_ 32) (r : Fin 64) (i : Fin 100000) :
    weights x t (ix2 r i) = (Ideal.exp (scaled x t (ix2 r i)
      - max (Ideal.ofBits .f32 0xFF800000#32) (Finset.fold max (Ideal.ofBits .f32 0xFF800000#32) (fun i => scaled x t (ix2 r i)) Finset.univ)) : EReal) := by
  have e : weights x t (ix2 r i) = (Ideal.exp (scaled x t (ix2 r i)
      - spread (maximumf (broadcastInDim S64 ![] bcast_S_S64 (constant S_ .f32 0xFF800000#32))
      (Host.reduce FloatOps.maximumf (scaled x t) (constant S_ .f32 0xFF800000#32) reducesTo_S64x100000_S64_d1 h_S_)) (ix2 r i)) : EReal) := rfl
  rw [e, spread_at, max_at, rowFold_at]

/-- The sum of a row. -/
theorem rowSum_at (x : FVec Ideal S64x100000 .f32) (r : Fin 64) : rowSum x (ix1 r) = ∑ i, x (ix2 r i) := by
  pointwise [rowSum]

/-- An entry over its row's sum. -/
theorem normed_at (x : FVec Ideal S64x100000 .f32) (r : Fin 64) (i : Fin 100000) :
    normed x (ix2 r i) = Ideal.div (x (ix2 r i)) (∑ i, x (ix2 r i)) := by
  rw [← rowSum_at]
  generalize hv : rowSum x = v
  have e : normed x = divf x (spread v) := by
    rw [← hv]
    rfl
  rw [e]
  pointwise [spread_at]

/-- The falling row is the sorted row backwards. -/
theorem falling_at (x : FVec Ideal S64x100000 .f32) (r : Fin 64) (i : Fin 100000) :
    falling x (ix2 r i) = Host.sort S64x100000 1 comparator_f32_d1 x (ix2 r i.rev) := by
  pointwise [falling]
  rfl

/-- The least of a row's entries whose greater ones sum to less than `q`. -/
theorem pivotP_at (d : FVec Ideal S64x100000 .f32) (q : IVec S_ 32) (r : Fin 64) :
    pivotP d q (ix1 r) = Finset.fold min (Ideal.ofBits .f32 0x7F800000#32)
      (fun i => if running d (ix2 r i) - d (ix2 r i) < (((q ix0).toInt : ℝ) : EReal) then d (ix2 r i)
        else Ideal.ofBits .f32 0x7F800000#32) Finset.univ := by
  pointwise [pivotP]
  rfl

/-- The uniform number of a row. -/
theorem firstRow_at (u : FVec Ideal S32x64 .f32) (r : Fin 64) : firstRow u (ix1 r) = u (ix2 0 r) := by
  pointwise [firstRow]

/-- The count of a row. -/
theorem counted_at (c : FVec Ideal S64x100000 .f32) (u : FVec Ideal S32x64 .f32) (r : Fin 64) :
    counted c u (ix1 r) = IntOp.minsi 99999#32 (IntOp.maxsi 0#32
      (Finset.fold IntOp.addi 0#32 (fun i => BitVec.setWidth 32 (BitVec.ofBool (decide (c (ix2 r i) < u (ix2 0 r))))) Finset.univ)) := by
  rw [show u (ix2 0 r) = firstRow u (ix1 r) from (firstRow_at u r).symm]
  generalize hv : firstRow u = v
  have e : counted c u = minsi (broadcastInDim S64 ![] bcast_S_S64 (constantI S_ 32 99999#32))
    (maxsi (broadcastInDim S64 ![] bcast_S_S64 (constantI S_ 32 0#32))
      (Host.reduce IntOp.addi (extui 32 (cmpf .olt c (spread v)) natLt_1_32) (constantI S_ 32 0#32)
        reducesTo_S64x100000_S64_d1 h_S_)) := by
    rw [← hv]
    rfl
  rw [e]
  pointwise [spread_at]

/-- Two lower bounds. -/
theorem both_at (p a b z : FVec Ideal S64x100000 .f32) (i : S64x100000.Idx) :
    select (andi (cmpf .oge p a) (cmpf .oge p b)) p z i = (if (a i : EReal) ≤ p i ∧ (b i : EReal) ≤ p i then p i else z i) := by
  show Scalar.select (IntOp.andi (BitVec.ofBool (decide ((a i : EReal) ≤ p i))) (BitVec.ofBool (decide ((b i : EReal) ≤ p i)))) (p i) (z i) = _
  by_cases h1 : (a i : EReal) ≤ p i <;> by_cases h2 : (b i : EReal) ≤ p i <;>
    simp only [h1, h2, decide_true, decide_false, and_true, and_false, if_true, if_false] <;> rfl

/-- A column read as a vector. -/
theorem column_at (v : FVec Ideal S64x1 .f32) (r : Fin 64) : shapeCast S64 v shapeCasts_S64x1_S64 (ix1 r) = v (ix2 r 0) := by
  pointwise

/-- A spread zero. -/
theorem zero_at (r : Fin 64) (i : Fin 100000) :
    (broadcastInDim S64x100000 ![] bcast_S_S64x100000 (constant (F := Ideal) S_ .f32 0x00000000#32)) (ix2 r i) = (0 : EReal) := by
  pointwise

/-- A kept probability. -/
theorem kept_at (p : FVec Ideal S64x100000 .f32) (k q : IVec S_ 32) (r : Fin 64) (i : Fin 100000) :
    kept p k q (ix2 r i) = if pivotK (falling p) k (ix2 r 0) ≤ p (ix2 r i) ∧ pivotP (falling p) q (ix1 r) ≤ p (ix2 r i)
      then p (ix2 r i) else (0 : EReal) := by
  have e : kept p k q = select (andi (cmpf .oge p (spread (shapeCast S64 (pivotK (falling p) k) shapeCasts_S64x1_S64)))
      (cmpf .oge p (spread (pivotP (falling p) q)))) p
      (broadcastInDim S64x100000 ![] bcast_S_S64x100000 (constant (F := Ideal) S_ .f32 0x00000000#32)) := rfl
  rw [e, both_at, spread_at, spread_at, column_at, zero_at]

/-- The column's position, clamped. -/
theorem lastPos_word (w : BitVec 32) (h : 1 ≤ w.toInt) :
    (Scalar.select (IntOp.cmpi .slt (IntOp.subi w 1#32) 0#32) (IntOp.addi (IntOp.subi w 1#32) 100000#32) (IntOp.subi w 1#32)).toInt
      = w.toInt - 1 := by
  have e : (IntOp.subi w 1#32).toInt = w.toInt - 1 := by
    show (w - 1#32).toInt = _
    have := BitVec.toInt_lt (x := w)
    rw [BitVec.toInt_sub, show (1#32).toInt = 1 from rfl, Int.bmod_eq_of_le (by omega) (by omega)]
  have h0 : (IntOp.subi w 1#32).slt 0#32 = false := by
    rw [BitVec.slt_eq_decide, e, show (0#32).toInt = 0 from rfl]
    exact decide_eq_false (by omega)
  have h1 : IntOp.cmpi .slt (IntOp.subi w 1#32) 0#32 = 0#1 := by
    show BitVec.ofBool ((IntOp.subi w 1#32).slt 0#32) = _
    rw [h0]
    rfl
  rw [h1, ← e]
  rfl

/-- The starts of the column read. -/
theorem starts (k : IVec S_ 32) (h : 1 ≤ (k ix0).toInt) :
    (rowPos (Shape.Idx.first h_S_)).toInt = 0 ∧ (lastPos k (Shape.Idx.first h_S_)).toInt = (k ix0).toInt - 1 := by
  have e0 : (Shape.Idx.first h_S_ : S_.Idx) = ix0 := by
    funext a
    exact a.elim0
  rw [e0]
  refine ⟨?_, ?_⟩
  · have e : rowPos ix0 = 0#32 := by
      unfold rowPos
      pointwise
      try rfl
      try decide
    rw [e]
    rfl
  · have e : lastPos k ix0 = Scalar.select (IntOp.cmpi .slt (IntOp.subi (k ix0) 1#32) 0#32) (IntOp.addi (IntOp.subi (k ix0) 1#32) 100000#32)
        (IntOp.subi (k ix0) 1#32) := by
      pointwise [lastPos]
      try rfl
    rw [e, lastPos_word _ h]

/-- The column the first filter reads. -/
theorem pivotK_at (d : FVec Ideal S64x100000 .f32) (k : IVec S_ 32) (hk : 1 ≤ (k ix0).toInt) (r : Fin 64) :
    pivotK d k (ix2 r 0) = d (ix2 r ⟨min ((k ix0).toInt.toNat - 1) 99999, by omega⟩) := by
  obtain ⟨s0, s1⟩ := starts k hk
  pointwise [pivotK]
  congr 2
  · apply Fin.ext
    show (min (max (rowPos (Shape.Idx.first h_S_)).toInt 0) ((64 - 64 : ℕ) : ℤ)).toNat + r.val = r.val
    rw [s0]
    simp
  · apply Fin.ext
    show (min (max (lastPos k (Shape.Idx.first h_S_)).toInt 0) ((100000 - 1 : ℕ) : ℤ)).toNat = min ((k ix0).toInt.toNat - 1) 99999
    rw [s1]
    omega

end Cert.ReferenceIdeal.Ops
-- ==== Proof.Falling.lean ====
module

public import proofs.«01_k».proof.Proof.RRow
public import Idealize.ShloMosaic.Lib.SortFacts
public import Mathlib.Data.EReal.Operations

@[expose] public section

set_option maxRecDepth 16384

/-!
# Sorted rows

A sorted row backwards is the row in another order, and it falls.
-/

noncomputable section

open Idealize.ShloMosaic Idealize.ShloMosaic.TcCoe Idealize.SL.Sem

namespace Cert.ReferenceIdeal.Ops

open Cert.ReferenceIdeal Cert.ReferenceIdeal.Gen

/-- The order of the sort is the order of the numbers. -/
theorem comparator_eq (a b : EReal) : comparator_f32_d1 (F := Ideal) a b = BitVec.ofBool (decide (a < b)) := by
  have h0 : (FloatOps.ofBits .f32 0x00000000#32 : Ideal .f32) = (0 : EReal) := by
    show Ideal.ofBits .f32 0x00000000#32 = 0
    norm_num [Ideal.ofBits, Ideal.ieee]
  have hz : ∀ v : EReal, Scalar.select (FloatOps.cmpf (F := Ideal) (φ := .f32) .oeq v (FloatOps.ofBits .f32 0x00000000#32))
      (FloatOps.ofBits .f32 0x00000000#32 : Ideal .f32) v = v := by
    intro v
    rw [h0]
    show Scalar.select (BitVec.ofBool (decide (v = 0))) (0 : EReal) v = v
    by_cases h : v = 0
    · rw [h, decide_eq_true rfl]
      rfl
    · rw [decide_eq_false h]
      rfl
  have hn : ∀ v w : EReal, Scalar.select (FloatOps.cmpf (F := Ideal) (φ := .f32) .une v v)
      (FloatOps.ofBits .f32 0x7FC00000#32 : Ideal .f32) w = w := by
    intro v w
    show Scalar.select (BitVec.ofBool (decide (v ≠ v))) _ w = w
    rw [decide_eq_false (by simp)]
    rfl
  unfold comparator_f32_d1
  simp only
  rw [hz, hz, hn, hn]
  rfl

/-- An order read backwards is an order. -/
theorem bijective_rev {n : ℕ} (f : Fin n → Fin n) (h : Function.Bijective f) : Function.Bijective fun i : Fin n => f i.rev :=
  h.comp Fin.rev_bijective

/-- A sort takes every entry once. -/
theorem bijective_sorted {n : ℕ} (B : Fin n → Fin n → Bool) : Function.Bijective (sortedFrom B) :=
  ⟨sortedFrom_injective B, sortedFrom_surjective B⟩

/-- The order in which a row is sorted. -/
def order (p : FVec Ideal S64x100000 .f32) (r : Fin 64) : Fin 100000 → Fin 100000 :=
  sortedFrom fun a b => comparator_f32_d1 (F := Ideal) (p (ix2 r a)) (p (ix2 r b)) == 1#1

/-- The sorted row is the row in that order. -/
theorem sort_at (p : FVec Ideal S64x100000 .f32) (r : Fin 64) (i : Fin 100000) :
    Host.sort S64x100000 1 comparator_f32_d1 p (ix2 r i) = p (ix2 r (order p r i)) := by
  have hf : ∀ q : Fin 100000, (ix2 r i : S64x100000.Idx).along 1 q = ix2 r q := by
    intro q
    funext a
    fin_cases a
    · rfl
    · rfl
  have e : Host.sort S64x100000 1 comparator_f32_d1 p (ix2 r i)
      = p ((ix2 r i : S64x100000.Idx).along 1 (sortedFrom (fun a b : Fin 100000 => comparator_f32_d1
          (p ((ix2 r i : S64x100000.Idx).along 1 a)) (p ((ix2 r i : S64x100000.Idx).along 1 b)) == 1#1) i)) := by
    unfold Host.sort
    rw [dif_pos (by decide : 1 < S64x100000.rank)]
    rfl
  have key : ∀ (g : Fin 100000 → S64x100000.Idx), (∀ q, g q = ix2 r q) →
      p (g (sortedFrom (fun a b : Fin 100000 => comparator_f32_d1 (p (g a)) (p (g b)) == 1#1) i)) = p (ix2 r (order p r i)) := by
    intro g hg
    obtain rfl : g = fun q => ix2 r q := funext hg
    rfl
  exact e.trans (key (fun q => (ix2 r i : S64x100000.Idx).along 1 q) hf)

/-- A falling row is the row in some order. -/
theorem falling_order (p : FVec Ideal S64x100000 .f32) (r : Fin 64) :
    ∃ σ : Fin 100000 → Fin 100000, Function.Bijective σ ∧ (∀ i, falling p (ix2 r i) = p (ix2 r (σ i)))
      ∧ ∀ i j, i < j → (falling p (ix2 r j) : EReal) ≤ falling p (ix2 r i) := by
  have hcmp : ∀ a b : Fin 100000, (comparator_f32_d1 (F := Ideal) (p (ix2 r a)) (p (ix2 r b)) == 1#1) = decide ((p (ix2 r a) : EReal) < p (ix2 r b)) := by
    intro a b
    rw [comparator_eq]
    by_cases h : (p (ix2 r a) : EReal) < p (ix2 r b)
    · rw [decide_eq_true h]
      rfl
    · rw [decide_eq_false h]
      rfl
  have hv : ∀ i, falling p (ix2 r i) = p (ix2 r (order p r i.rev)) := fun i => (falling_at p r i).trans (sort_at p r i.rev)
  refine ⟨fun i => order p r i.rev, ?_, hv, fun i j hij => ?_⟩
  · exact bijective_rev _ (bijective_sorted _)
  · have h' : (p (ix2 r (order p r j.rev)) : EReal) ≤ p (ix2 r (order p r i.rev)) := by
      have h := sortedFrom_noInversion (fun a b => comparator_f32_d1 (F := Ideal) (p (ix2 r a)) (p (ix2 r b)) == 1#1)
        (fun a b => comparator_f32_d1 (F := Ideal) (p (ix2 r a)) (p (ix2 r b)) == 1#1)
        (fun a b h => by
          rw [hcmp] at h ⊢
          exact decide_eq_false (not_lt.2 (of_decide_eq_true h).le))
        (fun a b h => h)
        (fun a b c h1 h2 => by
          rw [hcmp] at h1 h2 ⊢
          exact decide_eq_false (not_lt.2 ((not_lt.1 (of_decide_eq_false h2)).trans (not_lt.1 (of_decide_eq_false h1)))))
        j.rev i.rev (Fin.rev_lt_rev.2 hij)
      rw [hcmp] at h
      exact not_lt.1 (of_decide_eq_false h)
    exact le_of_eq_of_le (hv j) (le_of_le_of_eq h' (hv i).symm)

end Cert.ReferenceIdeal.Ops
-- ==== Proof.Running.lean ====
module

public import proofs.«01_k».proof.Proof.RefValue
public import Idealize.ShloMosaic.Lib.Pointwise
public import Mathlib.Algebra.BigOperators.Fin

@[expose] public section

/-!
# Running sums

A window sum that looks back over the whole row is a running sum.
-/

noncomputable section

open Idealize.ShloMosaic Idealize.ShloMosaic.TcCoe Idealize.SL.Sem

namespace Cert.ReferenceIdeal.Ops

open Cert.ReferenceIdeal Cert.ReferenceIdeal.Gen

/-- A fold of sums is the start plus the sum. -/
theorem foldl_sum {N : ℕ} (f : Fin N → EReal) (z : EReal) :
    (List.finRange N).foldl (fun s n => s + f n) z = z + ∑ n, f n := by
  have h : ∀ (l : List (Fin N)) (z : EReal), l.foldl (fun s n => s + f n) z = z + (l.map f).sum := by
    intro l
    induction l with
    | nil => intro z; simp
    | cons b l ih => intro z; simp only [List.foldl_cons, List.map_cons, List.sum_cons, ih, add_assoc]
  rw [h, ← List.ofFn_eq_map, Fin.sum_ofFn]

/-- What a position of the window holds. -/
def lookBack {a n : ℕ} (x : (⟨2, ![a, n]⟩ : Shape).Idx → EReal) (r : Fin a) (i : Fin n) (q : (⟨2, ![1, n]⟩ : Shape).Idx) : EReal :=
  if hin : ∀ b : Fin 2, (![0, n - 1] : Fin 2 → ℕ) b ≤ ((ix2 r i : (⟨2, ![a, n]⟩ : Shape).Idx) b).val * (![1, 1] : Fin 2 → ℕ) b + (q b).val
      ∧ ((ix2 r i : (⟨2, ![a, n]⟩ : Shape).Idx) b).val * (![1, 1] : Fin 2 → ℕ) b + (q b).val - (![0, n - 1] : Fin 2 → ℕ) b < (⟨2, ![a, n]⟩ : Shape).size b
    then x (fun b => ⟨((ix2 r i : (⟨2, ![a, n]⟩ : Shape).Idx) b).val * (![1, 1] : Fin 2 → ℕ) b + (q b).val - (![0, n - 1] : Fin 2 → ℕ) b, (hin b).2⟩)
    else 0

/-- A position of the window holds an entry at or before the place, or nothing. -/
theorem lookBack_eq {a n : ℕ} (x : (⟨2, ![a, n]⟩ : Shape).Idx → EReal) (r : Fin a) (i j : Fin n) :
    lookBack x r i (ix2 0 j) = if h : n - 1 ≤ i.val + j.val then x (ix2 r ⟨i.val + j.val - (n - 1), by omega⟩) else 0 := by
  unfold lookBack
  by_cases h : n - 1 ≤ i.val + j.val
  · rw [dif_pos h, dif_pos]
    · congr 1
      funext b
      apply Fin.ext
      fin_cases b
      · show r.val * 1 + 0 - 0 = r.val
        omega
      · show i.val * 1 + j.val - (n - 1) = i.val + j.val - (n - 1)
        omega
    · intro b
      fin_cases b
      · show 0 ≤ r.val * 1 + 0 ∧ r.val * 1 + 0 - 0 < a
        omega
      · show n - 1 ≤ i.val * 1 + j.val ∧ i.val * 1 + j.val - (n - 1) < n
        omega
  · rw [dif_neg h, dif_neg]
    intro hin
    have h1 : n - 1 ≤ i.val * 1 + j.val := (hin 1).1
    omega

/-- The window's sum. -/
theorem lookBack_sum {a n : ℕ} (x : (⟨2, ![a, n]⟩ : Shape).Idx → EReal) (r : Fin a) (i : Fin n) :
    ∑ j : Fin n, lookBack x r i (ix2 0 j) = ∑ j : Fin n, if j ≤ i then x (ix2 r j) else 0 := by
  simp only [lookBack_eq]
  rw [← Finset.sum_filter, ← Finset.sum_filter_add_sum_filter_not Finset.univ (fun j : Fin n => n - 1 ≤ i.val + j.val)]
  rw [Finset.sum_eq_zero (s := Finset.univ.filter fun j : Fin n => ¬ n - 1 ≤ i.val + j.val), add_zero]
  · refine Finset.sum_bij' (fun j hj => (⟨i.val + j.val - (n - 1), by omega⟩ : Fin n))
      (fun j hj => (⟨j.val + (n - 1) - i.val, by
        have := (Finset.mem_filter.1 hj).2
        rw [Fin.le_def] at this
        omega⟩ : Fin n)) ?_ ?_ ?_ ?_ ?_
    · intro j hj
      have := (Finset.mem_filter.1 hj).2
      refine Finset.mem_filter.2 ⟨Finset.mem_univ _, ?_⟩
      rw [Fin.le_def]
      show i.val + j.val - (n - 1) ≤ i.val
      omega
    · intro j hj
      have := (Finset.mem_filter.1 hj).2
      rw [Fin.le_def] at this
      refine Finset.mem_filter.2 ⟨Finset.mem_univ _, ?_⟩
      show n - 1 ≤ i.val + (j.val + (n - 1) - i.val)
      omega
    · intro j hj
      have := (Finset.mem_filter.1 hj).2
      apply Fin.ext
      show i.val + j.val - (n - 1) + (n - 1) - i.val = j.val
      omega
    · intro j hj
      have := (Finset.mem_filter.1 hj).2
      rw [Fin.le_def] at this
      apply Fin.ext
      show i.val + (j.val + (n - 1) - i.val) - (n - 1) = j.val
      omega
    · intro j hj
      rw [dif_pos (Finset.mem_filter.1 hj).2]
  · intro j hj
    rw [dif_neg (Finset.mem_filter.1 hj).2]

/-- A window sum looking back over the row is the running sum. -/
theorem window_prefix {a n : ℕ} (hn : 0 < n)
    (h : Shape.ReduceWindows (s := ⟨2, ![a, n]⟩) ![1, n] ![1, 1] ![0, n - 1] ![0, 0] ⟨2, ![a, n]⟩)
    (x : (⟨2, ![a, n]⟩ : Shape).Idx → EReal) (r : Fin a) (i : Fin n) :
    Ideal.hostReduceWindowAdd (s := ⟨2, ![a, n]⟩) ![1, n] ![1, 1] ![0, n - 1] ![0, 0] h x 0 (ix2 r i)
      = ∑ j : Fin n, if j ≤ i then x (ix2 r j) else 0 := by
  unfold Ideal.hostReduceWindowAdd Host.reduceWindow
  simp only
  rw [foldl_sum, zero_add]
  refine Eq.trans (Equiv.sum_comp (⟨2, ![1, n]⟩ : Shape).rowMajor.symm (lookBack x r i)) ?_
  rw [sum_idx2]
  simp only [Finset.univ_unique, Finset.sum_singleton]
  exact lookBack_sum x r i

/-- The running sum of a row. -/
theorem running_at (x : FVec Ideal S64x100000 .f32) (r : Fin 64) (i : Fin 100000) :
    running x (ix2 r i) = (∑ j : Fin 100000, if j ≤ i then (x (ix2 r j) : EReal) else 0 : EReal) := by
  have h : Shape.ReduceWindows (s := ⟨2, ![64, 100000]⟩) ![1, 100000] ![1, 1] ![0, 100000 - 1] ![0, 0] ⟨2, ![64, 100000]⟩ := by
    decide
  refine Eq.trans ?_ (window_prefix (a := 64) (n := 100000) (by omega) h x r i)
  have e0 : (broadcastInDim S_ ![] bcast_S_S_ (constant (F := Ideal) S_ .f32 0x00000000#32)) (Shape.Idx.first h_S_) = (0 : EReal) := by
    pointwise
  rw [← e0]
  unfold running Host.reduceWindowAdd
  rfl

end Cert.ReferenceIdeal.Ops
-- ==== Proof.Equal.lean ====
module

public import proofs.«01_k».proof.Proof.KRes
public import proofs.«01_k».proof.Proof.Top
public import proofs.«01_k».proof.Proof.Falling
public import proofs.«01_k».proof.Proof.Running
public import Idealize.ShloMosaic.Lib.IndicatorCount

@[expose] public section

set_option maxRecDepth 16384

/-!
# The reference's word of a row

The reference's word of a row counts the same entries as the kernel's.
-/

noncomputable section

open Idealize.ShloMosaic Idealize.ShloMosaic.TcCoe Idealize.SL.Sem

namespace Cert.ReferenceIdeal.Ops

open Cert.ReferenceIdeal Cert.ReferenceIdeal.Gen Cert.Sampling

/-- Minus infinity, as a bit pattern. -/
theorem low_bits : Ideal.ofBits .f32 0xFF800000#32 = ⊥ :=
  (ieee_neg 2139095040 (by norm_num)).trans (if_neg (by norm_num))

/-- Plus infinity, as a bit pattern. -/
theorem high_bits : Ideal.ofBits .f32 0x7F800000#32 = ⊤ :=
  (ieee_pos 2139095040 (by norm_num)).trans (by norm_num)

/-- A quotient by a positive number. -/
theorem div_pos_real (a b : ℝ) (hb : 0 < b) : Ideal.div ((a : ℝ) : EReal) ((b : ℝ) : EReal) = ((a / b : ℝ) : EReal) := by
  have hb0 : ((b : ℝ) : EReal) ≠ 0 := by
    rw [← EReal.coe_zero]
    intro h
    have := EReal.coe_eq_coe_iff.1 h
    linarith
  unfold Ideal.div
  rw [if_neg hb0, ← EReal.coe_inv, ← EReal.coe_mul, div_eq_mul_inv]

/-- Minus infinity over a positive number. -/
theorem div_bot (b : ℝ) (hb : 0 < b) : Ideal.div ⊥ ((b : ℝ) : EReal) = ⊥ := by
  have hb0 : ((b : ℝ) : EReal) ≠ 0 := by
    rw [← EReal.coe_zero]
    intro h
    have := EReal.coe_eq_coe_iff.1 h
    linarith
  unfold Ideal.div
  rw [if_neg hb0, ← EReal.coe_inv, EReal.bot_mul_coe_of_pos (inv_pos.2 hb)]

/-- Division by a positive number keeps the order. -/
theorem div_mono (v : EReal) (hv : v ≠ ⊤) (M T : ℝ) (hT : 0 < T) (h : v ≤ M) : Ideal.div v ((T : ℝ) : EReal) ≤ ((M / T : ℝ) : EReal) := by
  induction v with
  | top => exact absurd rfl hv
  | bot =>
    rw [div_bot T hT]
    exact bot_le
  | coe a =>
    rw [div_pos_real a T hT, EReal.coe_le_coe_iff]
    exact (div_le_div_iff_of_pos_right hT).2 (EReal.coe_le_coe_iff.1 h)

/-- A row's largest scaled entry. -/
theorem largest (x : Fin 100000 → EReal) (hx : ∀ i, x i ≠ ⊤) (M T : ℝ) (hT : 0 < T) (hM : ∀ i, x i ≤ M) (h0 : ∃ i, x i = M) :
    max (⊥ : EReal) (Finset.fold max ⊥ (fun i => Ideal.div (x i) ((T : ℝ) : EReal)) Finset.univ) = ((M / T : ℝ) : EReal) := by
  rw [max_eq_right bot_le]
  apply le_antisymm
  · exact Finset.fold_max_le _ |>.2 ⟨bot_le, fun i _ => div_mono _ (hx i) M T hT (hM i)⟩
  · obtain ⟨i, hi⟩ := h0
    refine Finset.le_fold_max _ |>.2 (Or.inr ⟨i, Finset.mem_univ _, ?_⟩)
    rw [hi, div_pos_real M T hT]

/-- A weight as the reference computes it. -/
theorem exp_shifted (v : EReal) (hv : v ≠ ⊤) (M T : ℝ) (hT : 0 < T) :
    Ideal.exp (Ideal.div v ((T : ℝ) : EReal) - ((M / T : ℝ) : EReal))
      = (((if v = ⊥ then 0 else Real.exp ((v.toReal - M) / T) : ℝ)) : EReal) := by
  induction v with
  | top => exact absurd rfl hv
  | bot =>
    rw [if_pos rfl, div_bot T hT, EReal.bot_sub]
    rfl
  | coe r =>
    rw [if_neg (EReal.coe_ne_bot r), div_pos_real r T hT, ← EReal.coe_sub, EReal.toReal_coe]
    show ((Real.exp (r / T - M / T) : ℝ) : EReal) = _
    rw [sub_div]

/-- The weights follow the entries. -/
theorem soft_lt (x : Fin 100000 → EReal) (hx : ∀ i, x i ≠ ⊤) (M T : ℝ) (hT : 0 < T) (i j : Fin 100000) :
    soft x M T i < soft x M T j ↔ x i < x j := by
  have g : ∀ v w : EReal, v ≠ ⊤ → w ≠ ⊤ → ((if v = ⊥ then (0 : ℝ) else Real.exp ((v.toReal - M) / T))
      < (if w = ⊥ then (0 : ℝ) else Real.exp ((w.toReal - M) / T)) ↔ v < w) := by
    intro v w hv hw
    induction v with
    | top => exact absurd rfl hv
    | bot =>
      induction w with
      | top => exact absurd rfl hw
      | bot => simp
      | coe b =>
        rw [if_pos rfl, if_neg (EReal.coe_ne_bot b)]
        exact ⟨fun _ => EReal.bot_lt_coe b, fun _ => Real.exp_pos _⟩
    | coe a =>
      induction w with
      | top => exact absurd rfl hw
      | bot =>
        rw [if_pos rfl, if_neg (EReal.coe_ne_bot a)]
        exact ⟨fun h => absurd h (not_lt.2 (Real.exp_pos _).le), fun h => absurd h not_lt_bot⟩
      | coe b =>
        rw [if_neg (EReal.coe_ne_bot a), if_neg (EReal.coe_ne_bot b), EReal.toReal_coe, EReal.toReal_coe, Real.exp_lt_exp,
          div_lt_div_iff_of_pos_right hT, EReal.coe_lt_coe_iff]
        constructor <;> intro h <;> linarith
  exact g (x i) (x j) (hx i) (hx j)

/-- A weight is not negative. -/
theorem soft_nonneg (x : Fin 100000 → EReal) (M T : ℝ) (i : Fin 100000) : 0 ≤ soft x M T i := by
  unfold soft
  split_ifs
  · exact le_refl _
  · exact (Real.exp_pos _).le

/-- A comparison with a level that is a share of a sum. -/
theorem below_level (C W : ℝ) (hW : 0 < W) (u : EReal) : ((C / W : ℝ) : EReal) < u ↔ ((C : ℝ) : EReal) < u * ((W : ℝ) : EReal) := by
  induction u with
  | bot =>
    rw [EReal.bot_mul_coe_of_pos hW]
    simp
  | top =>
    rw [EReal.top_mul_coe_of_pos hW]
    simp [EReal.coe_lt_top]
  | coe a => rw [← EReal.coe_mul, EReal.coe_lt_coe_iff, EReal.coe_lt_coe_iff, div_lt_iff₀ hW]

/-- The word of a count, clamped. -/
theorem clamped_count (Q : Fin 100000 → Prop) [DecidablePred Q] :
    IntOp.minsi 99999#32 (IntOp.maxsi 0#32 (Finset.fold IntOp.addi 0#32 (fun i => BitVec.setWidth 32 (BitVec.ofBool (decide (Q i)))) Finset.univ))
      = BitVec.ofNat 32 (min 99999 (Finset.univ.filter Q).card) := by
  rw [IndicatorCount.fold_addi_setWidth_eq_card]
  have e : (Finset.univ.filter fun i => BitVec.ofBool (decide (Q i)) = 1#1) = Finset.univ.filter Q := by
    ext i
    simp only [Finset.mem_filter, Finset.mem_univ, true_and]
    by_cases h : Q i <;> simp [h]
  rw [e]
  have hc : (Finset.univ.filter Q).card ≤ 100000 := (Finset.card_le_univ _).trans (by rw [Fintype.card_fin])
  generalize (Finset.univ.filter Q).card = n at hc
  have t : (BitVec.ofNat 32 n).toInt = n := by
    have e : (BitVec.ofNat 32 n).toNat = n := by
      rw [BitVec.toNat_ofNat]
      exact Nat.mod_eq_of_lt (by omega)
    rw [BitVec.toInt_eq_toNat_of_lt (by omega), e]
  have hmax : IntOp.maxsi 0#32 (BitVec.ofNat 32 n) = BitVec.ofNat 32 n := by
    show (if (BitVec.ofNat 32 n).slt 0#32 = true then 0#32 else BitVec.ofNat 32 n) = _
    rw [BitVec.slt_eq_decide, t, show (0#32).toInt = 0 from rfl, decide_eq_false (by omega), if_neg (by decide)]
  rw [hmax, show (99999#32 : BitVec 32) = BitVec.ofNat 32 99999 from rfl, minsi_ofNat _ _ (by omega) (by omega)]

end Cert.ReferenceIdeal.Ops
-- ==== Proof.RefRow.lean ====
module

public import proofs.«01_k».proof.Proof.Equal

@[expose] public section

set_option maxRecDepth 16384

/-!
# A row of the reference

The reference's probabilities, filters, running sums and count on one row.
-/

noncomputable section

open Idealize.ShloMosaic Idealize.ShloMosaic.TcCoe Idealize.SL.Sem

namespace Cert.ReferenceIdeal.Ops

open Cert.ReferenceIdeal Cert.ReferenceIdeal.Gen Cert.Sampling

/-- A running sum over a row's places. -/
theorem sum_upTo (f : ℕ → ℝ) (i : Fin 100000) : (∑ j : Fin 100000, if j ≤ i then f j.val else 0) = upTo f (i.val + 1) := by
  have hi := i.isLt
  have e : (∑ j : Fin 100000, if j ≤ i then f j.val else 0) = ∑ j ∈ Finset.range 100000, if j ≤ i.val then f j else 0 :=
    (Finset.sum_range fun j => if j ≤ i.val then f j else 0).symm
  rw [e, ← Finset.sum_filter]
  unfold upTo
  refine Finset.sum_congr ?_ fun _ _ => rfl
  ext j
  simp only [Finset.mem_filter, Finset.mem_range]
  omega

section
variable (x : FVec Ideal S64x100000 .f32) (t k q : IVec S_ 32) (r : Fin 64) (X : Fin 100000 → EReal) (hX : ∀ i, X i = x (ix2 r i))
  (hx : ∀ i, X i ≠ ⊤) (M T : ℝ) (hT : T = ((t ix0).toInt : ℝ)) (hT1 : 1 ≤ T) (hM : ∀ i, X i ≤ M) (h0 : ∃ i, X i = M)
  (hk : 1 ≤ (k ix0).toInt) (hq : 1 ≤ (q ix0).toInt)

include hX hx hT hT1 hM h0

/-- The row's weights. -/
theorem weights_row (i : Fin 100000) : (weights x t (ix2 r i) : EReal) = ((soft X M T i : ℝ) : EReal) := by
  have hT0 : 0 < T := by linarith
  have hs : ∀ i, (scaled x t (ix2 r i) : EReal) = Ideal.div (X i) ((T : ℝ) : EReal) := by
    intro i
    rw [hX, hT]
    exact scaled_at x t r i
  refine (weights_at x t r i).trans ?_
  rw [low_bits]
  simp only [hs]
  rw [largest X hx M T hT0 hM h0, exp_shifted _ (hx i) M T hT0]
  rfl

omit hX hx hT hM in
/-- The weights do not vanish. -/
theorem total_pos : 0 < ∑ i, soft X M T i := by
  obtain ⟨i, hi⟩ := h0
  refine Finset.sum_pos' (fun j _ => soft_nonneg X M T j) ⟨i, Finset.mem_univ _, ?_⟩
  unfold soft
  rw [if_neg (by rw [hi]; exact EReal.coe_ne_bot M)]
  exact Real.exp_pos _

/-- The row's probabilities. -/
theorem probs_row (i : Fin 100000) : (normed (weights x t) (ix2 r i) : EReal) = ((soft X M T i / ∑ i, soft X M T i : ℝ) : EReal) := by
  refine (normed_at (weights x t) r i).trans ?_
  have h := weights_row x t r X hX hx M T hT hT1 hM h0
  simp only [h]
  rw [← coe_sum, div_pos_real _ _ (total_pos X M T hT1 h0)]

include hk hq

/-- The row's probabilities after the filters. -/
theorem kept_row (i : Fin 100000) : (kept (normed (weights x t)) k q (ix2 r i) : EReal)
    = ((keptSoft (k ix0).toInt X M T i.val / ∑ i, soft X M T i : ℝ) : EReal) := by
  have hT0 : 0 < T := by linarith
  have hZ := total_pos X M T hT1 h0
  have hP := probs_row x t r X hX hx M T hT hT1 hM h0
  refine (kept_at (normed (weights x t)) k q r i).trans ?_
  generalize normed (weights x t) = P at hP ⊢
  obtain ⟨σ, hσ, hval, hfall⟩ := falling_order P r
  obtain ⟨p, hp⟩ : ∃ p : Fin 100000 → ℝ, p = fun i => soft X M T i / ∑ i, soft X M T i := ⟨_, rfl⟩
  have hPp : ∀ i, (P (ix2 r i) : EReal) = ((p i : ℝ) : EReal) := by
    intro i
    rw [hp]
    exact hP i
  have hd : ∀ i, (falling P (ix2 r i) : EReal) = ((p (σ i) : ℝ) : EReal) := fun i => (hval i).trans (hPp (σ i))
  have hfall' : ∀ i j, i < j → p (σ j) ≤ p (σ i) := by
    intro i j hij
    have h := hfall i j hij
    rw [hd, hd] at h
    exact EReal.coe_le_coe_iff.1 h
  have hp0 : ∀ i, 0 ≤ p i := by
    intro i
    rw [hp]
    exact div_nonneg (soft_nonneg X M T i) hZ.le
  have hp1 : ∑ i, p i = 1 := by
    rw [hp, ← Finset.sum_div, div_self hZ.ne']
  have hK : ((pivotK (falling P) k (ix2 r 0) : EReal) ≤ P (ix2 r i)) ↔ (countGt X (X i) : ℤ) < (k ix0).toInt := by
    have h1 : (pivotK (falling P) k (ix2 r 0) : EReal) = ((p (σ ⟨min ((k ix0).toInt.toNat - 1) 99999, by omega⟩) : ℝ) : EReal) :=
      (pivotK_at (falling P) k hk r).trans (hd _)
    rw [h1, hPp, EReal.coe_le_coe_iff, first_filter p σ hσ hfall' _ hk]
    have h2 : (Finset.univ.filter fun j => p i < p j) = Finset.univ.filter fun j => X i < X j := by
      ext j
      simp only [Finset.mem_filter, Finset.mem_univ, true_and]
      rw [hp, div_lt_div_iff_of_pos_right hZ, soft_lt X hx M T hT0]
    rw [h2]
    exact Iff.rfl
  have hQ : 0 < p i → (pivotP (falling P) q (ix1 r) : EReal) ≤ P (ix2 r i) := by
    intro hi
    have h1 := pivotP_at (falling P) q r
    rw [high_bits] at h1
    simp only [running_at, hd] at h1
    refine le_of_eq_of_le h1 ?_
    rw [hPp]
    exact second_filter p σ hσ hfall' hp0 hp1 _ (by exact_mod_cast hq) i hi
  have hpi : p i = soft X M T i / ∑ i, soft X M T i := by rw [hp]
  have hks : keptSoft (k ix0).toInt X M T i.val = if (countGt X (X i) : ℤ) < (k ix0).toInt then soft X M T i else 0 := by
    unfold keptSoft
    rw [dif_pos i.isLt]
  rw [hks]
  rcases (hp0 i).lt_or_eq with hi | hi
  · by_cases hc : (countGt X (X i) : ℤ) < (k ix0).toInt
    · rw [if_pos ⟨hK.2 hc, hQ hi⟩, if_pos hc, hPp, hpi]
    · rw [if_neg (fun h => hc (hK.1 h.1)), if_neg hc, zero_div, EReal.coe_zero]
  · have hs : soft X M T i = 0 := by
      have := hpi.symm.trans hi.symm
      rcases div_eq_zero_iff.1 this with h | h
      · exact h
      · exact absurd h hZ.ne'
    rw [hs, ite_self, zero_div, hPp, ← hi, EReal.coe_zero, ite_self]

omit hX hx hT hq in
/-- The kept weights do not vanish. -/
theorem kept_pos : 0 < upTo (keptSoft (k ix0).toInt X M T) 100000 := by
  obtain ⟨i, hi⟩ := h0
  unfold upTo
  refine Finset.sum_pos' (fun j _ => ?_) ⟨i.val, Finset.mem_range.2 i.isLt, ?_⟩
  · unfold keptSoft
    split_ifs
    · exact soft_nonneg X M T _
    · exact le_refl _
    · exact le_refl _
  · unfold keptSoft
    rw [dif_pos i.isLt, if_pos]
    · unfold soft
      rw [if_neg (by rw [show (⟨i.val, i.isLt⟩ : Fin 100000) = i from rfl, hi]; exact EReal.coe_ne_bot M)]
      exact Real.exp_pos _
    · have : countGt X (X ⟨i.val, i.isLt⟩) = 0 := by
        unfold countGt
        rw [Finset.card_eq_zero, Finset.filter_eq_empty_iff]
        intro j _
        rw [show (⟨i.val, i.isLt⟩ : Fin 100000) = i from rfl, hi]
        exact not_lt.2 (hM j)
      rw [this]
      push_cast
      omega

/-- The row's probabilities after the filters, made to sum to one. -/
theorem renormed_row (i : Fin 100000) : (normed (kept (normed (weights x t)) k q) (ix2 r i) : EReal)
    = ((keptSoft (k ix0).toInt X M T i.val / upTo (keptSoft (k ix0).toInt X M T) 100000 : ℝ) : EReal) := by
  have hZ := total_pos X M T hT1 h0
  have hW := kept_pos k X M T hT1 hM h0 hk
  refine (normed_at (kept (normed (weights x t)) k q) r i).trans ?_
  have h := kept_row x t k q r X hX hx M T hT hT1 hM h0 hk hq
  simp only [h]
  have hsum : (∑ i : Fin 100000, keptSoft (k ix0).toInt X M T i.val / ∑ i, soft X M T i)
      = upTo (keptSoft (k ix0).toInt X M T) 100000 / ∑ i, soft X M T i := by
    rw [← Finset.sum_div]
    refine congrArg (fun a => a / ∑ i, soft X M T i) ?_
    exact (Finset.sum_range fun j => keptSoft (k ix0).toInt X M T j).symm
  rw [← coe_sum, hsum, div_pos_real _ _ (div_pos hW hZ)]
  rw [div_div_div_cancel_right₀ hZ.ne']

/-- The reference's word of the row. -/
theorem word_row (u : FVec Ideal S32x64 .f32) :
    counted (running (normed (kept (normed (weights x t)) k q))) u (ix1 r)
      = BitVec.ofNat 32 (min 99999 (Finset.univ.filter fun i : Fin 100000 =>
          ((upTo (keptSoft (k ix0).toInt X M T) (i.val + 1) : ℝ) : EReal)
            < (u (ix2 0 r) : EReal) * ((upTo (keptSoft (k ix0).toInt X M T) 100000 : ℝ) : EReal)).card) := by
  have hW := kept_pos k X M T hT1 hM h0 hk
  have h := renormed_row x t k q r X hX hx M T hT hT1 hM h0 hk hq
  have hrun : ∀ i, (running (normed (kept (normed (weights x t)) k q)) (ix2 r i) : EReal)
      = ((upTo (keptSoft (k ix0).toInt X M T) (i.val + 1) / upTo (keptSoft (k ix0).toInt X M T) 100000 : ℝ) : EReal) := by
    intro i
    refine (running_at _ r i).trans ?_
    simp only [h]
    have e : ∀ j : Fin 100000, (if j ≤ i then ((keptSoft (k ix0).toInt X M T j.val / upTo (keptSoft (k ix0).toInt X M T) 100000 : ℝ) : EReal) else 0)
        = (((if j ≤ i then keptSoft (k ix0).toInt X M T j.val else 0 : ℝ) / upTo (keptSoft (k ix0).toInt X M T) 100000 : ℝ) : EReal) := by
      intro j
      split_ifs
      · rfl
      · rw [zero_div, EReal.coe_zero]
    rw [Finset.sum_congr rfl fun j _ => e j, ← coe_sum, ← Finset.sum_div, sum_upTo]
  refine (counted_at _ u r).trans ?_
  simp only [hrun]
  rw [clamped_count]
  refine congrArg (fun n => BitVec.ofNat 32 (min 99999 n)) (congrArg Finset.card ?_)
  ext i
  simp only [Finset.mem_filter, Finset.mem_univ, true_and]
  exact below_level _ _ hW _

end

end Cert.ReferenceIdeal.Ops
-- ==== Proof.PreFacts.lean ====
module

public import proofs.«01_k».proof.Pre_ordinary
public import proofs.«01_k».proof.Proof.Keys
public import Idealize.ShloMosaic.Lib.Pointwise
public import Idealize.ShloMosaic.Lib.ReduceAll
public import Mathlib.Tactic.Linarith
public import Mathlib.Tactic.NormNum
public import Mathlib.Tactic.Positivity
public import Mathlib.Analysis.SpecialFunctions.Pow.Real

@[expose] public section

set_option maxRecDepth 16384

/-!
# What the precondition says

Every logit is a number of the format or minus infinity, every row holds a number, and the integers are positive.
-/

noncomputable section

open Idealize.ShloMosaic

namespace Cert.Pre_ordinary

/-- The side conditions. -/
instance : Facts where
  shapeCasts_S254_S254x1x1 := by decide
  bcast_S64x100000_S1x64x100000_1_2 := by decide
  bcast_S_S254x1x1 := by decide
  bcast_S1x64x100000_S254x64x100000_0_1_2 := by decide
  bcast_S254x1x1_S254x64x100000_0_1_2 := by decide
  bcast_S_S254x64x100000 := by decide
  reducesTo_S254x64x100000_S64x100000_d0 := by decide
  h_S_ := by decide
  bcast_S_S64x100000 := by decide
  reducesTo_S64x100000_S64_d1 := by decide
  reducesTo_S64x100000_S_d0_1 := by decide
  reducesTo_S64_S_d0 := by decide

open Facts

/-- One-bit words, joined. -/
theorem andi_one (a b : BitVec 1) : IntOp.andi a b = 1#1 ↔ a = 1#1 ∧ b = 1#1 := by
  revert a b
  decide

/-- One-bit words, one of them. -/
theorem ori_one (a b : BitVec 1) : IntOp.ori a b = 1#1 ↔ a = 1#1 ∨ b = 1#1 := by
  revert a b
  decide

/-- A one-bit word of a truth. -/
theorem ofBool_one (p : Prop) [Decidable p] : BitVec.ofBool (decide p) = 1#1 ↔ p := by
  by_cases h : p <;> simp [h]

/-- A disjunction over a finite set. -/
theorem fold_ori {ι : Type} (s : Finset ι) (f : ι → BitVec 1) : s.fold IntOp.ori 0#1 f = 1#1 ↔ ∃ i ∈ s, f i = 1#1 := by
  classical
  induction s using Finset.induction_on with
  | empty => simp
  | insert a s ha ih =>
    rw [Finset.fold_insert ha, ori_one, ih]
    simp

/-- A conjunction over a finite set. -/
theorem fold_andi {ι : Type} (s : Finset ι) (f : ι → BitVec 1) : s.fold IntOp.andi 1#1 f = 1#1 ↔ ∀ i ∈ s, f i = 1#1 := by
  classical
  induction s using Finset.induction_on with
  | empty => simp
  | insert a s ha ih =>
    rw [Finset.fold_insert ha, andi_one, ih]
    simp

/-- The logits scaled by the powers. -/
def scaledBy (x : FVec Ideal S64x100000 .f32) : FVec Ideal S254x64x100000 .f32 :=
  mulf (broadcastInDim S254x64x100000 ![0, 1, 2] bcast_S1x64x100000_S254x64x100000_0_1_2
      (broadcastInDim S1x64x100000 ![1, 2] bcast_S64x100000_S1x64x100000_1_2 (Host.absf x)))
    (broadcastInDim S254x64x100000 ![0, 1, 2] bcast_S254x1x1_S254x64x100000_0_1_2
      (Host.powf (broadcastInDim S254x1x1 ![] bcast_S_S254x1x1 (constant S_ .f32 0x40000000#32))
        (subf (broadcastInDim S254x1x1 ![] bcast_S_S254x1x1 (constant S_ .f32 0x43150000#32))
          (shapeCast S254x1x1 (sitofp .f32 (iotaInDim S254 32 0)) shapeCasts_S254_S254x1x1))))

/-- Whether a scaled logit is a small integer. -/
def whole (y : FVec Ideal S254x64x100000 .f32) : IVec S254x64x100000 1 :=
  andi (cmpf .oeq (Host.floor y) y)
    (cmpf .olt y (broadcastInDim S254x64x100000 ![] bcast_S_S254x64x100000 (constant S_ .f32 0x4B800000#32)))

/-- Whether a logit is a number of the format. -/
def numeric (w : IVec S254x64x100000 1) : IVec S64x100000 1 :=
  Host.reduce IntOp.ori w (constantI S_ 1 0#1) reducesTo_S254x64x100000_S64x100000_d0 h_S_

/-- Whether a logit is minus infinity. -/
def lowest (x : FVec Ideal S64x100000 .f32) : IVec S64x100000 1 :=
  cmpf .oeq x (broadcastInDim S64x100000 ![] bcast_S_S64x100000 (constant S_ .f32 0xFF800000#32))

/-- Whether a row holds a number. -/
def someNumber (x : FVec Ideal S64x100000 .f32) : IVec S64 1 :=
  Host.reduce IntOp.ori (cmpf .ogt x (broadcastInDim S64x100000 ![] bcast_S_S64x100000 (constant S_ .f32 0xFF800000#32)))
    (constantI S_ 1 0#1) reducesTo_S64x100000_S64_d1 h_S_

/-- The precondition, in its parts. -/
theorem fn_eq (x : FVec Ideal S64x100000 .f32) (t k q : IVec S_ 32) : fn (F := Ideal) x t k q
    = andi (andi (andi (andi (Host.reduce IntOp.andi (ori (numeric (whole (scaledBy x))) (lowest x)) (constantI S_ 1 1#1) reducesTo_S64x100000_S_d0_1 h_S_)
        (Host.reduce IntOp.andi (someNumber x) (constantI S_ 1 1#1) reducesTo_S64_S_d0 h_S_))
        (cmpi .sge t (constantI S_ 32 1#32))) (cmpi .sge k (constantI S_ 32 1#32))) (cmpi .sge q (constantI S_ 32 1#32)) := rfl

/-- A scaled logit. -/
theorem scaledBy_at (x : FVec Ideal S64x100000 .f32) (e : Fin 254) (r : Fin 64) (i : Fin 100000) :
    scaledBy x (ix3 e r i) = (max (x (ix2 r i)) (-(x (ix2 r i) : EReal)) *
      Ideal.pow (Ideal.ofBits .f32 0x40000000#32) (Ideal.ofBits .f32 0x43150000#32 - (((BitVec.ofNat 32 e.val).toInt : ℝ) : EReal)) : EReal) := by
  pointwise [scaledBy]
  rfl

/-- A small integer. -/
theorem whole_at (y : FVec Ideal S254x64x100000 .f32) (j : S254x64x100000.Idx) :
    whole y j = 1#1 ↔ FloatOps.hostUnary .floor (y j) = (y j : EReal) ∧ (y j : EReal) < Ideal.ofBits .f32 0x4B800000#32 := by
  show IntOp.andi (BitVec.ofBool (decide (FloatOps.hostUnary .floor (y j) = (y j : EReal)))) (BitVec.ofBool (decide ((y j : EReal) < Ideal.ofBits .f32 0x4B800000#32))) = 1#1 ↔ _
  rw [andi_one, ofBool_one, ofBool_one]

/-- A number of the format. -/
theorem numeric_at (w : IVec S254x64x100000 1) (r : Fin 64) (i : Fin 100000) :
    numeric w (ix2 r i) = Finset.fold IntOp.ori 0#1 (fun e => w (ix3 e r i)) Finset.univ := by
  pointwise [numeric]

/-- Minus infinity. -/
theorem lowest_at (x : FVec Ideal S64x100000 .f32) (j : S64x100000.Idx) :
    lowest x j = 1#1 ↔ (x j : EReal) = Ideal.ofBits .f32 0xFF800000#32 := by
  show BitVec.ofBool (decide ((x j : EReal) = Ideal.ofBits .f32 0xFF800000#32)) = 1#1 ↔ _
  rw [ofBool_one]

/-- A row with a number. -/
theorem someNumber_at (x : FVec Ideal S64x100000 .f32) (r : Fin 64) :
    someNumber x (ix1 r) = Finset.fold IntOp.ori 0#1 (fun i => BitVec.ofBool (decide (Ideal.ofBits .f32 0xFF800000#32 < (x (ix2 r i) : EReal)))) Finset.univ := by
  pointwise [someNumber]

/-- Everywhere. -/
theorem all_at (v : IVec S64x100000 1) : Host.reduce IntOp.andi v (constantI S_ 1 1#1) reducesTo_S64x100000_S_d0_1 h_S_ ix0 = 1#1
    → ∀ r i, v (ix2 r i) = 1#1 := by
  intro h r i
  haveI : Subsingleton S_.Idx := ⟨fun a b => funext fun d => d.elim0⟩
  exact Host.reduce_andi_all _ _ _ _ _ h (ix2 r i)

/-- In every row. -/
theorem rows_at (v : IVec S64 1) : Host.reduce IntOp.andi v (constantI S_ 1 1#1) reducesTo_S64_S_d0 h_S_ ix0 = 1#1
    → ∀ r, v (ix1 r) = 1#1 := by
  intro h r
  haveI : Subsingleton S_.Idx := ⟨fun a b => funext fun d => d.elim0⟩
  exact Host.reduce_andi_all _ _ _ _ _ h (ix1 r)

/-- An integer of at least one. -/
theorem sge_one (w : IVec S_ 32) : cmpi .sge w (constantI S_ 32 1#32) ix0 = 1#1 ↔ 1 ≤ (w ix0).toInt := by
  show BitVec.ofBool ((1#32).sle (w ix0)) = 1#1 ↔ _
  rw [BitVec.sle_eq_decide, ofBool_one]
  exact Iff.rfl

/-- Two, as a bit pattern. -/
theorem two_bits : Ideal.ofBits .f32 0x40000000#32 = ((2 : ℝ) : EReal) := by
  show Ideal.ieee 8 23 (0x40000000#32) = _
  have h1 : (BitVec.extractLsb' (8 + 23) 1 0x40000000#32 == 1#1) = false := by decide
  have h2 : (BitVec.extractLsb' 23 8 0x40000000#32).toNat = 128 := by decide
  have h3 : (BitVec.extractLsb' 0 23 0x40000000#32).toNat = 0 := by decide
  unfold Ideal.ieee
  simp only [h1, h2, h3]
  norm_num

/-- 149, as a bit pattern. -/
theorem n149_bits : Ideal.ofBits .f32 0x43150000#32 = ((149 : ℝ) : EReal) := by
  show Ideal.ieee 8 23 (0x43150000#32) = _
  have h1 : (BitVec.extractLsb' (8 + 23) 1 0x43150000#32 == 1#1) = false := by decide
  have h2 : (BitVec.extractLsb' 23 8 0x43150000#32).toNat = 134 := by decide
  have h3 : (BitVec.extractLsb' 0 23 0x43150000#32).toNat = 1376256 := by decide
  unfold Ideal.ieee
  simp only [h1, h2, h3]
  norm_num

/-- 2 to the power 24, as a bit pattern. -/
theorem n24_bits : Ideal.ofBits .f32 0x4B800000#32 = ((16777216 : ℝ) : EReal) := by
  show Ideal.ieee 8 23 (0x4B800000#32) = _
  have h1 : (BitVec.extractLsb' (8 + 23) 1 0x4B800000#32 == 1#1) = false := by decide
  have h2 : (BitVec.extractLsb' 23 8 0x4B800000#32).toNat = 151 := by decide
  have h3 : (BitVec.extractLsb' 0 23 0x4B800000#32).toNat = 0 := by decide
  unfold Ideal.ieee
  simp only [h1, h2, h3]
  norm_num

/-- Minus infinity, as a bit pattern. -/
theorem low_bits : Ideal.ofBits .f32 0xFF800000#32 = ⊥ :=
  (Cert.Sampling.ieee_neg 2139095040 (by norm_num)).trans (if_neg (by norm_num))

/-- A number whose multiple by a power of two is a small integer is the number of a key. -/
theorem number_key (v : EReal) (e : Fin 254)
    (h1 : Ideal.liftRound Int.floor (max v (-v) * Ideal.pow ((2 : ℝ) : EReal) (((149 : ℝ) : EReal) - (((BitVec.ofNat 32 e.val).toInt : ℝ) : EReal)))
      = max v (-v) * Ideal.pow ((2 : ℝ) : EReal) (((149 : ℝ) : EReal) - (((BitVec.ofNat 32 e.val).toInt : ℝ) : EReal)))
    (h2 : max v (-v) * Ideal.pow ((2 : ℝ) : EReal) (((149 : ℝ) : EReal) - (((BitVec.ofNat 32 e.val).toInt : ℝ) : EReal)) < ((16777216 : ℝ) : EReal)) :
    v ≠ ⊤ ∧ ∃ a : ℤ, a < 2139095040 ∧ v = Cert.Sampling.keyVal a := by
  have he := e.isLt
  have hi : (BitVec.ofNat 32 e.val).toInt = (e.val : ℤ) := by
    have e1 : (BitVec.ofNat 32 e.val).toNat = e.val := by
      rw [BitVec.toNat_ofNat]
      exact Nat.mod_eq_of_lt (by omega)
    rw [BitVec.toInt_eq_toNat_of_lt (by omega), e1]
  have hp : Ideal.pow ((2 : ℝ) : EReal) (((149 : ℝ) : EReal) - (((BitVec.ofNat 32 e.val).toInt : ℝ) : EReal))
      = (((2 : ℝ) ^ ((149 : ℤ) - e.val) : ℝ) : EReal) := by
    rw [hi, ← EReal.coe_sub]
    show ((Real.rpow 2 _ : ℝ) : EReal) = _
    congr 1
    show (2 : ℝ) ^ ((149 : ℝ) - ((e.val : ℤ) : ℝ)) = _
    rw [← Real.rpow_intCast]
    push_cast
    rfl
  rw [hp] at h1 h2
  have hpos : (0 : ℝ) < (2 : ℝ) ^ ((149 : ℤ) - e.val) := by positivity
  induction v with
  | bot =>
    rw [EReal.neg_bot, max_eq_right bot_le, EReal.top_mul_coe_of_pos hpos] at h2
    exact absurd h2 not_top_lt
  | top =>
    rw [EReal.neg_top, max_eq_left bot_le, EReal.top_mul_coe_of_pos hpos] at h2
    exact absurd h2 not_top_lt
  | coe x =>
    refine ⟨EReal.coe_ne_top x, ?_⟩
    have habs : max (x : EReal) (-(x : EReal)) = ((|x| : ℝ) : EReal) := by
      rw [← EReal.coe_neg]
      rcases le_total 0 x with h | h
      · rw [abs_of_nonneg h, max_eq_left (EReal.coe_le_coe_iff.2 (by linarith))]
      · rw [abs_of_nonpos h, max_eq_right (EReal.coe_le_coe_iff.2 (by linarith))]
    rw [habs, ← EReal.coe_mul] at h1 h2
    have h1' : ((⌊|x| * (2 : ℝ) ^ ((149 : ℤ) - e.val)⌋ : ℤ) : ℝ) = |x| * (2 : ℝ) ^ ((149 : ℤ) - e.val) := EReal.coe_eq_coe_iff.1 h1
    have h2' := EReal.coe_lt_coe_iff.1 h2
    have h0 : 0 ≤ |x| * (2 : ℝ) ^ ((149 : ℤ) - e.val) := by positivity
    obtain ⟨k, hk⟩ := Int.eq_ofNat_of_zero_le (Int.floor_nonneg.2 h0)
    rw [hk] at h1'
    have h1'' : (k : ℝ) = |x| * (2 : ℝ) ^ ((149 : ℤ) - e.val) := by exact_mod_cast h1'
    have hkl : k < 16777216 := by
      have : (k : ℝ) < 16777216 := by rw [h1'']; exact h2'
      exact_mod_cast this
    obtain ⟨a, _, ha, hv⟩ := Cert.Sampling.exists_key e.val (by omega) k hkl x (by
      rw [h1'', mul_assoc, ← zpow_add₀ (by norm_num : (2 : ℝ) ≠ 0)]
      simp)
    exact ⟨a, ha, hv.symm⟩

/-- What the precondition says of the arguments. -/
theorem meaning (x : FVec Ideal S64x100000 .f32) (t k q : IVec S_ 32) (h : fn (F := Ideal) x t k q = fun _ => 1#1) :
    (∀ r i, (x (ix2 r i) : EReal) ≠ ⊤ ∧ ∃ a : ℤ, a < 2139095040 ∧ (x (ix2 r i) : EReal) = Cert.Sampling.keyVal a)
    ∧ (∀ r, ∃ i, ⊥ < (x (ix2 r i) : EReal)) ∧ 1 ≤ (t ix0).toInt ∧ 1 ≤ (k ix0).toInt ∧ 1 ≤ (q ix0).toInt := by
  have h := congrFun ((fn_eq x t k q).symm.trans h) ix0
  obtain ⟨h, hq⟩ := (andi_one _ _).1 h
  obtain ⟨h, hk⟩ := (andi_one _ _).1 h
  obtain ⟨h, ht⟩ := (andi_one _ _).1 h
  obtain ⟨ha, hr⟩ := (andi_one _ _).1 h
  refine ⟨fun r i => ?_, fun r => ?_, (sge_one t).1 ht, (sge_one k).1 hk, (sge_one q).1 hq⟩
  · have h1 := all_at _ ha r i
    rcases (ori_one _ _).1 h1 with h1 | h1
    · rw [numeric_at, fold_ori] at h1
      obtain ⟨e, _, he⟩ := h1
      rw [whole_at, scaledBy_at, two_bits, n149_bits, n24_bits] at he
      exact number_key _ e he.1 he.2
    · rw [lowest_at, low_bits] at h1
      rw [h1]
      obtain ⟨a, _, ha, hv⟩ := Cert.Sampling.exists_key_bot
      exact ⟨bot_ne_top, a, ha, hv.symm⟩
  · have h1 := rows_at _ hr r
    rw [someNumber_at, fold_ori] at h1
    obtain ⟨i, _, hi⟩ := h1
    rw [ofBool_one, low_bits] at hi
    exact ⟨i, hi⟩

end Cert.Pre_ordinary
-- ==== Proof.Uniform.lean ====
module

public import proofs.«01_k».proof.Proof.RefRun
public import proofs.«01_k».proof.Proof.Gen.KernelIdeal.Frame
public import Idealize.ShloMosaic.Lib.StableHlo.ReadAt
public import Idealize.ShloMosaic.PureOps.Ideal

@[expose] public section

set_option maxRecDepth 65536
set_option maxHeartbeats 4000000

/-!
# The uniform numbers

Both programs draw their uniform numbers by the same operations on buffers of their own. A stretch of
these operations at a time, equal inputs leave equal outputs; so the drawn numbers agree.
-/

noncomputable section

open Idealize.ShloMosaic Idealize.ShloMosaic.TcCoe Idealize.SL.Sem

namespace Cert.Uniform

/-- The reference's operations. -/
abbrev opsR : List (HloOp Cert.ReferenceIdeal.τ Cert.ReferenceIdeal.sig (Elt Ideal)) := Cert.ReferenceIdeal.Ops.ops1
/-- The kernel's operations. -/
abbrev opsK : List (HloOp Cert.KernelIdeal.τ Cert.KernelIdeal.sig (Elt Ideal)) := Cert.KernelIdeal.Gen.hostOps0_1

/-- The contents of the reference's buffers. -/
abbrev ValR := Valuation Cert.ReferenceIdeal.τ Cert.ReferenceIdeal.sig (Elt Ideal)
/-- The contents of the kernel's buffers. -/
abbrev ValK := Valuation Cert.KernelIdeal.τ Cert.KernelIdeal.sig (Elt Ideal)

/-- A line of operations runs as its first part, then the rest. -/
theorem after_cut {τ : Topo} {sig : RefSig} {Val : EltTy → Type} (l : List (HloOp τ sig Val)) (n : Nat) (V : Valuation τ sig Val) :
    StableHlo.after l V = StableHlo.after (l.drop n) (StableHlo.after (l.take n) V) := by
  rw [← StableHlo.after_append, List.take_append_drop]

/-- Operations 0 to 8: output 0. -/
theorem out0_0 (V : ValR) (W : ValK) (h0 : V (Proc.devRef .tc Cert.ReferenceIdeal.main_cst_4) = W (Proc.devRef .tc Cert.KernelIdeal.main_cst)) :
    StableHlo.after (List.take 8 (List.drop 0 opsR)) V (Proc.devRef .tc Cert.ReferenceIdeal.main_call0_v2) = StableHlo.after (List.take 8 (List.drop 0 opsK)) W (Proc.devRef .tc Cert.KernelIdeal.main_call0_v2) := by
  after_reads_simp
  rw [h0]
  try rfl

/-- Operations 0 to 8: output 1. -/
theorem out0_1 (V : ValR) (W : ValK) (h0 : V (Proc.devRef .tc Cert.ReferenceIdeal.main_cst_5) = W (Proc.devRef .tc Cert.KernelIdeal.main_cst_2)) :
    StableHlo.after (List.take 8 (List.drop 0 opsR)) V (Proc.devRef .tc Cert.ReferenceIdeal.main_call0_v3) = StableHlo.after (List.take 8 (List.drop 0 opsK)) W (Proc.devRef .tc Cert.KernelIdeal.main_call0_v3) := by
  after_reads_simp
  rw [h0]
  try rfl

/-- Operations 0 to 8: output 2. -/
theorem out0_2 (V : ValR) (W : ValK) (h0 : V (Proc.devRef .tc Cert.ReferenceIdeal.main_v20) = W (Proc.devRef .tc Cert.KernelIdeal.main_v6)) :
    StableHlo.after (List.take 8 (List.drop 0 opsR)) V (Proc.devRef .tc Cert.ReferenceIdeal.main_call0_v5) = StableHlo.after (List.take 8 (List.drop 0 opsK)) W (Proc.devRef .tc Cert.KernelIdeal.main_call0_v5) := by
  after_reads_simp
  rw [h0]
  try rfl

/-- Operations 0 to 8: output 3. -/
theorem out0_3 (V : ValR) (W : ValK) (h0 : V (Proc.devRef .tc Cert.ReferenceIdeal.main_v20) = W (Proc.devRef .tc Cert.KernelIdeal.main_v6)) :
    StableHlo.after (List.take 8 (List.drop 0 opsR)) V (Proc.devRef .tc Cert.ReferenceIdeal.main_call0_v7) = StableHlo.after (List.take 8 (List.drop 0 opsK)) W (Proc.devRef .tc Cert.KernelIdeal.main_call0_v7) := by
  after_reads_simp
  rw [h0]
  try rfl

/-- Operations 8 to 17: output 0. -/
theorem out1_0 (V : ValR) (W : ValK) (h0 : V (Proc.devRef .tc Cert.ReferenceIdeal.main_call0_v2) = W (Proc.devRef .tc Cert.KernelIdeal.main_call0_v2)) :
    StableHlo.after (List.take 9 (List.drop 8 opsR)) V (Proc.devRef .tc Cert.ReferenceIdeal.main_call0_v2) = StableHlo.after (List.take 9 (List.drop 8 opsK)) W (Proc.devRef .tc Cert.KernelIdeal.main_call0_v2) := by
  after_reads_simp
  rw [h0]
  try rfl

/-- Operations 8 to 17: output 1. -/
theorem out1_1 (V : ValR) (W : ValK) (h0 : V (Proc.devRef .tc Cert.ReferenceIdeal.main_call0_v3) = W (Proc.devRef .tc Cert.KernelIdeal.main_call0_v3)) :
    StableHlo.after (List.take 9 (List.drop 8 opsR)) V (Proc.devRef .tc Cert.ReferenceIdeal.main_call0_v3) = StableHlo.after (List.take 9 (List.drop 8 opsK)) W (Proc.devRef .tc Cert.KernelIdeal.main_call0_v3) := by
  after_reads_simp
  rw [h0]
  try rfl

/-- Operations 8 to 17: output 2. -/
theorem out1_2 (V : ValR) (W : ValK) (h0 : V (Proc.devRef .tc Cert.ReferenceIdeal.main_call0_v5) = W (Proc.devRef .tc Cert.KernelIdeal.main_call0_v5)) :
    StableHlo.after (List.take 9 (List.drop 8 opsR)) V (Proc.devRef .tc Cert.ReferenceIdeal.main_call0_v5) = StableHlo.after (List.take 9 (List.drop 8 opsK)) W (Proc.devRef .tc Cert.KernelIdeal.main_call0_v5) := by
  after_reads_simp
  rw [h0]
  try rfl

/-- Operations 8 to 17: output 3. -/
theorem out1_3 (V : ValR) (W : ValK) (h0 : V (Proc.devRef .tc Cert.ReferenceIdeal.main_call0_v7) = W (Proc.devRef .tc Cert.KernelIdeal.main_call0_v7)) :
    StableHlo.after (List.take 9 (List.drop 8 opsR)) V (Proc.devRef .tc Cert.ReferenceIdeal.main_call0_v7) = StableHlo.after (List.take 9 (List.drop 8 opsK)) W (Proc.devRef .tc Cert.KernelIdeal.main_call0_v7) := by
  after_reads_simp
  rw [h0]
  try rfl

/-- Operations 8 to 17: output 4. -/
theorem out1_4 (V : ValR) (W : ValK)  :
    StableHlo.after (List.take 9 (List.drop 8 opsR)) V (Proc.devRef .tc Cert.ReferenceIdeal.main_call0_v14) = StableHlo.after (List.take 9 (List.drop 8 opsK)) W (Proc.devRef .tc Cert.KernelIdeal.main_call0_v14) := by
  after_reads_simp
  skip
  try rfl

/-- Operations 17 to 30: output 0. -/
theorem out2_0 (V : ValR) (W : ValK) (h0 : V (Proc.devRef .tc Cert.ReferenceIdeal.main_call0_v5) = W (Proc.devRef .tc Cert.KernelIdeal.main_call0_v5)) (h1 : V (Proc.devRef .tc Cert.ReferenceIdeal.main_call0_v7) = W (Proc.devRef .tc Cert.KernelIdeal.main_call0_v7)) :
    StableHlo.after (List.take 13 (List.drop 17 opsR)) V (Proc.devRef .tc Cert.ReferenceIdeal.main_call0_call0_v1) = StableHlo.after (List.take 13 (List.drop 17 opsK)) W (Proc.devRef .tc Cert.KernelIdeal.main_call0_call0_v1) := by
  after_reads_simp
  rw [h0, h1]
  try rfl

/-- Operations 17 to 30: output 1. -/
theorem out2_1 (V : ValR) (W : ValK) (h0 : V (Proc.devRef .tc Cert.ReferenceIdeal.main_call0_v2) = W (Proc.devRef .tc Cert.KernelIdeal.main_call0_v2)) :
    StableHlo.after (List.take 13 (List.drop 17 opsR)) V (Proc.devRef .tc Cert.ReferenceIdeal.main_call0_v2) = StableHlo.after (List.take 13 (List.drop 17 opsK)) W (Proc.devRef .tc Cert.KernelIdeal.main_call0_v2) := by
  after_reads_simp
  rw [h0]
  try rfl

/-- Operations 17 to 30: output 2. -/
theorem out2_2 (V : ValR) (W : ValK) (h0 : V (Proc.devRef .tc Cert.ReferenceIdeal.main_call0_v3) = W (Proc.devRef .tc Cert.KernelIdeal.main_call0_v3)) :
    StableHlo.after (List.take 13 (List.drop 17 opsR)) V (Proc.devRef .tc Cert.ReferenceIdeal.main_call0_v3) = StableHlo.after (List.take 13 (List.drop 17 opsK)) W (Proc.devRef .tc Cert.KernelIdeal.main_call0_v3) := by
  after_reads_simp
  rw [h0]
  try rfl

/-- Operations 17 to 30: output 3. -/
theorem out2_3 (V : ValR) (W : ValK) (h0 : V (Proc.devRef .tc Cert.ReferenceIdeal.main_call0_v5) = W (Proc.devRef .tc Cert.KernelIdeal.main_call0_v5)) :
    StableHlo.after (List.take 13 (List.drop 17 opsR)) V (Proc.devRef .tc Cert.ReferenceIdeal.main_call0_v5) = StableHlo.after (List.take 13 (List.drop 17 opsK)) W (Proc.devRef .tc Cert.KernelIdeal.main_call0_v5) := by
  after_reads_simp
  rw [h0]
  try rfl

/-- Operations 17 to 30: output 4. -/
theorem out2_4 (V : ValR) (W : ValK) (h0 : V (Proc.devRef .tc Cert.ReferenceIdeal.main_call0_v7) = W (Proc.devRef .tc Cert.KernelIdeal.main_call0_v7)) (h1 : V (Proc.devRef .tc Cert.ReferenceIdeal.main_call0_v14) = W (Proc.devRef .tc Cert.KernelIdeal.main_call0_v14)) :
    StableHlo.after (List.take 13 (List.drop 17 opsR)) V (Proc.devRef .tc Cert.ReferenceIdeal.main_call0_call0_v5) = StableHlo.after (List.take 13 (List.drop 17 opsK)) W (Proc.devRef .tc Cert.KernelIdeal.main_call0_call0_v5) := by
  after_reads_simp
  rw [h0, h1]
  try rfl

/-- Operations 17 to 30: output 5. -/
theorem out2_5 (V : ValR) (W : ValK) (h0 : V (Proc.devRef .tc Cert.ReferenceIdeal.main_call0_v5) = W (Proc.devRef .tc Cert.KernelIdeal.main_call0_v5)) (h1 : V (Proc.devRef .tc Cert.ReferenceIdeal.main_call0_v7) = W (Proc.devRef .tc Cert.KernelIdeal.main_call0_v7)) (h2 : V (Proc.devRef .tc Cert.ReferenceIdeal.main_call0_v14) = W (Proc.devRef .tc Cert.KernelIdeal.main_call0_v14)) :
    StableHlo.after (List.take 13 (List.drop 17 opsR)) V (Proc.devRef .tc Cert.ReferenceIdeal.main_call0_call0_v6) = StableHlo.after (List.take 13 (List.drop 17 opsK)) W (Proc.devRef .tc Cert.KernelIdeal.main_call0_call0_v6) := by
  after_reads_simp
  rw [h0, h1, h2]
  try rfl

/-- Operations 17 to 30: output 6. -/
theorem out2_6 (V : ValR) (W : ValK) (h0 : V (Proc.devRef .tc Cert.ReferenceIdeal.main_call0_v7) = W (Proc.devRef .tc Cert.KernelIdeal.main_call0_v7)) :
    StableHlo.after (List.take 13 (List.drop 17 opsR)) V (Proc.devRef .tc Cert.ReferenceIdeal.main_call0_v7) = StableHlo.after (List.take 13 (List.drop 17 opsK)) W (Proc.devRef .tc Cert.KernelIdeal.main_call0_v7) := by
  after_reads_simp
  rw [h0]
  try rfl

/-- Operations 30 to 39: output 0. -/
theorem out3_0 (V : ValR) (W : ValK) (h0 : V (Proc.devRef .tc Cert.ReferenceIdeal.main_call0_call0_v1) = W (Proc.devRef .tc Cert.KernelIdeal.main_call0_call0_v1)) :
    StableHlo.after (List.take 9 (List.drop 30 opsR)) V (Proc.devRef .tc Cert.ReferenceIdeal.main_call0_call0_v1) = StableHlo.after (List.take 9 (List.drop 30 opsK)) W (Proc.devRef .tc Cert.KernelIdeal.main_call0_call0_v1) := by
  after_reads_simp
  rw [h0]
  try rfl

/-- Operations 30 to 39: output 1. -/
theorem out3_1 (V : ValR) (W : ValK) (h0 : V (Proc.devRef .tc Cert.ReferenceIdeal.main_call0_v2) = W (Proc.devRef .tc Cert.KernelIdeal.main_call0_v2)) :
    StableHlo.after (List.take 9 (List.drop 30 opsR)) V (Proc.devRef .tc Cert.ReferenceIdeal.main_call0_v2) = StableHlo.after (List.take 9 (List.drop 30 opsK)) W (Proc.devRef .tc Cert.KernelIdeal.main_call0_v2) := by
  after_reads_simp
  rw [h0]
  try rfl

/-- Operations 30 to 39: output 2. -/
theorem out3_2 (V : ValR) (W : ValK) (h0 : V (Proc.devRef .tc Cert.ReferenceIdeal.main_call0_v3) = W (Proc.devRef .tc Cert.KernelIdeal.main_call0_v3)) :
    StableHlo.after (List.take 9 (List.drop 30 opsR)) V (Proc.devRef .tc Cert.ReferenceIdeal.main_call0_v3) = StableHlo.after (List.take 9 (List.drop 30 opsK)) W (Proc.devRef .tc Cert.KernelIdeal.main_call0_v3) := by
  after_reads_simp
  rw [h0]
  try rfl

/-- Operations 30 to 39: output 3. -/
theorem out3_3 (V : ValR) (W : ValK) (h0 : V (Proc.devRef .tc Cert.ReferenceIdeal.main_call0_v5) = W (Proc.devRef .tc Cert.KernelIdeal.main_call0_v5)) :
    StableHlo.after (List.take 9 (List.drop 30 opsR)) V (Proc.devRef .tc Cert.ReferenceIdeal.main_call0_v5) = StableHlo.after (List.take 9 (List.drop 30 opsK)) W (Proc.devRef .tc Cert.KernelIdeal.main_call0_v5) := by
  after_reads_simp
  rw [h0]
  try rfl

/-- Operations 30 to 39: output 4. -/
theorem out3_4 (V : ValR) (W : ValK) (h0 : V (Proc.devRef .tc Cert.ReferenceIdeal.main_call0_v7) = W (Proc.devRef .tc Cert.KernelIdeal.main_call0_v7)) :
    StableHlo.after (List.take 9 (List.drop 30 opsR)) V (Proc.devRef .tc Cert.ReferenceIdeal.main_call0_v7) = StableHlo.after (List.take 9 (List.drop 30 opsK)) W (Proc.devRef .tc Cert.KernelIdeal.main_call0_v7) := by
  after_reads_simp
  rw [h0]
  try rfl

/-- Operations 30 to 39: output 5. -/
theorem out3_5 (V : ValR) (W : ValK) (h0 : V (Proc.devRef .tc Cert.ReferenceIdeal.main_call0_call0_v5) = W (Proc.devRef .tc Cert.KernelIdeal.main_call0_call0_v5)) (h1 : V (Proc.devRef .tc Cert.ReferenceIdeal.main_call0_call0_v6) = W (Proc.devRef .tc Cert.KernelIdeal.main_call0_call0_v6)) :
    StableHlo.after (List.take 9 (List.drop 30 opsR)) V (Proc.devRef .tc Cert.ReferenceIdeal.main_call0_call0_v12) = StableHlo.after (List.take 9 (List.drop 30 opsK)) W (Proc.devRef .tc Cert.KernelIdeal.main_call0_call0_v12) := by
  after_reads_simp
  rw [h0, h1]
  try rfl

/-- Operations 30 to 39: output 6. -/
theorem out3_6 (V : ValR) (W : ValK) (h0 : V (Proc.devRef .tc Cert.ReferenceIdeal.main_call0_call0_v5) = W (Proc.devRef .tc Cert.KernelIdeal.main_call0_call0_v5)) (h1 : V (Proc.devRef .tc Cert.ReferenceIdeal.main_call0_call0_v6) = W (Proc.devRef .tc Cert.KernelIdeal.main_call0_call0_v6)) :
    StableHlo.after (List.take 9 (List.drop 30 opsR)) V (Proc.devRef .tc Cert.ReferenceIdeal.main_call0_call0_v13) = StableHlo.after (List.take 9 (List.drop 30 opsK)) W (Proc.devRef .tc Cert.KernelIdeal.main_call0_call0_v13) := by
  after_reads_simp
  rw [h0, h1]
  try rfl

/-- Operations 39 to 48: output 0. -/
theorem out4_0 (V : ValR) (W : ValK) (h0 : V (Proc.devRef .tc Cert.ReferenceIdeal.main_call0_call0_v1) = W (Proc.devRef .tc Cert.KernelIdeal.main_call0_call0_v1)) :
    StableHlo.after (List.take 9 (List.drop 39 opsR)) V (Proc.devRef .tc Cert.ReferenceIdeal.main_call0_call0_v1) = StableHlo.after (List.take 9 (List.drop 39 opsK)) W (Proc.devRef .tc Cert.KernelIdeal.main_call0_call0_v1) := by
  after_reads_simp
  rw [h0]
  try rfl

/-- Operations 39 to 48: output 1. -/
theorem out4_1 (V : ValR) (W : ValK) (h0 : V (Proc.devRef .tc Cert.ReferenceIdeal.main_call0_v2) = W (Proc.devRef .tc Cert.KernelIdeal.main_call0_v2)) :
    StableHlo.after (List.take 9 (List.drop 39 opsR)) V (Proc.devRef .tc Cert.ReferenceIdeal.main_call0_v2) = StableHlo.after (List.take 9 (List.drop 39 opsK)) W (Proc.devRef .tc Cert.KernelIdeal.main_call0_v2) := by
  after_reads_simp
  rw [h0]
  try rfl

/-- Operations 39 to 48: output 2. -/
theorem out4_2 (V : ValR) (W : ValK) (h0 : V (Proc.devRef .tc Cert.ReferenceIdeal.main_call0_v3) = W (Proc.devRef .tc Cert.KernelIdeal.main_call0_v3)) :
    StableHlo.after (List.take 9 (List.drop 39 opsR)) V (Proc.devRef .tc Cert.ReferenceIdeal.main_call0_v3) = StableHlo.after (List.take 9 (List.drop 39 opsK)) W (Proc.devRef .tc Cert.KernelIdeal.main_call0_v3) := by
  after_reads_simp
  rw [h0]
  try rfl

/-- Operations 39 to 48: output 3. -/
theorem out4_3 (V : ValR) (W : ValK) (h0 : V (Proc.devRef .tc Cert.ReferenceIdeal.main_call0_v5) = W (Proc.devRef .tc Cert.KernelIdeal.main_call0_v5)) :
    StableHlo.after (List.take 9 (List.drop 39 opsR)) V (Proc.devRef .tc Cert.ReferenceIdeal.main_call0_v5) = StableHlo.after (List.take 9 (List.drop 39 opsK)) W (Proc.devRef .tc Cert.KernelIdeal.main_call0_v5) := by
  after_reads_simp
  rw [h0]
  try rfl

/-- Operations 39 to 48: output 4. -/
theorem out4_4 (V : ValR) (W : ValK) (h0 : V (Proc.devRef .tc Cert.ReferenceIdeal.main_call0_v7) = W (Proc.devRef .tc Cert.KernelIdeal.main_call0_v7)) :
    StableHlo.after (List.take 9 (List.drop 39 opsR)) V (Proc.devRef .tc Cert.ReferenceIdeal.main_call0_v7) = StableHlo.after (List.take 9 (List.drop 39 opsK)) W (Proc.devRef .tc Cert.KernelIdeal.main_call0_v7) := by
  after_reads_simp
  rw [h0]
  try rfl

/-- Operations 39 to 48: output 5. -/
theorem out4_5 (V : ValR) (W : ValK) (h0 : V (Proc.devRef .tc Cert.ReferenceIdeal.main_call0_call0_v12) = W (Proc.devRef .tc Cert.KernelIdeal.main_call0_call0_v12)) (h1 : V (Proc.devRef .tc Cert.ReferenceIdeal.main_call0_call0_v13) = W (Proc.devRef .tc Cert.KernelIdeal.main_call0_call0_v13)) :
    StableHlo.after (List.take 9 (List.drop 39 opsR)) V (Proc.devRef .tc Cert.ReferenceIdeal.main_call0_call0_v19) = StableHlo.after (List.take 9 (List.drop 39 opsK)) W (Proc.devRef .tc Cert.KernelIdeal.main_call0_call0_v19) := by
  after_reads_simp
  rw [h0, h1]
  try rfl

/-- Operations 39 to 48: output 6. -/
theorem out4_6 (V : ValR) (W : ValK) (h0 : V (Proc.devRef .tc Cert.ReferenceIdeal.main_call0_call0_v12) = W (Proc.devRef .tc Cert.KernelIdeal.main_call0_call0_v12)) (h1 : V (Proc.devRef .tc Cert.ReferenceIdeal.main_call0_call0_v13) = W (Proc.devRef .tc Cert.KernelIdeal.main_call0_call0_v13)) :
    StableHlo.after (List.take 9 (List.drop 39 opsR)) V (Proc.devRef .tc Cert.ReferenceIdeal.main_call0_call0_v20) = StableHlo.after (List.take 9 (List.drop 39 opsK)) W (Proc.devRef .tc Cert.KernelIdeal.main_call0_call0_v20) := by
  after_reads_simp
  rw [h0, h1]
  try rfl

/-- Operations 48 to 57: output 0. -/
theorem out5_0 (V : ValR) (W : ValK) (h0 : V (Proc.devRef .tc Cert.ReferenceIdeal.main_call0_call0_v1) = W (Proc.devRef .tc Cert.KernelIdeal.main_call0_call0_v1)) :
    StableHlo.after (List.take 9 (List.drop 48 opsR)) V (Proc.devRef .tc Cert.ReferenceIdeal.main_call0_call0_v1) = StableHlo.after (List.take 9 (List.drop 48 opsK)) W (Proc.devRef .tc Cert.KernelIdeal.main_call0_call0_v1) := by
  after_reads_simp
  rw [h0]
  try rfl

/-- Operations 48 to 57: output 1. -/
theorem out5_1 (V : ValR) (W : ValK) (h0 : V (Proc.devRef .tc Cert.ReferenceIdeal.main_call0_v2) = W (Proc.devRef .tc Cert.KernelIdeal.main_call0_v2)) :
    StableHlo.after (List.take 9 (List.drop 48 opsR)) V (Proc.devRef .tc Cert.ReferenceIdeal.main_call0_v2) = StableHlo.after (List.take 9 (List.drop 48 opsK)) W (Proc.devRef .tc Cert.KernelIdeal.main_call0_v2) := by
  after_reads_simp
  rw [h0]
  try rfl

/-- Operations 48 to 57: output 2. -/
theorem out5_2 (V : ValR) (W : ValK) (h0 : V (Proc.devRef .tc Cert.ReferenceIdeal.main_call0_v3) = W (Proc.devRef .tc Cert.KernelIdeal.main_call0_v3)) :
    StableHlo.after (List.take 9 (List.drop 48 opsR)) V (Proc.devRef .tc Cert.ReferenceIdeal.main_call0_v3) = StableHlo.after (List.take 9 (List.drop 48 opsK)) W (Proc.devRef .tc Cert.KernelIdeal.main_call0_v3) := by
  after_reads_simp
  rw [h0]
  try rfl

/-- Operations 48 to 57: output 3. -/
theorem out5_3 (V : ValR) (W : ValK) (h0 : V (Proc.devRef .tc Cert.ReferenceIdeal.main_call0_v5) = W (Proc.devRef .tc Cert.KernelIdeal.main_call0_v5)) :
    StableHlo.after (List.take 9 (List.drop 48 opsR)) V (Proc.devRef .tc Cert.ReferenceIdeal.main_call0_v5) = StableHlo.after (List.take 9 (List.drop 48 opsK)) W (Proc.devRef .tc Cert.KernelIdeal.main_call0_v5) := by
  after_reads_simp
  rw [h0]
  try rfl

/-- Operations 48 to 57: output 4. -/
theorem out5_4 (V : ValR) (W : ValK) (h0 : V (Proc.devRef .tc Cert.ReferenceIdeal.main_call0_v7) = W (Proc.devRef .tc Cert.KernelIdeal.main_call0_v7)) :
    StableHlo.after (List.take 9 (List.drop 48 opsR)) V (Proc.devRef .tc Cert.ReferenceIdeal.main_call0_v7) = StableHlo.after (List.take 9 (List.drop 48 opsK)) W (Proc.devRef .tc Cert.KernelIdeal.main_call0_v7) := by
  after_reads_simp
  rw [h0]
  try rfl

/-- Operations 48 to 57: output 5. -/
theorem out5_5 (V : ValR) (W : ValK) (h0 : V (Proc.devRef .tc Cert.ReferenceIdeal.main_call0_call0_v19) = W (Proc.devRef .tc Cert.KernelIdeal.main_call0_call0_v19)) (h1 : V (Proc.devRef .tc Cert.ReferenceIdeal.main_call0_call0_v20) = W (Proc.devRef .tc Cert.KernelIdeal.main_call0_call0_v20)) :
    StableHlo.after (List.take 9 (List.drop 48 opsR)) V (Proc.devRef .tc Cert.ReferenceIdeal.main_call0_call0_v26) = StableHlo.after (List.take 9 (List.drop 48 opsK)) W (Proc.devRef .tc Cert.KernelIdeal.main_call0_call0_v26) := by
  after_reads_simp
  rw [h0, h1]
  try rfl

/-- Operations 48 to 57: output 6. -/
theorem out5_6 (V : ValR) (W : ValK) (h0 : V (Proc.devRef .tc Cert.ReferenceIdeal.main_call0_call0_v19) = W (Proc.devRef .tc Cert.KernelIdeal.main_call0_call0_v19)) (h1 : V (Proc.devRef .tc Cert.ReferenceIdeal.main_call0_call0_v20) = W (Proc.devRef .tc Cert.KernelIdeal.main_call0_call0_v20)) :
    StableHlo.after (List.take 9 (List.drop 48 opsR)) V (Proc.devRef .tc Cert.ReferenceIdeal.main_call0_call0_v27) = StableHlo.after (List.take 9 (List.drop 48 opsK)) W (Proc.devRef .tc Cert.KernelIdeal.main_call0_call0_v27) := by
  after_reads_simp
  rw [h0, h1]
  try rfl

/-- Operations 57 to 69: output 0. -/
theorem out6_0 (V : ValR) (W : ValK) (h0 : V (Proc.devRef .tc Cert.ReferenceIdeal.main_call0_call0_v1) = W (Proc.devRef .tc Cert.KernelIdeal.main_call0_call0_v1)) :
    StableHlo.after (List.take 12 (List.drop 57 opsR)) V (Proc.devRef .tc Cert.ReferenceIdeal.main_call0_call0_v1) = StableHlo.after (List.take 12 (List.drop 57 opsK)) W (Proc.devRef .tc Cert.KernelIdeal.main_call0_call0_v1) := by
  after_reads_simp
  rw [h0]
  try rfl

/-- Operations 57 to 69: output 1. -/
theorem out6_1 (V : ValR) (W : ValK) (h0 : V (Proc.devRef .tc Cert.ReferenceIdeal.main_call0_v2) = W (Proc.devRef .tc Cert.KernelIdeal.main_call0_v2)) :
    StableHlo.after (List.take 12 (List.drop 57 opsR)) V (Proc.devRef .tc Cert.ReferenceIdeal.main_call0_v2) = StableHlo.after (List.take 12 (List.drop 57 opsK)) W (Proc.devRef .tc Cert.KernelIdeal.main_call0_v2) := by
  after_reads_simp
  rw [h0]
  try rfl

/-- Operations 57 to 69: output 2. -/
theorem out6_2 (V : ValR) (W : ValK) (h0 : V (Proc.devRef .tc Cert.ReferenceIdeal.main_call0_v3) = W (Proc.devRef .tc Cert.KernelIdeal.main_call0_v3)) :
    StableHlo.after (List.take 12 (List.drop 57 opsR)) V (Proc.devRef .tc Cert.ReferenceIdeal.main_call0_v3) = StableHlo.after (List.take 12 (List.drop 57 opsK)) W (Proc.devRef .tc Cert.KernelIdeal.main_call0_v3) := by
  after_reads_simp
  rw [h0]
  try rfl

/-- Operations 57 to 69: output 3. -/
theorem out6_3 (V : ValR) (W : ValK) (h0 : V (Proc.devRef .tc Cert.ReferenceIdeal.main_call0_v5) = W (Proc.devRef .tc Cert.KernelIdeal.main_call0_v5)) :
    StableHlo.after (List.take 12 (List.drop 57 opsR)) V (Proc.devRef .tc Cert.ReferenceIdeal.main_call0_v5) = StableHlo.after (List.take 12 (List.drop 57 opsK)) W (Proc.devRef .tc Cert.KernelIdeal.main_call0_v5) := by
  after_reads_simp
  rw [h0]
  try rfl

/-- Operations 57 to 69: output 4. -/
theorem out6_4 (V : ValR) (W : ValK) (h0 : V (Proc.devRef .tc Cert.ReferenceIdeal.main_call0_v7) = W (Proc.devRef .tc Cert.KernelIdeal.main_call0_v7)) :
    StableHlo.after (List.take 12 (List.drop 57 opsR)) V (Proc.devRef .tc Cert.ReferenceIdeal.main_call0_v7) = StableHlo.after (List.take 12 (List.drop 57 opsK)) W (Proc.devRef .tc Cert.KernelIdeal.main_call0_v7) := by
  after_reads_simp
  rw [h0]
  try rfl

/-- Operations 57 to 69: output 5. -/
theorem out6_5 (V : ValR) (W : ValK) (h0 : V (Proc.devRef .tc Cert.ReferenceIdeal.main_call0_v7) = W (Proc.devRef .tc Cert.KernelIdeal.main_call0_v7)) (h1 : V (Proc.devRef .tc Cert.ReferenceIdeal.main_call0_call0_v27) = W (Proc.devRef .tc Cert.KernelIdeal.main_call0_call0_v27)) :
    StableHlo.after (List.take 12 (List.drop 57 opsR)) V (Proc.devRef .tc Cert.ReferenceIdeal.main_call0_call0_v35) = StableHlo.after (List.take 12 (List.drop 57 opsK)) W (Proc.devRef .tc Cert.KernelIdeal.main_call0_call0_v35) := by
  after_reads_simp
  rw [h0, h1]
  try rfl

/-- Operations 57 to 69: output 6. -/
theorem out6_6 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_call0_v26) = W (Proc.devRef .tc Cert.KernelIdeal.main_call0_call0_v26)) (h2 : V (Proc.devRef .tc Cert.ReferenceIdeal.main_call0_call0_v27) = W (Proc.devRef .tc Cert.KernelIdeal.main_call0_call0_v27)) :
    StableHlo.after (List.take 12 (List.drop 57 opsR)) V (Proc.devRef .tc Cert.ReferenceIdeal.main_call0_call0_v37) = StableHlo.after (List.take 12 (List.drop 57 opsK)) W (Proc.devRef .tc Cert.KernelIdeal.main_call0_call0_v37) := by
  after_reads_simp
  rw [h0, h1, h2]
  try rfl

/-- Operations 69 to 82: output 0. -/
theorem out7_0 (V : ValR) (W : ValK) (h0 : V (Proc.devRef .tc Cert.ReferenceIdeal.main_call0_call0_v1) = W (Proc.devRef .tc Cert.KernelIdeal.main_call0_call0_v1)) :
    StableHlo.after (List.take 13 (List.drop 69 opsR)) V (Proc.devRef .tc Cert.ReferenceIdeal.main_call0_call0_v1) = StableHlo.after (List.take 13 (List.drop 69 opsK)) W (Proc.devRef .tc Cert.KernelIdeal.main_call0_call0_v1) := by
  after_reads_simp
  rw [h0]
  try rfl

/-- Operations 69 to 82: output 1. -/
theorem out7_1 (V : ValR) (W : ValK) (h0 : V (Proc.devRef .tc Cert.ReferenceIdeal.main_call0_v2) = W (Proc.devRef .tc Cert.KernelIdeal.main_call0_v2)) :
    StableHlo.after (List.take 13 (List.drop 69 opsR)) V (Proc.devRef .tc Cert.ReferenceIdeal.main_call0_v2) = StableHlo.after (List.take 13 (List.drop 69 opsK)) W (Proc.devRef .tc Cert.KernelIdeal.main_call0_v2) := by
  after_reads_simp
  rw [h0]
  try rfl

/-- Operations 69 to 82: output 2. -/
theorem out7_2 (V : ValR) (W : ValK) (h0 : V (Proc.devRef .tc Cert.ReferenceIdeal.main_call0_v3) = W (Proc.devRef .tc Cert.KernelIdeal.main_call0_v3)) :
    StableHlo.after (List.take 13 (List.drop 69 opsR)) V (Proc.devRef .tc Cert.ReferenceIdeal.main_call0_v3) = StableHlo.after (List.take 13 (List.drop 69 opsK)) W (Proc.devRef .tc Cert.KernelIdeal.main_call0_v3) := by
  after_reads_simp
  rw [h0]
  try rfl

/-- Operations 69 to 82: output 3. -/
theorem out7_3 (V : ValR) (W : ValK) (h0 : V (Proc.devRef .tc Cert.ReferenceIdeal.main_call0_v5) = W (Proc.devRef .tc Cert.KernelIdeal.main_call0_v5)) :
    StableHlo.after (List.take 13 (List.drop 69 opsR)) V (Proc.devRef .tc Cert.ReferenceIdeal.main_call0_v5) = StableHlo.after (List.take 13 (List.drop 69 opsK)) W (Proc.devRef .tc Cert.KernelIdeal.main_call0_v5) := by
  after_reads_simp
  rw [h0]
  try rfl

/-- Operations 69 to 82: output 4. -/
theorem out7_4 (V : ValR) (W : ValK) (h0 : V (Proc.devRef .tc Cert.ReferenceIdeal.main_call0_v7) = W (Proc.devRef .tc Cert.KernelIdeal.main_call0_v7)) :
    StableHlo.after (List.take 13 (List.drop 69 opsR)) V (Proc.devRef .tc Cert.ReferenceIdeal.main_call0_v7) = StableHlo.after (List.take 13 (List.drop 69 opsK)) W (Proc.devRef .tc Cert.KernelIdeal.main_call0_v7) := by
  after_reads_simp
  rw [h0]
  try rfl

/-- Operations 69 to 82: output 5. -/
theorem out7_5 (V : ValR) (W : ValK) (h0 : V (Proc.devRef .tc Cert.ReferenceIdeal.main_call0_call0_v35) = W (Proc.devRef .tc Cert.KernelIdeal.main_call0_call0_v35)) (h1 : V (Proc.devRef .tc Cert.ReferenceIdeal.main_call0_call0_v37) = W (Proc.devRef .tc Cert.KernelIdeal.main_call0_call0_v37)) :
    StableHlo.after (List.take 13 (List.drop 69 opsR)) V (Proc.devRef .tc Cert.ReferenceIdeal.main_call0_call0_v46) = StableHlo.after (List.take 13 (List.drop 69 opsK)) W (Proc.devRef .tc Cert.KernelIdeal.main_call0_call0_v46) := by
  after_reads_simp
  rw [h0, h1]
  try rfl

/-- Operations 69 to 82: output 6. -/
theorem out7_6 (V : ValR) (W : ValK) (h0 : V (Proc.devRef .tc Cert.ReferenceIdeal.main_call0_call0_v35) = W (Proc.devRef .tc Cert.KernelIdeal.main_call0_call0_v35)) (h1 : V (Proc.devRef .tc Cert.ReferenceIdeal.main_call0_call0_v37) = W (Proc.devRef .tc Cert.KernelIdeal.main_call0_call0_v37)) :
    StableHlo.after (List.take 13 (List.drop 69 opsR)) V (Proc.devRef .tc Cert.ReferenceIdeal.main_call0_call0_v47) = StableHlo.after (List.take 13 (List.drop 69 opsK)) W (Proc.devRef .tc Cert.KernelIdeal.main_call0_call0_v47) := by
  after_reads_simp
  rw [h0, h1]
  try rfl

/-- Operations 82 to 91: output 0. -/
theorem out8_0 (V : ValR) (W : ValK) (h0 : V (Proc.devRef .tc Cert.ReferenceIdeal.main_call0_call0_v1) = W (Proc.devRef .tc Cert.KernelIdeal.main_call0_call0_v1)) :
    StableHlo.after (List.take 9 (List.drop 82 opsR)) V (Proc.devRef .tc Cert.ReferenceIdeal.main_call0_call0_v1) = StableHlo.after (List.take 9 (List.drop 82 opsK)) W (Proc.devRef .tc Cert.KernelIdeal.main_call0_call0_v1) := by
  after_reads_simp
  rw [h0]
  try rfl

/-- Operations 82 to 91: output 1. -/
theorem out8_1 (V : ValR) (W : ValK) (h0 : V (Proc.devRef .tc Cert.ReferenceIdeal.main_call0_v2) = W (Proc.devRef .tc Cert.KernelIdeal.main_call0_v2)) :
    StableHlo.after (List.take 9 (List.drop 82 opsR)) V (Proc.devRef .tc Cert.ReferenceIdeal.main_call0_v2) = StableHlo.after (List.take 9 (List.drop 82 opsK)) W (Proc.devRef .tc Cert.KernelIdeal.main_call0_v2) := by
  after_reads_simp
  rw [h0]
  try rfl

/-- Operations 82 to 91: output 2. -/
theorem out8_2 (V : ValR) (W : ValK) (h0 : V (Proc.devRef .tc Cert.ReferenceIdeal.main_call0_v3) = W (Proc.devRef .tc Cert.KernelIdeal.main_call0_v3)) :
    StableHlo.after (List.take 9 (List.drop 82 opsR)) V (Proc.devRef .tc Cert.ReferenceIdeal.main_call0_v3) = StableHlo.after (List.take 9 (List.drop 82 opsK)) W (Proc.devRef .tc Cert.KernelIdeal.main_call0_v3) := by
  after_reads_simp
  rw [h0]
  try rfl

/-- Operations 82 to 91: output 3. -/
theorem out8_3 (V : ValR) (W : ValK) (h0 : V (Proc.devRef .tc Cert.ReferenceIdeal.main_call0_v5) = W (Proc.devRef .tc Cert.KernelIdeal.main_call0_v5)) :
    StableHlo.after (List.take 9 (List.drop 82 opsR)) V (Proc.devRef .tc Cert.ReferenceIdeal.main_call0_v5) = StableHlo.after (List.take 9 (List.drop 82 opsK)) W (Proc.devRef .tc Cert.KernelIdeal.main_call0_v5) := by
  after_reads_simp
  rw [h0]
  try rfl

/-- Operations 82 to 91: output 4. -/
theorem out8_4 (V : ValR) (W : ValK) (h0 : V (Proc.devRef .tc Cert.ReferenceIdeal.main_call0_v7) = W (Proc.devRef .tc Cert.KernelIdeal.main_call0_v7)) :
    StableHlo.after (List.take 9 (List.drop 82 opsR)) V (Proc.devRef .tc Cert.ReferenceIdeal.main_call0_v7) = StableHlo.after (List.take 9 (List.drop 82 opsK)) W (Proc.devRef .tc Cert.KernelIdeal.main_call0_v7) := by
  after_reads_simp
  rw [h0]
  try rfl

/-- Operations 82 to 91: output 5. -/
theorem out8_5 (V : ValR) (W : ValK) (h0 : V (Proc.devRef .tc Cert.ReferenceIdeal.main_call0_call0_v46) = W (Proc.devRef .tc Cert.KernelIdeal.main_call0_call0_v46)) (h1 : V (Proc.devRef .tc Cert.ReferenceIdeal.main_call0_call0_v47) = W (Proc.devRef .tc Cert.KernelIdeal.main_call0_call0_v47)) :
    StableHlo.after (List.take 9 (List.drop 82 opsR)) V (Proc.devRef .tc Cert.ReferenceIdeal.main_call0_call0_v53) = StableHlo.after (List.take 9 (List.drop 82 opsK)) W (Proc.devRef .tc Cert.KernelIdeal.main_call0_call0_v53) := by
  after_reads_simp
  rw [h0, h1]
  try rfl

/-- Operations 82 to 91: output 6. -/
theorem out8_6 (V : ValR) (W : ValK) (h0 : V (Proc.devRef .tc Cert.ReferenceIdeal.main_call0_call0_v46) = W (Proc.devRef .tc Cert.KernelIdeal.main_call0_call0_v46)) (h1 : V (Proc.devRef .tc Cert.ReferenceIdeal.main_call0_call0_v47) = W (Proc.devRef .tc Cert.KernelIdeal.main_call0_call0_v47)) :
    StableHlo.after (List.take 9 (List.drop 82 opsR)) V (Proc.devRef .tc Cert.ReferenceIdeal.main_call0_call0_v54) = StableHlo.after (List.take 9 (List.drop 82 opsK)) W (Proc.devRef .tc Cert.KernelIdeal.main_call0_call0_v54) := by
  after_reads_simp
  rw [h0, h1]
  try rfl

/-- Operations 91 to 100: output 0. -/
theorem out9_0 (V : ValR) (W : ValK) (h0 : V (Proc.devRef .tc Cert.ReferenceIdeal.main_call0_call0_v1) = W (Proc.devRef .tc Cert.KernelIdeal.main_call0_call0_v1)) :
    StableHlo.after (List.take 9 (List.drop 91 opsR)) V (Proc.devRef .tc Cert.ReferenceIdeal.main_call0_call0_v1) = StableHlo.after (List.take 9 (List.drop 91 opsK)) W (Proc.devRef .tc Cert.KernelIdeal.main_call0_call0_v1) := by
  after_reads_simp
  rw [h0]
  try rfl

/-- Operations 91 to 100: output 1. -/
theorem out9_1 (V : ValR) (W : ValK) (h0 : V (Proc.devRef .tc Cert.ReferenceIdeal.main_call0_v2) = W (Proc.devRef .tc Cert.KernelIdeal.main_call0_v2)) :
    StableHlo.after (List.take 9 (List.drop 91 opsR)) V (Proc.devRef .tc Cert.ReferenceIdeal.main_call0_v2) = StableHlo.after (List.take 9 (List.drop 91 opsK)) W (Proc.devRef .tc Cert.KernelIdeal.main_call0_v2) := by
  after_reads_simp
  rw [h0]
  try rfl

/-- Operations 91 to 100: output 2. -/
theorem out9_2 (V : ValR) (W : ValK) (h0 : V (Proc.devRef .tc Cert.ReferenceIdeal.main_call0_v3) = W (Proc.devRef .tc Cert.KernelIdeal.main_call0_v3)) :
    StableHlo.after (List.take 9 (List.drop 91 opsR)) V (Proc.devRef .tc Cert.ReferenceIdeal.main_call0_v3) = StableHlo.after (List.take 9 (List.drop 91 opsK)) W (Proc.devRef .tc Cert.KernelIdeal.main_call0_v3) := by
  after_reads_simp
  rw [h0]
  try rfl

/-- Operations 91 to 100: output 3. -/
theorem out9_3 (V : ValR) (W : ValK) (h0 : V (Proc.devRef .tc Cert.ReferenceIdeal.main_call0_v5) = W (Proc.devRef .tc Cert.KernelIdeal.main_call0_v5)) :
    StableHlo.after (List.take 9 (List.drop 91 opsR)) V (Proc.devRef .tc Cert.ReferenceIdeal.main_call0_v5) = StableHlo.after (List.take 9 (List.drop 91 opsK)) W (Proc.devRef .tc Cert.KernelIdeal.main_call0_v5) := by
  after_reads_simp
  rw [h0]
  try rfl

/-- Operations 91 to 100: output 4. -/
theorem out9_4 (V : ValR) (W : ValK) (h0 : V (Proc.devRef .tc Cert.ReferenceIdeal.main_call0_v7) = W (Proc.devRef .tc Cert.KernelIdeal.main_call0_v7)) :
    StableHlo.after (List.take 9 (List.drop 91 opsR)) V (Proc.devRef .tc Cert.ReferenceIdeal.main_call0_v7) = StableHlo.after (List.take 9 (List.drop 91 opsK)) W (Proc.devRef .tc Cert.KernelIdeal.main_call0_v7) := by
  after_reads_simp
  rw [h0]
  try rfl

/-- Operations 91 to 100: output 5. -/
theorem out9_5 (V : ValR) (W : ValK) (h0 : V (Proc.devRef .tc Cert.ReferenceIdeal.main_call0_call0_v53) = W (Proc.devRef .tc Cert.KernelIdeal.main_call0_call0_v53)) (h1 : V (Proc.devRef .tc Cert.ReferenceIdeal.main_call0_call0_v54) = W (Proc.devRef .tc Cert.KernelIdeal.main_call0_call0_v54)) :
    StableHlo.after (List.take 9 (List.drop 91 opsR)) V (Proc.devRef .tc Cert.ReferenceIdeal.main_call0_call0_v60) = StableHlo.after (List.take 9 (List.drop 91 opsK)) W (Proc.devRef .tc Cert.KernelIdeal.main_call0_call0_v60) := by
  after_reads_simp
  rw [h0, h1]
  try rfl

/-- Operations 91 to 100: output 6. -/
theorem out9_6 (V : ValR) (W : ValK) (h0 : V (Proc.devRef .tc Cert.ReferenceIdeal.main_call0_call0_v53) = W (Proc.devRef .tc Cert.KernelIdeal.main_call0_call0_v53)) (h1 : V (Proc.devRef .tc Cert.ReferenceIdeal.main_call0_call0_v54) = W (Proc.devRef .tc Cert.KernelIdeal.main_call0_call0_v54)) :
    StableHlo.after (List.take 9 (List.drop 91 opsR)) V (Proc.devRef .tc Cert.ReferenceIdeal.main_call0_call0_v61) = StableHlo.after (List.take 9 (List.drop 91 opsK)) W (Proc.devRef .tc Cert.KernelIdeal.main_call0_call0_v61) := by
  after_reads_simp
  rw [h0, h1]
  try rfl

/-- Operations 100 to 112: output 0. -/
theorem out10_0 (V : ValR) (W : ValK) (h0 : V (Proc.devRef .tc Cert.ReferenceIdeal.main_call0_call0_v1) = W (Proc.devRef .tc Cert.KernelIdeal.main_call0_call0_v1)) :
    StableHlo.after (List.take 12 (List.drop 100 opsR)) V (Proc.devRef .tc Cert.ReferenceIdeal.main_call0_call0_v1) = StableHlo.after (List.take 12 (List.drop 100 opsK)) W (Proc.devRef .tc Cert.KernelIdeal.main_call0_call0_v1) := by
  after_reads_simp
  rw [h0]
  try rfl

/-- Operations 100 to 112: output 1. -/
theorem out10_1 (V : ValR) (W : ValK) (h0 : V (Proc.devRef .tc Cert.ReferenceIdeal.main_call0_v2) = W (Proc.devRef .tc Cert.KernelIdeal.main_call0_v2)) :
    StableHlo.after (List.take 12 (List.drop 100 opsR)) V (Proc.devRef .tc Cert.ReferenceIdeal.main_call0_v2) = StableHlo.after (List.take 12 (List.drop 100 opsK)) W (Proc.devRef .tc Cert.KernelIdeal.main_call0_v2) := by
  after_reads_simp
  rw [h0]
  try rfl

/-- Operations 100 to 112: output 2. -/
theorem out10_2 (V : ValR) (W : ValK) (h0 : V (Proc.devRef .tc Cert.ReferenceIdeal.main_call0_v3) = W (Proc.devRef .tc Cert.KernelIdeal.main_call0_v3)) :
    StableHlo.after (List.take 12 (List.drop 100 opsR)) V (Proc.devRef .tc Cert.ReferenceIdeal.main_call0_v3) = StableHlo.after (List.take 12 (List.drop 100 opsK)) W (Proc.devRef .tc Cert.KernelIdeal.main_call0_v3) := by
  after_reads_simp
  rw [h0]
  try rfl

/-- Operations 100 to 112: output 3. -/
theorem out10_3 (V : ValR) (W : ValK) (h0 : V (Proc.devRef .tc Cert.ReferenceIdeal.main_call0_v5) = W (Proc.devRef .tc Cert.KernelIdeal.main_call0_v5)) :
    StableHlo.after (List.take 12 (List.drop 100 opsR)) V (Proc.devRef .tc Cert.ReferenceIdeal.main_call0_v5) = StableHlo.after (List.take 12 (List.drop 100 opsK)) W (Proc.devRef .tc Cert.KernelIdeal.main_call0_v5) := by
  after_reads_simp
  rw [h0]
  try rfl

/-- Operations 100 to 112: output 4. -/
theorem out10_4 (V : ValR) (W : ValK) (h0 : V (Proc.devRef .tc Cert.ReferenceIdeal.main_call0_v7) = W (Proc.devRef .tc Cert.KernelIdeal.main_call0_v7)) :
    StableHlo.after (List.take 12 (List.drop 100 opsR)) V (Proc.devRef .tc Cert.ReferenceIdeal.main_call0_v7) = StableHlo.after (List.take 12 (List.drop 100 opsK)) W (Proc.devRef .tc Cert.KernelIdeal.main_call0_v7) := by
  after_reads_simp
  rw [h0]
  try rfl

/-- Operations 100 to 112: output 5. -/
theorem out10_5 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_call0_v61) = W (Proc.devRef .tc Cert.KernelIdeal.main_call0_call0_v61)) :
    StableHlo.after (List.take 12 (List.drop 100 opsR)) V (Proc.devRef .tc Cert.ReferenceIdeal.main_call0_call0_v69) = StableHlo.after (List.take 12 (List.drop 100 opsK)) W (Proc.devRef .tc Cert.KernelIdeal.main_call0_call0_v69) := by
  after_reads_simp
  rw [h0, h1]
  try rfl

/-- Operations 100 to 112: output 6. -/
theorem out10_6 (V : ValR) (W : ValK) (h0 : V (Proc.devRef .tc Cert.ReferenceIdeal.main_call0_v5) = W (Proc.devRef .tc Cert.KernelIdeal.main_call0_v5)) (h1 : V (Proc.devRef .tc Cert.ReferenceIdeal.main_call0_call0_v60) = W (Proc.devRef .tc Cert.KernelIdeal.main_call0_call0_v60)) (h2 : V (Proc.devRef .tc Cert.ReferenceIdeal.main_call0_call0_v61) = W (Proc.devRef .tc Cert.KernelIdeal.main_call0_call0_v61)) :
    StableHlo.after (List.take 12 (List.drop 100 opsR)) V (Proc.devRef .tc Cert.ReferenceIdeal.main_call0_call0_v71) = StableHlo.after (List.take 12 (List.drop 100 opsK)) W (Proc.devRef .tc Cert.KernelIdeal.main_call0_call0_v71) := by
  after_reads_simp
  rw [h0, h1, h2]
  try rfl

/-- Operations 112 to 125: output 0. -/
theorem out11_0 (V : ValR) (W : ValK) (h0 : V (Proc.devRef .tc Cert.ReferenceIdeal.main_call0_call0_v1) = W (Proc.devRef .tc Cert.KernelIdeal.main_call0_call0_v1)) :
    StableHlo.after (List.take 13 (List.drop 112 opsR)) V (Proc.devRef .tc Cert.ReferenceIdeal.main_call0_call0_v1) = StableHlo.after (List.take 13 (List.drop 112 opsK)) W (Proc.devRef .tc Cert.KernelIdeal.main_call0_call0_v1) := by
  after_reads_simp
  rw [h0]
  try rfl

/-- Operations 112 to 125: output 1. -/
theorem out11_1 (V : ValR) (W : ValK) (h0 : V (Proc.devRef .tc Cert.ReferenceIdeal.main_call0_v2) = W (Proc.devRef .tc Cert.KernelIdeal.main_call0_v2)) :
    StableHlo.after (List.take 13 (List.drop 112 opsR)) V (Proc.devRef .tc Cert.ReferenceIdeal.main_call0_v2) = StableHlo.after (List.take 13 (List.drop 112 opsK)) W (Proc.devRef .tc Cert.KernelIdeal.main_call0_v2) := by
  after_reads_simp
  rw [h0]
  try rfl

/-- Operations 112 to 125: output 2. -/
theorem out11_2 (V : ValR) (W : ValK) (h0 : V (Proc.devRef .tc Cert.ReferenceIdeal.main_call0_v3) = W (Proc.devRef .tc Cert.KernelIdeal.main_call0_v3)) :
    StableHlo.after (List.take 13 (List.drop 112 opsR)) V (Proc.devRef .tc Cert.ReferenceIdeal.main_call0_v3) = StableHlo.after (List.take 13 (List.drop 112 opsK)) W (Proc.devRef .tc Cert.KernelIdeal.main_call0_v3) := by
  after_reads_simp
  rw [h0]
  try rfl

/-- Operations 112 to 125: output 3. -/
theorem out11_3 (V : ValR) (W : ValK) (h0 : V (Proc.devRef .tc Cert.ReferenceIdeal.main_call0_v5) = W (Proc.devRef .tc Cert.KernelIdeal.main_call0_v5)) :
    StableHlo.after (List.take 13 (List.drop 112 opsR)) V (Proc.devRef .tc Cert.ReferenceIdeal.main_call0_v5) = StableHlo.after (List.take 13 (List.drop 112 opsK)) W (Proc.devRef .tc Cert.KernelIdeal.main_call0_v5) := by
  after_reads_simp
  rw [h0]
  try rfl

/-- Operations 112 to 125: output 4. -/
theorem out11_4 (V : ValR) (W : ValK) (h0 : V (Proc.devRef .tc Cert.ReferenceIdeal.main_call0_v7) = W (Proc.devRef .tc Cert.KernelIdeal.main_call0_v7)) :
    StableHlo.after (List.take 13 (List.drop 112 opsR)) V (Proc.devRef .tc Cert.ReferenceIdeal.main_call0_v7) = StableHlo.after (List.take 13 (List.drop 112 opsK)) W (Proc.devRef .tc Cert.KernelIdeal.main_call0_v7) := by
  after_reads_simp
  rw [h0]
  try rfl

/-- Operations 112 to 125: output 5. -/
theorem out11_5 (V : ValR) (W : ValK) (h0 : V (Proc.devRef .tc Cert.ReferenceIdeal.main_call0_call0_v69) = W (Proc.devRef .tc Cert.KernelIdeal.main_call0_call0_v69)) (h1 : V (Proc.devRef .tc Cert.ReferenceIdeal.main_call0_call0_v71) = W (Proc.devRef .tc Cert.KernelIdeal.main_call0_call0_v71)) :
    StableHlo.after (List.take 13 (List.drop 112 opsR)) V (Proc.devRef .tc Cert.ReferenceIdeal.main_call0_call0_v80) = StableHlo.after (List.take 13 (List.drop 112 opsK)) W (Proc.devRef .tc Cert.KernelIdeal.main_call0_call0_v80) := by
  after_reads_simp
  rw [h0, h1]
  try rfl

/-- Operations 112 to 125: output 6. -/
theorem out11_6 (V : ValR) (W : ValK) (h0 : V (Proc.devRef .tc Cert.ReferenceIdeal.main_call0_call0_v69) = W (Proc.devRef .tc Cert.KernelIdeal.main_call0_call0_v69)) (h1 : V (Proc.devRef .tc Cert.ReferenceIdeal.main_call0_call0_v71) = W (Proc.devRef .tc Cert.KernelIdeal.main_call0_call0_v71)) :
    StableHlo.after (List.take 13 (List.drop 112 opsR)) V (Proc.devRef .tc Cert.ReferenceIdeal.main_call0_call0_v81) = StableHlo.after (List.take 13 (List.drop 112 opsK)) W (Proc.devRef .tc Cert.KernelIdeal.main_call0_call0_v81) := by
  after_reads_simp
  rw [h0, h1]
  try rfl

/-- Operations 125 to 134: output 0. -/
theorem out12_0 (V : ValR) (W : ValK) (h0 : V (Proc.devRef .tc Cert.ReferenceIdeal.main_call0_call0_v1) = W (Proc.devRef .tc Cert.KernelIdeal.main_call0_call0_v1)) :
    StableHlo.after (List.take 9 (List.drop 125 opsR)) V (Proc.devRef .tc Cert.ReferenceIdeal.main_call0_call0_v1) = StableHlo.after (List.take 9 (List.drop 125 opsK)) W (Proc.devRef .tc Cert.KernelIdeal.main_call0_call0_v1) := by
  after_reads_simp
  rw [h0]
  try rfl

/-- Operations 125 to 134: output 1. -/
theorem out12_1 (V : ValR) (W : ValK) (h0 : V (Proc.devRef .tc Cert.ReferenceIdeal.main_call0_v2) = W (Proc.devRef .tc Cert.KernelIdeal.main_call0_v2)) :
    StableHlo.after (List.take 9 (List.drop 125 opsR)) V (Proc.devRef .tc Cert.ReferenceIdeal.main_call0_v2) = StableHlo.after (List.take 9 (List.drop 125 opsK)) W (Proc.devRef .tc Cert.KernelIdeal.main_call0_v2) := by
  after_reads_simp
  rw [h0]
  try rfl

/-- Operations 125 to 134: output 2. -/
theorem out12_2 (V : ValR) (W : ValK) (h0 : V (Proc.devRef .tc Cert.ReferenceIdeal.main_call0_v3) = W (Proc.devRef .tc Cert.KernelIdeal.main_call0_v3)) :
    StableHlo.after (List.take 9 (List.drop 125 opsR)) V (Proc.devRef .tc Cert.ReferenceIdeal.main_call0_v3) = StableHlo.after (List.take 9 (List.drop 125 opsK)) W (Proc.devRef .tc Cert.KernelIdeal.main_call0_v3) := by
  after_reads_simp
  rw [h0]
  try rfl

/-- Operations 125 to 134: output 3. -/
theorem out12_3 (V : ValR) (W : ValK) (h0 : V (Proc.devRef .tc Cert.ReferenceIdeal.main_call0_v5) = W (Proc.devRef .tc Cert.KernelIdeal.main_call0_v5)) :
    StableHlo.after (List.take 9 (List.drop 125 opsR)) V (Proc.devRef .tc Cert.ReferenceIdeal.main_call0_v5) = StableHlo.after (List.take 9 (List.drop 125 opsK)) W (Proc.devRef .tc Cert.KernelIdeal.main_call0_v5) := by
  after_reads_simp
  rw [h0]
  try rfl

/-- Operations 125 to 134: output 4. -/
theorem out12_4 (V : ValR) (W : ValK) (h0 : V (Proc.devRef .tc Cert.ReferenceIdeal.main_call0_v7) = W (Proc.devRef .tc Cert.KernelIdeal.main_call0_v7)) :
    StableHlo.after (List.take 9 (List.drop 125 opsR)) V (Proc.devRef .tc Cert.ReferenceIdeal.main_call0_v7) = StableHlo.after (List.take 9 (List.drop 125 opsK)) W (Proc.devRef .tc Cert.KernelIdeal.main_call0_v7) := by
  after_reads_simp
  rw [h0]
  try rfl

/-- Operations 125 to 134: output 5. -/
theorem out12_5 (V : ValR) (W : ValK) (h0 : V (Proc.devRef .tc Cert.ReferenceIdeal.main_call0_call0_v80) = W (Proc.devRef .tc Cert.KernelIdeal.main_call0_call0_v80)) (h1 : V (Proc.devRef .tc Cert.ReferenceIdeal.main_call0_call0_v81) = W (Proc.devRef .tc Cert.KernelIdeal.main_call0_call0_v81)) :
    StableHlo.after (List.take 9 (List.drop 125 opsR)) V (Proc.devRef .tc Cert.ReferenceIdeal.main_call0_call0_v87) = StableHlo.after (List.take 9 (List.drop 125 opsK)) W (Proc.devRef .tc Cert.KernelIdeal.main_call0_call0_v87) := by
  after_reads_simp
  rw [h0, h1]
  try rfl

/-- Operations 125 to 134: output 6. -/
theorem out12_6 (V : ValR) (W : ValK) (h0 : V (Proc.devRef .tc Cert.ReferenceIdeal.main_call0_call0_v80) = W (Proc.devRef .tc Cert.KernelIdeal.main_call0_call0_v80)) (h1 : V (Proc.devRef .tc Cert.ReferenceIdeal.main_call0_call0_v81) = W (Proc.devRef .tc Cert.KernelIdeal.main_call0_call0_v81)) :
    StableHlo.after (List.take 9 (List.drop 125 opsR)) V (Proc.devRef .tc Cert.ReferenceIdeal.main_call0_call0_v88) = StableHlo.after (List.take 9 (List.drop 125 opsK)) W (Proc.devRef .tc Cert.KernelIdeal.main_call0_call0_v88) := by
  after_reads_simp
  rw [h0, h1]
  try rfl

/-- Operations 134 to 143: output 0. -/
theorem out13_0 (V : ValR) (W : ValK) (h0 : V (Proc.devRef .tc Cert.ReferenceIdeal.main_call0_call0_v1) = W (Proc.devRef .tc Cert.KernelIdeal.main_call0_call0_v1)) :
    StableHlo.after (List.take 9 (List.drop 134 opsR)) V (Proc.devRef .tc Cert.ReferenceIdeal.main_call0_call0_v1) = StableHlo.after (List.take 9 (List.drop 134 opsK)) W (Proc.devRef .tc Cert.KernelIdeal.main_call0_call0_v1) := by
  after_reads_simp
  rw [h0]
  try rfl

/-- Operations 134 to 143: output 1. -/
theorem out13_1 (V : ValR) (W : ValK) (h0 : V (Proc.devRef .tc Cert.ReferenceIdeal.main_call0_v2) = W (Proc.devRef .tc Cert.KernelIdeal.main_call0_v2)) :
    StableHlo.after (List.take 9 (List.drop 134 opsR)) V (Proc.devRef .tc Cert.ReferenceIdeal.main_call0_v2) = StableHlo.after (List.take 9 (List.drop 134 opsK)) W (Proc.devRef .tc Cert.KernelIdeal.main_call0_v2) := by
  after_reads_simp
  rw [h0]
  try rfl

/-- Operations 134 to 143: output 2. -/
theorem out13_2 (V : ValR) (W : ValK) (h0 : V (Proc.devRef .tc Cert.ReferenceIdeal.main_call0_v3) = W (Proc.devRef .tc Cert.KernelIdeal.main_call0_v3)) :
    StableHlo.after (List.take 9 (List.drop 134 opsR)) V (Proc.devRef .tc Cert.ReferenceIdeal.main_call0_v3) = StableHlo.after (List.take 9 (List.drop 134 opsK)) W (Proc.devRef .tc Cert.KernelIdeal.main_call0_v3) := by
  after_reads_simp
  rw [h0]
  try rfl

/-- Operations 134 to 143: output 3. -/
theorem out13_3 (V : ValR) (W : ValK) (h0 : V (Proc.devRef .tc Cert.ReferenceIdeal.main_call0_v5) = W (Proc.devRef .tc Cert.KernelIdeal.main_call0_v5)) :
    StableHlo.after (List.take 9 (List.drop 134 opsR)) V (Proc.devRef .tc Cert.ReferenceIdeal.main_call0_v5) = StableHlo.after (List.take 9 (List.drop 134 opsK)) W (Proc.devRef .tc Cert.KernelIdeal.main_call0_v5) := by
  after_reads_simp
  rw [h0]
  try rfl

/-- Operations 134 to 143: output 4. -/
theorem out13_4 (V : ValR) (W : ValK) (h0 : V (Proc.devRef .tc Cert.ReferenceIdeal.main_call0_v7) = W (Proc.devRef .tc Cert.KernelIdeal.main_call0_v7)) :
    StableHlo.after (List.take 9 (List.drop 134 opsR)) V (Proc.devRef .tc Cert.ReferenceIdeal.main_call0_v7) = StableHlo.after (List.take 9 (List.drop 134 opsK)) W (Proc.devRef .tc Cert.KernelIdeal.main_call0_v7) := by
  after_reads_simp
  rw [h0]
  try rfl

/-- Operations 134 to 143: output 5. -/
theorem out13_5 (V : ValR) (W : ValK) (h0 : V (Proc.devRef .tc Cert.ReferenceIdeal.main_call0_call0_v87) = W (Proc.devRef .tc Cert.KernelIdeal.main_call0_call0_v87)) (h1 : V (Proc.devRef .tc Cert.ReferenceIdeal.main_call0_call0_v88) = W (Proc.devRef .tc Cert.KernelIdeal.main_call0_call0_v88)) :
    StableHlo.after (List.take 9 (List.drop 134 opsR)) V (Proc.devRef .tc Cert.ReferenceIdeal.main_call0_call0_v94) = StableHlo.after (List.take 9 (List.drop 134 opsK)) W (Proc.devRef .tc Cert.KernelIdeal.main_call0_call0_v94) := by
  after_reads_simp
  rw [h0, h1]
  try rfl

/-- Operations 134 to 143: output 6. -/
theorem out13_6 (V : ValR) (W : ValK) (h0 : V (Proc.devRef .tc Cert.ReferenceIdeal.main_call0_call0_v87) = W (Proc.devRef .tc Cert.KernelIdeal.main_call0_call0_v87)) (h1 : V (Proc.devRef .tc Cert.ReferenceIdeal.main_call0_call0_v88) = W (Proc.devRef .tc Cert.KernelIdeal.main_call0_call0_v88)) :
    StableHlo.after (List.take 9 (List.drop 134 opsR)) V (Proc.devRef .tc Cert.ReferenceIdeal.main_call0_call0_v95) = StableHlo.after (List.take 9 (List.drop 134 opsK)) W (Proc.devRef .tc Cert.KernelIdeal.main_call0_call0_v95) := by
  after_reads_simp
  rw [h0, h1]
  try rfl

/-- Operations 143 to 155: output 0. -/
theorem out14_0 (V : ValR) (W : ValK) (h0 : V (Proc.devRef .tc Cert.ReferenceIdeal.main_call0_call0_v1) = W (Proc.devRef .tc Cert.KernelIdeal.main_call0_call0_v1)) :
    StableHlo.after (List.take 12 (List.drop 143 opsR)) V (Proc.devRef .tc Cert.ReferenceIdeal.main_call0_call0_v1) = StableHlo.after (List.take 12 (List.drop 143 opsK)) W (Proc.devRef .tc Cert.KernelIdeal.main_call0_call0_v1) := by
  after_reads_simp
  rw [h0]
  try rfl

/-- Operations 143 to 155: output 1. -/
theorem out14_1 (V : ValR) (W : ValK) (h0 : V (Proc.devRef .tc Cert.ReferenceIdeal.main_call0_v2) = W (Proc.devRef .tc Cert.KernelIdeal.main_call0_v2)) :
    StableHlo.after (List.take 12 (List.drop 143 opsR)) V (Proc.devRef .tc Cert.ReferenceIdeal.main_call0_v2) = StableHlo.after (List.take 12 (List.drop 143 opsK)) W (Proc.devRef .tc Cert.KernelIdeal.main_call0_v2) := by
  after_reads_simp
  rw [h0]
  try rfl

/-- Operations 143 to 155: output 2. -/
theorem out14_2 (V : ValR) (W : ValK) (h0 : V (Proc.devRef .tc Cert.ReferenceIdeal.main_call0_v3) = W (Proc.devRef .tc Cert.KernelIdeal.main_call0_v3)) :
    StableHlo.after (List.take 12 (List.drop 143 opsR)) V (Proc.devRef .tc Cert.ReferenceIdeal.main_call0_v3) = StableHlo.after (List.take 12 (List.drop 143 opsK)) W (Proc.devRef .tc Cert.KernelIdeal.main_call0_v3) := by
  after_reads_simp
  rw [h0]
  try rfl

/-- Operations 143 to 155: output 3. -/
theorem out14_3 (V : ValR) (W : ValK) (h0 : V (Proc.devRef .tc Cert.ReferenceIdeal.main_call0_v5) = W (Proc.devRef .tc Cert.KernelIdeal.main_call0_v5)) :
    StableHlo.after (List.take 12 (List.drop 143 opsR)) V (Proc.devRef .tc Cert.ReferenceIdeal.main_call0_v5) = StableHlo.after (List.take 12 (List.drop 143 opsK)) W (Proc.devRef .tc Cert.KernelIdeal.main_call0_v5) := by
  after_reads_simp
  rw [h0]
  try rfl

/-- Operations 143 to 155: output 4. -/
theorem out14_4 (V : ValR) (W : ValK) (h0 : V (Proc.devRef .tc Cert.ReferenceIdeal.main_call0_v7) = W (Proc.devRef .tc Cert.KernelIdeal.main_call0_v7)) :
    StableHlo.after (List.take 12 (List.drop 143 opsR)) V (Proc.devRef .tc Cert.ReferenceIdeal.main_call0_v7) = StableHlo.after (List.take 12 (List.drop 143 opsK)) W (Proc.devRef .tc Cert.KernelIdeal.main_call0_v7) := by
  after_reads_simp
  rw [h0]
  try rfl

/-- Operations 143 to 155: output 5. -/
theorem out14_5 (V : ValR) (W : ValK) (h0 : V (Proc.devRef .tc Cert.ReferenceIdeal.main_call0_v5) = W (Proc.devRef .tc Cert.KernelIdeal.main_call0_v5)) (h1 : V (Proc.devRef .tc Cert.ReferenceIdeal.main_call0_call0_v95) = W (Proc.devRef .tc Cert.KernelIdeal.main_call0_call0_v95)) :
    StableHlo.after (List.take 12 (List.drop 143 opsR)) V (Proc.devRef .tc Cert.ReferenceIdeal.main_call0_call0_v103) = StableHlo.after (List.take 12 (List.drop 143 opsK)) W (Proc.devRef .tc Cert.KernelIdeal.main_call0_call0_v103) := by
  after_reads_simp
  rw [h0, h1]
  try rfl

/-- Operations 143 to 155: output 6. -/
theorem out14_6 (V : ValR) (W : ValK) (h0 : V (Proc.devRef .tc Cert.ReferenceIdeal.main_call0_v7) = W (Proc.devRef .tc Cert.KernelIdeal.main_call0_v7)) (h1 : V (Proc.devRef .tc Cert.ReferenceIdeal.main_call0_call0_v94) = W (Proc.devRef .tc Cert.KernelIdeal.main_call0_call0_v94)) (h2 : V (Proc.devRef .tc Cert.ReferenceIdeal.main_call0_call0_v95) = W (Proc.devRef .tc Cert.KernelIdeal.main_call0_call0_v95)) :
    StableHlo.after (List.take 12 (List.drop 143 opsR)) V (Proc.devRef .tc Cert.ReferenceIdeal.main_call0_call0_v105) = StableHlo.after (List.take 12 (List.drop 143 opsK)) W (Proc.devRef .tc Cert.KernelIdeal.main_call0_call0_v105) := by
  after_reads_simp
  rw [h0, h1, h2]
  try rfl

/-- Operations 155 to 168: output 0. -/
theorem out15_0 (V : ValR) (W : ValK) (h0 : V (Proc.devRef .tc Cert.ReferenceIdeal.main_call0_call0_v1) = W (Proc.devRef .tc Cert.KernelIdeal.main_call0_call0_v1)) :
    StableHlo.after (List.take 13 (List.drop 155 opsR)) V (Proc.devRef .tc Cert.ReferenceIdeal.main_call0_call0_v1) = StableHlo.after (List.take 13 (List.drop 155 opsK)) W (Proc.devRef .tc Cert.KernelIdeal.main_call0_call0_v1) := by
  after_reads_simp
  rw [h0]
  try rfl

/-- Operations 155 to 168: output 1. -/
theorem out15_1 (V : ValR) (W : ValK) (h0 : V (Proc.devRef .tc Cert.ReferenceIdeal.main_call0_v2) = W (Proc.devRef .tc Cert.KernelIdeal.main_call0_v2)) :
    StableHlo.after (List.take 13 (List.drop 155 opsR)) V (Proc.devRef .tc Cert.ReferenceIdeal.main_call0_v2) = StableHlo.after (List.take 13 (List.drop 155 opsK)) W (Proc.devRef .tc Cert.KernelIdeal.main_call0_v2) := by
  after_reads_simp
  rw [h0]
  try rfl

/-- Operations 155 to 168: output 2. -/
theorem out15_2 (V : ValR) (W : ValK) (h0 : V (Proc.devRef .tc Cert.ReferenceIdeal.main_call0_v3) = W (Proc.devRef .tc Cert.KernelIdeal.main_call0_v3)) :
    StableHlo.after (List.take 13 (List.drop 155 opsR)) V (Proc.devRef .tc Cert.ReferenceIdeal.main_call0_v3) = StableHlo.after (List.take 13 (List.drop 155 opsK)) W (Proc.devRef .tc Cert.KernelIdeal.main_call0_v3) := by
  after_reads_simp
  rw [h0]
  try rfl

/-- Operations 155 to 168: output 3. -/
theorem out15_3 (V : ValR) (W : ValK) (h0 : V (Proc.devRef .tc Cert.ReferenceIdeal.main_call0_v5) = W (Proc.devRef .tc Cert.KernelIdeal.main_call0_v5)) :
    StableHlo.after (List.take 13 (List.drop 155 opsR)) V (Proc.devRef .tc Cert.ReferenceIdeal.main_call0_v5) = StableHlo.after (List.take 13 (List.drop 155 opsK)) W (Proc.devRef .tc Cert.KernelIdeal.main_call0_v5) := by
  after_reads_simp
  rw [h0]
  try rfl

/-- Operations 155 to 168: output 4. -/
theorem out15_4 (V : ValR) (W : ValK) (h0 : V (Proc.devRef .tc Cert.ReferenceIdeal.main_call0_v7) = W (Proc.devRef .tc Cert.KernelIdeal.main_call0_v7)) :
    StableHlo.after (List.take 13 (List.drop 155 opsR)) V (Proc.devRef .tc Cert.ReferenceIdeal.main_call0_v7) = StableHlo.after (List.take 13 (List.drop 155 opsK)) W (Proc.devRef .tc Cert.KernelIdeal.main_call0_v7) := by
  after_reads_simp
  rw [h0]
  try rfl

/-- Operations 155 to 168: output 5. -/
theorem out15_5 (V : ValR) (W : ValK) (h0 : V (Proc.devRef .tc Cert.ReferenceIdeal.main_call0_call0_v103) = W (Proc.devRef .tc Cert.KernelIdeal.main_call0_call0_v103)) (h1 : V (Proc.devRef .tc Cert.ReferenceIdeal.main_call0_call0_v105) = W (Proc.devRef .tc Cert.KernelIdeal.main_call0_call0_v105)) :
    StableHlo.after (List.take 13 (List.drop 155 opsR)) V (Proc.devRef .tc Cert.ReferenceIdeal.main_call0_call0_v114) = StableHlo.after (List.take 13 (List.drop 155 opsK)) W (Proc.devRef .tc Cert.KernelIdeal.main_call0_call0_v114) := by
  after_reads_simp
  rw [h0, h1]
  try rfl

/-- Operations 155 to 168: output 6. -/
theorem out15_6 (V : ValR) (W : ValK) (h0 : V (Proc.devRef .tc Cert.ReferenceIdeal.main_call0_call0_v103) = W (Proc.devRef .tc Cert.KernelIdeal.main_call0_call0_v103)) (h1 : V (Proc.devRef .tc Cert.ReferenceIdeal.main_call0_call0_v105) = W (Proc.devRef .tc Cert.KernelIdeal.main_call0_call0_v105)) :
    StableHlo.after (List.take 13 (List.drop 155 opsR)) V (Proc.devRef .tc Cert.ReferenceIdeal.main_call0_call0_v115) = StableHlo.after (List.take 13 (List.drop 155 opsK)) W (Proc.devRef .tc Cert.KernelIdeal.main_call0_call0_v115) := by
  after_reads_simp
  rw [h0, h1]
  try rfl

/-- Operations 168 to 177: output 0. -/
theorem out16_0 (V : ValR) (W : ValK) (h0 : V (Proc.devRef .tc Cert.ReferenceIdeal.main_call0_call0_v1) = W (Proc.devRef .tc Cert.KernelIdeal.main_call0_call0_v1)) :
    StableHlo.after (List.take 9 (List.drop 168 opsR)) V (Proc.devRef .tc Cert.ReferenceIdeal.main_call0_call0_v1) = StableHlo.after (List.take 9 (List.drop 168 opsK)) W (Proc.devRef .tc Cert.KernelIdeal.main_call0_call0_v1) := by
  after_reads_simp
  rw [h0]
  try rfl

/-- Operations 168 to 177: output 1. -/
theorem out16_1 (V : ValR) (W : ValK) (h0 : V (Proc.devRef .tc Cert.ReferenceIdeal.main_call0_v2) = W (Proc.devRef .tc Cert.KernelIdeal.main_call0_v2)) :
    StableHlo.after (List.take 9 (List.drop 168 opsR)) V (Proc.devRef .tc Cert.ReferenceIdeal.main_call0_v2) = StableHlo.after (List.take 9 (List.drop 168 opsK)) W (Proc.devRef .tc Cert.KernelIdeal.main_call0_v2) := by
  after_reads_simp
  rw [h0]
  try rfl

/-- Operations 168 to 177: output 2. -/
theorem out16_2 (V : ValR) (W : ValK) (h0 : V (Proc.devRef .tc Cert.ReferenceIdeal.main_call0_v3) = W (Proc.devRef .tc Cert.KernelIdeal.main_call0_v3)) :
    StableHlo.after (List.take 9 (List.drop 168 opsR)) V (Proc.devRef .tc Cert.ReferenceIdeal.main_call0_v3) = StableHlo.after (List.take 9 (List.drop 168 opsK)) W (Proc.devRef .tc Cert.KernelIdeal.main_call0_v3) := by
  after_reads_simp
  rw [h0]
  try rfl

/-- Operations 168 to 177: output 3. -/
theorem out16_3 (V : ValR) (W : ValK) (h0 : V (Proc.devRef .tc Cert.ReferenceIdeal.main_call0_v5) = W (Proc.devRef .tc Cert.KernelIdeal.main_call0_v5)) :
    StableHlo.after (List.take 9 (List.drop 168 opsR)) V (Proc.devRef .tc Cert.ReferenceIdeal.main_call0_v5) = StableHlo.after (List.take 9 (List.drop 168 opsK)) W (Proc.devRef .tc Cert.KernelIdeal.main_call0_v5) := by
  after_reads_simp
  rw [h0]
  try rfl

/-- Operations 168 to 177: output 4. -/
theorem out16_4 (V : ValR) (W : ValK) (h0 : V (Proc.devRef .tc Cert.ReferenceIdeal.main_call0_v7) = W (Proc.devRef .tc Cert.KernelIdeal.main_call0_v7)) :
    StableHlo.after (List.take 9 (List.drop 168 opsR)) V (Proc.devRef .tc Cert.ReferenceIdeal.main_call0_v7) = StableHlo.after (List.take 9 (List.drop 168 opsK)) W (Proc.devRef .tc Cert.KernelIdeal.main_call0_v7) := by
  after_reads_simp
  rw [h0]
  try rfl

/-- Operations 168 to 177: output 5. -/
theorem out16_5 (V : ValR) (W : ValK) (h0 : V (Proc.devRef .tc Cert.ReferenceIdeal.main_call0_call0_v114) = W (Proc.devRef .tc Cert.KernelIdeal.main_call0_call0_v114)) (h1 : V (Proc.devRef .tc Cert.ReferenceIdeal.main_call0_call0_v115) = W (Proc.devRef .tc Cert.KernelIdeal.main_call0_call0_v115)) :
    StableHlo.after (List.take 9 (List.drop 168 opsR)) V (Proc.devRef .tc Cert.ReferenceIdeal.main_call0_call0_v121) = StableHlo.after (List.take 9 (List.drop 168 opsK)) W (Proc.devRef .tc Cert.KernelIdeal.main_call0_call0_v121) := by
  after_reads_simp
  rw [h0, h1]
  try rfl

/-- Operations 168 to 177: output 6. -/
theorem out16_6 (V : ValR) (W : ValK) (h0 : V (Proc.devRef .tc Cert.ReferenceIdeal.main_call0_call0_v114) = W (Proc.devRef .tc Cert.KernelIdeal.main_call0_call0_v114)) (h1 : V (Proc.devRef .tc Cert.ReferenceIdeal.main_call0_call0_v115) = W (Proc.devRef .tc Cert.KernelIdeal.main_call0_call0_v115)) :
    StableHlo.after (List.take 9 (List.drop 168 opsR)) V (Proc.devRef .tc Cert.ReferenceIdeal.main_call0_call0_v122) = StableHlo.after (List.take 9 (List.drop 168 opsK)) W (Proc.devRef .tc Cert.KernelIdeal.main_call0_call0_v122) := by
  after_reads_simp
  rw [h0, h1]
  try rfl

/-- Operations 177 to 186: output 0. -/
theorem out17_0 (V : ValR) (W : ValK) (h0 : V (Proc.devRef .tc Cert.ReferenceIdeal.main_call0_call0_v1) = W (Proc.devRef .tc Cert.KernelIdeal.main_call0_call0_v1)) :
    StableHlo.after (List.take 9 (List.drop 177 opsR)) V (Proc.devRef .tc Cert.ReferenceIdeal.main_call0_call0_v1) = StableHlo.after (List.take 9 (List.drop 177 opsK)) W (Proc.devRef .tc Cert.KernelIdeal.main_call0_call0_v1) := by
  after_reads_simp
  rw [h0]
  try rfl

/-- Operations 177 to 186: output 1. -/
theorem out17_1 (V : ValR) (W : ValK) (h0 : V (Proc.devRef .tc Cert.ReferenceIdeal.main_call0_v2) = W (Proc.devRef .tc Cert.KernelIdeal.main_call0_v2)) :
    StableHlo.after (List.take 9 (List.drop 177 opsR)) V (Proc.devRef .tc Cert.ReferenceIdeal.main_call0_v2) = StableHlo.after (List.take 9 (List.drop 177 opsK)) W (Proc.devRef .tc Cert.KernelIdeal.main_call0_v2) := by
  after_reads_simp
  rw [h0]
  try rfl

/-- Operations 177 to 186: output 2. -/
theorem out17_2 (V : ValR) (W : ValK) (h0 : V (Proc.devRef .tc Cert.ReferenceIdeal.main_call0_v3) = W (Proc.devRef .tc Cert.KernelIdeal.main_call0_v3)) :
    StableHlo.after (List.take 9 (List.drop 177 opsR)) V (Proc.devRef .tc Cert.ReferenceIdeal.main_call0_v3) = StableHlo.after (List.take 9 (List.drop 177 opsK)) W (Proc.devRef .tc Cert.KernelIdeal.main_call0_v3) := by
  after_reads_simp
  rw [h0]
  try rfl

/-- Operations 177 to 186: output 3. -/
theorem out17_3 (V : ValR) (W : ValK) (h0 : V (Proc.devRef .tc Cert.ReferenceIdeal.main_call0_v5) = W (Proc.devRef .tc Cert.KernelIdeal.main_call0_v5)) :
    StableHlo.after (List.take 9 (List.drop 177 opsR)) V (Proc.devRef .tc Cert.ReferenceIdeal.main_call0_v5) = StableHlo.after (List.take 9 (List.drop 177 opsK)) W (Proc.devRef .tc Cert.KernelIdeal.main_call0_v5) := by
  after_reads_simp
  rw [h0]
  try rfl

/-- Operations 177 to 186: output 4. -/
theorem out17_4 (V : ValR) (W : ValK) (h0 : V (Proc.devRef .tc Cert.ReferenceIdeal.main_call0_v7) = W (Proc.devRef .tc Cert.KernelIdeal.main_call0_v7)) :
    StableHlo.after (List.take 9 (List.drop 177 opsR)) V (Proc.devRef .tc Cert.ReferenceIdeal.main_call0_v7) = StableHlo.after (List.take 9 (List.drop 177 opsK)) W (Proc.devRef .tc Cert.KernelIdeal.main_call0_v7) := by
  after_reads_simp
  rw [h0]
  try rfl

/-- Operations 177 to 186: output 5. -/
theorem out17_5 (V : ValR) (W : ValK) (h0 : V (Proc.devRef .tc Cert.ReferenceIdeal.main_call0_call0_v121) = W (Proc.devRef .tc Cert.KernelIdeal.main_call0_call0_v121)) (h1 : V (Proc.devRef .tc Cert.ReferenceIdeal.main_call0_call0_v122) = W (Proc.devRef .tc Cert.KernelIdeal.main_call0_call0_v122)) :
    StableHlo.after (List.take 9 (List.drop 177 opsR)) V (Proc.devRef .tc Cert.ReferenceIdeal.main_call0_call0_v128) = StableHlo.after (List.take 9 (List.drop 177 opsK)) W (Proc.devRef .tc Cert.KernelIdeal.main_call0_call0_v128) := by
  after_reads_simp
  rw [h0, h1]
  try rfl

/-- Operations 177 to 186: output 6. -/
theorem out17_6 (V : ValR) (W : ValK) (h0 : V (Proc.devRef .tc Cert.ReferenceIdeal.main_call0_call0_v121) = W (Proc.devRef .tc Cert.KernelIdeal.main_call0_call0_v121)) (h1 : V (Proc.devRef .tc Cert.ReferenceIdeal.main_call0_call0_v122) = W (Proc.devRef .tc Cert.KernelIdeal.main_call0_call0_v122)) :
    StableHlo.after (List.take 9 (List.drop 177 opsR)) V (Proc.devRef .tc Cert.ReferenceIdeal.main_call0_call0_v129) = StableHlo.after (List.take 9 (List.drop 177 opsK)) W (Proc.devRef .tc Cert.KernelIdeal.main_call0_call0_v129) := by
  after_reads_simp
  rw [h0, h1]
  try rfl

/-- Operations 186 to 198: output 0. -/
theorem out18_0 (V : ValR) (W : ValK) (h0 : V (Proc.devRef .tc Cert.ReferenceIdeal.main_call0_call0_v1) = W (Proc.devRef .tc Cert.KernelIdeal.main_call0_call0_v1)) :
    StableHlo.after (List.take 12 (List.drop 186 opsR)) V (Proc.devRef .tc Cert.ReferenceIdeal.main_call0_call0_v1) = StableHlo.after (List.take 12 (List.drop 186 opsK)) W (Proc.devRef .tc Cert.KernelIdeal.main_call0_call0_v1) := by
  after_reads_simp
  rw [h0]
  try rfl

/-- Operations 186 to 198: output 1. -/
theorem out18_1 (V : ValR) (W : ValK) (h0 : V (Proc.devRef .tc Cert.ReferenceIdeal.main_call0_v2) = W (Proc.devRef .tc Cert.KernelIdeal.main_call0_v2)) :
    StableHlo.after (List.take 12 (List.drop 186 opsR)) V (Proc.devRef .tc Cert.ReferenceIdeal.main_call0_v2) = StableHlo.after (List.take 12 (List.drop 186 opsK)) W (Proc.devRef .tc Cert.KernelIdeal.main_call0_v2) := by
  after_reads_simp
  rw [h0]
  try rfl

/-- Operations 186 to 198: output 2. -/
theorem out18_2 (V : ValR) (W : ValK) (h0 : V (Proc.devRef .tc Cert.ReferenceIdeal.main_call0_v3) = W (Proc.devRef .tc Cert.KernelIdeal.main_call0_v3)) :
    StableHlo.after (List.take 12 (List.drop 186 opsR)) V (Proc.devRef .tc Cert.ReferenceIdeal.main_call0_v3) = StableHlo.after (List.take 12 (List.drop 186 opsK)) W (Proc.devRef .tc Cert.KernelIdeal.main_call0_v3) := by
  after_reads_simp
  rw [h0]
  try rfl

/-- Operations 186 to 198: output 3. -/
theorem out18_3 (V : ValR) (W : ValK) (h0 : V (Proc.devRef .tc Cert.ReferenceIdeal.main_call0_v5) = W (Proc.devRef .tc Cert.KernelIdeal.main_call0_v5)) :
    StableHlo.after (List.take 12 (List.drop 186 opsR)) V (Proc.devRef .tc Cert.ReferenceIdeal.main_call0_v5) = StableHlo.after (List.take 12 (List.drop 186 opsK)) W (Proc.devRef .tc Cert.KernelIdeal.main_call0_v5) := by
  after_reads_simp
  rw [h0]
  try rfl

/-- Operations 186 to 198: output 4. -/
theorem out18_4 (V : ValR) (W : ValK) (h0 : V (Proc.devRef .tc Cert.ReferenceIdeal.main_call0_v7) = W (Proc.devRef .tc Cert.KernelIdeal.main_call0_v7)) (h1 : V (Proc.devRef .tc Cert.ReferenceIdeal.main_call0_call0_v129) = W (Proc.devRef .tc Cert.KernelIdeal.main_call0_call0_v129)) :
    StableHlo.after (List.take 12 (List.drop 186 opsR)) V (Proc.devRef .tc Cert.ReferenceIdeal.main_call0_call0_v137) = StableHlo.after (List.take 12 (List.drop 186 opsK)) W (Proc.devRef .tc Cert.KernelIdeal.main_call0_call0_v137) := by
  after_reads_simp
  rw [h0, h1]
  try rfl

/-- Operations 186 to 198: output 5. -/
theorem out18_5 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_call0_v128) = W (Proc.devRef .tc Cert.KernelIdeal.main_call0_call0_v128)) (h2 : V (Proc.devRef .tc Cert.ReferenceIdeal.main_call0_call0_v129) = W (Proc.devRef .tc Cert.KernelIdeal.main_call0_call0_v129)) :
    StableHlo.after (List.take 12 (List.drop 186 opsR)) V (Proc.devRef .tc Cert.ReferenceIdeal.main_call0_call0_v139) = StableHlo.after (List.take 12 (List.drop 186 opsK)) W (Proc.devRef .tc Cert.KernelIdeal.main_call0_call0_v139) := by
  after_reads_simp
  rw [h0, h1, h2]
  try rfl

/-- Operations 198 to 211: output 0. -/
theorem out19_0 (V : ValR) (W : ValK) (h0 : V (Proc.devRef .tc Cert.ReferenceIdeal.main_call0_call0_v1) = W (Proc.devRef .tc Cert.KernelIdeal.main_call0_call0_v1)) :
    StableHlo.after (List.take 13 (List.drop 198 opsR)) V (Proc.devRef .tc Cert.ReferenceIdeal.main_call0_call0_v1) = StableHlo.after (List.take 13 (List.drop 198 opsK)) W (Proc.devRef .tc Cert.KernelIdeal.main_call0_call0_v1) := by
  after_reads_simp
  rw [h0]
  try rfl

/-- Operations 198 to 211: output 1. -/
theorem out19_1 (V : ValR) (W : ValK) (h0 : V (Proc.devRef .tc Cert.ReferenceIdeal.main_call0_v2) = W (Proc.devRef .tc Cert.KernelIdeal.main_call0_v2)) :
    StableHlo.after (List.take 13 (List.drop 198 opsR)) V (Proc.devRef .tc Cert.ReferenceIdeal.main_call0_v2) = StableHlo.after (List.take 13 (List.drop 198 opsK)) W (Proc.devRef .tc Cert.KernelIdeal.main_call0_v2) := by
  after_reads_simp
  rw [h0]
  try rfl

/-- Operations 198 to 211: output 2. -/
theorem out19_2 (V : ValR) (W : ValK) (h0 : V (Proc.devRef .tc Cert.ReferenceIdeal.main_call0_v3) = W (Proc.devRef .tc Cert.KernelIdeal.main_call0_v3)) :
    StableHlo.after (List.take 13 (List.drop 198 opsR)) V (Proc.devRef .tc Cert.ReferenceIdeal.main_call0_v3) = StableHlo.after (List.take 13 (List.drop 198 opsK)) W (Proc.devRef .tc Cert.KernelIdeal.main_call0_v3) := by
  after_reads_simp
  rw [h0]
  try rfl

/-- Operations 198 to 211: output 3. -/
theorem out19_3 (V : ValR) (W : ValK) (h0 : V (Proc.devRef .tc Cert.ReferenceIdeal.main_call0_v5) = W (Proc.devRef .tc Cert.KernelIdeal.main_call0_v5)) :
    StableHlo.after (List.take 13 (List.drop 198 opsR)) V (Proc.devRef .tc Cert.ReferenceIdeal.main_call0_v5) = StableHlo.after (List.take 13 (List.drop 198 opsK)) W (Proc.devRef .tc Cert.KernelIdeal.main_call0_v5) := by
  after_reads_simp
  rw [h0]
  try rfl

/-- Operations 198 to 211: output 4. -/
theorem out19_4 (V : ValR) (W : ValK) (h0 : V (Proc.devRef .tc Cert.ReferenceIdeal.main_call0_call0_v137) = W (Proc.devRef .tc Cert.KernelIdeal.main_call0_call0_v137)) (h1 : V (Proc.devRef .tc Cert.ReferenceIdeal.main_call0_call0_v139) = W (Proc.devRef .tc Cert.KernelIdeal.main_call0_call0_v139)) :
    StableHlo.after (List.take 13 (List.drop 198 opsR)) V (Proc.devRef .tc Cert.ReferenceIdeal.main_call0_call0_v148) = StableHlo.after (List.take 13 (List.drop 198 opsK)) W (Proc.devRef .tc Cert.KernelIdeal.main_call0_call0_v148) := by
  after_reads_simp
  rw [h0, h1]
  try rfl

/-- Operations 198 to 211: output 5. -/
theorem out19_5 (V : ValR) (W : ValK) (h0 : V (Proc.devRef .tc Cert.ReferenceIdeal.main_call0_call0_v137) = W (Proc.devRef .tc Cert.KernelIdeal.main_call0_call0_v137)) (h1 : V (Proc.devRef .tc Cert.ReferenceIdeal.main_call0_call0_v139) = W (Proc.devRef .tc Cert.KernelIdeal.main_call0_call0_v139)) :
    StableHlo.after (List.take 13 (List.drop 198 opsR)) V (Proc.devRef .tc Cert.ReferenceIdeal.main_call0_call0_v149) = StableHlo.after (List.take 13 (List.drop 198 opsK)) W (Proc.devRef .tc Cert.KernelIdeal.main_call0_call0_v149) := by
  after_reads_simp
  rw [h0, h1]
  try rfl

/-- Operations 211 to 220: output 0. -/
theorem out20_0 (V : ValR) (W : ValK) (h0 : V (Proc.devRef .tc Cert.ReferenceIdeal.main_call0_call0_v1) = W (Proc.devRef .tc Cert.KernelIdeal.main_call0_call0_v1)) :
    StableHlo.after (List.take 9 (List.drop 211 opsR)) V (Proc.devRef .tc Cert.ReferenceIdeal.main_call0_call0_v1) = StableHlo.after (List.take 9 (List.drop 211 opsK)) W (Proc.devRef .tc Cert.KernelIdeal.main_call0_call0_v1) := by
  after_reads_simp
  rw [h0]
  try rfl

/-- Operations 211 to 220: output 1. -/
theorem out20_1 (V : ValR) (W : ValK) (h0 : V (Proc.devRef .tc Cert.ReferenceIdeal.main_call0_v2) = W (Proc.devRef .tc Cert.KernelIdeal.main_call0_v2)) :
    StableHlo.after (List.take 9 (List.drop 211 opsR)) V (Proc.devRef .tc Cert.ReferenceIdeal.main_call0_v2) = StableHlo.after (List.take 9 (List.drop 211 opsK)) W (Proc.devRef .tc Cert.KernelIdeal.main_call0_v2) := by
  after_reads_simp
  rw [h0]
  try rfl

/-- Operations 211 to 220: output 2. -/
theorem out20_2 (V : ValR) (W : ValK) (h0 : V (Proc.devRef .tc Cert.ReferenceIdeal.main_call0_v3) = W (Proc.devRef .tc Cert.KernelIdeal.main_call0_v3)) :
    StableHlo.after (List.take 9 (List.drop 211 opsR)) V (Proc.devRef .tc Cert.ReferenceIdeal.main_call0_v3) = StableHlo.after (List.take 9 (List.drop 211 opsK)) W (Proc.devRef .tc Cert.KernelIdeal.main_call0_v3) := by
  after_reads_simp
  rw [h0]
  try rfl

/-- Operations 211 to 220: output 3. -/
theorem out20_3 (V : ValR) (W : ValK) (h0 : V (Proc.devRef .tc Cert.ReferenceIdeal.main_call0_v5) = W (Proc.devRef .tc Cert.KernelIdeal.main_call0_v5)) :
    StableHlo.after (List.take 9 (List.drop 211 opsR)) V (Proc.devRef .tc Cert.ReferenceIdeal.main_call0_v5) = StableHlo.after (List.take 9 (List.drop 211 opsK)) W (Proc.devRef .tc Cert.KernelIdeal.main_call0_v5) := by
  after_reads_simp
  rw [h0]
  try rfl

/-- Operations 211 to 220: output 4. -/
theorem out20_4 (V : ValR) (W : ValK) (h0 : V (Proc.devRef .tc Cert.ReferenceIdeal.main_call0_call0_v148) = W (Proc.devRef .tc Cert.KernelIdeal.main_call0_call0_v148)) (h1 : V (Proc.devRef .tc Cert.ReferenceIdeal.main_call0_call0_v149) = W (Proc.devRef .tc Cert.KernelIdeal.main_call0_call0_v149)) :
    StableHlo.after (List.take 9 (List.drop 211 opsR)) V (Proc.devRef .tc Cert.ReferenceIdeal.main_call0_call0_v155) = StableHlo.after (List.take 9 (List.drop 211 opsK)) W (Proc.devRef .tc Cert.KernelIdeal.main_call0_call0_v155) := by
  after_reads_simp
  rw [h0, h1]
  try rfl

/-- Operations 211 to 220: output 5. -/
theorem out20_5 (V : ValR) (W : ValK) (h0 : V (Proc.devRef .tc Cert.ReferenceIdeal.main_call0_call0_v148) = W (Proc.devRef .tc Cert.KernelIdeal.main_call0_call0_v148)) (h1 : V (Proc.devRef .tc Cert.ReferenceIdeal.main_call0_call0_v149) = W (Proc.devRef .tc Cert.KernelIdeal.main_call0_call0_v149)) :
    StableHlo.after (List.take 9 (List.drop 211 opsR)) V (Proc.devRef .tc Cert.ReferenceIdeal.main_call0_call0_v156) = StableHlo.after (List.take 9 (List.drop 211 opsK)) W (Proc.devRef .tc Cert.KernelIdeal.main_call0_call0_v156) := by
  after_reads_simp
  rw [h0, h1]
  try rfl

/-- Operations 220 to 229: output 0. -/
theorem out21_0 (V : ValR) (W : ValK) (h0 : V (Proc.devRef .tc Cert.ReferenceIdeal.main_call0_call0_v1) = W (Proc.devRef .tc Cert.KernelIdeal.main_call0_call0_v1)) :
    StableHlo.after (List.take 9 (List.drop 220 opsR)) V (Proc.devRef .tc Cert.ReferenceIdeal.main_call0_call0_v1) = StableHlo.after (List.take 9 (List.drop 220 opsK)) W (Proc.devRef .tc Cert.KernelIdeal.main_call0_call0_v1) := by
  after_reads_simp
  rw [h0]
  try rfl

/-- Operations 220 to 229: output 1. -/
theorem out21_1 (V : ValR) (W : ValK) (h0 : V (Proc.devRef .tc Cert.ReferenceIdeal.main_call0_v2) = W (Proc.devRef .tc Cert.KernelIdeal.main_call0_v2)) :
    StableHlo.after (List.take 9 (List.drop 220 opsR)) V (Proc.devRef .tc Cert.ReferenceIdeal.main_call0_v2) = StableHlo.after (List.take 9 (List.drop 220 opsK)) W (Proc.devRef .tc Cert.KernelIdeal.main_call0_v2) := by
  after_reads_simp
  rw [h0]
  try rfl

/-- Operations 220 to 229: output 2. -/
theorem out21_2 (V : ValR) (W : ValK) (h0 : V (Proc.devRef .tc Cert.ReferenceIdeal.main_call0_v3) = W (Proc.devRef .tc Cert.KernelIdeal.main_call0_v3)) :
    StableHlo.after (List.take 9 (List.drop 220 opsR)) V (Proc.devRef .tc Cert.ReferenceIdeal.main_call0_v3) = StableHlo.after (List.take 9 (List.drop 220 opsK)) W (Proc.devRef .tc Cert.KernelIdeal.main_call0_v3) := by
  after_reads_simp
  rw [h0]
  try rfl

/-- Operations 220 to 229: output 3. -/
theorem out21_3 (V : ValR) (W : ValK) (h0 : V (Proc.devRef .tc Cert.ReferenceIdeal.main_call0_v5) = W (Proc.devRef .tc Cert.KernelIdeal.main_call0_v5)) :
    StableHlo.after (List.take 9 (List.drop 220 opsR)) V (Proc.devRef .tc Cert.ReferenceIdeal.main_call0_v5) = StableHlo.after (List.take 9 (List.drop 220 opsK)) W (Proc.devRef .tc Cert.KernelIdeal.main_call0_v5) := by
  after_reads_simp
  rw [h0]
  try rfl

/-- Operations 220 to 229: output 4. -/
theorem out21_4 (V : ValR) (W : ValK) (h0 : V (Proc.devRef .tc Cert.ReferenceIdeal.main_call0_call0_v155) = W (Proc.devRef .tc Cert.KernelIdeal.main_call0_call0_v155)) (h1 : V (Proc.devRef .tc Cert.ReferenceIdeal.main_call0_call0_v156) = W (Proc.devRef .tc Cert.KernelIdeal.main_call0_call0_v156)) :
    StableHlo.after (List.take 9 (List.drop 220 opsR)) V (Proc.devRef .tc Cert.ReferenceIdeal.main_call0_call0_v162) = StableHlo.after (List.take 9 (List.drop 220 opsK)) W (Proc.devRef .tc Cert.KernelIdeal.main_call0_call0_v162) := by
  after_reads_simp
  rw [h0, h1]
  try rfl

/-- Operations 220 to 229: output 5. -/
theorem out21_5 (V : ValR) (W : ValK) (h0 : V (Proc.devRef .tc Cert.ReferenceIdeal.main_call0_call0_v155) = W (Proc.devRef .tc Cert.KernelIdeal.main_call0_call0_v155)) (h1 : V (Proc.devRef .tc Cert.ReferenceIdeal.main_call0_call0_v156) = W (Proc.devRef .tc Cert.KernelIdeal.main_call0_call0_v156)) :
    StableHlo.after (List.take 9 (List.drop 220 opsR)) V (Proc.devRef .tc Cert.ReferenceIdeal.main_call0_call0_v163) = StableHlo.after (List.take 9 (List.drop 220 opsK)) W (Proc.devRef .tc Cert.KernelIdeal.main_call0_call0_v163) := by
  after_reads_simp
  rw [h0, h1]
  try rfl

/-- Operations 229 to 241: output 0. -/
theorem out22_0 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_call0_v163) = W (Proc.devRef .tc Cert.KernelIdeal.main_call0_call0_v163)) :
    StableHlo.after (List.take 12 (List.drop 229 opsR)) V (Proc.devRef .tc Cert.ReferenceIdeal.main_call0_v19_0) = StableHlo.after (List.take 12 (List.drop 229 opsK)) W (Proc.devRef .tc Cert.KernelIdeal.main_call0_v19_0) := by
  after_reads_simp
  rw [h0, h1]
  try rfl

/-- Operations 229 to 241: output 1. -/
theorem out22_1 (V : ValR) (W : ValK) (h0 : V (Proc.devRef .tc Cert.ReferenceIdeal.main_call0_v2) = W (Proc.devRef .tc Cert.KernelIdeal.main_call0_v2)) :
    StableHlo.after (List.take 12 (List.drop 229 opsR)) V (Proc.devRef .tc Cert.ReferenceIdeal.main_call0_v2) = StableHlo.after (List.take 12 (List.drop 229 opsK)) W (Proc.devRef .tc Cert.KernelIdeal.main_call0_v2) := by
  after_reads_simp
  rw [h0]
  try rfl

/-- Operations 229 to 241: output 2. -/
theorem out22_2 (V : ValR) (W : ValK) (h0 : V (Proc.devRef .tc Cert.ReferenceIdeal.main_call0_v3) = W (Proc.devRef .tc Cert.KernelIdeal.main_call0_v3)) :
    StableHlo.after (List.take 12 (List.drop 229 opsR)) V (Proc.devRef .tc Cert.ReferenceIdeal.main_call0_v3) = StableHlo.after (List.take 12 (List.drop 229 opsK)) W (Proc.devRef .tc Cert.KernelIdeal.main_call0_v3) := by
  after_reads_simp
  rw [h0]
  try rfl

/-- Operations 229 to 241: output 3. -/
theorem out22_3 (V : ValR) (W : ValK) (h0 : V (Proc.devRef .tc Cert.ReferenceIdeal.main_call0_v5) = W (Proc.devRef .tc Cert.KernelIdeal.main_call0_v5)) (h1 : V (Proc.devRef .tc Cert.ReferenceIdeal.main_call0_call0_v162) = W (Proc.devRef .tc Cert.KernelIdeal.main_call0_call0_v162)) (h2 : V (Proc.devRef .tc Cert.ReferenceIdeal.main_call0_call0_v163) = W (Proc.devRef .tc Cert.KernelIdeal.main_call0_call0_v163)) :
    StableHlo.after (List.take 12 (List.drop 229 opsR)) V (Proc.devRef .tc Cert.ReferenceIdeal.main_call0_call0_v173) = StableHlo.after (List.take 12 (List.drop 229 opsK)) W (Proc.devRef .tc Cert.KernelIdeal.main_call0_call0_v173) := by
  after_reads_simp
  rw [h0, h1, h2]
  try rfl

/-- Operations 241 to 252: output 0. -/
theorem out23_0 (V : ValR) (W : ValK) (h0 : V (Proc.devRef .tc Cert.ReferenceIdeal.main_call0_v2) = W (Proc.devRef .tc Cert.KernelIdeal.main_call0_v2)) :
    StableHlo.after (List.take 11 (List.drop 241 opsR)) V (Proc.devRef .tc Cert.ReferenceIdeal.main_call0_v2) = StableHlo.after (List.take 11 (List.drop 241 opsK)) W (Proc.devRef .tc Cert.KernelIdeal.main_call0_v2) := by
  after_reads_simp
  rw [h0]
  try rfl

/-- Operations 241 to 252: output 1. -/
theorem out23_1 (V : ValR) (W : ValK) (h0 : V (Proc.devRef .tc Cert.ReferenceIdeal.main_call0_v3) = W (Proc.devRef .tc Cert.KernelIdeal.main_call0_v3)) :
    StableHlo.after (List.take 11 (List.drop 241 opsR)) V (Proc.devRef .tc Cert.ReferenceIdeal.main_call0_v3) = StableHlo.after (List.take 11 (List.drop 241 opsK)) W (Proc.devRef .tc Cert.KernelIdeal.main_call0_v3) := by
  after_reads_simp
  rw [h0]
  try rfl

/-- Operations 241 to 252: output 2. -/
theorem out23_2 (V : ValR) (W : ValK) (h0 : V (Proc.devRef .tc Cert.ReferenceIdeal.main_call0_v19_0) = W (Proc.devRef .tc Cert.KernelIdeal.main_call0_v19_0)) (h1 : V (Proc.devRef .tc Cert.ReferenceIdeal.main_call0_call0_v173) = W (Proc.devRef .tc Cert.KernelIdeal.main_call0_call0_v173)) :
    StableHlo.after (List.take 11 (List.drop 241 opsR)) V (Proc.devRef .tc Cert.ReferenceIdeal.main_call0_v25) = StableHlo.after (List.take 11 (List.drop 241 opsK)) W (Proc.devRef .tc Cert.KernelIdeal.main_call0_v25) := by
  after_reads_simp
  rw [h0, h1]
  try rfl

/-- Operations 252 to 262: output 0. -/
theorem out24_0 (V : ValR) (W : ValK) (h0 : V (Proc.devRef .tc Cert.ReferenceIdeal.main_call0_v2) = W (Proc.devRef .tc Cert.KernelIdeal.main_call0_v2)) (h1 : V (Proc.devRef .tc Cert.ReferenceIdeal.main_call0_v3) = W (Proc.devRef .tc Cert.KernelIdeal.main_call0_v3)) (h2 : V (Proc.devRef .tc Cert.ReferenceIdeal.main_call0_v25) = W (Proc.devRef .tc Cert.KernelIdeal.main_call0_v25)) :
    StableHlo.after (List.take 10 (List.drop 252 opsR)) V (Proc.devRef .tc Cert.ReferenceIdeal.main_v21) = StableHlo.after (List.take 10 (List.drop 252 opsK)) W (Proc.devRef .tc Cert.KernelIdeal.main_v7) := by
  after_reads_simp
  rw [h0, h1, h2]
  try rfl

/-- From operation 252 on. -/
theorem from24 (V : ValR) (W : ValK) (h0 : V (Proc.devRef .tc Cert.ReferenceIdeal.main_call0_v2) = W (Proc.devRef .tc Cert.KernelIdeal.main_call0_v2)) (h1 : V (Proc.devRef .tc Cert.ReferenceIdeal.main_call0_v3) = W (Proc.devRef .tc Cert.KernelIdeal.main_call0_v3)) (h2 : V (Proc.devRef .tc Cert.ReferenceIdeal.main_call0_v25) = W (Proc.devRef .tc Cert.KernelIdeal.main_call0_v25)) :
    StableHlo.after (List.drop 252 opsR) V (Proc.devRef .tc Cert.ReferenceIdeal.main_v21) = StableHlo.after (List.drop 252 opsK) W (Proc.devRef .tc Cert.KernelIdeal.main_v7) := by
  have eR : List.drop 252 opsR = List.take 10 (List.drop 252 opsR) := by rfl
  have eK : List.drop 252 opsK = List.take 10 (List.drop 252 opsK) := by rfl
  rw [eR, eK]
  exact (out24_0 V W h0 h1 h2)

/-- From operation 241 on. -/
theorem from23 (V : ValR) (W : ValK) (h0 : V (Proc.devRef .tc Cert.ReferenceIdeal.main_call0_v19_0) = W (Proc.devRef .tc Cert.KernelIdeal.main_call0_v19_0)) (h1 : V (Proc.devRef .tc Cert.ReferenceIdeal.main_call0_v2) = W (Proc.devRef .tc Cert.KernelIdeal.main_call0_v2)) (h2 : V (Proc.devRef .tc Cert.ReferenceIdeal.main_call0_v3) = W (Proc.devRef .tc Cert.KernelIdeal.main_call0_v3)) (h3 : V (Proc.devRef .tc Cert.ReferenceIdeal.main_call0_call0_v173) = W (Proc.devRef .tc Cert.KernelIdeal.main_call0_call0_v173)) :
    StableHlo.after (List.drop 241 opsR) V (Proc.devRef .tc Cert.ReferenceIdeal.main_v21) = StableHlo.after (List.drop 241 opsK) W (Proc.devRef .tc Cert.KernelIdeal.main_v7) := by
  rw [after_cut (List.drop 241 opsR) 11, after_cut (List.drop 241 opsK) 11, List.drop_drop, List.drop_drop]
  exact from24 _ _ (out23_0 V W h1) (out23_1 V W h2) (out23_2 V W h0 h3)

/-- From operation 229 on. -/
theorem from22 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_v2) = W (Proc.devRef .tc Cert.KernelIdeal.main_call0_v2)) (h2 : V (Proc.devRef .tc Cert.ReferenceIdeal.main_call0_v3) = W (Proc.devRef .tc Cert.KernelIdeal.main_call0_v3)) (h3 : V (Proc.devRef .tc Cert.ReferenceIdeal.main_call0_v5) = W (Proc.devRef .tc Cert.KernelIdeal.main_call0_v5)) (h4 : V (Proc.devRef .tc Cert.ReferenceIdeal.main_call0_call0_v162) = W (Proc.devRef .tc Cert.KernelIdeal.main_call0_call0_v162)) (h5 : V (Proc.devRef .tc Cert.ReferenceIdeal.main_call0_call0_v163) = W (Proc.devRef .tc Cert.KernelIdeal.main_call0_call0_v163)) :
    StableHlo.after (List.drop 229 opsR) V (Proc.devRef .tc Cert.ReferenceIdeal.main_v21) = StableHlo.after (List.drop 229 opsK) W (Proc.devRef .tc Cert.KernelIdeal.main_v7) := by
  rw [after_cut (List.drop 229 opsR) 12, after_cut (List.drop 229 opsK) 12, List.drop_drop, List.drop_drop]
  exact from23 _ _ (out22_0 V W h0 h5) (out22_1 V W h1) (out22_2 V W h2) (out22_3 V W h3 h4 h5)

/-- From operation 220 on. -/
theorem from21 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_v2) = W (Proc.devRef .tc Cert.KernelIdeal.main_call0_v2)) (h2 : V (Proc.devRef .tc Cert.ReferenceIdeal.main_call0_v3) = W (Proc.devRef .tc Cert.KernelIdeal.main_call0_v3)) (h3 : V (Proc.devRef .tc Cert.ReferenceIdeal.main_call0_v5) = W (Proc.devRef .tc Cert.KernelIdeal.main_call0_v5)) (h4 : V (Proc.devRef .tc Cert.ReferenceIdeal.main_call0_call0_v155) = W (Proc.devRef .tc Cert.KernelIdeal.main_call0_call0_v155)) (h5 : V (Proc.devRef .tc Cert.ReferenceIdeal.main_call0_call0_v156) = W (Proc.devRef .tc Cert.KernelIdeal.main_call0_call0_v156)) :
    StableHlo.after (List.drop 220 opsR) V (Proc.devRef .tc Cert.ReferenceIdeal.main_v21) = StableHlo.after (List.drop 220 opsK) W (Proc.devRef .tc Cert.KernelIdeal.main_v7) := by
  rw [after_cut (List.drop 220 opsR) 9, after_cut (List.drop 220 opsK) 9, List.drop_drop, List.drop_drop]
  exact from22 _ _ (out21_0 V W h0) (out21_1 V W h1) (out21_2 V W h2) (out21_3 V W h3) (out21_4 V W h4 h5) (out21_5 V W h4 h5)

/-- From operation 211 on. -/
theorem from20 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_v2) = W (Proc.devRef .tc Cert.KernelIdeal.main_call0_v2)) (h2 : V (Proc.devRef .tc Cert.ReferenceIdeal.main_call0_v3) = W (Proc.devRef .tc Cert.KernelIdeal.main_call0_v3)) (h3 : V (Proc.devRef .tc Cert.ReferenceIdeal.main_call0_v5) = W (Proc.devRef .tc Cert.KernelIdeal.main_call0_v5)) (h4 : V (Proc.devRef .tc Cert.ReferenceIdeal.main_call0_call0_v148) = W (Proc.devRef .tc Cert.KernelIdeal.main_call0_call0_v148)) (h5 : V (Proc.devRef .tc Cert.ReferenceIdeal.main_call0_call0_v149) = W (Proc.devRef .tc Cert.KernelIdeal.main_call0_call0_v149)) :
    StableHlo.after (List.drop 211 opsR) V (Proc.devRef .tc Cert.ReferenceIdeal.main_v21) = StableHlo.after (List.drop 211 opsK) W (Proc.devRef .tc Cert.KernelIdeal.main_v7) := by
  rw [after_cut (List.drop 211 opsR) 9, after_cut (List.drop 211 opsK) 9, List.drop_drop, List.drop_drop]
  exact from21 _ _ (out20_0 V W h0) (out20_1 V W h1) (out20_2 V W h2) (out20_3 V W h3) (out20_4 V W h4 h5) (out20_5 V W h4 h5)

/-- From operation 198 on. -/
theorem from19 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_v2) = W (Proc.devRef .tc Cert.KernelIdeal.main_call0_v2)) (h2 : V (Proc.devRef .tc Cert.ReferenceIdeal.main_call0_v3) = W (Proc.devRef .tc Cert.KernelIdeal.main_call0_v3)) (h3 : V (Proc.devRef .tc Cert.ReferenceIdeal.main_call0_v5) = W (Proc.devRef .tc Cert.KernelIdeal.main_call0_v5)) (h4 : V (Proc.devRef .tc Cert.ReferenceIdeal.main_call0_call0_v137) = W (Proc.devRef .tc Cert.KernelIdeal.main_call0_call0_v137)) (h5 : V (Proc.devRef .tc Cert.ReferenceIdeal.main_call0_call0_v139) = W (Proc.devRef .tc Cert.KernelIdeal.main_call0_call0_v139)) :
    StableHlo.after (List.drop 198 opsR) V (Proc.devRef .tc Cert.ReferenceIdeal.main_v21) = StableHlo.after (List.drop 198 opsK) W (Proc.devRef .tc Cert.KernelIdeal.main_v7) := by
  rw [after_cut (List.drop 198 opsR) 13, after_cut (List.drop 198 opsK) 13, List.drop_drop, List.drop_drop]
  exact from20 _ _ (out19_0 V W h0) (out19_1 V W h1) (out19_2 V W h2) (out19_3 V W h3) (out19_4 V W h4 h5) (out19_5 V W h4 h5)

/-- From operation 186 on. -/
theorem from18 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_v2) = W (Proc.devRef .tc Cert.KernelIdeal.main_call0_v2)) (h2 : V (Proc.devRef .tc Cert.ReferenceIdeal.main_call0_v3) = W (Proc.devRef .tc Cert.KernelIdeal.main_call0_v3)) (h3 : V (Proc.devRef .tc Cert.ReferenceIdeal.main_call0_v5) = W (Proc.devRef .tc Cert.KernelIdeal.main_call0_v5)) (h4 : V (Proc.devRef .tc Cert.ReferenceIdeal.main_call0_v7) = W (Proc.devRef .tc Cert.KernelIdeal.main_call0_v7)) (h5 : V (Proc.devRef .tc Cert.ReferenceIdeal.main_call0_call0_v128) = W (Proc.devRef .tc Cert.KernelIdeal.main_call0_call0_v128)) (h6 : V (Proc.devRef .tc Cert.ReferenceIdeal.main_call0_call0_v129) = W (Proc.devRef .tc Cert.KernelIdeal.main_call0_call0_v129)) :
    StableHlo.after (List.drop 186 opsR) V (Proc.devRef .tc Cert.ReferenceIdeal.main_v21) = StableHlo.after (List.drop 186 opsK) W (Proc.devRef .tc Cert.KernelIdeal.main_v7) := by
  rw [after_cut (List.drop 186 opsR) 12, after_cut (List.drop 186 opsK) 12, List.drop_drop, List.drop_drop]
  exact from19 _ _ (out18_0 V W h0) (out18_1 V W h1) (out18_2 V W h2) (out18_3 V W h3) (out18_4 V W h4 h6) (out18_5 V W h0 h5 h6)

/-- From operation 177 on. -/
theorem from17 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_v2) = W (Proc.devRef .tc Cert.KernelIdeal.main_call0_v2)) (h2 : V (Proc.devRef .tc Cert.ReferenceIdeal.main_call0_v3) = W (Proc.devRef .tc Cert.KernelIdeal.main_call0_v3)) (h3 : V (Proc.devRef .tc Cert.ReferenceIdeal.main_call0_v5) = W (Proc.devRef .tc Cert.KernelIdeal.main_call0_v5)) (h4 : V (Proc.devRef .tc Cert.ReferenceIdeal.main_call0_v7) = W (Proc.devRef .tc Cert.KernelIdeal.main_call0_v7)) (h5 : V (Proc.devRef .tc Cert.ReferenceIdeal.main_call0_call0_v121) = W (Proc.devRef .tc Cert.KernelIdeal.main_call0_call0_v121)) (h6 : V (Proc.devRef .tc Cert.ReferenceIdeal.main_call0_call0_v122) = W (Proc.devRef .tc Cert.KernelIdeal.main_call0_call0_v122)) :
    StableHlo.after (List.drop 177 opsR) V (Proc.devRef .tc Cert.ReferenceIdeal.main_v21) = StableHlo.after (List.drop 177 opsK) W (Proc.devRef .tc Cert.KernelIdeal.main_v7) := by
  rw [after_cut (List.drop 177 opsR) 9, after_cut (List.drop 177 opsK) 9, List.drop_drop, List.drop_drop]
  exact from18 _ _ (out17_0 V W h0) (out17_1 V W h1) (out17_2 V W h2) (out17_3 V W h3) (out17_4 V W h4) (out17_5 V W h5 h6) (out17_6 V W h5 h6)

/-- From operation 168 on. -/
theorem from16 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_v2) = W (Proc.devRef .tc Cert.KernelIdeal.main_call0_v2)) (h2 : V (Proc.devRef .tc Cert.ReferenceIdeal.main_call0_v3) = W (Proc.devRef .tc Cert.KernelIdeal.main_call0_v3)) (h3 : V (Proc.devRef .tc Cert.ReferenceIdeal.main_call0_v5) = W (Proc.devRef .tc Cert.KernelIdeal.main_call0_v5)) (h4 : V (Proc.devRef .tc Cert.ReferenceIdeal.main_call0_v7) = W (Proc.devRef .tc Cert.KernelIdeal.main_call0_v7)) (h5 : V (Proc.devRef .tc Cert.ReferenceIdeal.main_call0_call0_v114) = W (Proc.devRef .tc Cert.KernelIdeal.main_call0_call0_v114)) (h6 : V (Proc.devRef .tc Cert.ReferenceIdeal.main_call0_call0_v115) = W (Proc.devRef .tc Cert.KernelIdeal.main_call0_call0_v115)) :
    StableHlo.after (List.drop 168 opsR) V (Proc.devRef .tc Cert.ReferenceIdeal.main_v21) = StableHlo.after (List.drop 168 opsK) W (Proc.devRef .tc Cert.KernelIdeal.main_v7) := by
  rw [after_cut (List.drop 168 opsR) 9, after_cut (List.drop 168 opsK) 9, List.drop_drop, List.drop_drop]
  exact from17 _ _ (out16_0 V W h0) (out16_1 V W h1) (out16_2 V W h2) (out16_3 V W h3) (out16_4 V W h4) (out16_5 V W h5 h6) (out16_6 V W h5 h6)

/-- From operation 155 on. -/
theorem from15 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_v2) = W (Proc.devRef .tc Cert.KernelIdeal.main_call0_v2)) (h2 : V (Proc.devRef .tc Cert.ReferenceIdeal.main_call0_v3) = W (Proc.devRef .tc Cert.KernelIdeal.main_call0_v3)) (h3 : V (Proc.devRef .tc Cert.ReferenceIdeal.main_call0_v5) = W (Proc.devRef .tc Cert.KernelIdeal.main_call0_v5)) (h4 : V (Proc.devRef .tc Cert.ReferenceIdeal.main_call0_v7) = W (Proc.devRef .tc Cert.KernelIdeal.main_call0_v7)) (h5 : V (Proc.devRef .tc Cert.ReferenceIdeal.main_call0_call0_v103) = W (Proc.devRef .tc Cert.KernelIdeal.main_call0_call0_v103)) (h6 : V (Proc.devRef .tc Cert.ReferenceIdeal.main_call0_call0_v105) = W (Proc.devRef .tc Cert.KernelIdeal.main_call0_call0_v105)) :
    StableHlo.after (List.drop 155 opsR) V (Proc.devRef .tc Cert.ReferenceIdeal.main_v21) = StableHlo.after (List.drop 155 opsK) W (Proc.devRef .tc Cert.KernelIdeal.main_v7) := by
  rw [after_cut (List.drop 155 opsR) 13, after_cut (List.drop 155 opsK) 13, List.drop_drop, List.drop_drop]
  exact from16 _ _ (out15_0 V W h0) (out15_1 V W h1) (out15_2 V W h2) (out15_3 V W h3) (out15_4 V W h4) (out15_5 V W h5 h6) (out15_6 V W h5 h6)

/-- From operation 143 on. -/
theorem from14 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_v2) = W (Proc.devRef .tc Cert.KernelIdeal.main_call0_v2)) (h2 : V (Proc.devRef .tc Cert.ReferenceIdeal.main_call0_v3) = W (Proc.devRef .tc Cert.KernelIdeal.main_call0_v3)) (h3 : V (Proc.devRef .tc Cert.ReferenceIdeal.main_call0_v5) = W (Proc.devRef .tc Cert.KernelIdeal.main_call0_v5)) (h4 : V (Proc.devRef .tc Cert.ReferenceIdeal.main_call0_v7) = W (Proc.devRef .tc Cert.KernelIdeal.main_call0_v7)) (h5 : V (Proc.devRef .tc Cert.ReferenceIdeal.main_call0_call0_v94) = W (Proc.devRef .tc Cert.KernelIdeal.main_call0_call0_v94)) (h6 : V (Proc.devRef .tc Cert.ReferenceIdeal.main_call0_call0_v95) = W (Proc.devRef .tc Cert.KernelIdeal.main_call0_call0_v95)) :
    StableHlo.after (List.drop 143 opsR) V (Proc.devRef .tc Cert.ReferenceIdeal.main_v21) = StableHlo.after (List.drop 143 opsK) W (Proc.devRef .tc Cert.KernelIdeal.main_v7) := by
  rw [after_cut (List.drop 143 opsR) 12, after_cut (List.drop 143 opsK) 12, List.drop_drop, List.drop_drop]
  exact from15 _ _ (out14_0 V W h0) (out14_1 V W h1) (out14_2 V W h2) (out14_3 V W h3) (out14_4 V W h4) (out14_5 V W h3 h6) (out14_6 V W h4 h5 h6)

/-- From operation 134 on. -/
theorem from13 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_v2) = W (Proc.devRef .tc Cert.KernelIdeal.main_call0_v2)) (h2 : V (Proc.devRef .tc Cert.ReferenceIdeal.main_call0_v3) = W (Proc.devRef .tc Cert.KernelIdeal.main_call0_v3)) (h3 : V (Proc.devRef .tc Cert.ReferenceIdeal.main_call0_v5) = W (Proc.devRef .tc Cert.KernelIdeal.main_call0_v5)) (h4 : V (Proc.devRef .tc Cert.ReferenceIdeal.main_call0_v7) = W (Proc.devRef .tc Cert.KernelIdeal.main_call0_v7)) (h5 : V (Proc.devRef .tc Cert.ReferenceIdeal.main_call0_call0_v87) = W (Proc.devRef .tc Cert.KernelIdeal.main_call0_call0_v87)) (h6 : V (Proc.devRef .tc Cert.ReferenceIdeal.main_call0_call0_v88) = W (Proc.devRef .tc Cert.KernelIdeal.main_call0_call0_v88)) :
    StableHlo.after (List.drop 134 opsR) V (Proc.devRef .tc Cert.ReferenceIdeal.main_v21) = StableHlo.after (List.drop 134 opsK) W (Proc.devRef .tc Cert.KernelIdeal.main_v7) := by
  rw [after_cut (List.drop 134 opsR) 9, after_cut (List.drop 134 opsK) 9, List.drop_drop, List.drop_drop]
  exact from14 _ _ (out13_0 V W h0) (out13_1 V W h1) (out13_2 V W h2) (out13_3 V W h3) (out13_4 V W h4) (out13_5 V W h5 h6) (out13_6 V W h5 h6)

/-- From operation 125 on. -/
theorem from12 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_v2) = W (Proc.devRef .tc Cert.KernelIdeal.main_call0_v2)) (h2 : V (Proc.devRef .tc Cert.ReferenceIdeal.main_call0_v3) = W (Proc.devRef .tc Cert.KernelIdeal.main_call0_v3)) (h3 : V (Proc.devRef .tc Cert.ReferenceIdeal.main_call0_v5) = W (Proc.devRef .tc Cert.KernelIdeal.main_call0_v5)) (h4 : V (Proc.devRef .tc Cert.ReferenceIdeal.main_call0_v7) = W (Proc.devRef .tc Cert.KernelIdeal.main_call0_v7)) (h5 : V (Proc.devRef .tc Cert.ReferenceIdeal.main_call0_call0_v80) = W (Proc.devRef .tc Cert.KernelIdeal.main_call0_call0_v80)) (h6 : V (Proc.devRef .tc Cert.ReferenceIdeal.main_call0_call0_v81) = W (Proc.devRef .tc Cert.KernelIdeal.main_call0_call0_v81)) :
    StableHlo.after (List.drop 125 opsR) V (Proc.devRef .tc Cert.ReferenceIdeal.main_v21) = StableHlo.after (List.drop 125 opsK) W (Proc.devRef .tc Cert.KernelIdeal.main_v7) := by
  rw [after_cut (List.drop 125 opsR) 9, after_cut (List.drop 125 opsK) 9, List.drop_drop, List.drop_drop]
  exact from13 _ _ (out12_0 V W h0) (out12_1 V W h1) (out12_2 V W h2) (out12_3 V W h3) (out12_4 V W h4) (out12_5 V W h5 h6) (out12_6 V W h5 h6)

/-- From operation 112 on. -/
theorem from11 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_v2) = W (Proc.devRef .tc Cert.KernelIdeal.main_call0_v2)) (h2 : V (Proc.devRef .tc Cert.ReferenceIdeal.main_call0_v3) = W (Proc.devRef .tc Cert.KernelIdeal.main_call0_v3)) (h3 : V (Proc.devRef .tc Cert.ReferenceIdeal.main_call0_v5) = W (Proc.devRef .tc Cert.KernelIdeal.main_call0_v5)) (h4 : V (Proc.devRef .tc Cert.ReferenceIdeal.main_call0_v7) = W (Proc.devRef .tc Cert.KernelIdeal.main_call0_v7)) (h5 : V (Proc.devRef .tc Cert.ReferenceIdeal.main_call0_call0_v69) = W (Proc.devRef .tc Cert.KernelIdeal.main_call0_call0_v69)) (h6 : V (Proc.devRef .tc Cert.ReferenceIdeal.main_call0_call0_v71) = W (Proc.devRef .tc Cert.KernelIdeal.main_call0_call0_v71)) :
    StableHlo.after (List.drop 112 opsR) V (Proc.devRef .tc Cert.ReferenceIdeal.main_v21) = StableHlo.after (List.drop 112 opsK) W (Proc.devRef .tc Cert.KernelIdeal.main_v7) := by
  rw [after_cut (List.drop 112 opsR) 13, after_cut (List.drop 112 opsK) 13, List.drop_drop, List.drop_drop]
  exact from12 _ _ (out11_0 V W h0) (out11_1 V W h1) (out11_2 V W h2) (out11_3 V W h3) (out11_4 V W h4) (out11_5 V W h5 h6) (out11_6 V W h5 h6)

/-- From operation 100 on. -/
theorem from10 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_v2) = W (Proc.devRef .tc Cert.KernelIdeal.main_call0_v2)) (h2 : V (Proc.devRef .tc Cert.ReferenceIdeal.main_call0_v3) = W (Proc.devRef .tc Cert.KernelIdeal.main_call0_v3)) (h3 : V (Proc.devRef .tc Cert.ReferenceIdeal.main_call0_v5) = W (Proc.devRef .tc Cert.KernelIdeal.main_call0_v5)) (h4 : V (Proc.devRef .tc Cert.ReferenceIdeal.main_call0_v7) = W (Proc.devRef .tc Cert.KernelIdeal.main_call0_v7)) (h5 : V (Proc.devRef .tc Cert.ReferenceIdeal.main_call0_call0_v60) = W (Proc.devRef .tc Cert.KernelIdeal.main_call0_call0_v60)) (h6 : V (Proc.devRef .tc Cert.ReferenceIdeal.main_call0_call0_v61) = W (Proc.devRef .tc Cert.KernelIdeal.main_call0_call0_v61)) :
    StableHlo.after (List.drop 100 opsR) V (Proc.devRef .tc Cert.ReferenceIdeal.main_v21) = StableHlo.after (List.drop 100 opsK) W (Proc.devRef .tc Cert.KernelIdeal.main_v7) := by
  rw [after_cut (List.drop 100 opsR) 12, after_cut (List.drop 100 opsK) 12, List.drop_drop, List.drop_drop]
  exact from11 _ _ (out10_0 V W h0) (out10_1 V W h1) (out10_2 V W h2) (out10_3 V W h3) (out10_4 V W h4) (out10_5 V W h0 h6) (out10_6 V W h3 h5 h6)

/-- From operation 91 on. -/
theorem from9 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_v2) = W (Proc.devRef .tc Cert.KernelIdeal.main_call0_v2)) (h2 : V (Proc.devRef .tc Cert.ReferenceIdeal.main_call0_v3) = W (Proc.devRef .tc Cert.KernelIdeal.main_call0_v3)) (h3 : V (Proc.devRef .tc Cert.ReferenceIdeal.main_call0_v5) = W (Proc.devRef .tc Cert.KernelIdeal.main_call0_v5)) (h4 : V (Proc.devRef .tc Cert.ReferenceIdeal.main_call0_v7) = W (Proc.devRef .tc Cert.KernelIdeal.main_call0_v7)) (h5 : V (Proc.devRef .tc Cert.ReferenceIdeal.main_call0_call0_v53) = W (Proc.devRef .tc Cert.KernelIdeal.main_call0_call0_v53)) (h6 : V (Proc.devRef .tc Cert.ReferenceIdeal.main_call0_call0_v54) = W (Proc.devRef .tc Cert.KernelIdeal.main_call0_call0_v54)) :
    StableHlo.after (List.drop 91 opsR) V (Proc.devRef .tc Cert.ReferenceIdeal.main_v21) = StableHlo.after (List.drop 91 opsK) W (Proc.devRef .tc Cert.KernelIdeal.main_v7) := by
  rw [after_cut (List.drop 91 opsR) 9, after_cut (List.drop 91 opsK) 9, List.drop_drop, List.drop_drop]
  exact from10 _ _ (out9_0 V W h0) (out9_1 V W h1) (out9_2 V W h2) (out9_3 V W h3) (out9_4 V W h4) (out9_5 V W h5 h6) (out9_6 V W h5 h6)

/-- From operation 82 on. -/
theorem from8 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_v2) = W (Proc.devRef .tc Cert.KernelIdeal.main_call0_v2)) (h2 : V (Proc.devRef .tc Cert.ReferenceIdeal.main_call0_v3) = W (Proc.devRef .tc Cert.KernelIdeal.main_call0_v3)) (h3 : V (Proc.devRef .tc Cert.ReferenceIdeal.main_call0_v5) = W (Proc.devRef .tc Cert.KernelIdeal.main_call0_v5)) (h4 : V (Proc.devRef .tc Cert.ReferenceIdeal.main_call0_v7) = W (Proc.devRef .tc Cert.KernelIdeal.main_call0_v7)) (h5 : V (Proc.devRef .tc Cert.ReferenceIdeal.main_call0_call0_v46) = W (Proc.devRef .tc Cert.KernelIdeal.main_call0_call0_v46)) (h6 : V (Proc.devRef .tc Cert.ReferenceIdeal.main_call0_call0_v47) = W (Proc.devRef .tc Cert.KernelIdeal.main_call0_call0_v47)) :
    StableHlo.after (List.drop 82 opsR) V (Proc.devRef .tc Cert.ReferenceIdeal.main_v21) = StableHlo.after (List.drop 82 opsK) W (Proc.devRef .tc Cert.KernelIdeal.main_v7) := by
  rw [after_cut (List.drop 82 opsR) 9, after_cut (List.drop 82 opsK) 9, List.drop_drop, List.drop_drop]
  exact from9 _ _ (out8_0 V W h0) (out8_1 V W h1) (out8_2 V W h2) (out8_3 V W h3) (out8_4 V W h4) (out8_5 V W h5 h6) (out8_6 V W h5 h6)

/-- From operation 69 on. -/
theorem from7 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_v2) = W (Proc.devRef .tc Cert.KernelIdeal.main_call0_v2)) (h2 : V (Proc.devRef .tc Cert.ReferenceIdeal.main_call0_v3) = W (Proc.devRef .tc Cert.KernelIdeal.main_call0_v3)) (h3 : V (Proc.devRef .tc Cert.ReferenceIdeal.main_call0_v5) = W (Proc.devRef .tc Cert.KernelIdeal.main_call0_v5)) (h4 : V (Proc.devRef .tc Cert.ReferenceIdeal.main_call0_v7) = W (Proc.devRef .tc Cert.KernelIdeal.main_call0_v7)) (h5 : V (Proc.devRef .tc Cert.ReferenceIdeal.main_call0_call0_v35) = W (Proc.devRef .tc Cert.KernelIdeal.main_call0_call0_v35)) (h6 : V (Proc.devRef .tc Cert.ReferenceIdeal.main_call0_call0_v37) = W (Proc.devRef .tc Cert.KernelIdeal.main_call0_call0_v37)) :
    StableHlo.after (List.drop 69 opsR) V (Proc.devRef .tc Cert.ReferenceIdeal.main_v21) = StableHlo.after (List.drop 69 opsK) W (Proc.devRef .tc Cert.KernelIdeal.main_v7) := by
  rw [after_cut (List.drop 69 opsR) 13, after_cut (List.drop 69 opsK) 13, List.drop_drop, List.drop_drop]
  exact from8 _ _ (out7_0 V W h0) (out7_1 V W h1) (out7_2 V W h2) (out7_3 V W h3) (out7_4 V W h4) (out7_5 V W h5 h6) (out7_6 V W h5 h6)

/-- From operation 57 on. -/
theorem from6 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_v2) = W (Proc.devRef .tc Cert.KernelIdeal.main_call0_v2)) (h2 : V (Proc.devRef .tc Cert.ReferenceIdeal.main_call0_v3) = W (Proc.devRef .tc Cert.KernelIdeal.main_call0_v3)) (h3 : V (Proc.devRef .tc Cert.ReferenceIdeal.main_call0_v5) = W (Proc.devRef .tc Cert.KernelIdeal.main_call0_v5)) (h4 : V (Proc.devRef .tc Cert.ReferenceIdeal.main_call0_v7) = W (Proc.devRef .tc Cert.KernelIdeal.main_call0_v7)) (h5 : V (Proc.devRef .tc Cert.ReferenceIdeal.main_call0_call0_v26) = W (Proc.devRef .tc Cert.KernelIdeal.main_call0_call0_v26)) (h6 : V (Proc.devRef .tc Cert.ReferenceIdeal.main_call0_call0_v27) = W (Proc.devRef .tc Cert.KernelIdeal.main_call0_call0_v27)) :
    StableHlo.after (List.drop 57 opsR) V (Proc.devRef .tc Cert.ReferenceIdeal.main_v21) = StableHlo.after (List.drop 57 opsK) W (Proc.devRef .tc Cert.KernelIdeal.main_v7) := by
  rw [after_cut (List.drop 57 opsR) 12, after_cut (List.drop 57 opsK) 12, List.drop_drop, List.drop_drop]
  exact from7 _ _ (out6_0 V W h0) (out6_1 V W h1) (out6_2 V W h2) (out6_3 V W h3) (out6_4 V W h4) (out6_5 V W h4 h6) (out6_6 V W h0 h5 h6)

/-- From operation 48 on. -/
theorem from5 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_v2) = W (Proc.devRef .tc Cert.KernelIdeal.main_call0_v2)) (h2 : V (Proc.devRef .tc Cert.ReferenceIdeal.main_call0_v3) = W (Proc.devRef .tc Cert.KernelIdeal.main_call0_v3)) (h3 : V (Proc.devRef .tc Cert.ReferenceIdeal.main_call0_v5) = W (Proc.devRef .tc Cert.KernelIdeal.main_call0_v5)) (h4 : V (Proc.devRef .tc Cert.ReferenceIdeal.main_call0_v7) = W (Proc.devRef .tc Cert.KernelIdeal.main_call0_v7)) (h5 : V (Proc.devRef .tc Cert.ReferenceIdeal.main_call0_call0_v19) = W (Proc.devRef .tc Cert.KernelIdeal.main_call0_call0_v19)) (h6 : V (Proc.devRef .tc Cert.ReferenceIdeal.main_call0_call0_v20) = W (Proc.devRef .tc Cert.KernelIdeal.main_call0_call0_v20)) :
    StableHlo.after (List.drop 48 opsR) V (Proc.devRef .tc Cert.ReferenceIdeal.main_v21) = StableHlo.after (List.drop 48 opsK) W (Proc.devRef .tc Cert.KernelIdeal.main_v7) := by
  rw [after_cut (List.drop 48 opsR) 9, after_cut (List.drop 48 opsK) 9, List.drop_drop, List.drop_drop]
  exact from6 _ _ (out5_0 V W h0) (out5_1 V W h1) (out5_2 V W h2) (out5_3 V W h3) (out5_4 V W h4) (out5_5 V W h5 h6) (out5_6 V W h5 h6)

/-- From operation 39 on. -/
theorem from4 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_v2) = W (Proc.devRef .tc Cert.KernelIdeal.main_call0_v2)) (h2 : V (Proc.devRef .tc Cert.ReferenceIdeal.main_call0_v3) = W (Proc.devRef .tc Cert.KernelIdeal.main_call0_v3)) (h3 : V (Proc.devRef .tc Cert.ReferenceIdeal.main_call0_v5) = W (Proc.devRef .tc Cert.KernelIdeal.main_call0_v5)) (h4 : V (Proc.devRef .tc Cert.ReferenceIdeal.main_call0_v7) = W (Proc.devRef .tc Cert.KernelIdeal.main_call0_v7)) (h5 : V (Proc.devRef .tc Cert.ReferenceIdeal.main_call0_call0_v12) = W (Proc.devRef .tc Cert.KernelIdeal.main_call0_call0_v12)) (h6 : V (Proc.devRef .tc Cert.ReferenceIdeal.main_call0_call0_v13) = W (Proc.devRef .tc Cert.KernelIdeal.main_call0_call0_v13)) :
    StableHlo.after (List.drop 39 opsR) V (Proc.devRef .tc Cert.ReferenceIdeal.main_v21) = StableHlo.after (List.drop 39 opsK) W (Proc.devRef .tc Cert.KernelIdeal.main_v7) := by
  rw [after_cut (List.drop 39 opsR) 9, after_cut (List.drop 39 opsK) 9, List.drop_drop, List.drop_drop]
  exact from5 _ _ (out4_0 V W h0) (out4_1 V W h1) (out4_2 V W h2) (out4_3 V W h3) (out4_4 V W h4) (out4_5 V W h5 h6) (out4_6 V W h5 h6)

/-- From operation 30 on. -/
theorem from3 (V : ValR) (W : ValK) (h0 : V (Proc.devRef .tc Cert.ReferenceIdeal.main_call0_call0_v1) = W (Proc.devRef .tc Cert.KernelIdeal.main_call0_call0_v1)) (h1 : V (Proc.devRef .tc Cert.ReferenceIdeal.main_call0_v2) = W (Proc.devRef .tc Cert.KernelIdeal.main_call0_v2)) (h2 : V (Proc.devRef .tc Cert.ReferenceIdeal.main_call0_v3) = W (Proc.devRef .tc Cert.KernelIdeal.main_call0_v3)) (h3 : V (Proc.devRef .tc Cert.ReferenceIdeal.main_call0_v5) = W (Proc.devRef .tc Cert.KernelIdeal.main_call0_v5)) (h4 : V (Proc.devRef .tc Cert.ReferenceIdeal.main_call0_call0_v5) = W (Proc.devRef .tc Cert.KernelIdeal.main_call0_call0_v5)) (h5 : V (Proc.devRef .tc Cert.ReferenceIdeal.main_call0_call0_v6) = W (Proc.devRef .tc Cert.KernelIdeal.main_call0_call0_v6)) (h6 : V (Proc.devRef .tc Cert.ReferenceIdeal.main_call0_v7) = W (Proc.devRef .tc Cert.KernelIdeal.main_call0_v7)) :
    StableHlo.after (List.drop 30 opsR) V (Proc.devRef .tc Cert.ReferenceIdeal.main_v21) = StableHlo.after (List.drop 30 opsK) W (Proc.devRef .tc Cert.KernelIdeal.main_v7) := by
  rw [after_cut (List.drop 30 opsR) 9, after_cut (List.drop 30 opsK) 9, List.drop_drop, List.drop_drop]
  exact from4 _ _ (out3_0 V W h0) (out3_1 V W h1) (out3_2 V W h2) (out3_3 V W h3) (out3_4 V W h6) (out3_5 V W h4 h5) (out3_6 V W h4 h5)

/-- From operation 17 on. -/
theorem from2 (V : ValR) (W : ValK) (h0 : V (Proc.devRef .tc Cert.ReferenceIdeal.main_call0_v2) = W (Proc.devRef .tc Cert.KernelIdeal.main_call0_v2)) (h1 : V (Proc.devRef .tc Cert.ReferenceIdeal.main_call0_v3) = W (Proc.devRef .tc Cert.KernelIdeal.main_call0_v3)) (h2 : V (Proc.devRef .tc Cert.ReferenceIdeal.main_call0_v5) = W (Proc.devRef .tc Cert.KernelIdeal.main_call0_v5)) (h3 : V (Proc.devRef .tc Cert.ReferenceIdeal.main_call0_v7) = W (Proc.devRef .tc Cert.KernelIdeal.main_call0_v7)) (h4 : V (Proc.devRef .tc Cert.ReferenceIdeal.main_call0_v14) = W (Proc.devRef .tc Cert.KernelIdeal.main_call0_v14)) :
    StableHlo.after (List.drop 17 opsR) V (Proc.devRef .tc Cert.ReferenceIdeal.main_v21) = StableHlo.after (List.drop 17 opsK) W (Proc.devRef .tc Cert.KernelIdeal.main_v7) := by
  rw [after_cut (List.drop 17 opsR) 13, after_cut (List.drop 17 opsK) 13, List.drop_drop, List.drop_drop]
  exact from3 _ _ (out2_0 V W h2 h3) (out2_1 V W h0) (out2_2 V W h1) (out2_3 V W h2) (out2_4 V W h3 h4) (out2_5 V W h2 h3 h4) (out2_6 V W h3)

/-- From operation 8 on. -/
theorem from1 (V : ValR) (W : ValK) (h0 : V (Proc.devRef .tc Cert.ReferenceIdeal.main_call0_v2) = W (Proc.devRef .tc Cert.KernelIdeal.main_call0_v2)) (h1 : V (Proc.devRef .tc Cert.ReferenceIdeal.main_call0_v3) = W (Proc.devRef .tc Cert.KernelIdeal.main_call0_v3)) (h2 : V (Proc.devRef .tc Cert.ReferenceIdeal.main_call0_v5) = W (Proc.devRef .tc Cert.KernelIdeal.main_call0_v5)) (h3 : V (Proc.devRef .tc Cert.ReferenceIdeal.main_call0_v7) = W (Proc.devRef .tc Cert.KernelIdeal.main_call0_v7)) :
    StableHlo.after (List.drop 8 opsR) V (Proc.devRef .tc Cert.ReferenceIdeal.main_v21) = StableHlo.after (List.drop 8 opsK) W (Proc.devRef .tc Cert.KernelIdeal.main_v7) := by
  rw [after_cut (List.drop 8 opsR) 9, after_cut (List.drop 8 opsK) 9, List.drop_drop, List.drop_drop]
  exact from2 _ _ (out1_0 V W h0) (out1_1 V W h1) (out1_2 V W h2) (out1_3 V W h3) (out1_4 V W )

/-- From operation 0 on. -/
theorem from0 (V : ValR) (W : ValK) (h0 : V (Proc.devRef .tc Cert.ReferenceIdeal.main_cst_4) = W (Proc.devRef .tc Cert.KernelIdeal.main_cst)) (h1 : V (Proc.devRef .tc Cert.ReferenceIdeal.main_cst_5) = W (Proc.devRef .tc Cert.KernelIdeal.main_cst_2)) (h2 : V (Proc.devRef .tc Cert.ReferenceIdeal.main_v20) = W (Proc.devRef .tc Cert.KernelIdeal.main_v6)) :
    StableHlo.after (List.drop 0 opsR) V (Proc.devRef .tc Cert.ReferenceIdeal.main_v21) = StableHlo.after (List.drop 0 opsK) W (Proc.devRef .tc Cert.KernelIdeal.main_v7) := by
  rw [after_cut (List.drop 0 opsR) 8, after_cut (List.drop 0 opsK) 8, List.drop_drop, List.drop_drop]
  exact from1 _ _ (out0_0 V W h0) (out0_1 V W h1) (out0_2 V W h2) (out0_3 V W h2)

end Cert.Uniform
-- ==== Proof.Same.lean ====
module

public import proofs.«01_k».proof.Proof.Uniform
public import proofs.«01_k».proof.Proof.RefValue
public import proofs.«01_k».proof.Proof.KHost

@[expose] public section

set_option maxRecDepth 16384

/-!
# The two programs draw the same numbers

The key and the two bounds are the same constants in both programs.
-/

noncomputable section

open Idealize.ShloMosaic Idealize.ShloMosaic.TcCoe Idealize.SL.Sem

namespace Cert.Uniform

set_option maxHeartbeats 4000000 in
/-- The reference's key. -/
theorem keyR (V : ValR) : StableHlo.after Cert.ReferenceIdeal.Ops.ops0 V (Proc.devRef .tc Cert.ReferenceIdeal.main_v20)
    = (concatenate Cert.KernelIdeal.S2 0 [⟨Cert.KernelIdeal.S1, broadcastInDim Cert.KernelIdeal.S1 ![] Cert.KernelIdeal.Facts₀.bcast_S_S1 (Host.shrui (constantI Cert.KernelIdeal.S_ 32 42#32) (constantI Cert.KernelIdeal.S_ 32 32#32))⟩,
        ⟨Cert.KernelIdeal.S1, broadcastInDim Cert.KernelIdeal.S1 ![] Cert.KernelIdeal.Facts₀.bcast_S_S1 (andi (constantI Cert.KernelIdeal.S_ 32 42#32) (constantI Cert.KernelIdeal.S_ 32 4294967295#32))⟩]
        Cert.KernelIdeal.Facts₀.concatenates_S1_S1_S2_d0 : IVec Cert.KernelIdeal.S2 32) := by
  after_reads_simp
  rfl

set_option maxHeartbeats 4000000 in
/-- The kernel's key. -/
theorem keyK (W : ValK) : StableHlo.after Cert.KernelIdeal.Gen.hostOps0 W (Proc.devRef .tc Cert.KernelIdeal.main_v6)
    = (concatenate Cert.KernelIdeal.S2 0 [⟨Cert.KernelIdeal.S1, broadcastInDim Cert.KernelIdeal.S1 ![] Cert.KernelIdeal.Facts₀.bcast_S_S1 (Host.shrui (constantI Cert.KernelIdeal.S_ 32 42#32) (constantI Cert.KernelIdeal.S_ 32 32#32))⟩,
        ⟨Cert.KernelIdeal.S1, broadcastInDim Cert.KernelIdeal.S1 ![] Cert.KernelIdeal.Facts₀.bcast_S_S1 (andi (constantI Cert.KernelIdeal.S_ 32 42#32) (constantI Cert.KernelIdeal.S_ 32 4294967295#32))⟩]
        Cert.KernelIdeal.Facts₀.concatenates_S1_S1_S2_d0 : IVec Cert.KernelIdeal.S2 32) := by
  after_reads_simp
  rfl

set_option maxHeartbeats 4000000 in
/-- The lower bounds. -/
theorem lowers (V : ValR) (W : ValK) : StableHlo.after Cert.ReferenceIdeal.Ops.ops0 V (Proc.devRef .tc Cert.ReferenceIdeal.main_cst_4)
    = StableHlo.after Cert.KernelIdeal.Gen.hostOps0 W (Proc.devRef .tc Cert.KernelIdeal.main_cst) := by
  after_reads_simp

set_option maxHeartbeats 4000000 in
/-- The upper bounds. -/
theorem uppers (V : ValR) (W : ValK) : StableHlo.after Cert.ReferenceIdeal.Ops.ops0 V (Proc.devRef .tc Cert.ReferenceIdeal.main_cst_5)
    = StableHlo.after Cert.KernelIdeal.Gen.hostOps0 W (Proc.devRef .tc Cert.KernelIdeal.main_cst_2) := by
  after_reads_simp

/-- The two programs' uniform numbers are the same. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (c' : Dev Cert.ReferenceIdeal.nD) :
    Cert.ReferenceIdeal.Ops.uniforms m' c' = Cert.KernelIdeal.Value.after1 m c (Proc.devRef .tc Cert.KernelIdeal.main_v7) :=
  from0 _ _ (lowers _ _) (uppers _ _) ((keyR _).trans (keyK _).symm)

end Cert.Uniform
-- ==== Proof.Final.lean ====
module

public import proofs.«01_k».proof.Proof.RefRow
public import proofs.«01_k».proof.Proof.PreFacts
public import proofs.«01_k».proof.Proof.KRun
public import proofs.«01_k».proof.Proof.Same

@[expose] public section

set_option maxRecDepth 16384

/-!
# The two programs' results

Under the precondition the reference's result is the kernel's.
-/

noncomputable section

open Idealize.ShloMosaic Idealize.ShloMosaic.TcCoe Idealize.SL.Sem

namespace Cert.Sampling

open Cert.ReferenceIdeal Cert.ReferenceIdeal.Gen

/-- The kernel's and the reference's word of a row. -/
theorem words_eq (x : FVec Ideal S64x100000 .f32) (t k q : IVec S_ 32) (u : FVec Ideal S32x64 .f32)
    (h : Cert.Pre_ordinary.fn (F := Ideal) x t k q = fun _ => 1#1) (r : Fin 64) :
    Cert.ReferenceIdeal.Ops.counted (Cert.ReferenceIdeal.Ops.running (Cert.ReferenceIdeal.Ops.normed
        (Cert.ReferenceIdeal.Ops.kept (Cert.ReferenceIdeal.Ops.normed (Cert.ReferenceIdeal.Ops.weights x t)) k q))) u (ix1 r)
      = Cert.KernelIdeal.Value.result x t k u (ix1 r) := by
  obtain ⟨hx, hrow, ht, hk, hq⟩ := Cert.Pre_ordinary.meaning x t k q h
  obtain ⟨X, hX⟩ : ∃ X : Fin 100000 → EReal, ∀ i, X i = x (ix2 r i) := ⟨_, fun _ => rfl⟩
  obtain ⟨i0, -, hi0⟩ := Finset.exists_max_image (Finset.univ : Finset (Fin 100000)) X ⟨⟨0, by omega⟩, Finset.mem_univ _⟩
  have hXt : ∀ i, X i ≠ ⊤ := fun i => by rw [hX]; exact (hx r i).1
  have hXk : ∀ i, ∃ a : ℤ, a < 2139095040 ∧ X i = keyVal a := fun i => by rw [hX]; exact (hx r i).2
  have hbot : X i0 ≠ ⊥ := by
    obtain ⟨j, hj⟩ := hrow r
    rw [← hX] at hj
    exact (lt_of_lt_of_le hj (hi0 j (Finset.mem_univ j))).ne'
  have hM0 : X i0 = (((X i0).toReal : ℝ) : EReal) := (EReal.coe_toReal (hXt i0) hbot).symm
  have hM : ∀ i, X i ≤ (((X i0).toReal : ℝ) : EReal) := fun i => hM0 ▸ hi0 i (Finset.mem_univ i)
  have hT1 : (1 : ℝ) ≤ ((t ix0).toInt : ℝ) := by exact_mod_cast ht
  have hT0 : (0 : ℝ) < ((t ix0).toInt : ℝ) := by linarith
  refine (Cert.ReferenceIdeal.Ops.word_row x t k q r X hX hXt _ _ rfl hT1 hM ⟨i0, hM0⟩ hk hq u).trans ?_
  refine Eq.symm ((Cert.KernelIdeal.Value.result_at x t k u ht r).trans ?_)
  have hXf : (fun i => (x (ix2 r i) : EReal)) = X := funext fun i => (hX i).symm
  have hw : weight ((1 / ((t ix0).toInt : ℝ) : ℝ) : EReal) (k ix0) (blocked fun i => x (ix2 r i))
      = fun b l => ((keptSoft (k ix0).toInt X (X i0).toReal ((t ix0).toInt : ℝ) (128 * b.val + l.val) : ℝ) : EReal) := by
    funext b l
    refine Eq.trans ?_ (weight_blocked (k ix0) hk X hXt hXk _ _ hT0 hM ⟨i0, hM0⟩ b l)
    exact congrArg (fun Y => weight ((1 / ((t ix0).toInt : ℝ) : ℝ) : EReal) (k ix0) (blocked Y) b l) hXf
  rw [hw]
  refine rowOut_count (keptSoft (k ix0).toInt X (X i0).toReal ((t ix0).toInt : ℝ)) ?_ ?_ _ _ fun _ _ => rfl
  · intro i
    unfold keptSoft
    split_ifs
    · exact Cert.ReferenceIdeal.Ops.soft_nonneg X _ _ _
    · exact le_refl _
    · exact le_refl _
  · intro i hi
    unfold keptSoft
    rw [dif_neg (by omega)]

/-- The kernel's and the reference's result. -/
theorem results_eq (x : FVec Ideal S64x100000 .f32) (t k q : IVec S_ 32) (u : FVec Ideal S32x64 .f32)
    (h : Cert.Pre_ordinary.fn (F := Ideal) x t k q = fun _ => 1#1) :
    Cert.ReferenceIdeal.Ops.counted (Cert.ReferenceIdeal.Ops.running (Cert.ReferenceIdeal.Ops.normed
        (Cert.ReferenceIdeal.Ops.kept (Cert.ReferenceIdeal.Ops.normed (Cert.ReferenceIdeal.Ops.weights x t)) k q))) u
      = Cert.KernelIdeal.Value.result x t k u := by
  funext j
  have e : j = ix1 (j 0) := by
    funext a
    fin_cases a
    rfl
  rw [e]
  exact words_eq x t k q u h (j 0)

end Cert.Sampling
-- ==== Proof.lean ====
/- Every claim of the certificate, assembled from the modules that prove them. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Final
public import Idealize.ShloMosaic.Adequacy
public import Idealize.ShloMosaic.Init

@[expose] public section

set_option maxRecDepth 16384

noncomputable section

namespace Cert.Proof

open Idealize.ShloMosaic Idealize.SL.Sem Cert.Kernel

/-- The kernel and the reference end with equal results. -/
theorem algebraic : Cert.algebraic_KernelIdeal_ReferenceIdeal_pre_ordinary (hKernelIdeal := Cert.KernelIdeal.Gen.facts)
    (hReferenceIdeal := Cert.ReferenceIdeal.Gen.facts) (hPre_ordinary := inferInstance) := by
  intro m g m' g' hpre hagree
  refine ⟨_, Cert.KernelIdeal.Value.run m g, ?_⟩
  refine θ_run_mono (Cert.ReferenceIdeal.Ops.run m' g') ?_
  intro r h c
  obtain ⟨e0, e1, e2, e3⟩ := hagree c
  refine ⟨?_, (h c _).trans (Cert.ReferenceIdeal.Ops.fin_arg0 m' c), (h c _).trans (Cert.ReferenceIdeal.Ops.fin_arg1 m' c),
    (h c _).trans (Cert.ReferenceIdeal.Ops.fin_arg2 m' c), (h c _).trans (Cert.ReferenceIdeal.Ops.fin_arg3 m' c)⟩
  refine (h c _).trans ((Cert.ReferenceIdeal.Ops.fin_result m' c).trans ?_)
  rw [e0, e1, e2, e3, Cert.Uniform.same m m' c c]
  exact Cert.Sampling.results_eq _ _ _ _ _ (hpre c)

/-- The certificate. -/
theorem claim : Cert.Claim :=
  ⟨Cert.Kernel.Gen.facts, Cert.KernelIdeal.Gen.facts, Cert.ReferenceIdeal.Gen.facts, inferInstance,
    fun m g _ => Cert.Kernel.Gen.frame m g, fun m g _ => Cert.KernelIdeal.Gen.frame m g, fun m g _ => Cert.KernelIdeal.Gen.frame m g,
    fun m g _ => Cert.ReferenceIdeal.Ops.frame m g, fun m g _ => Cert.ReferenceIdeal.Ops.frame m g, trivial, algebraic⟩

end Cert.Proof

end
